-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_off_floor [hPre_off_floor : Cert.Pre_off_floor.Facts] (m : (ℓ : Loc Cert.KernelIdeal.nD Cert.KernelIdeal.τ Cert.KernelIdeal.sig) → Buf (Elt Ideal) ℓ) : Prop :=
  ∀ c : Dev Cert.KernelIdeal.nD,
    (Cert.Pre_off_floor.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_off_floor [hPre_off_floor : Cert.Pre_off_floor.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_off_floor.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_WgradUp (m : (ℓ : Loc Cert.WgradUp.nD Cert.WgradUp.τ Cert.WgradUp.sig) → Buf (Elt Bits) ℓ) : Prop :=
  True

def Pre_WgradUpIdeal (m : (ℓ : Loc Cert.WgradUpIdeal.nD Cert.WgradUpIdeal.τ Cert.WgradUpIdeal.sig) → Buf (Elt Ideal) ℓ) : Prop :=
  True

def Pre_GradUpWIdeal (m : (ℓ : Loc Cert.GradUpWIdeal.nD Cert.GradUpWIdeal.τ Cert.GradUpWIdeal.sig) → Buf (Elt Ideal) ℓ) : Prop :=
  True

def Pre_BwdDx1 (m : (ℓ : Loc Cert.BwdDx1.nD Cert.BwdDx1.τ Cert.BwdDx1.sig) → Buf (Elt Bits) ℓ) : Prop :=
  True

def Pre_BwdDx1Ideal (m : (ℓ : Loc Cert.BwdDx1Ideal.nD Cert.BwdDx1Ideal.τ Cert.BwdDx1Ideal.sig) → Buf (Elt Ideal) ℓ) : Prop :=
  True

def Pre_GradUpXIdeal (m : (ℓ : Loc Cert.GradUpXIdeal.nD Cert.GradUpXIdeal.τ Cert.GradUpXIdeal.sig) → Buf (Elt Ideal) ℓ) : Prop :=
  True

def Pre_FwdUp (m : (ℓ : Loc Cert.FwdUp.nD Cert.FwdUp.τ Cert.FwdUp.sig) → Buf (Elt Bits) ℓ) : Prop :=
  True

def Pre_FwdUpIdeal (m : (ℓ : Loc Cert.FwdUpIdeal.nD Cert.FwdUpIdeal.τ Cert.FwdUpIdeal.sig) → Buf (Elt Ideal) ℓ) : Prop :=
  True

def Pre_ProjUpIdeal (m : (ℓ : Loc Cert.ProjUpIdeal.nD Cert.ProjUpIdeal.τ Cert.ProjUpIdeal.sig) → Buf (Elt Ideal) ℓ) : Prop :=
  True

def Pre_FwdIn (m : (ℓ : Loc Cert.FwdIn.nD Cert.FwdIn.τ Cert.FwdIn.sig) → Buf (Elt Bits) ℓ) : Prop :=
  True

def Pre_FwdInIdeal (m : (ℓ : Loc Cert.FwdInIdeal.nD Cert.FwdInIdeal.τ Cert.FwdInIdeal.sig) → Buf (Elt Ideal) ℓ) : Prop :=
  True

def Pre_ProjInIdeal (m : (ℓ : Loc Cert.ProjInIdeal.nD Cert.ProjInIdeal.τ Cert.ProjInIdeal.sig) → Buf (Elt Ideal) ℓ) : Prop :=
  True

def Pre_WgradIn (m : (ℓ : Loc Cert.WgradIn.nD Cert.WgradIn.τ Cert.WgradIn.sig) → Buf (Elt Bits) ℓ) : Prop :=
  True

def Pre_WgradInIdeal (m : (ℓ : Loc Cert.WgradInIdeal.nD Cert.WgradInIdeal.τ Cert.WgradInIdeal.sig) → Buf (Elt Ideal) ℓ) : Prop :=
  True

def Pre_GradInWIdeal (m : (ℓ : Loc Cert.GradInWIdeal.nD Cert.GradInWIdeal.τ Cert.GradInWIdeal.sig) → Buf (Elt Ideal) ℓ) : Prop :=
  True

def Pre_BwdDx (m : (ℓ : Loc Cert.BwdDx.nD Cert.BwdDx.τ Cert.BwdDx.sig) → Buf (Elt Bits) ℓ) : Prop :=
  True

def Pre_BwdDxIdeal (m : (ℓ : Loc Cert.BwdDxIdeal.nD Cert.BwdDxIdeal.τ Cert.BwdDxIdeal.sig) → Buf (Elt Ideal) ℓ) : Prop :=
  True

def Pre_GradInXIdeal (m : (ℓ : Loc Cert.GradInXIdeal.nD Cert.GradInXIdeal.τ Cert.GradInXIdeal.sig) → Buf (Elt Ideal) ℓ) : Prop :=
  True

def Pre_BwdDa (m : (ℓ : Loc Cert.BwdDa.nD Cert.BwdDa.τ Cert.BwdDa.sig) → Buf (Elt Bits) ℓ) : Prop :=
  True

def Pre_BwdDaIdeal (m : (ℓ : Loc Cert.BwdDaIdeal.nD Cert.BwdDaIdeal.τ Cert.BwdDaIdeal.sig) → Buf (Elt Ideal) ℓ) : Prop :=
  True

def Pre_GradDownAIdeal (m : (ℓ : Loc Cert.GradDownAIdeal.nD Cert.GradDownAIdeal.τ Cert.GradDownAIdeal.sig) → Buf (Elt Ideal) ℓ) : Prop :=
  True

def Pre_WgradDown (m : (ℓ : Loc Cert.WgradDown.nD Cert.WgradDown.τ Cert.WgradDown.sig) → Buf (Elt Bits) ℓ) : Prop :=
  True

def Pre_WgradDownIdeal (m : (ℓ : Loc Cert.WgradDownIdeal.nD Cert.WgradDownIdeal.τ Cert.WgradDownIdeal.sig) → Buf (Elt Ideal) ℓ) : Prop :=
  True

def Pre_GradDownWIdeal (m : (ℓ : Loc Cert.GradDownWIdeal.nD Cert.GradDownWIdeal.τ Cert.GradDownWIdeal.sig) → Buf (Elt Ideal) ℓ) : Prop :=
  True

def Pre_BwdDcat (m : (ℓ : Loc Cert.BwdDcat.nD Cert.BwdDcat.τ Cert.BwdDcat.sig) → Buf (Elt Bits) ℓ) : Prop :=
  True

def Pre_BwdDcatIdeal (m : (ℓ : Loc Cert.BwdDcatIdeal.nD Cert.BwdDcatIdeal.τ Cert.BwdDcatIdeal.sig) → Buf (Elt Ideal) ℓ) : Prop :=
  True

def Pre_GradOXIdeal (m : (ℓ : Loc Cert.GradOXIdeal.nD Cert.GradOXIdeal.τ Cert.GradOXIdeal.sig) → Buf (Elt Ideal) ℓ) : Prop :=
  True

def Pre_WgradO (m : (ℓ : Loc Cert.WgradO.nD Cert.WgradO.τ Cert.WgradO.sig) → Buf (Elt Bits) ℓ) : Prop :=
  True

def Pre_WgradOIdeal (m : (ℓ : Loc Cert.WgradOIdeal.nD Cert.WgradOIdeal.τ Cert.WgradOIdeal.sig) → Buf (Elt Ideal) ℓ) : Prop :=
  True

def Pre_GradOWIdeal (m : (ℓ : Loc Cert.GradOWIdeal.nD Cert.GradOWIdeal.τ Cert.GradOWIdeal.sig) → Buf (Elt Ideal) ℓ) : Prop :=
  True

def Pre_FwdO (m : (ℓ : Loc Cert.FwdO.nD Cert.FwdO.τ Cert.FwdO.sig) → Buf (Elt Bits) ℓ) : Prop :=
  True

def Pre_FwdOIdeal (m : (ℓ : Loc Cert.FwdOIdeal.nD Cert.FwdOIdeal.τ Cert.FwdOIdeal.sig) → Buf (Elt Ideal) ℓ) : Prop :=
  True

def Pre_NormOIdeal (m : (ℓ : Loc Cert.NormOIdeal.nD Cert.NormOIdeal.τ Cert.NormOIdeal.sig) → Buf (Elt Ideal) ℓ) : Prop :=
  True

def Pre_FwdDown (m : (ℓ : Loc Cert.FwdDown.nD Cert.FwdDown.τ Cert.FwdDown.sig) → Buf (Elt Bits) ℓ) : Prop :=
  True

def Pre_FwdDownIdeal (m : (ℓ : Loc Cert.FwdDownIdeal.nD Cert.FwdDownIdeal.τ Cert.FwdDownIdeal.sig) → Buf (Elt Ideal) ℓ) : Prop :=
  True

def Pre_NormDownIdeal (m : (ℓ : Loc Cert.NormDownIdeal.nD Cert.NormDownIdeal.τ Cert.NormDownIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_tame [hPre_tame : Cert.Pre_tame.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_tame.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2))) = (fun _ => 1#1)

def Pre_GradNormIdeal (m : (ℓ : Loc Cert.GradNormIdeal.nD Cert.GradNormIdeal.τ Cert.GradNormIdeal.sig) → Buf (Elt Ideal) ℓ) : Prop :=
  True

def Pre_GradNormIdeal_tame [hPre_tame : Cert.Pre_tame.Facts] (m : (ℓ : Loc Cert.GradNormIdeal.nD Cert.GradNormIdeal.τ Cert.GradNormIdeal.sig) → Buf (Elt Ideal) ℓ) : Prop :=
  ∀ c : Dev Cert.GradNormIdeal.nD,
    (Cert.Pre_tame.fn (F := Ideal) (m ((c.tc : Thread Cert.GradNormIdeal.nD Cert.GradNormIdeal.τ).loc Cert.GradNormIdeal.main_arg0)) (m ((c.tc : Thread Cert.GradNormIdeal.nD Cert.GradNormIdeal.τ).loc Cert.GradNormIdeal.main_arg1)) (m ((c.tc : Thread Cert.GradNormIdeal.nD Cert.GradNormIdeal.τ).loc Cert.GradNormIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_off_floor [hKernelIdeal : Cert.KernelIdeal.Facts] [hPre_off_floor : Cert.Pre_off_floor.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_off_floor m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_off_floor [hReferenceIdeal : Cert.ReferenceIdeal.Facts] [hPre_off_floor : Cert.Pre_off_floor.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_off_floor m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_WgradUp [hWgradUp : Cert.WgradUp.Facts] : Prop :=
  ∀ (m : (ℓ : Loc Cert.WgradUp.nD Cert.WgradUp.τ Cert.WgradUp.sig) → Buf (Elt Bits) ℓ) (g : Dev Cert.WgradUp.nD → PrngReg), Pre_WgradUp m →
    θ_run (Cert.WgradUp.defs (F := Bits)) (onTc (τ := Cert.WgradUp.τ) (Cert.WgradUp.main (F := Bits))) ⟨m, fun _ => 0, g⟩ (fun r => (∀ c : Dev Cert.WgradUp.nD,
      r.2.mem ((c.tc : Thread Cert.WgradUp.nD Cert.WgradUp.τ).loc Cert.WgradUp.main_arg0) = m ((c.tc : Thread Cert.WgradUp.nD Cert.WgradUp.τ).loc Cert.WgradUp.main_arg0)
      ∧ r.2.mem ((c.tc : Thread Cert.WgradUp.nD Cert.WgradUp.τ).loc Cert.WgradUp.main_arg1) = m ((c.tc : Thread Cert.WgradUp.nD Cert.WgradUp.τ).loc Cert.WgradUp.main_arg1))
      ∧ r.2.sem = fun _ => 0)

def quiescent_WgradUpIdeal [hWgradUpIdeal : Cert.WgradUpIdeal.Facts] : Prop :=
  ∀ (m : (ℓ : Loc Cert.WgradUpIdeal.nD Cert.WgradUpIdeal.τ Cert.WgradUpIdeal.sig) → Buf (Elt Ideal) ℓ) (g : Dev Cert.WgradUpIdeal.nD → PrngReg), Pre_WgradUpIdeal m →
    θ_run (Cert.WgradUpIdeal.defs (F := Ideal)) (onTc (τ := Cert.WgradUpIdeal.τ) (Cert.WgradUpIdeal.main (F := Ideal))) ⟨m, fun _ => 0, g⟩ (fun r => (∀ c : Dev Cert.WgradUpIdeal.nD,
      r.2.mem ((c.tc : Thread Cert.WgradUpIdeal.nD Cert.WgradUpIdeal.τ).loc Cert.WgradUpIdeal.main_arg0) = m ((c.tc : Thread Cert.WgradUpIdeal.nD Cert.WgradUpIdeal.τ).loc Cert.WgradUpIdeal.main_arg0)
      ∧ r.2.mem ((c.tc : Thread Cert.WgradUpIdeal.nD Cert.WgradUpIdeal.τ).loc Cert.WgradUpIdeal.main_arg1) = m ((c.tc : Thread Cert.WgradUpIdeal.nD Cert.WgradUpIdeal.τ).loc Cert.WgradUpIdeal.main_arg1))
      ∧ r.2.sem = fun _ => 0)

def quiescent_GradUpWIdeal [hGradUpWIdeal : Cert.GradUpWIdeal.Facts] : Prop :=
  ∀ (m : (ℓ : Loc Cert.GradUpWIdeal.nD Cert.GradUpWIdeal.τ Cert.GradUpWIdeal.sig) → Buf (Elt Ideal) ℓ) (g : Dev Cert.GradUpWIdeal.nD → PrngReg), Pre_GradUpWIdeal m →
    θ_run (Cert.GradUpWIdeal.defs (F := Ideal)) (onTc (τ := Cert.GradUpWIdeal.τ) (Cert.GradUpWIdeal.main (F := Ideal))) ⟨m, fun _ => 0, g⟩ (fun r => (∀ c : Dev Cert.GradUpWIdeal.nD,
      r.2.mem ((c.tc : Thread Cert.GradUpWIdeal.nD Cert.GradUpWIdeal.τ).loc Cert.GradUpWIdeal.main_arg0) = m ((c.tc : Thread Cert.GradUpWIdeal.nD Cert.GradUpWIdeal.τ).loc Cert.GradUpWIdeal.main_arg0)
      ∧ r.2.mem ((c.tc : Thread Cert.GradUpWIdeal.nD Cert.GradUpWIdeal.τ).loc Cert.GradUpWIdeal.main_arg1) = m ((c.tc : Thread Cert.GradUpWIdeal.nD Cert.GradUpWIdeal.τ).loc Cert.GradUpWIdeal.main_arg1))
      ∧ r.2.sem = fun _ => 0)

def quiescent_BwdDx1 [hBwdDx1 : Cert.BwdDx1.Facts] : Prop :=
  ∀ (m : (ℓ : Loc Cert.BwdDx1.nD Cert.BwdDx1.τ Cert.BwdDx1.sig) → Buf (Elt Bits) ℓ) (g : Dev Cert.BwdDx1.nD → PrngReg), Pre_BwdDx1 m →
    θ_run (Cert.BwdDx1.defs (F := Bits)) (onTc (τ := Cert.BwdDx1.τ) (Cert.BwdDx1.main (F := Bits))) ⟨m, fun _ => 0, g⟩ (fun r => (∀ c : Dev Cert.BwdDx1.nD,
      r.2.mem ((c.tc : Thread Cert.BwdDx1.nD Cert.BwdDx1.τ).loc Cert.BwdDx1.main_arg0) = m ((c.tc : Thread Cert.BwdDx1.nD Cert.BwdDx1.τ).loc Cert.BwdDx1.main_arg0)
      ∧ r.2.mem ((c.tc : Thread Cert.BwdDx1.nD Cert.BwdDx1.τ).loc Cert.BwdDx1.main_arg1) = m ((c.tc : Thread Cert.BwdDx1.nD Cert.BwdDx1.τ).loc Cert.BwdDx1.main_arg1)
      ∧ r.2.mem ((c.tc : Thread Cert.BwdDx1.nD Cert.BwdDx1.τ).loc Cert.BwdDx1.main_arg2) = m ((c.tc : Thread Cert.BwdDx1.nD Cert.BwdDx1.τ).loc Cert.BwdDx1.main_arg2))
      ∧ r.2.sem = fun _ => 0)

def quiescent_BwdDx1Ideal [hBwdDx1Ideal : Cert.BwdDx1Ideal.Facts] : Prop :=
  ∀ (m : (ℓ : Loc Cert.BwdDx1Ideal.nD Cert.BwdDx1Ideal.τ Cert.BwdDx1Ideal.sig) → Buf (Elt Ideal) ℓ) (g : Dev Cert.BwdDx1Ideal.nD → PrngReg), Pre_BwdDx1Ideal m →
    θ_run (Cert.BwdDx1Ideal.defs (F := Ideal)) (onTc (τ := Cert.BwdDx1Ideal.τ) (Cert.BwdDx1Ideal.main (F := Ideal))) ⟨m, fun _ => 0, g⟩ (fun r => (∀ c : Dev Cert.BwdDx1Ideal.nD,
      r.2.mem ((c.tc : Thread Cert.BwdDx1Ideal.nD Cert.BwdDx1Ideal.τ).loc Cert.BwdDx1Ideal.main_arg0) = m ((c.tc : Thread Cert.BwdDx1Ideal.nD Cert.BwdDx1Ideal.τ).loc Cert.BwdDx1Ideal.main_arg0)
      ∧ r.2.mem ((c.tc : Thread Cert.BwdDx1Ideal.nD Cert.BwdDx1Ideal.τ).loc Cert.BwdDx1Ideal.main_arg1) = m ((c.tc : Thread Cert.BwdDx1Ideal.nD Cert.BwdDx1Ideal.τ).loc Cert.BwdDx1Ideal.main_arg1)
      ∧ r.2.mem ((c.tc : Thread Cert.BwdDx1Ideal.nD Cert.BwdDx1Ideal.τ).loc Cert.BwdDx1Ideal.main_arg2) = m ((c.tc : Thread Cert.BwdDx1Ideal.nD Cert.BwdDx1Ideal.τ).loc Cert.BwdDx1Ideal.main_arg2))
      ∧ r.2.sem = fun _ => 0)

def quiescent_GradUpXIdeal [hGradUpXIdeal : Cert.GradUpXIdeal.Facts] : Prop :=
  ∀ (m : (ℓ : Loc Cert.GradUpXIdeal.nD Cert.GradUpXIdeal.τ Cert.GradUpXIdeal.sig) → Buf (Elt Ideal) ℓ) (g : Dev Cert.GradUpXIdeal.nD → PrngReg), Pre_GradUpXIdeal m →
    θ_run (Cert.GradUpXIdeal.defs (F := Ideal)) (onTc (τ := Cert.GradUpXIdeal.τ) (Cert.GradUpXIdeal.main (F := Ideal))) ⟨m, fun _ => 0, g⟩ (fun r => (∀ c : Dev Cert.GradUpXIdeal.nD,
      r.2.mem ((c.tc : Thread Cert.GradUpXIdeal.nD Cert.GradUpXIdeal.τ).loc Cert.GradUpXIdeal.main_arg0) = m ((c.tc : Thread Cert.GradUpXIdeal.nD Cert.GradUpXIdeal.τ).loc Cert.GradUpXIdeal.main_arg0)
      ∧ r.2.mem ((c.tc : Thread Cert.GradUpXIdeal.nD Cert.GradUpXIdeal.τ).loc Cert.GradUpXIdeal.main_arg1) = m ((c.tc : Thread Cert.GradUpXIdeal.nD Cert.GradUpXIdeal.τ).loc Cert.GradUpXIdeal.main_arg1)
      ∧ r.2.mem ((c.tc : Thread Cert.GradUpXIdeal.nD Cert.GradUpXIdeal.τ).loc Cert.GradUpXIdeal.main_arg2) = m ((c.tc : Thread Cert.GradUpXIdeal.nD Cert.GradUpXIdeal.τ).loc Cert.GradUpXIdeal.main_arg2))
      ∧ r.2.sem = fun _ => 0)

def quiescent_FwdUp [hFwdUp : Cert.FwdUp.Facts] : Prop :=
  ∀ (m : (ℓ : Loc Cert.FwdUp.nD Cert.FwdUp.τ Cert.FwdUp.sig) → Buf (Elt Bits) ℓ) (g : Dev Cert.FwdUp.nD → PrngReg), Pre_FwdUp m →
    θ_run (Cert.FwdUp.defs (F := Bits)) (onTc (τ := Cert.FwdUp.τ) (Cert.FwdUp.main (F := Bits))) ⟨m, fun _ => 0, g⟩ (fun r => (∀ c : Dev Cert.FwdUp.nD,
      r.2.mem ((c.tc : Thread Cert.FwdUp.nD Cert.FwdUp.τ).loc Cert.FwdUp.main_arg0) = m ((c.tc : Thread Cert.FwdUp.nD Cert.FwdUp.τ).loc Cert.FwdUp.main_arg0)
      ∧ r.2.mem ((c.tc : Thread Cert.FwdUp.nD Cert.FwdUp.τ).loc Cert.FwdUp.main_arg1) = m ((c.tc : Thread Cert.FwdUp.nD Cert.FwdUp.τ).loc Cert.FwdUp.main_arg1))
      ∧ r.2.sem = fun _ => 0)

def quiescent_FwdUpIdeal [hFwdUpIdeal : Cert.FwdUpIdeal.Facts] : Prop :=
  ∀ (m : (ℓ : Loc Cert.FwdUpIdeal.nD Cert.FwdUpIdeal.τ Cert.FwdUpIdeal.sig) → Buf (Elt Ideal) ℓ) (g : Dev Cert.FwdUpIdeal.nD → PrngReg), Pre_FwdUpIdeal m →
    θ_run (Cert.FwdUpIdeal.defs (F := Ideal)) (onTc (τ := Cert.FwdUpIdeal.τ) (Cert.FwdUpIdeal.main (F := Ideal))) ⟨m, fun _ => 0, g⟩ (fun r => (∀ c : Dev Cert.FwdUpIdeal.nD,
      r.2.mem ((c.tc : Thread Cert.FwdUpIdeal.nD Cert.FwdUpIdeal.τ).loc Cert.FwdUpIdeal.main_arg0) = m ((c.tc : Thread Cert.FwdUpIdeal.nD Cert.FwdUpIdeal.τ).loc Cert.FwdUpIdeal.main_arg0)
      ∧ r.2.mem ((c.tc : Thread Cert.FwdUpIdeal.nD Cert.FwdUpIdeal.τ).loc Cert.FwdUpIdeal.main_arg1) = m ((c.tc : Thread Cert.FwdUpIdeal.nD Cert.FwdUpIdeal.τ).loc Cert.FwdUpIdeal.main_arg1))
      ∧ r.2.sem = fun _ => 0)

def quiescent_ProjUpIdeal [hProjUpIdeal : Cert.ProjUpIdeal.Facts] : Prop :=
  ∀ (m : (ℓ : Loc Cert.ProjUpIdeal.nD Cert.ProjUpIdeal.τ Cert.ProjUpIdeal.sig) → Buf (Elt Ideal) ℓ) (g : Dev Cert.ProjUpIdeal.nD → PrngReg), Pre_ProjUpIdeal m →
    θ_run (Cert.ProjUpIdeal.defs (F := Ideal)) (onTc (τ := Cert.ProjUpIdeal.τ) (Cert.ProjUpIdeal.main (F := Ideal))) ⟨m, fun _ => 0, g⟩ (fun r => (∀ c : Dev Cert.ProjUpIdeal.nD,
      r.2.mem ((c.tc : Thread Cert.ProjUpIdeal.nD Cert.ProjUpIdeal.τ).loc Cert.ProjUpIdeal.main_arg0) = m ((c.tc : Thread Cert.ProjUpIdeal.nD Cert.ProjUpIdeal.τ).loc Cert.ProjUpIdeal.main_arg0)
      ∧ r.2.mem ((c.tc : Thread Cert.ProjUpIdeal.nD Cert.ProjUpIdeal.τ).loc Cert.ProjUpIdeal.main_arg1) = m ((c.tc : Thread Cert.ProjUpIdeal.nD Cert.ProjUpIdeal.τ).loc Cert.ProjUpIdeal.main_arg1))
      ∧ r.2.sem = fun _ => 0)

def quiescent_FwdIn [hFwdIn : Cert.FwdIn.Facts] : Prop :=
  ∀ (m : (ℓ : Loc Cert.FwdIn.nD Cert.FwdIn.τ Cert.FwdIn.sig) → Buf (Elt Bits) ℓ) (g : Dev Cert.FwdIn.nD → PrngReg), Pre_FwdIn m →
    θ_run (Cert.FwdIn.defs (F := Bits)) (onTc (τ := Cert.FwdIn.τ) (Cert.FwdIn.main (F := Bits))) ⟨m, fun _ => 0, g⟩ (fun r => (∀ c : Dev Cert.FwdIn.nD,
      r.2.mem ((c.tc : Thread Cert.FwdIn.nD Cert.FwdIn.τ).loc Cert.FwdIn.main_arg0) = m ((c.tc : Thread Cert.FwdIn.nD Cert.FwdIn.τ).loc Cert.FwdIn.main_arg0)
      ∧ r.2.mem ((c.tc : Thread Cert.FwdIn.nD Cert.FwdIn.τ).loc Cert.FwdIn.main_arg1) = m ((c.tc : Thread Cert.FwdIn.nD Cert.FwdIn.τ).loc Cert.FwdIn.main_arg1))
      ∧ r.2.sem = fun _ => 0)

def quiescent_FwdInIdeal [hFwdInIdeal : Cert.FwdInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg), Pre_FwdInIdeal m →
    θ_run (Cert.FwdInIdeal.defs (F := Ideal)) (onTc (τ := Cert.FwdInIdeal.τ) (Cert.FwdInIdeal.main (F := Ideal))) ⟨m, fun _ => 0, g⟩ (fun r => (∀ c : Dev Cert.FwdInIdeal.nD,
      r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
      ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_WgradIn [hWgradIn : Cert.WgradIn.Facts] : Prop :=
  ∀ (m : (ℓ : Loc Cert.WgradIn.nD Cert.WgradIn.τ Cert.WgradIn.sig) → Buf (Elt Bits) ℓ) (g : Dev Cert.WgradIn.nD → PrngReg), Pre_WgradIn m →
    θ_run (Cert.WgradIn.defs (F := Bits)) (onTc (τ := Cert.WgradIn.τ) (Cert.WgradIn.main (F := Bits))) ⟨m, fun _ => 0, g⟩ (fun r => (∀ c : Dev Cert.WgradIn.nD,
      r.2.mem ((c.tc : Thread Cert.WgradIn.nD Cert.WgradIn.τ).loc Cert.WgradIn.main_arg0) = m ((c.tc : Thread Cert.WgradIn.nD Cert.WgradIn.τ).loc Cert.WgradIn.main_arg0)
      ∧ r.2.mem ((c.tc : Thread Cert.WgradIn.nD Cert.WgradIn.τ).loc Cert.WgradIn.main_arg1) = m ((c.tc : Thread Cert.WgradIn.nD Cert.WgradIn.τ).loc Cert.WgradIn.main_arg1))
      ∧ r.2.sem = fun _ => 0)

def quiescent_WgradInIdeal [hWgradInIdeal : Cert.WgradInIdeal.Facts] : Prop :=
  ∀ (m : (ℓ : Loc Cert.WgradInIdeal.nD Cert.WgradInIdeal.τ Cert.WgradInIdeal.sig) → Buf (Elt Ideal) ℓ) (g : Dev Cert.WgradInIdeal.nD → PrngReg), Pre_WgradInIdeal m →
    θ_run (Cert.WgradInIdeal.defs (F := Ideal)) (onTc (τ := Cert.WgradInIdeal.τ) (Cert.WgradInIdeal.main (F := Ideal))) ⟨m, fun _ => 0, g⟩ (fun r => (∀ c : Dev Cert.WgradInIdeal.nD,
      r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
      ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1))
      ∧ r.2.sem = fun _ => 0)

def quiescent_GradInWIdeal [hGradInWIdeal : Cert.GradInWIdeal.Facts] : Prop :=
  ∀ (m : (ℓ : Loc Cert.GradInWIdeal.nD Cert.GradInWIdeal.τ Cert.GradInWIdeal.sig) → Buf (Elt Ideal) ℓ) (g : Dev Cert.GradInWIdeal.nD → PrngReg), Pre_GradInWIdeal m →
    θ_run (Cert.GradInWIdeal.defs (F := Ideal)) (onTc (τ := Cert.GradInWIdeal.τ) (Cert.GradInWIdeal.main (F := Ideal))) ⟨m, fun _ => 0, g⟩ (fun r => (∀ c : Dev Cert.GradInWIdeal.nD,
      r.2.mem ((c.tc : Thread Cert.GradInWIdeal.nD Cert.GradInWIdeal.τ).loc Cert.GradInWIdeal.main_arg0) = m ((c.tc : Thread Cert.GradInWIdeal.nD Cert.GradInWIdeal.τ).loc Cert.GradInWIdeal.main_arg0)
      ∧ r.2.mem ((c.tc : Thread Cert.GradInWIdeal.nD Cert.GradInWIdeal.τ).loc Cert.GradInWIdeal.main_arg1) = m ((c.tc : Thread Cert.GradInWIdeal.nD Cert.GradInWIdeal.τ).loc Cert.GradInWIdeal.main_arg1))
      ∧ r.2.sem = fun _ => 0)

def quiescent_BwdDx [hBwdDx : Cert.BwdDx.Facts] : Prop :=
  ∀ (m : (ℓ : Loc Cert.BwdDx.nD Cert.BwdDx.τ Cert.BwdDx.sig) → Buf (Elt Bits) ℓ) (g : Dev Cert.BwdDx.nD → PrngReg), Pre_BwdDx m →
    θ_run (Cert.BwdDx.defs (F := Bits)) (onTc (τ := Cert.BwdDx.τ) (Cert.BwdDx.main (F := Bits))) ⟨m, fun _ => 0, g⟩ (fun r => (∀ c : Dev Cert.BwdDx.nD,
      r.2.mem ((c.tc : Thread Cert.BwdDx.nD Cert.BwdDx.τ).loc Cert.BwdDx.main_arg0) = m ((c.tc : Thread Cert.BwdDx.nD Cert.BwdDx.τ).loc Cert.BwdDx.main_arg0)
      ∧ r.2.mem ((c.tc : Thread Cert.BwdDx.nD Cert.BwdDx.τ).loc Cert.BwdDx.main_arg1) = m ((c.tc : Thread Cert.BwdDx.nD Cert.BwdDx.τ).loc Cert.BwdDx.main_arg1)
      ∧ r.2.mem ((c.tc : Thread Cert.BwdDx.nD Cert.BwdDx.τ).loc Cert.BwdDx.main_arg2) = m ((c.tc : Thread Cert.BwdDx.nD Cert.BwdDx.τ).loc Cert.BwdDx.main_arg2))
      ∧ r.2.sem = fun _ => 0)

def quiescent_BwdDxIdeal [hBwdDxIdeal : Cert.BwdDxIdeal.Facts] : Prop :=
  ∀ (m : (ℓ : Loc Cert.BwdDxIdeal.nD Cert.BwdDxIdeal.τ Cert.BwdDxIdeal.sig) → Buf (Elt Ideal) ℓ) (g : Dev Cert.BwdDxIdeal.nD → PrngReg), Pre_BwdDxIdeal m →
    θ_run (Cert.BwdDxIdeal.defs (F := Ideal)) (onTc (τ := Cert.BwdDxIdeal.τ) (Cert.BwdDxIdeal.main (F := Ideal))) ⟨m, fun _ => 0, g⟩ (fun r => (∀ c : Dev Cert.BwdDxIdeal.nD,
      r.2.mem ((c.tc : Thread Cert.BwdDxIdeal.nD Cert.BwdDxIdeal.τ).loc Cert.BwdDxIdeal.main_arg0) = m ((c.tc : Thread Cert.BwdDxIdeal.nD Cert.BwdDxIdeal.τ).loc Cert.BwdDxIdeal.main_arg0)
      ∧ r.2.mem ((c.tc : Thread Cert.BwdDxIdeal.nD Cert.BwdDxIdeal.τ).loc Cert.BwdDxIdeal.main_arg1) = m ((c.tc : Thread Cert.BwdDxIdeal.nD Cert.BwdDxIdeal.τ).loc Cert.BwdDxIdeal.main_arg1)
      ∧ r.2.mem ((c.tc : Thread Cert.BwdDxIdeal.nD Cert.BwdDxIdeal.τ).loc Cert.BwdDxIdeal.main_arg2) = m ((c.tc : Thread Cert.BwdDxIdeal.nD Cert.BwdDxIdeal.τ).loc Cert.BwdDxIdeal.main_arg2))
      ∧ r.2.sem = fun _ => 0)

def quiescent_GradInXIdeal [hGradInXIdeal : Cert.GradInXIdeal.Facts] : Prop :=
  ∀ (m : (ℓ : Loc Cert.GradInXIdeal.nD Cert.GradInXIdeal.τ Cert.GradInXIdeal.sig) → Buf (Elt Ideal) ℓ) (g : Dev Cert.GradInXIdeal.nD → PrngReg), Pre_GradInXIdeal m →
    θ_run (Cert.GradInXIdeal.defs (F := Ideal)) (onTc (τ := Cert.GradInXIdeal.τ) (Cert.GradInXIdeal.main (F := Ideal))) ⟨m, fun _ => 0, g⟩ (fun r => (∀ c : Dev Cert.GradInXIdeal.nD,
      r.2.mem ((c.tc : Thread Cert.GradInXIdeal.nD Cert.GradInXIdeal.τ).loc Cert.GradInXIdeal.main_arg0) = m ((c.tc : Thread Cert.GradInXIdeal.nD Cert.GradInXIdeal.τ).loc Cert.GradInXIdeal.main_arg0)
      ∧ r.2.mem ((c.tc : Thread Cert.GradInXIdeal.nD Cert.GradInXIdeal.τ).loc Cert.GradInXIdeal.main_arg1) = m ((c.tc : Thread Cert.GradInXIdeal.nD Cert.GradInXIdeal.τ).loc Cert.GradInXIdeal.main_arg1)
      ∧ r.2.mem ((c.tc : Thread Cert.GradInXIdeal.nD Cert.GradInXIdeal.τ).loc Cert.GradInXIdeal.main_arg2) = m ((c.tc : Thread Cert.GradInXIdeal.nD Cert.GradInXIdeal.τ).loc Cert.GradInXIdeal.main_arg2))
      ∧ r.2.sem = fun _ => 0)

def quiescent_BwdDa [hBwdDa : Cert.BwdDa.Facts] : Prop :=
  ∀ (m : (ℓ : Loc Cert.BwdDa.nD Cert.BwdDa.τ Cert.BwdDa.sig) → Buf (Elt Bits) ℓ) (g : Dev Cert.BwdDa.nD → PrngReg), Pre_BwdDa m →
    θ_run (Cert.BwdDa.defs (F := Bits)) (onTc (τ := Cert.BwdDa.τ) (Cert.BwdDa.main (F := Bits))) ⟨m, fun _ => 0, g⟩ (fun r => (∀ c : Dev Cert.BwdDa.nD,
      r.2.mem ((c.tc : Thread Cert.BwdDa.nD Cert.BwdDa.τ).loc Cert.BwdDa.main_arg0) = m ((c.tc : Thread Cert.BwdDa.nD Cert.BwdDa.τ).loc Cert.BwdDa.main_arg0)
      ∧ r.2.mem ((c.tc : Thread Cert.BwdDa.nD Cert.BwdDa.τ).loc Cert.BwdDa.main_arg1) = m ((c.tc : Thread Cert.BwdDa.nD Cert.BwdDa.τ).loc Cert.BwdDa.main_arg1))
      ∧ r.2.sem = fun _ => 0)

def quiescent_BwdDaIdeal [hBwdDaIdeal : Cert.BwdDaIdeal.Facts] : Prop :=
  ∀ (m : (ℓ : Loc Cert.BwdDaIdeal.nD Cert.BwdDaIdeal.τ Cert.BwdDaIdeal.sig) → Buf (Elt Ideal) ℓ) (g : Dev Cert.BwdDaIdeal.nD → PrngReg), Pre_BwdDaIdeal m →
    θ_run (Cert.BwdDaIdeal.defs (F := Ideal)) (onTc (τ := Cert.BwdDaIdeal.τ) (Cert.BwdDaIdeal.main (F := Ideal))) ⟨m, fun _ => 0, g⟩ (fun r => (∀ c : Dev Cert.BwdDaIdeal.nD,
      r.2.mem ((c.tc : Thread Cert.BwdDaIdeal.nD Cert.BwdDaIdeal.τ).loc Cert.BwdDaIdeal.main_arg0) = m ((c.tc : Thread Cert.BwdDaIdeal.nD Cert.BwdDaIdeal.τ).loc Cert.BwdDaIdeal.main_arg0)
      ∧ r.2.mem ((c.tc : Thread Cert.BwdDaIdeal.nD Cert.BwdDaIdeal.τ).loc Cert.BwdDaIdeal.main_arg1) = m ((c.tc : Thread Cert.BwdDaIdeal.nD Cert.BwdDaIdeal.τ).loc Cert.BwdDaIdeal.main_arg1))
      ∧ r.2.sem = fun _ => 0)

def quiescent_GradDownAIdeal [hGradDownAIdeal : Cert.GradDownAIdeal.Facts] : Prop :=
  ∀ (m : (ℓ : Loc Cert.GradDownAIdeal.nD Cert.GradDownAIdeal.τ Cert.GradDownAIdeal.sig) → Buf (Elt Ideal) ℓ) (g : Dev Cert.GradDownAIdeal.nD → PrngReg), Pre_GradDownAIdeal m →
    θ_run (Cert.GradDownAIdeal.defs (F := Ideal)) (onTc (τ := Cert.GradDownAIdeal.τ) (Cert.GradDownAIdeal.main (F := Ideal))) ⟨m, fun _ => 0, g⟩ (fun r => (∀ c : Dev Cert.GradDownAIdeal.nD,
      r.2.mem ((c.tc : Thread Cert.GradDownAIdeal.nD Cert.GradDownAIdeal.τ).loc Cert.GradDownAIdeal.main_arg0) = m ((c.tc : Thread Cert.GradDownAIdeal.nD Cert.GradDownAIdeal.τ).loc Cert.GradDownAIdeal.main_arg0)
      ∧ r.2.mem ((c.tc : Thread Cert.GradDownAIdeal.nD Cert.GradDownAIdeal.τ).loc Cert.GradDownAIdeal.main_arg1) = m ((c.tc : Thread Cert.GradDownAIdeal.nD Cert.GradDownAIdeal.τ).loc Cert.GradDownAIdeal.main_arg1))
      ∧ r.2.sem = fun _ => 0)

def quiescent_WgradDown [hWgradDown : Cert.WgradDown.Facts] : Prop :=
  ∀ (m : (ℓ : Loc Cert.WgradDown.nD Cert.WgradDown.τ Cert.WgradDown.sig) → Buf (Elt Bits) ℓ) (g : Dev Cert.WgradDown.nD → PrngReg), Pre_WgradDown m →
    θ_run (Cert.WgradDown.defs (F := Bits)) (onTc (τ := Cert.WgradDown.τ) (Cert.WgradDown.main (F := Bits))) ⟨m, fun _ => 0, g⟩ (fun r => (∀ c : Dev Cert.WgradDown.nD,
      r.2.mem ((c.tc : Thread Cert.WgradDown.nD Cert.WgradDown.τ).loc Cert.WgradDown.main_arg0) = m ((c.tc : Thread Cert.WgradDown.nD Cert.WgradDown.τ).loc Cert.WgradDown.main_arg0)
      ∧ r.2.mem ((c.tc : Thread Cert.WgradDown.nD Cert.WgradDown.τ).loc Cert.WgradDown.main_arg1) = m ((c.tc : Thread Cert.WgradDown.nD Cert.WgradDown.τ).loc Cert.WgradDown.main_arg1))
      ∧ r.2.sem = fun _ => 0)

def quiescent_WgradDownIdeal [hWgradDownIdeal : Cert.WgradDownIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg), Pre_WgradDownIdeal m →
    θ_run (Cert.WgradDownIdeal.defs (F := Ideal)) (onTc (τ := Cert.WgradDownIdeal.τ) (Cert.WgradDownIdeal.main (F := Ideal))) ⟨m, fun _ => 0, g⟩ (fun r => (∀ c : Dev Cert.WgradDownIdeal.nD,
      r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
      ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1))
      ∧ r.2.sem = fun _ => 0)

def quiescent_GradDownWIdeal [hGradDownWIdeal : Cert.GradDownWIdeal.Facts] : Prop :=
  ∀ (m : (ℓ : Loc Cert.GradDownWIdeal.nD Cert.GradDownWIdeal.τ Cert.GradDownWIdeal.sig) → Buf (Elt Ideal) ℓ) (g : Dev Cert.GradDownWIdeal.nD → PrngReg), Pre_GradDownWIdeal m →
    θ_run (Cert.GradDownWIdeal.defs (F := Ideal)) (onTc (τ := Cert.GradDownWIdeal.τ) (Cert.GradDownWIdeal.main (F := Ideal))) ⟨m, fun _ => 0, g⟩ (fun r => (∀ c : Dev Cert.GradDownWIdeal.nD,
      r.2.mem ((c.tc : Thread Cert.GradDownWIdeal.nD Cert.GradDownWIdeal.τ).loc Cert.GradDownWIdeal.main_arg0) = m ((c.tc : Thread Cert.GradDownWIdeal.nD Cert.GradDownWIdeal.τ).loc Cert.GradDownWIdeal.main_arg0)
      ∧ r.2.mem ((c.tc : Thread Cert.GradDownWIdeal.nD Cert.GradDownWIdeal.τ).loc Cert.GradDownWIdeal.main_arg1) = m ((c.tc : Thread Cert.GradDownWIdeal.nD Cert.GradDownWIdeal.τ).loc Cert.GradDownWIdeal.main_arg1))
      ∧ r.2.sem = fun _ => 0)

def quiescent_BwdDcat [hBwdDcat : Cert.BwdDcat.Facts] : Prop :=
  ∀ (m : (ℓ : Loc Cert.BwdDcat.nD Cert.BwdDcat.τ Cert.BwdDcat.sig) → Buf (Elt Bits) ℓ) (g : Dev Cert.BwdDcat.nD → PrngReg), Pre_BwdDcat m →
    θ_run (Cert.BwdDcat.defs (F := Bits)) (onTc (τ := Cert.BwdDcat.τ) (Cert.BwdDcat.main (F := Bits))) ⟨m, fun _ => 0, g⟩ (fun r => (∀ c : Dev Cert.BwdDcat.nD,
      r.2.mem ((c.tc : Thread Cert.BwdDcat.nD Cert.BwdDcat.τ).loc Cert.BwdDcat.main_arg0) = m ((c.tc : Thread Cert.BwdDcat.nD Cert.BwdDcat.τ).loc Cert.BwdDcat.main_arg0)
      ∧ r.2.mem ((c.tc : Thread Cert.BwdDcat.nD Cert.BwdDcat.τ).loc Cert.BwdDcat.main_arg1) = m ((c.tc : Thread Cert.BwdDcat.nD Cert.BwdDcat.τ).loc Cert.BwdDcat.main_arg1))
      ∧ r.2.sem = fun _ => 0)

def quiescent_BwdDcatIdeal [hBwdDcatIdeal : Cert.BwdDcatIdeal.Facts] : Prop :=
  ∀ (m : (ℓ : Loc Cert.BwdDcatIdeal.nD Cert.BwdDcatIdeal.τ Cert.BwdDcatIdeal.sig) → Buf (Elt Ideal) ℓ) (g : Dev Cert.BwdDcatIdeal.nD → PrngReg), Pre_BwdDcatIdeal m →
    θ_run (Cert.BwdDcatIdeal.defs (F := Ideal)) (onTc (τ := Cert.BwdDcatIdeal.τ) (Cert.BwdDcatIdeal.main (F := Ideal))) ⟨m, fun _ => 0, g⟩ (fun r => (∀ c : Dev Cert.BwdDcatIdeal.nD,
      r.2.mem ((c.tc : Thread Cert.BwdDcatIdeal.nD Cert.BwdDcatIdeal.τ).loc Cert.BwdDcatIdeal.main_arg0) = m ((c.tc : Thread Cert.BwdDcatIdeal.nD Cert.BwdDcatIdeal.τ).loc Cert.BwdDcatIdeal.main_arg0)
      ∧ r.2.mem ((c.tc : Thread Cert.BwdDcatIdeal.nD Cert.BwdDcatIdeal.τ).loc Cert.BwdDcatIdeal.main_arg1) = m ((c.tc : Thread Cert.BwdDcatIdeal.nD Cert.BwdDcatIdeal.τ).loc Cert.BwdDcatIdeal.main_arg1))
      ∧ r.2.sem = fun _ => 0)

def quiescent_GradOXIdeal [hGradOXIdeal : Cert.GradOXIdeal.Facts] : Prop :=
  ∀ (m : (ℓ : Loc Cert.GradOXIdeal.nD Cert.GradOXIdeal.τ Cert.GradOXIdeal.sig) → Buf (Elt Ideal) ℓ) (g : Dev Cert.GradOXIdeal.nD → PrngReg), Pre_GradOXIdeal m →
    θ_run (Cert.GradOXIdeal.defs (F := Ideal)) (onTc (τ := Cert.GradOXIdeal.τ) (Cert.GradOXIdeal.main (F := Ideal))) ⟨m, fun _ => 0, g⟩ (fun r => (∀ c : Dev Cert.GradOXIdeal.nD,
      r.2.mem ((c.tc : Thread Cert.GradOXIdeal.nD Cert.GradOXIdeal.τ).loc Cert.GradOXIdeal.main_arg0) = m ((c.tc : Thread Cert.GradOXIdeal.nD Cert.GradOXIdeal.τ).loc Cert.GradOXIdeal.main_arg0)
      ∧ r.2.mem ((c.tc : Thread Cert.GradOXIdeal.nD Cert.GradOXIdeal.τ).loc Cert.GradOXIdeal.main_arg1) = m ((c.tc : Thread Cert.GradOXIdeal.nD Cert.GradOXIdeal.τ).loc Cert.GradOXIdeal.main_arg1))
      ∧ r.2.sem = fun _ => 0)

def quiescent_WgradO [hWgradO : Cert.WgradO.Facts] : Prop :=
  ∀ (m : (ℓ : Loc Cert.WgradO.nD Cert.WgradO.τ Cert.WgradO.sig) → Buf (Elt Bits) ℓ) (g : Dev Cert.WgradO.nD → PrngReg), Pre_WgradO m →
    θ_run (Cert.WgradO.defs (F := Bits)) (onTc (τ := Cert.WgradO.τ) (Cert.WgradO.main (F := Bits))) ⟨m, fun _ => 0, g⟩ (fun r => (∀ c : Dev Cert.WgradO.nD,
      r.2.mem ((c.tc : Thread Cert.WgradO.nD Cert.WgradO.τ).loc Cert.WgradO.main_arg0) = m ((c.tc : Thread Cert.WgradO.nD Cert.WgradO.τ).loc Cert.WgradO.main_arg0)
      ∧ r.2.mem ((c.tc : Thread Cert.WgradO.nD Cert.WgradO.τ).loc Cert.WgradO.main_arg1) = m ((c.tc : Thread Cert.WgradO.nD Cert.WgradO.τ).loc Cert.WgradO.main_arg1))
      ∧ r.2.sem = fun _ => 0)

def quiescent_WgradOIdeal [hWgradOIdeal : Cert.WgradOIdeal.Facts] : Prop :=
  ∀ (m : (ℓ : Loc Cert.WgradOIdeal.nD Cert.WgradOIdeal.τ Cert.WgradOIdeal.sig) → Buf (Elt Ideal) ℓ) (g : Dev Cert.WgradOIdeal.nD → PrngReg), Pre_WgradOIdeal m →
    θ_run (Cert.WgradOIdeal.defs (F := Ideal)) (onTc (τ := Cert.WgradOIdeal.τ) (Cert.WgradOIdeal.main (F := Ideal))) ⟨m, fun _ => 0, g⟩ (fun r => (∀ c : Dev Cert.WgradOIdeal.nD,
      r.2.mem ((c.tc : Thread Cert.WgradOIdeal.nD Cert.WgradOIdeal.τ).loc Cert.WgradOIdeal.main_arg0) = m ((c.tc : Thread Cert.WgradOIdeal.nD Cert.WgradOIdeal.τ).loc Cert.WgradOIdeal.main_arg0)
      ∧ r.2.mem ((c.tc : Thread Cert.WgradOIdeal.nD Cert.WgradOIdeal.τ).loc Cert.WgradOIdeal.main_arg1) = m ((c.tc : Thread Cert.WgradOIdeal.nD Cert.WgradOIdeal.τ).loc Cert.WgradOIdeal.main_arg1))
      ∧ r.2.sem = fun _ => 0)

def quiescent_GradOWIdeal [hGradOWIdeal : Cert.GradOWIdeal.Facts] : Prop :=
  ∀ (m : (ℓ : Loc Cert.GradOWIdeal.nD Cert.GradOWIdeal.τ Cert.GradOWIdeal.sig) → Buf (Elt Ideal) ℓ) (g : Dev Cert.GradOWIdeal.nD → PrngReg), Pre_GradOWIdeal m →
    θ_run (Cert.GradOWIdeal.defs (F := Ideal)) (onTc (τ := Cert.GradOWIdeal.τ) (Cert.GradOWIdeal.main (F := Ideal))) ⟨m, fun _ => 0, g⟩ (fun r => (∀ c : Dev Cert.GradOWIdeal.nD,
      r.2.mem ((c.tc : Thread Cert.GradOWIdeal.nD Cert.GradOWIdeal.τ).loc Cert.GradOWIdeal.main_arg0) = m ((c.tc : Thread Cert.GradOWIdeal.nD Cert.GradOWIdeal.τ).loc Cert.GradOWIdeal.main_arg0)
      ∧ r.2.mem ((c.tc : Thread Cert.GradOWIdeal.nD Cert.GradOWIdeal.τ).loc Cert.GradOWIdeal.main_arg1) = m ((c.tc : Thread Cert.GradOWIdeal.nD Cert.GradOWIdeal.τ).loc Cert.GradOWIdeal.main_arg1))
      ∧ r.2.sem = fun _ => 0)

def quiescent_FwdO [hFwdO : Cert.FwdO.Facts] : Prop :=
  ∀ (m : (ℓ : Loc Cert.FwdO.nD Cert.FwdO.τ Cert.FwdO.sig) → Buf (Elt Bits) ℓ) (g : Dev Cert.FwdO.nD → PrngReg), Pre_FwdO m →
    θ_run (Cert.FwdO.defs (F := Bits)) (onTc (τ := Cert.FwdO.τ) (Cert.FwdO.main (F := Bits))) ⟨m, fun _ => 0, g⟩ (fun r => (∀ c : Dev Cert.FwdO.nD,
      r.2.mem ((c.tc : Thread Cert.FwdO.nD Cert.FwdO.τ).loc Cert.FwdO.main_arg0) = m ((c.tc : Thread Cert.FwdO.nD Cert.FwdO.τ).loc Cert.FwdO.main_arg0)
      ∧ r.2.mem ((c.tc : Thread Cert.FwdO.nD Cert.FwdO.τ).loc Cert.FwdO.main_arg1) = m ((c.tc : Thread Cert.FwdO.nD Cert.FwdO.τ).loc Cert.FwdO.main_arg1)
      ∧ r.2.mem ((c.tc : Thread Cert.FwdO.nD Cert.FwdO.τ).loc Cert.FwdO.main_arg2) = m ((c.tc : Thread Cert.FwdO.nD Cert.FwdO.τ).loc Cert.FwdO.main_arg2)
      ∧ r.2.mem ((c.tc : Thread Cert.FwdO.nD Cert.FwdO.τ).loc Cert.FwdO.main_arg3) = m ((c.tc : Thread Cert.FwdO.nD Cert.FwdO.τ).loc Cert.FwdO.main_arg3)
      ∧ r.2.mem ((c.tc : Thread Cert.FwdO.nD Cert.FwdO.τ).loc Cert.FwdO.main_arg4) = m ((c.tc : Thread Cert.FwdO.nD Cert.FwdO.τ).loc Cert.FwdO.main_arg4))
      ∧ r.2.sem = fun _ => 0)

def quiescent_FwdOIdeal [hFwdOIdeal : Cert.FwdOIdeal.Facts] : Prop :=
  ∀ (m : (ℓ : Loc Cert.FwdOIdeal.nD Cert.FwdOIdeal.τ Cert.FwdOIdeal.sig) → Buf (Elt Ideal) ℓ) (g : Dev Cert.FwdOIdeal.nD → PrngReg), Pre_FwdOIdeal m →
    θ_run (Cert.FwdOIdeal.defs (F := Ideal)) (onTc (τ := Cert.FwdOIdeal.τ) (Cert.FwdOIdeal.main (F := Ideal))) ⟨m, fun _ => 0, g⟩ (fun r => (∀ c : Dev Cert.FwdOIdeal.nD,
      r.2.mem ((c.tc : Thread Cert.FwdOIdeal.nD Cert.FwdOIdeal.τ).loc Cert.FwdOIdeal.main_arg0) = m ((c.tc : Thread Cert.FwdOIdeal.nD Cert.FwdOIdeal.τ).loc Cert.FwdOIdeal.main_arg0)
      ∧ r.2.mem ((c.tc : Thread Cert.FwdOIdeal.nD Cert.FwdOIdeal.τ).loc Cert.FwdOIdeal.main_arg1) = m ((c.tc : Thread Cert.FwdOIdeal.nD Cert.FwdOIdeal.τ).loc Cert.FwdOIdeal.main_arg1)
      ∧ r.2.mem ((c.tc : Thread Cert.FwdOIdeal.nD Cert.FwdOIdeal.τ).loc Cert.FwdOIdeal.main_arg2) = m ((c.tc : Thread Cert.FwdOIdeal.nD Cert.FwdOIdeal.τ).loc Cert.FwdOIdeal.main_arg2)
      ∧ r.2.mem ((c.tc : Thread Cert.FwdOIdeal.nD Cert.FwdOIdeal.τ).loc Cert.FwdOIdeal.main_arg3) = m ((c.tc : Thread Cert.FwdOIdeal.nD Cert.FwdOIdeal.τ).loc Cert.FwdOIdeal.main_arg3)
      ∧ r.2.mem ((c.tc : Thread Cert.FwdOIdeal.nD Cert.FwdOIdeal.τ).loc Cert.FwdOIdeal.main_arg4) = m ((c.tc : Thread Cert.FwdOIdeal.nD Cert.FwdOIdeal.τ).loc Cert.FwdOIdeal.main_arg4))
      ∧ r.2.sem = fun _ => 0)

def quiescent_NormOIdeal [hNormOIdeal : Cert.NormOIdeal.Facts] : Prop :=
  ∀ (m : (ℓ : Loc Cert.NormOIdeal.nD Cert.NormOIdeal.τ Cert.NormOIdeal.sig) → Buf (Elt Ideal) ℓ) (g : Dev Cert.NormOIdeal.nD → PrngReg), Pre_NormOIdeal m →
    θ_run (Cert.NormOIdeal.defs (F := Ideal)) (onTc (τ := Cert.NormOIdeal.τ) (Cert.NormOIdeal.main (F := Ideal))) ⟨m, fun _ => 0, g⟩ (fun r => (∀ c : Dev Cert.NormOIdeal.nD,
      r.2.mem ((c.tc : Thread Cert.NormOIdeal.nD Cert.NormOIdeal.τ).loc Cert.NormOIdeal.main_arg0) = m ((c.tc : Thread Cert.NormOIdeal.nD Cert.NormOIdeal.τ).loc Cert.NormOIdeal.main_arg0)
      ∧ r.2.mem ((c.tc : Thread Cert.NormOIdeal.nD Cert.NormOIdeal.τ).loc Cert.NormOIdeal.main_arg1) = m ((c.tc : Thread Cert.NormOIdeal.nD Cert.NormOIdeal.τ).loc Cert.NormOIdeal.main_arg1)
      ∧ r.2.mem ((c.tc : Thread Cert.NormOIdeal.nD Cert.NormOIdeal.τ).loc Cert.NormOIdeal.main_arg2) = m ((c.tc : Thread Cert.NormOIdeal.nD Cert.NormOIdeal.τ).loc Cert.NormOIdeal.main_arg2)
      ∧ r.2.mem ((c.tc : Thread Cert.NormOIdeal.nD Cert.NormOIdeal.τ).loc Cert.NormOIdeal.main_arg3) = m ((c.tc : Thread Cert.NormOIdeal.nD Cert.NormOIdeal.τ).loc Cert.NormOIdeal.main_arg3)
      ∧ r.2.mem ((c.tc : Thread Cert.NormOIdeal.nD Cert.NormOIdeal.τ).loc Cert.NormOIdeal.main_arg4) = m ((c.tc : Thread Cert.NormOIdeal.nD Cert.NormOIdeal.τ).loc Cert.NormOIdeal.main_arg4))
      ∧ r.2.sem = fun _ => 0)

def quiescent_FwdDown [hFwdDown : Cert.FwdDown.Facts] : Prop :=
  ∀ (m : (ℓ : Loc Cert.FwdDown.nD Cert.FwdDown.τ Cert.FwdDown.sig) → Buf (Elt Bits) ℓ) (g : Dev Cert.FwdDown.nD → PrngReg), Pre_FwdDown m →
    θ_run (Cert.FwdDown.defs (F := Bits)) (onTc (τ := Cert.FwdDown.τ) (Cert.FwdDown.main (F := Bits))) ⟨m, fun _ => 0, g⟩ (fun r => (∀ c : Dev Cert.FwdDown.nD,
      r.2.mem ((c.tc : Thread Cert.FwdDown.nD Cert.FwdDown.τ).loc Cert.FwdDown.main_arg0) = m ((c.tc : Thread Cert.FwdDown.nD Cert.FwdDown.τ).loc Cert.FwdDown.main_arg0)
      ∧ r.2.mem ((c.tc : Thread Cert.FwdDown.nD Cert.FwdDown.τ).loc Cert.FwdDown.main_arg1) = m ((c.tc : Thread Cert.FwdDown.nD Cert.FwdDown.τ).loc Cert.FwdDown.main_arg1)
      ∧ r.2.mem ((c.tc : Thread Cert.FwdDown.nD Cert.FwdDown.τ).loc Cert.FwdDown.main_arg2) = m ((c.tc : Thread Cert.FwdDown.nD Cert.FwdDown.τ).loc Cert.FwdDown.main_arg2)
      ∧ r.2.mem ((c.tc : Thread Cert.FwdDown.nD Cert.FwdDown.τ).loc Cert.FwdDown.main_arg3) = m ((c.tc : Thread Cert.FwdDown.nD Cert.FwdDown.τ).loc Cert.FwdDown.main_arg3)
      ∧ r.2.mem ((c.tc : Thread Cert.FwdDown.nD Cert.FwdDown.τ).loc Cert.FwdDown.main_arg4) = m ((c.tc : Thread Cert.FwdDown.nD Cert.FwdDown.τ).loc Cert.FwdDown.main_arg4))
      ∧ r.2.sem = fun _ => 0)

def quiescent_FwdDownIdeal [hFwdDownIdeal : Cert.FwdDownIdeal.Facts] : Prop :=
  ∀ (m : (ℓ : Loc Cert.FwdDownIdeal.nD Cert.FwdDownIdeal.τ Cert.FwdDownIdeal.sig) → Buf (Elt Ideal) ℓ) (g : Dev Cert.FwdDownIdeal.nD → PrngReg), Pre_FwdDownIdeal m →
    θ_run (Cert.FwdDownIdeal.defs (F := Ideal)) (onTc (τ := Cert.FwdDownIdeal.τ) (Cert.FwdDownIdeal.main (F := Ideal))) ⟨m, fun _ => 0, g⟩ (fun r => (∀ c : Dev Cert.FwdDownIdeal.nD,
      r.2.mem ((c.tc : Thread Cert.FwdDownIdeal.nD Cert.FwdDownIdeal.τ).loc Cert.FwdDownIdeal.main_arg0) = m ((c.tc : Thread Cert.FwdDownIdeal.nD Cert.FwdDownIdeal.τ).loc Cert.FwdDownIdeal.main_arg0)
      ∧ r.2.mem ((c.tc : Thread Cert.FwdDownIdeal.nD Cert.FwdDownIdeal.τ).loc Cert.FwdDownIdeal.main_arg1) = m ((c.tc : Thread Cert.FwdDownIdeal.nD Cert.FwdDownIdeal.τ).loc Cert.FwdDownIdeal.main_arg1)
      ∧ r.2.mem ((c.tc : Thread Cert.FwdDownIdeal.nD Cert.FwdDownIdeal.τ).loc Cert.FwdDownIdeal.main_arg2) = m ((c.tc : Thread Cert.FwdDownIdeal.nD Cert.FwdDownIdeal.τ).loc Cert.FwdDownIdeal.main_arg2)
      ∧ r.2.mem ((c.tc : Thread Cert.FwdDownIdeal.nD Cert.FwdDownIdeal.τ).loc Cert.FwdDownIdeal.main_arg3) = m ((c.tc : Thread Cert.FwdDownIdeal.nD Cert.FwdDownIdeal.τ).loc Cert.FwdDownIdeal.main_arg3)
      ∧ r.2.mem ((c.tc : Thread Cert.FwdDownIdeal.nD Cert.FwdDownIdeal.τ).loc Cert.FwdDownIdeal.main_arg4) = m ((c.tc : Thread Cert.FwdDownIdeal.nD Cert.FwdDownIdeal.τ).loc Cert.FwdDownIdeal.main_arg4))
      ∧ r.2.sem = fun _ => 0)

def quiescent_NormDownIdeal [hNormDownIdeal : Cert.NormDownIdeal.Facts] : Prop :=
  ∀ (m : (ℓ : Loc Cert.NormDownIdeal.nD Cert.NormDownIdeal.τ Cert.NormDownIdeal.sig) → Buf (Elt Ideal) ℓ) (g : Dev Cert.NormDownIdeal.nD → PrngReg), Pre_NormDownIdeal m →
    θ_run (Cert.NormDownIdeal.defs (F := Ideal)) (onTc (τ := Cert.NormDownIdeal.τ) (Cert.NormDownIdeal.main (F := Ideal))) ⟨m, fun _ => 0, g⟩ (fun r => (∀ c : Dev Cert.NormDownIdeal.nD,
      r.2.mem ((c.tc : Thread Cert.NormDownIdeal.nD Cert.NormDownIdeal.τ).loc Cert.NormDownIdeal.main_arg0) = m ((c.tc : Thread Cert.NormDownIdeal.nD Cert.NormDownIdeal.τ).loc Cert.NormDownIdeal.main_arg0)
      ∧ r.2.mem ((c.tc : Thread Cert.NormDownIdeal.nD Cert.NormDownIdeal.τ).loc Cert.NormDownIdeal.main_arg1) = m ((c.tc : Thread Cert.NormDownIdeal.nD Cert.NormDownIdeal.τ).loc Cert.NormDownIdeal.main_arg1)
      ∧ r.2.mem ((c.tc : Thread Cert.NormDownIdeal.nD Cert.NormDownIdeal.τ).loc Cert.NormDownIdeal.main_arg2) = m ((c.tc : Thread Cert.NormDownIdeal.nD Cert.NormDownIdeal.τ).loc Cert.NormDownIdeal.main_arg2)
      ∧ r.2.mem ((c.tc : Thread Cert.NormDownIdeal.nD Cert.NormDownIdeal.τ).loc Cert.NormDownIdeal.main_arg3) = m ((c.tc : Thread Cert.NormDownIdeal.nD Cert.NormDownIdeal.τ).loc Cert.NormDownIdeal.main_arg3)
      ∧ r.2.mem ((c.tc : Thread Cert.NormDownIdeal.nD Cert.NormDownIdeal.τ).loc Cert.NormDownIdeal.main_arg4) = m ((c.tc : Thread Cert.NormDownIdeal.nD Cert.NormDownIdeal.τ).loc Cert.NormDownIdeal.main_arg4))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ r.2.sem = fun _ => 0)

def quiescent_LnBwdIdeal_pre_tame [hLnBwdIdeal : Cert.LnBwdIdeal.Facts] [hPre_tame : Cert.Pre_tame.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_tame m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ r.2.sem = fun _ => 0)

def quiescent_GradNormIdeal [hGradNormIdeal : Cert.GradNormIdeal.Facts] : Prop :=
  ∀ (m : (ℓ : Loc Cert.GradNormIdeal.nD Cert.GradNormIdeal.τ Cert.GradNormIdeal.sig) → Buf (Elt Ideal) ℓ) (g : Dev Cert.GradNormIdeal.nD → PrngReg), Pre_GradNormIdeal m →
    θ_run (Cert.GradNormIdeal.defs (F := Ideal)) (onTc (τ := Cert.GradNormIdeal.τ) (Cert.GradNormIdeal.main (F := Ideal))) ⟨m, fun _ => 0, g⟩ (fun r => (∀ c : Dev Cert.GradNormIdeal.nD,
      r.2.mem ((c.tc : Thread Cert.GradNormIdeal.nD Cert.GradNormIdeal.τ).loc Cert.GradNormIdeal.main_arg0) = m ((c.tc : Thread Cert.GradNormIdeal.nD Cert.GradNormIdeal.τ).loc Cert.GradNormIdeal.main_arg0)
      ∧ r.2.mem ((c.tc : Thread Cert.GradNormIdeal.nD Cert.GradNormIdeal.τ).loc Cert.GradNormIdeal.main_arg1) = m ((c.tc : Thread Cert.GradNormIdeal.nD Cert.GradNormIdeal.τ).loc Cert.GradNormIdeal.main_arg1)
      ∧ r.2.mem ((c.tc : Thread Cert.GradNormIdeal.nD Cert.GradNormIdeal.τ).loc Cert.GradNormIdeal.main_arg2) = m ((c.tc : Thread Cert.GradNormIdeal.nD Cert.GradNormIdeal.τ).loc Cert.GradNormIdeal.main_arg2))
      ∧ r.2.sem = fun _ => 0)

def quiescent_GradNormIdeal_pre_tame [hGradNormIdeal : Cert.GradNormIdeal.Facts] [hPre_tame : Cert.Pre_tame.Facts] : Prop :=
  ∀ (m : (ℓ : Loc Cert.GradNormIdeal.nD Cert.GradNormIdeal.τ Cert.GradNormIdeal.sig) → Buf (Elt Ideal) ℓ) (g : Dev Cert.GradNormIdeal.nD → PrngReg), Pre_GradNormIdeal_tame m →
    θ_run (Cert.GradNormIdeal.defs (F := Ideal)) (onTc (τ := Cert.GradNormIdeal.τ) (Cert.GradNormIdeal.main (F := Ideal))) ⟨m, fun _ => 0, g⟩ (fun r => (∀ c : Dev Cert.GradNormIdeal.nD,
      r.2.mem ((c.tc : Thread Cert.GradNormIdeal.nD Cert.GradNormIdeal.τ).loc Cert.GradNormIdeal.main_arg0) = m ((c.tc : Thread Cert.GradNormIdeal.nD Cert.GradNormIdeal.τ).loc Cert.GradNormIdeal.main_arg0)
      ∧ r.2.mem ((c.tc : Thread Cert.GradNormIdeal.nD Cert.GradNormIdeal.τ).loc Cert.GradNormIdeal.main_arg1) = m ((c.tc : Thread Cert.GradNormIdeal.nD Cert.GradNormIdeal.τ).loc Cert.GradNormIdeal.main_arg1)
      ∧ r.2.mem ((c.tc : Thread Cert.GradNormIdeal.nD Cert.GradNormIdeal.τ).loc Cert.GradNormIdeal.main_arg2) = m ((c.tc : Thread Cert.GradNormIdeal.nD Cert.GradNormIdeal.τ).loc Cert.GradNormIdeal.main_arg2))
      ∧ r.2.sem = fun _ => 0)

def preserves_Kernel_KernelIdeal : Prop :=
  True

def algebraic_KernelIdeal_ReferenceIdeal_on_written_pre_off_floor [hKernelIdeal : Cert.KernelIdeal.Facts] [hReferenceIdeal : Cert.ReferenceIdeal.Facts] [hPre_off_floor : Cert.Pre_off_floor.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_off_floor m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v113_0)) (v1 : (c : Dev Cert.KernelIdeal.nD) → Buf (Elt Ideal) ((c.tc : Thread Cert.KernelIdeal.nD Cert.KernelIdeal.τ).loc Cert.KernelIdeal.main_v113_1)) (v2 : (c : Dev Cert.KernelIdeal.nD) → Buf (Elt Ideal) ((c.tc : Thread Cert.KernelIdeal.nD Cert.KernelIdeal.τ).loc Cert.KernelIdeal.main_v113_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8256, 3072]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v113_0) i = v0 c i)
          ∧ (∀ i : (⟨2, ![2, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.KernelIdeal.nD Cert.KernelIdeal.τ).loc Cert.KernelIdeal.main_v113_1) i = v1 c i)
          ∧ (∀ i : (⟨2, ![1, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.KernelIdeal.nD Cert.KernelIdeal.τ).loc Cert.KernelIdeal.main_v113_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8256, 3072]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v244) i = v0 c i)
          ∧ (∀ i : (⟨2, ![2, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.ReferenceIdeal.nD Cert.ReferenceIdeal.τ).loc Cert.ReferenceIdeal.main_v241) i = v1 c i)
          ∧ (∀ i : (⟨2, ![1, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.ReferenceIdeal.nD Cert.ReferenceIdeal.τ).loc Cert.ReferenceIdeal.main_v245) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_KernelIdeal_ReferenceIdeal_on_but_forget_pre_regular [hKernelIdeal : Cert.KernelIdeal.Facts] [hReferenceIdeal : Cert.ReferenceIdeal.Facts] [hPre_regular : Cert.Pre_regular.Facts] [hOn_but_forget : Cert.On_but_forget.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v113_0)) (v1 : (c : Dev Cert.KernelIdeal.nD) → Buf (Elt Ideal) ((c.tc : Thread Cert.KernelIdeal.nD Cert.KernelIdeal.τ).loc Cert.KernelIdeal.main_v113_1)) (v2 : (c : Dev Cert.KernelIdeal.nD) → Buf (Elt Ideal) ((c.tc : Thread Cert.KernelIdeal.nD Cert.KernelIdeal.τ).loc Cert.KernelIdeal.main_v113_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8256, 3072]⟩ : Shape).Idx, (Cert.On_but_forget.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v113_0) i = v0 c i)
          ∧ (∀ i : (⟨2, ![2, 512]⟩ : Shape).Idx, (Cert.On_but_forget.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.KernelIdeal.nD Cert.KernelIdeal.τ).loc Cert.KernelIdeal.main_v113_1) i = v1 c i)
          ∧ (∀ i : (⟨2, ![1, 128]⟩ : Shape).Idx, (Cert.On_but_forget.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.KernelIdeal.nD Cert.KernelIdeal.τ).loc Cert.KernelIdeal.main_v113_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8256, 3072]⟩ : Shape).Idx, (Cert.On_but_forget.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v244) i = v0 c i)
          ∧ (∀ i : (⟨2, ![2, 512]⟩ : Shape).Idx, (Cert.On_but_forget.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.ReferenceIdeal.nD Cert.ReferenceIdeal.τ).loc Cert.ReferenceIdeal.main_v241) i = v1 c i)
          ∧ (∀ i : (⟨2, ![1, 128]⟩ : Shape).Idx, (Cert.On_but_forget.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.ReferenceIdeal.nD Cert.ReferenceIdeal.τ).loc Cert.ReferenceIdeal.main_v245) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_WgradUp_WgradUpIdeal : Prop :=
  True

def algebraic_WgradUpIdeal_GradUpWIdeal [hWgradUpIdeal : Cert.WgradUpIdeal.Facts] [hGradUpWIdeal : Cert.GradUpWIdeal.Facts] : Prop :=
  ∀ (m : (ℓ : Loc Cert.WgradUpIdeal.nD Cert.WgradUpIdeal.τ Cert.WgradUpIdeal.sig) → Buf (Elt Ideal) ℓ) (g : Dev Cert.WgradUpIdeal.nD → PrngReg)
    (m' : (ℓ : Loc Cert.GradUpWIdeal.nD Cert.GradUpWIdeal.τ Cert.GradUpWIdeal.sig) → Buf (Elt Ideal) ℓ) (g' : Dev Cert.GradUpWIdeal.nD → PrngReg), Pre_WgradUpIdeal m →
    (∀ c : Dev Cert.WgradUpIdeal.nD,
      m' ((c.tc : Thread Cert.GradUpWIdeal.nD Cert.GradUpWIdeal.τ).loc Cert.GradUpWIdeal.main_arg0) = m ((c.tc : Thread Cert.WgradUpIdeal.nD Cert.WgradUpIdeal.τ).loc Cert.WgradUpIdeal.main_arg0)
      ∧ m' ((c.tc : Thread Cert.GradUpWIdeal.nD Cert.GradUpWIdeal.τ).loc Cert.GradUpWIdeal.main_arg1) = m ((c.tc : Thread Cert.WgradUpIdeal.nD Cert.WgradUpIdeal.τ).loc Cert.WgradUpIdeal.main_arg1)) →
    ∃ (v0 : (c : Dev Cert.WgradUpIdeal.nD) → Buf (Elt Ideal) ((c.tc : Thread Cert.WgradUpIdeal.nD Cert.WgradUpIdeal.τ).loc Cert.WgradUpIdeal.main_v0)),
      θ_run (Cert.WgradUpIdeal.defs (F := Ideal)) (onTc (τ := Cert.WgradUpIdeal.τ) (Cert.WgradUpIdeal.main (F := Ideal))) ⟨m, fun _ => 0, g⟩ (fun r => ∀ c : Dev Cert.WgradUpIdeal.nD,
          r.2.mem ((c.tc : Thread Cert.WgradUpIdeal.nD Cert.WgradUpIdeal.τ).loc Cert.WgradUpIdeal.main_v0) = v0 c
          ∧ r.2.mem ((c.tc : Thread Cert.WgradUpIdeal.nD Cert.WgradUpIdeal.τ).loc Cert.WgradUpIdeal.main_arg0) = m ((c.tc : Thread Cert.WgradUpIdeal.nD Cert.WgradUpIdeal.τ).loc Cert.WgradUpIdeal.main_arg0)
          ∧ r.2.mem ((c.tc : Thread Cert.WgradUpIdeal.nD Cert.WgradUpIdeal.τ).loc Cert.WgradUpIdeal.main_arg1) = m ((c.tc : Thread Cert.WgradUpIdeal.nD Cert.WgradUpIdeal.τ).loc Cert.WgradUpIdeal.main_arg1))
      ∧ θ_run (Cert.GradUpWIdeal.defs (F := Ideal)) (onTc (τ := Cert.GradUpWIdeal.τ) (Cert.GradUpWIdeal.main (F := Ideal))) ⟨m', fun _ => 0, g'⟩ (fun r => ∀ c : Dev Cert.GradUpWIdeal.nD,
          r.2.mem ((c.tc : Thread Cert.GradUpWIdeal.nD Cert.GradUpWIdeal.τ).loc Cert.GradUpWIdeal.main_v6) = v0 c
          ∧ r.2.mem ((c.tc : Thread Cert.GradUpWIdeal.nD Cert.GradUpWIdeal.τ).loc Cert.GradUpWIdeal.main_arg0) = m' ((c.tc : Thread Cert.GradUpWIdeal.nD Cert.GradUpWIdeal.τ).loc Cert.GradUpWIdeal.main_arg0)
          ∧ r.2.mem ((c.tc : Thread Cert.GradUpWIdeal.nD Cert.GradUpWIdeal.τ).loc Cert.GradUpWIdeal.main_arg1) = m' ((c.tc : Thread Cert.GradUpWIdeal.nD Cert.GradUpWIdeal.τ).loc Cert.GradUpWIdeal.main_arg1))

def preserves_BwdDx1_BwdDx1Ideal : Prop :=
  True

def algebraic_BwdDx1Ideal_GradUpXIdeal [hBwdDx1Ideal : Cert.BwdDx1Ideal.Facts] [hGradUpXIdeal : Cert.GradUpXIdeal.Facts] : Prop :=
  ∀ (m : (ℓ : Loc Cert.BwdDx1Ideal.nD Cert.BwdDx1Ideal.τ Cert.BwdDx1Ideal.sig) → Buf (Elt Ideal) ℓ) (g : Dev Cert.BwdDx1Ideal.nD → PrngReg)
    (m' : (ℓ : Loc Cert.GradUpXIdeal.nD Cert.GradUpXIdeal.τ Cert.GradUpXIdeal.sig) → Buf (Elt Ideal) ℓ) (g' : Dev Cert.GradUpXIdeal.nD → PrngReg), Pre_BwdDx1Ideal m →
    (∀ c : Dev Cert.BwdDx1Ideal.nD,
      m' ((c.tc : Thread Cert.GradUpXIdeal.nD Cert.GradUpXIdeal.τ).loc Cert.GradUpXIdeal.main_arg0) = m ((c.tc : Thread Cert.BwdDx1Ideal.nD Cert.BwdDx1Ideal.τ).loc Cert.BwdDx1Ideal.main_arg0)
      ∧ m' ((c.tc : Thread Cert.GradUpXIdeal.nD Cert.GradUpXIdeal.τ).loc Cert.GradUpXIdeal.main_arg1) = m ((c.tc : Thread Cert.BwdDx1Ideal.nD Cert.BwdDx1Ideal.τ).loc Cert.BwdDx1Ideal.main_arg1)
      ∧ m' ((c.tc : Thread Cert.GradUpXIdeal.nD Cert.GradUpXIdeal.τ).loc Cert.GradUpXIdeal.main_arg2) = m ((c.tc : Thread Cert.BwdDx1Ideal.nD Cert.BwdDx1Ideal.τ).loc Cert.BwdDx1Ideal.main_arg2)) →
    ∃ (v0 : (c : Dev Cert.BwdDx1Ideal.nD) → Buf (Elt Ideal) ((c.tc : Thread Cert.BwdDx1Ideal.nD Cert.BwdDx1Ideal.τ).loc Cert.BwdDx1Ideal.main_v0)),
      θ_run (Cert.BwdDx1Ideal.defs (F := Ideal)) (onTc (τ := Cert.BwdDx1Ideal.τ) (Cert.BwdDx1Ideal.main (F := Ideal))) ⟨m, fun _ => 0, g⟩ (fun r => ∀ c : Dev Cert.BwdDx1Ideal.nD,
          r.2.mem ((c.tc : Thread Cert.BwdDx1Ideal.nD Cert.BwdDx1Ideal.τ).loc Cert.BwdDx1Ideal.main_v0) = v0 c
          ∧ r.2.mem ((c.tc : Thread Cert.BwdDx1Ideal.nD Cert.BwdDx1Ideal.τ).loc Cert.BwdDx1Ideal.main_arg0) = m ((c.tc : Thread Cert.BwdDx1Ideal.nD Cert.BwdDx1Ideal.τ).loc Cert.BwdDx1Ideal.main_arg0)
          ∧ r.2.mem ((c.tc : Thread Cert.BwdDx1Ideal.nD Cert.BwdDx1Ideal.τ).loc Cert.BwdDx1Ideal.main_arg1) = m ((c.tc : Thread Cert.BwdDx1Ideal.nD Cert.BwdDx1Ideal.τ).loc Cert.BwdDx1Ideal.main_arg1)
          ∧ r.2.mem ((c.tc : Thread Cert.BwdDx1Ideal.nD Cert.BwdDx1Ideal.τ).loc Cert.BwdDx1Ideal.main_arg2) = m ((c.tc : Thread Cert.BwdDx1Ideal.nD Cert.BwdDx1Ideal.τ).loc Cert.BwdDx1Ideal.main_arg2))
      ∧ θ_run (Cert.GradUpXIdeal.defs (F := Ideal)) (onTc (τ := Cert.GradUpXIdeal.τ) (Cert.GradUpXIdeal.main (F := Ideal))) ⟨m', fun _ => 0, g'⟩ (fun r => ∀ c : Dev Cert.GradUpXIdeal.nD,
          r.2.mem ((c.tc : Thread Cert.GradUpXIdeal.nD Cert.GradUpXIdeal.τ).loc Cert.GradUpXIdeal.main_v11) = v0 c
          ∧ r.2.mem ((c.tc : Thread Cert.GradUpXIdeal.nD Cert.GradUpXIdeal.τ).loc Cert.GradUpXIdeal.main_arg0) = m' ((c.tc : Thread Cert.GradUpXIdeal.nD Cert.GradUpXIdeal.τ).loc Cert.GradUpXIdeal.main_arg0)
          ∧ r.2.mem ((c.tc : Thread Cert.GradUpXIdeal.nD Cert.GradUpXIdeal.τ).loc Cert.GradUpXIdeal.main_arg1) = m' ((c.tc : Thread Cert.GradUpXIdeal.nD Cert.GradUpXIdeal.τ).loc Cert.GradUpXIdeal.main_arg1)
          ∧ r.2.mem ((c.tc : Thread Cert.GradUpXIdeal.nD Cert.GradUpXIdeal.τ).loc Cert.GradUpXIdeal.main_arg2) = m' ((c.tc : Thread Cert.GradUpXIdeal.nD Cert.GradUpXIdeal.τ).loc Cert.GradUpXIdeal.main_arg2))

def preserves_FwdUp_FwdUpIdeal : Prop :=
  True

def algebraic_FwdUpIdeal_ProjUpIdeal [hFwdUpIdeal : Cert.FwdUpIdeal.Facts] [hProjUpIdeal : Cert.ProjUpIdeal.Facts] : Prop :=
  ∀ (m : (ℓ : Loc Cert.FwdUpIdeal.nD Cert.FwdUpIdeal.τ Cert.FwdUpIdeal.sig) → Buf (Elt Ideal) ℓ) (g : Dev Cert.FwdUpIdeal.nD → PrngReg)
    (m' : (ℓ : Loc Cert.ProjUpIdeal.nD Cert.ProjUpIdeal.τ Cert.ProjUpIdeal.sig) → Buf (Elt Ideal) ℓ) (g' : Dev Cert.ProjUpIdeal.nD → PrngReg), Pre_FwdUpIdeal m →
    (∀ c : Dev Cert.FwdUpIdeal.nD,
      m' ((c.tc : Thread Cert.ProjUpIdeal.nD Cert.ProjUpIdeal.τ).loc Cert.ProjUpIdeal.main_arg0) = m ((c.tc : Thread Cert.FwdUpIdeal.nD Cert.FwdUpIdeal.τ).loc Cert.FwdUpIdeal.main_arg0)
      ∧ m' ((c.tc : Thread Cert.ProjUpIdeal.nD Cert.ProjUpIdeal.τ).loc Cert.ProjUpIdeal.main_arg1) = m ((c.tc : Thread Cert.FwdUpIdeal.nD Cert.FwdUpIdeal.τ).loc Cert.FwdUpIdeal.main_arg1)) →
    ∃ (v0 : (c : Dev Cert.FwdUpIdeal.nD) → Buf (Elt Ideal) ((c.tc : Thread Cert.FwdUpIdeal.nD Cert.FwdUpIdeal.τ).loc Cert.FwdUpIdeal.main_v0)),
      θ_run (Cert.FwdUpIdeal.defs (F := Ideal)) (onTc (τ := Cert.FwdUpIdeal.τ) (Cert.FwdUpIdeal.main (F := Ideal))) ⟨m, fun _ => 0, g⟩ (fun r => ∀ c : Dev Cert.FwdUpIdeal.nD,
          r.2.mem ((c.tc : Thread Cert.FwdUpIdeal.nD Cert.FwdUpIdeal.τ).loc Cert.FwdUpIdeal.main_v0) = v0 c
          ∧ r.2.mem ((c.tc : Thread Cert.FwdUpIdeal.nD Cert.FwdUpIdeal.τ).loc Cert.FwdUpIdeal.main_arg0) = m ((c.tc : Thread Cert.FwdUpIdeal.nD Cert.FwdUpIdeal.τ).loc Cert.FwdUpIdeal.main_arg0)
          ∧ r.2.mem ((c.tc : Thread Cert.FwdUpIdeal.nD Cert.FwdUpIdeal.τ).loc Cert.FwdUpIdeal.main_arg1) = m ((c.tc : Thread Cert.FwdUpIdeal.nD Cert.FwdUpIdeal.τ).loc Cert.FwdUpIdeal.main_arg1))
      ∧ θ_run (Cert.ProjUpIdeal.defs (F := Ideal)) (onTc (τ := Cert.ProjUpIdeal.τ) (Cert.ProjUpIdeal.main (F := Ideal))) ⟨m', fun _ => 0, g'⟩ (fun r => ∀ c : Dev Cert.ProjUpIdeal.nD,
          r.2.mem ((c.tc : Thread Cert.ProjUpIdeal.nD Cert.ProjUpIdeal.τ).loc Cert.ProjUpIdeal.main_v3) = v0 c
          ∧ r.2.mem ((c.tc : Thread Cert.ProjUpIdeal.nD Cert.ProjUpIdeal.τ).loc Cert.ProjUpIdeal.main_arg0) = m' ((c.tc : Thread Cert.ProjUpIdeal.nD Cert.ProjUpIdeal.τ).loc Cert.ProjUpIdeal.main_arg0)
          ∧ r.2.mem ((c.tc : Thread Cert.ProjUpIdeal.nD Cert.ProjUpIdeal.τ).loc Cert.ProjUpIdeal.main_arg1) = m' ((c.tc : Thread Cert.ProjUpIdeal.nD Cert.ProjUpIdeal.τ).loc Cert.ProjUpIdeal.main_arg1))

def preserves_FwdIn_FwdInIdeal : Prop :=
  True

def algebraic_FwdInIdeal_ProjInIdeal [hFwdInIdeal : Cert.FwdInIdeal.Facts] [hProjInIdeal : Cert.ProjInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg)
    (m' : (ℓ : Loc Cert.ProjInIdeal.nD Cert.ProjInIdeal.τ Cert.ProjInIdeal.sig) → Buf (Elt Ideal) ℓ) (g' : Dev Cert.ProjInIdeal.nD → PrngReg), Pre_FwdInIdeal m →
    (∀ c : Dev Cert.FwdInIdeal.nD,
      m' ((c.tc : Thread Cert.ProjInIdeal.nD Cert.ProjInIdeal.τ).loc Cert.ProjInIdeal.main_arg0) = m ((c.tc : Thread Cert.FwdInIdeal.nD Cert.FwdInIdeal.τ).loc Cert.FwdInIdeal.main_arg0)
      ∧ m' ((c.tc : Thread Cert.ProjInIdeal.nD Cert.ProjInIdeal.τ).loc Cert.ProjInIdeal.main_arg1) = m ((c.tc : Thread Cert.FwdInIdeal.nD Cert.FwdInIdeal.τ).loc Cert.FwdInIdeal.main_arg1)) →
    ∃ (v0 : (c : Dev Cert.FwdInIdeal.nD) → Buf (Elt Ideal) ((c.tc : Thread Cert.FwdInIdeal.nD Cert.FwdInIdeal.τ).loc Cert.FwdInIdeal.main_v0)),
      θ_run (Cert.FwdInIdeal.defs (F := Ideal)) (onTc (τ := Cert.FwdInIdeal.τ) (Cert.FwdInIdeal.main (F := Ideal))) ⟨m, fun _ => 0, g⟩ (fun r => ∀ c : Dev Cert.FwdInIdeal.nD,
          r.2.mem ((c.tc : Thread Cert.FwdInIdeal.nD Cert.FwdInIdeal.τ).loc Cert.FwdInIdeal.main_v0) = v0 c
          ∧ r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
          ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1))
      ∧ θ_run (Cert.ProjInIdeal.defs (F := Ideal)) (onTc (τ := Cert.ProjInIdeal.τ) (Cert.ProjInIdeal.main (F := Ideal))) ⟨m', fun _ => 0, g'⟩ (fun r => ∀ c : Dev Cert.ProjInIdeal.nD,
          r.2.mem ((c.tc : Thread Cert.ProjInIdeal.nD Cert.ProjInIdeal.τ).loc Cert.ProjInIdeal.main_v2) = v0 c
          ∧ r.2.mem ((c.tc : Thread Cert.ProjInIdeal.nD Cert.ProjInIdeal.τ).loc Cert.ProjInIdeal.main_arg0) = m' ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m' ((c.tc : Thread Cert.ProjInIdeal.nD Cert.ProjInIdeal.τ).loc Cert.ProjInIdeal.main_arg1))

def preserves_WgradIn_WgradInIdeal : Prop :=
  True

def algebraic_WgradInIdeal_GradInWIdeal [hWgradInIdeal : Cert.WgradInIdeal.Facts] [hGradInWIdeal : Cert.GradInWIdeal.Facts] : Prop :=
  ∀ (m : (ℓ : Loc Cert.WgradInIdeal.nD Cert.WgradInIdeal.τ Cert.WgradInIdeal.sig) → Buf (Elt Ideal) ℓ) (g : Dev Cert.WgradInIdeal.nD → PrngReg)
    (m' : (ℓ : Loc Cert.GradInWIdeal.nD Cert.GradInWIdeal.τ Cert.GradInWIdeal.sig) → Buf (Elt Ideal) ℓ) (g' : Dev Cert.GradInWIdeal.nD → PrngReg), Pre_WgradInIdeal m →
    (∀ c : Dev Cert.WgradInIdeal.nD,
      m' ((c.tc : Thread Cert.GradInWIdeal.nD Cert.GradInWIdeal.τ).loc Cert.GradInWIdeal.main_arg0) = m ((c.tc : Thread Cert.WgradInIdeal.nD Cert.WgradInIdeal.τ).loc Cert.WgradInIdeal.main_arg0)
      ∧ m' ((c.tc : Thread Cert.GradInWIdeal.nD Cert.GradInWIdeal.τ).loc Cert.GradInWIdeal.main_arg1) = m ((c.tc : Thread Cert.WgradInIdeal.nD Cert.WgradInIdeal.τ).loc Cert.WgradInIdeal.main_arg1)) →
    ∃ (v0 : (c : Dev Cert.WgradInIdeal.nD) → Buf (Elt Ideal) ((c.tc : Thread Cert.WgradInIdeal.nD Cert.WgradInIdeal.τ).loc Cert.WgradInIdeal.main_v0)),
      θ_run (Cert.WgradInIdeal.defs (F := Ideal)) (onTc (τ := Cert.WgradInIdeal.τ) (Cert.WgradInIdeal.main (F := Ideal))) ⟨m, fun _ => 0, g⟩ (fun r => ∀ c : Dev Cert.WgradInIdeal.nD,
          r.2.mem ((c.tc : Thread Cert.WgradInIdeal.nD Cert.WgradInIdeal.τ).loc Cert.WgradInIdeal.main_v0) = v0 c
          ∧ r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
          ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1))
      ∧ θ_run (Cert.GradInWIdeal.defs (F := Ideal)) (onTc (τ := Cert.GradInWIdeal.τ) (Cert.GradInWIdeal.main (F := Ideal))) ⟨m', fun _ => 0, g'⟩ (fun r => ∀ c : Dev Cert.GradInWIdeal.nD,
          r.2.mem ((c.tc : Thread Cert.GradInWIdeal.nD Cert.GradInWIdeal.τ).loc Cert.GradInWIdeal.main_v6) = v0 c
          ∧ r.2.mem ((c.tc : Thread Cert.GradInWIdeal.nD Cert.GradInWIdeal.τ).loc Cert.GradInWIdeal.main_arg0) = m' ((c.tc : Thread Cert.GradInWIdeal.nD Cert.GradInWIdeal.τ).loc Cert.GradInWIdeal.main_arg0)
          ∧ r.2.mem ((c.tc : Thread Cert.GradInWIdeal.nD Cert.GradInWIdeal.τ).loc Cert.GradInWIdeal.main_arg1) = m' ((c.tc : Thread Cert.GradInWIdeal.nD Cert.GradInWIdeal.τ).loc Cert.GradInWIdeal.main_arg1))

def preserves_BwdDx_BwdDxIdeal : Prop :=
  True

def algebraic_BwdDxIdeal_GradInXIdeal [hBwdDxIdeal : Cert.BwdDxIdeal.Facts] [hGradInXIdeal : Cert.GradInXIdeal.Facts] : Prop :=
  ∀ (m : (ℓ : Loc Cert.BwdDxIdeal.nD Cert.BwdDxIdeal.τ Cert.BwdDxIdeal.sig) → Buf (Elt Ideal) ℓ) (g : Dev Cert.BwdDxIdeal.nD → PrngReg)
    (m' : (ℓ : Loc Cert.GradInXIdeal.nD Cert.GradInXIdeal.τ Cert.GradInXIdeal.sig) → Buf (Elt Ideal) ℓ) (g' : Dev Cert.GradInXIdeal.nD → PrngReg), Pre_BwdDxIdeal m →
    (∀ c : Dev Cert.BwdDxIdeal.nD,
      m' ((c.tc : Thread Cert.GradInXIdeal.nD Cert.GradInXIdeal.τ).loc Cert.GradInXIdeal.main_arg0) = m ((c.tc : Thread Cert.BwdDxIdeal.nD Cert.BwdDxIdeal.τ).loc Cert.BwdDxIdeal.main_arg0)
      ∧ m' ((c.tc : Thread Cert.GradInXIdeal.nD Cert.GradInXIdeal.τ).loc Cert.GradInXIdeal.main_arg1) = m ((c.tc : Thread Cert.BwdDxIdeal.nD Cert.BwdDxIdeal.τ).loc Cert.BwdDxIdeal.main_arg1)
      ∧ m' ((c.tc : Thread Cert.GradInXIdeal.nD Cert.GradInXIdeal.τ).loc Cert.GradInXIdeal.main_arg2) = m ((c.tc : Thread Cert.BwdDxIdeal.nD Cert.BwdDxIdeal.τ).loc Cert.BwdDxIdeal.main_arg2)) →
    ∃ (v0 : (c : Dev Cert.BwdDxIdeal.nD) → Buf (Elt Ideal) ((c.tc : Thread Cert.BwdDxIdeal.nD Cert.BwdDxIdeal.τ).loc Cert.BwdDxIdeal.main_v0)),
      θ_run (Cert.BwdDxIdeal.defs (F := Ideal)) (onTc (τ := Cert.BwdDxIdeal.τ) (Cert.BwdDxIdeal.main (F := Ideal))) ⟨m, fun _ => 0, g⟩ (fun r => ∀ c : Dev Cert.BwdDxIdeal.nD,
          r.2.mem ((c.tc : Thread Cert.BwdDxIdeal.nD Cert.BwdDxIdeal.τ).loc Cert.BwdDxIdeal.main_v0) = v0 c
          ∧ r.2.mem ((c.tc : Thread Cert.BwdDxIdeal.nD Cert.BwdDxIdeal.τ).loc Cert.BwdDxIdeal.main_arg0) = m ((c.tc : Thread Cert.BwdDxIdeal.nD Cert.BwdDxIdeal.τ).loc Cert.BwdDxIdeal.main_arg0)
          ∧ r.2.mem ((c.tc : Thread Cert.BwdDxIdeal.nD Cert.BwdDxIdeal.τ).loc Cert.BwdDxIdeal.main_arg1) = m ((c.tc : Thread Cert.BwdDxIdeal.nD Cert.BwdDxIdeal.τ).loc Cert.BwdDxIdeal.main_arg1)
          ∧ r.2.mem ((c.tc : Thread Cert.BwdDxIdeal.nD Cert.BwdDxIdeal.τ).loc Cert.BwdDxIdeal.main_arg2) = m ((c.tc : Thread Cert.BwdDxIdeal.nD Cert.BwdDxIdeal.τ).loc Cert.BwdDxIdeal.main_arg2))
      ∧ θ_run (Cert.GradInXIdeal.defs (F := Ideal)) (onTc (τ := Cert.GradInXIdeal.τ) (Cert.GradInXIdeal.main (F := Ideal))) ⟨m', fun _ => 0, g'⟩ (fun r => ∀ c : Dev Cert.GradInXIdeal.nD,
          r.2.mem ((c.tc : Thread Cert.GradInXIdeal.nD Cert.GradInXIdeal.τ).loc Cert.GradInXIdeal.main_v10) = v0 c
          ∧ r.2.mem ((c.tc : Thread Cert.GradInXIdeal.nD Cert.GradInXIdeal.τ).loc Cert.GradInXIdeal.main_arg0) = m' ((c.tc : Thread Cert.GradInXIdeal.nD Cert.GradInXIdeal.τ).loc Cert.GradInXIdeal.main_arg0)
          ∧ r.2.mem ((c.tc : Thread Cert.GradInXIdeal.nD Cert.GradInXIdeal.τ).loc Cert.GradInXIdeal.main_arg1) = m' ((c.tc : Thread Cert.GradInXIdeal.nD Cert.GradInXIdeal.τ).loc Cert.GradInXIdeal.main_arg1)
          ∧ r.2.mem ((c.tc : Thread Cert.GradInXIdeal.nD Cert.GradInXIdeal.τ).loc Cert.GradInXIdeal.main_arg2) = m' ((c.tc : Thread Cert.GradInXIdeal.nD Cert.GradInXIdeal.τ).loc Cert.GradInXIdeal.main_arg2))

def preserves_BwdDa_BwdDaIdeal : Prop :=
  True

def algebraic_BwdDaIdeal_GradDownAIdeal [hBwdDaIdeal : Cert.BwdDaIdeal.Facts] [hGradDownAIdeal : Cert.GradDownAIdeal.Facts] : Prop :=
  ∀ (m : (ℓ : Loc Cert.BwdDaIdeal.nD Cert.BwdDaIdeal.τ Cert.BwdDaIdeal.sig) → Buf (Elt Ideal) ℓ) (g : Dev Cert.BwdDaIdeal.nD → PrngReg)
    (m' : (ℓ : Loc Cert.GradDownAIdeal.nD Cert.GradDownAIdeal.τ Cert.GradDownAIdeal.sig) → Buf (Elt Ideal) ℓ) (g' : Dev Cert.GradDownAIdeal.nD → PrngReg), Pre_BwdDaIdeal m →
    (∀ c : Dev Cert.BwdDaIdeal.nD,
      m' ((c.tc : Thread Cert.GradDownAIdeal.nD Cert.GradDownAIdeal.τ).loc Cert.GradDownAIdeal.main_arg0) = m ((c.tc : Thread Cert.BwdDaIdeal.nD Cert.BwdDaIdeal.τ).loc Cert.BwdDaIdeal.main_arg0)
      ∧ m' ((c.tc : Thread Cert.GradDownAIdeal.nD Cert.GradDownAIdeal.τ).loc Cert.GradDownAIdeal.main_arg1) = m ((c.tc : Thread Cert.BwdDaIdeal.nD Cert.BwdDaIdeal.τ).loc Cert.BwdDaIdeal.main_arg1)) →
    ∃ (v0 : (c : Dev Cert.BwdDaIdeal.nD) → Buf (Elt Ideal) ((c.tc : Thread Cert.BwdDaIdeal.nD Cert.BwdDaIdeal.τ).loc Cert.BwdDaIdeal.main_v0)),
      θ_run (Cert.BwdDaIdeal.defs (F := Ideal)) (onTc (τ := Cert.BwdDaIdeal.τ) (Cert.BwdDaIdeal.main (F := Ideal))) ⟨m, fun _ => 0, g⟩ (fun r => ∀ c : Dev Cert.BwdDaIdeal.nD,
          r.2.mem ((c.tc : Thread Cert.BwdDaIdeal.nD Cert.BwdDaIdeal.τ).loc Cert.BwdDaIdeal.main_v0) = v0 c
          ∧ r.2.mem ((c.tc : Thread Cert.BwdDaIdeal.nD Cert.BwdDaIdeal.τ).loc Cert.BwdDaIdeal.main_arg0) = m ((c.tc : Thread Cert.BwdDaIdeal.nD Cert.BwdDaIdeal.τ).loc Cert.BwdDaIdeal.main_arg0)
          ∧ r.2.mem ((c.tc : Thread Cert.BwdDaIdeal.nD Cert.BwdDaIdeal.τ).loc Cert.BwdDaIdeal.main_arg1) = m ((c.tc : Thread Cert.BwdDaIdeal.nD Cert.BwdDaIdeal.τ).loc Cert.BwdDaIdeal.main_arg1))
      ∧ θ_run (Cert.GradDownAIdeal.defs (F := Ideal)) (onTc (τ := Cert.GradDownAIdeal.τ) (Cert.GradDownAIdeal.main (F := Ideal))) ⟨m', fun _ => 0, g'⟩ (fun r => ∀ c : Dev Cert.GradDownAIdeal.nD,
          r.2.mem ((c.tc : Thread Cert.GradDownAIdeal.nD Cert.GradDownAIdeal.τ).loc Cert.GradDownAIdeal.main_v5) = v0 c
          ∧ r.2.mem ((c.tc : Thread Cert.GradDownAIdeal.nD Cert.GradDownAIdeal.τ).loc Cert.GradDownAIdeal.main_arg0) = m' ((c.tc : Thread Cert.GradDownAIdeal.nD Cert.GradDownAIdeal.τ).loc Cert.GradDownAIdeal.main_arg0)
          ∧ r.2.mem ((c.tc : Thread Cert.GradDownAIdeal.nD Cert.GradDownAIdeal.τ).loc Cert.GradDownAIdeal.main_arg1) = m' ((c.tc : Thread Cert.GradDownAIdeal.nD Cert.GradDownAIdeal.τ).loc Cert.GradDownAIdeal.main_arg1))

def preserves_WgradDown_WgradDownIdeal : Prop :=
  True

def algebraic_WgradDownIdeal_GradDownWIdeal [hWgradDownIdeal : Cert.WgradDownIdeal.Facts] [hGradDownWIdeal : Cert.GradDownWIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg)
    (m' : (ℓ : Loc Cert.GradDownWIdeal.nD Cert.GradDownWIdeal.τ Cert.GradDownWIdeal.sig) → Buf (Elt Ideal) ℓ) (g' : Dev Cert.GradDownWIdeal.nD → PrngReg), Pre_WgradDownIdeal m →
    (∀ c : Dev Cert.WgradDownIdeal.nD,
      m' ((c.tc : Thread Cert.GradDownWIdeal.nD Cert.GradDownWIdeal.τ).loc Cert.GradDownWIdeal.main_arg0) = m ((c.tc : Thread Cert.WgradDownIdeal.nD Cert.WgradDownIdeal.τ).loc Cert.WgradDownIdeal.main_arg0)
      ∧ m' ((c.tc : Thread Cert.GradDownWIdeal.nD Cert.GradDownWIdeal.τ).loc Cert.GradDownWIdeal.main_arg1) = m ((c.tc : Thread Cert.WgradDownIdeal.nD Cert.WgradDownIdeal.τ).loc Cert.WgradDownIdeal.main_arg1)) →
    ∃ (v0 : (c : Dev Cert.WgradDownIdeal.nD) → Buf (Elt Ideal) ((c.tc : Thread Cert.WgradDownIdeal.nD Cert.WgradDownIdeal.τ).loc Cert.WgradDownIdeal.main_v0)),
      θ_run (Cert.WgradDownIdeal.defs (F := Ideal)) (onTc (τ := Cert.WgradDownIdeal.τ) (Cert.WgradDownIdeal.main (F := Ideal))) ⟨m, fun _ => 0, g⟩ (fun r => ∀ c : Dev Cert.WgradDownIdeal.nD,
          r.2.mem ((c.tc : Thread Cert.WgradDownIdeal.nD Cert.WgradDownIdeal.τ).loc Cert.WgradDownIdeal.main_v0) = v0 c
          ∧ r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
          ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1))
      ∧ θ_run (Cert.GradDownWIdeal.defs (F := Ideal)) (onTc (τ := Cert.GradDownWIdeal.τ) (Cert.GradDownWIdeal.main (F := Ideal))) ⟨m', fun _ => 0, g'⟩ (fun r => ∀ c : Dev Cert.GradDownWIdeal.nD,
          r.2.mem ((c.tc : Thread Cert.GradDownWIdeal.nD Cert.GradDownWIdeal.τ).loc Cert.GradDownWIdeal.main_v6) = v0 c
          ∧ r.2.mem ((c.tc : Thread Cert.GradDownWIdeal.nD Cert.GradDownWIdeal.τ).loc Cert.GradDownWIdeal.main_arg0) = m' ((c.tc : Thread Cert.GradDownWIdeal.nD Cert.GradDownWIdeal.τ).loc Cert.GradDownWIdeal.main_arg0)
          ∧ r.2.mem ((c.tc : Thread Cert.GradDownWIdeal.nD Cert.GradDownWIdeal.τ).loc Cert.GradDownWIdeal.main_arg1) = m' ((c.tc : Thread Cert.GradDownWIdeal.nD Cert.GradDownWIdeal.τ).loc Cert.GradDownWIdeal.main_arg1))

def preserves_BwdDcat_BwdDcatIdeal : Prop :=
  True

def algebraic_BwdDcatIdeal_GradOXIdeal [hBwdDcatIdeal : Cert.BwdDcatIdeal.Facts] [hGradOXIdeal : Cert.GradOXIdeal.Facts] : Prop :=
  ∀ (m : (ℓ : Loc Cert.BwdDcatIdeal.nD Cert.BwdDcatIdeal.τ Cert.BwdDcatIdeal.sig) → Buf (Elt Ideal) ℓ) (g : Dev Cert.BwdDcatIdeal.nD → PrngReg)
    (m' : (ℓ : Loc Cert.GradOXIdeal.nD Cert.GradOXIdeal.τ Cert.GradOXIdeal.sig) → Buf (Elt Ideal) ℓ) (g' : Dev Cert.GradOXIdeal.nD → PrngReg), Pre_BwdDcatIdeal m →
    (∀ c : Dev Cert.BwdDcatIdeal.nD,
      m' ((c.tc : Thread Cert.GradOXIdeal.nD Cert.GradOXIdeal.τ).loc Cert.GradOXIdeal.main_arg0) = m ((c.tc : Thread Cert.BwdDcatIdeal.nD Cert.BwdDcatIdeal.τ).loc Cert.BwdDcatIdeal.main_arg0)
      ∧ m' ((c.tc : Thread Cert.GradOXIdeal.nD Cert.GradOXIdeal.τ).loc Cert.GradOXIdeal.main_arg1) = m ((c.tc : Thread Cert.BwdDcatIdeal.nD Cert.BwdDcatIdeal.τ).loc Cert.BwdDcatIdeal.main_arg1)) →
    ∃ (v0 : (c : Dev Cert.BwdDcatIdeal.nD) → Buf (Elt Ideal) ((c.tc : Thread Cert.BwdDcatIdeal.nD Cert.BwdDcatIdeal.τ).loc Cert.BwdDcatIdeal.main_v0)),
      θ_run (Cert.BwdDcatIdeal.defs (F := Ideal)) (onTc (τ := Cert.BwdDcatIdeal.τ) (Cert.BwdDcatIdeal.main (F := Ideal))) ⟨m, fun _ => 0, g⟩ (fun r => ∀ c : Dev Cert.BwdDcatIdeal.nD,
          r.2.mem ((c.tc : Thread Cert.BwdDcatIdeal.nD Cert.BwdDcatIdeal.τ).loc Cert.BwdDcatIdeal.main_v0) = v0 c
          ∧ r.2.mem ((c.tc : Thread Cert.BwdDcatIdeal.nD Cert.BwdDcatIdeal.τ).loc Cert.BwdDcatIdeal.main_arg0) = m ((c.tc : Thread Cert.BwdDcatIdeal.nD Cert.BwdDcatIdeal.τ).loc Cert.BwdDcatIdeal.main_arg0)
          ∧ r.2.mem ((c.tc : Thread Cert.BwdDcatIdeal.nD Cert.BwdDcatIdeal.τ).loc Cert.BwdDcatIdeal.main_arg1) = m ((c.tc : Thread Cert.BwdDcatIdeal.nD Cert.BwdDcatIdeal.τ).loc Cert.BwdDcatIdeal.main_arg1))
      ∧ θ_run (Cert.GradOXIdeal.defs (F := Ideal)) (onTc (τ := Cert.GradOXIdeal.τ) (Cert.GradOXIdeal.main (F := Ideal))) ⟨m', fun _ => 0, g'⟩ (fun r => ∀ c : Dev Cert.GradOXIdeal.nD,
          r.2.mem ((c.tc : Thread Cert.GradOXIdeal.nD Cert.GradOXIdeal.τ).loc Cert.GradOXIdeal.main_v5) = v0 c
          ∧ r.2.mem ((c.tc : Thread Cert.GradOXIdeal.nD Cert.GradOXIdeal.τ).loc Cert.GradOXIdeal.main_arg0) = m' ((c.tc : Thread Cert.GradOXIdeal.nD Cert.GradOXIdeal.τ).loc Cert.GradOXIdeal.main_arg0)
          ∧ r.2.mem ((c.tc : Thread Cert.GradOXIdeal.nD Cert.GradOXIdeal.τ).loc Cert.GradOXIdeal.main_arg1) = m' ((c.tc : Thread Cert.GradOXIdeal.nD Cert.GradOXIdeal.τ).loc Cert.GradOXIdeal.main_arg1))

def preserves_WgradO_WgradOIdeal : Prop :=
  True

def algebraic_WgradOIdeal_GradOWIdeal [hWgradOIdeal : Cert.WgradOIdeal.Facts] [hGradOWIdeal : Cert.GradOWIdeal.Facts] : Prop :=
  ∀ (m : (ℓ : Loc Cert.WgradOIdeal.nD Cert.WgradOIdeal.τ Cert.WgradOIdeal.sig) → Buf (Elt Ideal) ℓ) (g : Dev Cert.WgradOIdeal.nD → PrngReg)
    (m' : (ℓ : Loc Cert.GradOWIdeal.nD Cert.GradOWIdeal.τ Cert.GradOWIdeal.sig) → Buf (Elt Ideal) ℓ) (g' : Dev Cert.GradOWIdeal.nD → PrngReg), Pre_WgradOIdeal m →
    (∀ c : Dev Cert.WgradOIdeal.nD,
      m' ((c.tc : Thread Cert.GradOWIdeal.nD Cert.GradOWIdeal.τ).loc Cert.GradOWIdeal.main_arg0) = m ((c.tc : Thread Cert.WgradOIdeal.nD Cert.WgradOIdeal.τ).loc Cert.WgradOIdeal.main_arg0)
      ∧ m' ((c.tc : Thread Cert.GradOWIdeal.nD Cert.GradOWIdeal.τ).loc Cert.GradOWIdeal.main_arg1) = m ((c.tc : Thread Cert.WgradOIdeal.nD Cert.WgradOIdeal.τ).loc Cert.WgradOIdeal.main_arg1)) →
    ∃ (v0 : (c : Dev Cert.WgradOIdeal.nD) → Buf (Elt Ideal) ((c.tc : Thread Cert.WgradOIdeal.nD Cert.WgradOIdeal.τ).loc Cert.WgradOIdeal.main_v0)),
      θ_run (Cert.WgradOIdeal.defs (F := Ideal)) (onTc (τ := Cert.WgradOIdeal.τ) (Cert.WgradOIdeal.main (F := Ideal))) ⟨m, fun _ => 0, g⟩ (fun r => ∀ c : Dev Cert.WgradOIdeal.nD,
          r.2.mem ((c.tc : Thread Cert.WgradOIdeal.nD Cert.WgradOIdeal.τ).loc Cert.WgradOIdeal.main_v0) = v0 c
          ∧ r.2.mem ((c.tc : Thread Cert.WgradOIdeal.nD Cert.WgradOIdeal.τ).loc Cert.WgradOIdeal.main_arg0) = m ((c.tc : Thread Cert.WgradOIdeal.nD Cert.WgradOIdeal.τ).loc Cert.WgradOIdeal.main_arg0)
          ∧ r.2.mem ((c.tc : Thread Cert.WgradOIdeal.nD Cert.WgradOIdeal.τ).loc Cert.WgradOIdeal.main_arg1) = m ((c.tc : Thread Cert.WgradOIdeal.nD Cert.WgradOIdeal.τ).loc Cert.WgradOIdeal.main_arg1))
      ∧ θ_run (Cert.GradOWIdeal.defs (F := Ideal)) (onTc (τ := Cert.GradOWIdeal.τ) (Cert.GradOWIdeal.main (F := Ideal))) ⟨m', fun _ => 0, g'⟩ (fun r => ∀ c : Dev Cert.GradOWIdeal.nD,
          r.2.mem ((c.tc : Thread Cert.GradOWIdeal.nD Cert.GradOWIdeal.τ).loc Cert.GradOWIdeal.main_v6) = v0 c
          ∧ r.2.mem ((c.tc : Thread Cert.GradOWIdeal.nD Cert.GradOWIdeal.τ).loc Cert.GradOWIdeal.main_arg0) = m' ((c.tc : Thread Cert.GradOWIdeal.nD Cert.GradOWIdeal.τ).loc Cert.GradOWIdeal.main_arg0)
          ∧ r.2.mem ((c.tc : Thread Cert.GradOWIdeal.nD Cert.GradOWIdeal.τ).loc Cert.GradOWIdeal.main_arg1) = m' ((c.tc : Thread Cert.GradOWIdeal.nD Cert.GradOWIdeal.τ).loc Cert.GradOWIdeal.main_arg1))

def preserves_FwdO_FwdOIdeal : Prop :=
  True

def algebraic_FwdOIdeal_NormOIdeal [hFwdOIdeal : Cert.FwdOIdeal.Facts] [hNormOIdeal : Cert.NormOIdeal.Facts] : Prop :=
  ∀ (m : (ℓ : Loc Cert.FwdOIdeal.nD Cert.FwdOIdeal.τ Cert.FwdOIdeal.sig) → Buf (Elt Ideal) ℓ) (g : Dev Cert.FwdOIdeal.nD → PrngReg)
    (m' : (ℓ : Loc Cert.NormOIdeal.nD Cert.NormOIdeal.τ Cert.NormOIdeal.sig) → Buf (Elt Ideal) ℓ) (g' : Dev Cert.NormOIdeal.nD → PrngReg), Pre_FwdOIdeal m →
    (∀ c : Dev Cert.FwdOIdeal.nD,
      m' ((c.tc : Thread Cert.NormOIdeal.nD Cert.NormOIdeal.τ).loc Cert.NormOIdeal.main_arg0) = m ((c.tc : Thread Cert.FwdOIdeal.nD Cert.FwdOIdeal.τ).loc Cert.FwdOIdeal.main_arg0)
      ∧ m' ((c.tc : Thread Cert.NormOIdeal.nD Cert.NormOIdeal.τ).loc Cert.NormOIdeal.main_arg1) = m ((c.tc : Thread Cert.FwdOIdeal.nD Cert.FwdOIdeal.τ).loc Cert.FwdOIdeal.main_arg1)
      ∧ m' ((c.tc : Thread Cert.NormOIdeal.nD Cert.NormOIdeal.τ).loc Cert.NormOIdeal.main_arg2) = m ((c.tc : Thread Cert.FwdOIdeal.nD Cert.FwdOIdeal.τ).loc Cert.FwdOIdeal.main_arg2)
      ∧ m' ((c.tc : Thread Cert.NormOIdeal.nD Cert.NormOIdeal.τ).loc Cert.NormOIdeal.main_arg3) = m ((c.tc : Thread Cert.FwdOIdeal.nD Cert.FwdOIdeal.τ).loc Cert.FwdOIdeal.main_arg3)
      ∧ m' ((c.tc : Thread Cert.NormOIdeal.nD Cert.NormOIdeal.τ).loc Cert.NormOIdeal.main_arg4) = m ((c.tc : Thread Cert.FwdOIdeal.nD Cert.FwdOIdeal.τ).loc Cert.FwdOIdeal.main_arg4)) →
    ∃ (v0 : (c : Dev Cert.FwdOIdeal.nD) → Buf (Elt Ideal) ((c.tc : Thread Cert.FwdOIdeal.nD Cert.FwdOIdeal.τ).loc Cert.FwdOIdeal.main_v0_0)) (v1 : (c : Dev Cert.FwdOIdeal.nD) → Buf (Elt Ideal) ((c.tc : Thread Cert.FwdOIdeal.nD Cert.FwdOIdeal.τ).loc Cert.FwdOIdeal.main_v0_1)) (v2 : (c : Dev Cert.FwdOIdeal.nD) → Buf (Elt Ideal) ((c.tc : Thread Cert.FwdOIdeal.nD Cert.FwdOIdeal.τ).loc Cert.FwdOIdeal.main_v0_2)),
      θ_run (Cert.FwdOIdeal.defs (F := Ideal)) (onTc (τ := Cert.FwdOIdeal.τ) (Cert.FwdOIdeal.main (F := Ideal))) ⟨m, fun _ => 0, g⟩ (fun r => ∀ c : Dev Cert.FwdOIdeal.nD,
          r.2.mem ((c.tc : Thread Cert.FwdOIdeal.nD Cert.FwdOIdeal.τ).loc Cert.FwdOIdeal.main_v0_0) = v0 c
          ∧ r.2.mem ((c.tc : Thread Cert.FwdOIdeal.nD Cert.FwdOIdeal.τ).loc Cert.FwdOIdeal.main_v0_1) = v1 c
          ∧ r.2.mem ((c.tc : Thread Cert.FwdOIdeal.nD Cert.FwdOIdeal.τ).loc Cert.FwdOIdeal.main_v0_2) = v2 c
          ∧ r.2.mem ((c.tc : Thread Cert.FwdOIdeal.nD Cert.FwdOIdeal.τ).loc Cert.FwdOIdeal.main_arg0) = m ((c.tc : Thread Cert.FwdOIdeal.nD Cert.FwdOIdeal.τ).loc Cert.FwdOIdeal.main_arg0)
          ∧ r.2.mem ((c.tc : Thread Cert.FwdOIdeal.nD Cert.FwdOIdeal.τ).loc Cert.FwdOIdeal.main_arg1) = m ((c.tc : Thread Cert.FwdOIdeal.nD Cert.FwdOIdeal.τ).loc Cert.FwdOIdeal.main_arg1)
          ∧ r.2.mem ((c.tc : Thread Cert.FwdOIdeal.nD Cert.FwdOIdeal.τ).loc Cert.FwdOIdeal.main_arg2) = m ((c.tc : Thread Cert.FwdOIdeal.nD Cert.FwdOIdeal.τ).loc Cert.FwdOIdeal.main_arg2)
          ∧ r.2.mem ((c.tc : Thread Cert.FwdOIdeal.nD Cert.FwdOIdeal.τ).loc Cert.FwdOIdeal.main_arg3) = m ((c.tc : Thread Cert.FwdOIdeal.nD Cert.FwdOIdeal.τ).loc Cert.FwdOIdeal.main_arg3)
          ∧ r.2.mem ((c.tc : Thread Cert.FwdOIdeal.nD Cert.FwdOIdeal.τ).loc Cert.FwdOIdeal.main_arg4) = m ((c.tc : Thread Cert.FwdOIdeal.nD Cert.FwdOIdeal.τ).loc Cert.FwdOIdeal.main_arg4))
      ∧ θ_run (Cert.NormOIdeal.defs (F := Ideal)) (onTc (τ := Cert.NormOIdeal.τ) (Cert.NormOIdeal.main (F := Ideal))) ⟨m', fun _ => 0, g'⟩ (fun r => ∀ c : Dev Cert.NormOIdeal.nD,
          r.2.mem ((c.tc : Thread Cert.NormOIdeal.nD Cert.NormOIdeal.τ).loc Cert.NormOIdeal.main_v28) = v0 c
          ∧ r.2.mem ((c.tc : Thread Cert.NormOIdeal.nD Cert.NormOIdeal.τ).loc Cert.NormOIdeal.main_v27) = v1 c
          ∧ r.2.mem ((c.tc : Thread Cert.NormOIdeal.nD Cert.NormOIdeal.τ).loc Cert.NormOIdeal.main_v29) = v2 c
          ∧ r.2.mem ((c.tc : Thread Cert.NormOIdeal.nD Cert.NormOIdeal.τ).loc Cert.NormOIdeal.main_arg0) = m' ((c.tc : Thread Cert.NormOIdeal.nD Cert.NormOIdeal.τ).loc Cert.NormOIdeal.main_arg0)
          ∧ r.2.mem ((c.tc : Thread Cert.NormOIdeal.nD Cert.NormOIdeal.τ).loc Cert.NormOIdeal.main_arg1) = m' ((c.tc : Thread Cert.NormOIdeal.nD Cert.NormOIdeal.τ).loc Cert.NormOIdeal.main_arg1)
          ∧ r.2.mem ((c.tc : Thread Cert.NormOIdeal.nD Cert.NormOIdeal.τ).loc Cert.NormOIdeal.main_arg2) = m' ((c.tc : Thread Cert.NormOIdeal.nD Cert.NormOIdeal.τ).loc Cert.NormOIdeal.main_arg2)
          ∧ r.2.mem ((c.tc : Thread Cert.NormOIdeal.nD Cert.NormOIdeal.τ).loc Cert.NormOIdeal.main_arg3) = m' ((c.tc : Thread Cert.NormOIdeal.nD Cert.NormOIdeal.τ).loc Cert.NormOIdeal.main_arg3)
          ∧ r.2.mem ((c.tc : Thread Cert.NormOIdeal.nD Cert.NormOIdeal.τ).loc Cert.NormOIdeal.main_arg4) = m' ((c.tc : Thread Cert.NormOIdeal.nD Cert.NormOIdeal.τ).loc Cert.NormOIdeal.main_arg4))

def preserves_FwdDown_FwdDownIdeal : Prop :=
  True

def algebraic_FwdDownIdeal_NormDownIdeal [hFwdDownIdeal : Cert.FwdDownIdeal.Facts] [hNormDownIdeal : Cert.NormDownIdeal.Facts] : Prop :=
  ∀ (m : (ℓ : Loc Cert.FwdDownIdeal.nD Cert.FwdDownIdeal.τ Cert.FwdDownIdeal.sig) → Buf (Elt Ideal) ℓ) (g : Dev Cert.FwdDownIdeal.nD → PrngReg)
    (m' : (ℓ : Loc Cert.NormDownIdeal.nD Cert.NormDownIdeal.τ Cert.NormDownIdeal.sig) → Buf (Elt Ideal) ℓ) (g' : Dev Cert.NormDownIdeal.nD → PrngReg), Pre_FwdDownIdeal m →
    (∀ c : Dev Cert.FwdDownIdeal.nD,
      m' ((c.tc : Thread Cert.NormDownIdeal.nD Cert.NormDownIdeal.τ).loc Cert.NormDownIdeal.main_arg0) = m ((c.tc : Thread Cert.FwdDownIdeal.nD Cert.FwdDownIdeal.τ).loc Cert.FwdDownIdeal.main_arg0)
      ∧ m' ((c.tc : Thread Cert.NormDownIdeal.nD Cert.NormDownIdeal.τ).loc Cert.NormDownIdeal.main_arg1) = m ((c.tc : Thread Cert.FwdDownIdeal.nD Cert.FwdDownIdeal.τ).loc Cert.FwdDownIdeal.main_arg1)
      ∧ m' ((c.tc : Thread Cert.NormDownIdeal.nD Cert.NormDownIdeal.τ).loc Cert.NormDownIdeal.main_arg2) = m ((c.tc : Thread Cert.FwdDownIdeal.nD Cert.FwdDownIdeal.τ).loc Cert.FwdDownIdeal.main_arg2)
      ∧ m' ((c.tc : Thread Cert.NormDownIdeal.nD Cert.NormDownIdeal.τ).loc Cert.NormDownIdeal.main_arg3) = m ((c.tc : Thread Cert.FwdDownIdeal.nD Cert.FwdDownIdeal.τ).loc Cert.FwdDownIdeal.main_arg3)
      ∧ m' ((c.tc : Thread Cert.NormDownIdeal.nD Cert.NormDownIdeal.τ).loc Cert.NormDownIdeal.main_arg4) = m ((c.tc : Thread Cert.FwdDownIdeal.nD Cert.FwdDownIdeal.τ).loc Cert.FwdDownIdeal.main_arg4)) →
    ∃ (v0 : (c : Dev Cert.FwdDownIdeal.nD) → Buf (Elt Ideal) ((c.tc : Thread Cert.FwdDownIdeal.nD Cert.FwdDownIdeal.τ).loc Cert.FwdDownIdeal.main_v0_0)) (v1 : (c : Dev Cert.FwdDownIdeal.nD) → Buf (Elt Ideal) ((c.tc : Thread Cert.FwdDownIdeal.nD Cert.FwdDownIdeal.τ).loc Cert.FwdDownIdeal.main_v0_1)) (v2 : (c : Dev Cert.FwdDownIdeal.nD) → Buf (Elt Ideal) ((c.tc : Thread Cert.FwdDownIdeal.nD Cert.FwdDownIdeal.τ).loc Cert.FwdDownIdeal.main_v0_2)),
      θ_run (Cert.FwdDownIdeal.defs (F := Ideal)) (onTc (τ := Cert.FwdDownIdeal.τ) (Cert.FwdDownIdeal.main (F := Ideal))) ⟨m, fun _ => 0, g⟩ (fun r => ∀ c : Dev Cert.FwdDownIdeal.nD,
          r.2.mem ((c.tc : Thread Cert.FwdDownIdeal.nD Cert.FwdDownIdeal.τ).loc Cert.FwdDownIdeal.main_v0_0) = v0 c
          ∧ r.2.mem ((c.tc : Thread Cert.FwdDownIdeal.nD Cert.FwdDownIdeal.τ).loc Cert.FwdDownIdeal.main_v0_1) = v1 c
          ∧ r.2.mem ((c.tc : Thread Cert.FwdDownIdeal.nD Cert.FwdDownIdeal.τ).loc Cert.FwdDownIdeal.main_v0_2) = v2 c
          ∧ r.2.mem ((c.tc : Thread Cert.FwdDownIdeal.nD Cert.FwdDownIdeal.τ).loc Cert.FwdDownIdeal.main_arg0) = m ((c.tc : Thread Cert.FwdDownIdeal.nD Cert.FwdDownIdeal.τ).loc Cert.FwdDownIdeal.main_arg0)
          ∧ r.2.mem ((c.tc : Thread Cert.FwdDownIdeal.nD Cert.FwdDownIdeal.τ).loc Cert.FwdDownIdeal.main_arg1) = m ((c.tc : Thread Cert.FwdDownIdeal.nD Cert.FwdDownIdeal.τ).loc Cert.FwdDownIdeal.main_arg1)
          ∧ r.2.mem ((c.tc : Thread Cert.FwdDownIdeal.nD Cert.FwdDownIdeal.τ).loc Cert.FwdDownIdeal.main_arg2) = m ((c.tc : Thread Cert.FwdDownIdeal.nD Cert.FwdDownIdeal.τ).loc Cert.FwdDownIdeal.main_arg2)
          ∧ r.2.mem ((c.tc : Thread Cert.FwdDownIdeal.nD Cert.FwdDownIdeal.τ).loc Cert.FwdDownIdeal.main_arg3) = m ((c.tc : Thread Cert.FwdDownIdeal.nD Cert.FwdDownIdeal.τ).loc Cert.FwdDownIdeal.main_arg3)
          ∧ r.2.mem ((c.tc : Thread Cert.FwdDownIdeal.nD Cert.FwdDownIdeal.τ).loc Cert.FwdDownIdeal.main_arg4) = m ((c.tc : Thread Cert.FwdDownIdeal.nD Cert.FwdDownIdeal.τ).loc Cert.FwdDownIdeal.main_arg4))
      ∧ θ_run (Cert.NormDownIdeal.defs (F := Ideal)) (onTc (τ := Cert.NormDownIdeal.τ) (Cert.NormDownIdeal.main (F := Ideal))) ⟨m', fun _ => 0, g'⟩ (fun r => ∀ c : Dev Cert.NormDownIdeal.nD,
          r.2.mem ((c.tc : Thread Cert.NormDownIdeal.nD Cert.NormDownIdeal.τ).loc Cert.NormDownIdeal.main_v28) = v0 c
          ∧ r.2.mem ((c.tc : Thread Cert.NormDownIdeal.nD Cert.NormDownIdeal.τ).loc Cert.NormDownIdeal.main_v27) = v1 c
          ∧ r.2.mem ((c.tc : Thread Cert.NormDownIdeal.nD Cert.NormDownIdeal.τ).loc Cert.NormDownIdeal.main_v29) = v2 c
          ∧ r.2.mem ((c.tc : Thread Cert.NormDownIdeal.nD Cert.NormDownIdeal.τ).loc Cert.NormDownIdeal.main_arg0) = m' ((c.tc : Thread Cert.NormDownIdeal.nD Cert.NormDownIdeal.τ).loc Cert.NormDownIdeal.main_arg0)
          ∧ r.2.mem ((c.tc : Thread Cert.NormDownIdeal.nD Cert.NormDownIdeal.τ).loc Cert.NormDownIdeal.main_arg1) = m' ((c.tc : Thread Cert.NormDownIdeal.nD Cert.NormDownIdeal.τ).loc Cert.NormDownIdeal.main_arg1)
          ∧ r.2.mem ((c.tc : Thread Cert.NormDownIdeal.nD Cert.NormDownIdeal.τ).loc Cert.NormDownIdeal.main_arg2) = m' ((c.tc : Thread Cert.NormDownIdeal.nD Cert.NormDownIdeal.τ).loc Cert.NormDownIdeal.main_arg2)
          ∧ r.2.mem ((c.tc : Thread Cert.NormDownIdeal.nD Cert.NormDownIdeal.τ).loc Cert.NormDownIdeal.main_arg3) = m' ((c.tc : Thread Cert.NormDownIdeal.nD Cert.NormDownIdeal.τ).loc Cert.NormDownIdeal.main_arg3)
          ∧ r.2.mem ((c.tc : Thread Cert.NormDownIdeal.nD Cert.NormDownIdeal.τ).loc Cert.NormDownIdeal.main_arg4) = m' ((c.tc : Thread Cert.NormDownIdeal.nD Cert.NormDownIdeal.τ).loc Cert.NormDownIdeal.main_arg4))

def preserves_LnBwd_LnBwdIdeal : Prop :=
  True

def algebraic_LnBwdIdeal_GradNormIdeal_pre_tame [hLnBwdIdeal : Cert.LnBwdIdeal.Facts] [hGradNormIdeal : Cert.GradNormIdeal.Facts] [hPre_tame : Cert.Pre_tame.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.GradNormIdeal.nD Cert.GradNormIdeal.τ Cert.GradNormIdeal.sig) → Buf (Elt Ideal) ℓ) (g' : Dev Cert.GradNormIdeal.nD → PrngReg), Pre_LnBwdIdeal_tame m →
    (∀ c : Dev Cert.LnBwdIdeal.nD,
      m' ((c.tc : Thread Cert.GradNormIdeal.nD Cert.GradNormIdeal.τ).loc Cert.GradNormIdeal.main_arg0) = m ((c.tc : Thread Cert.LnBwdIdeal.nD Cert.LnBwdIdeal.τ).loc Cert.LnBwdIdeal.main_arg0)
      ∧ m' ((c.tc : Thread Cert.GradNormIdeal.nD Cert.GradNormIdeal.τ).loc Cert.GradNormIdeal.main_arg1) = m ((c.tc : Thread Cert.LnBwdIdeal.nD Cert.LnBwdIdeal.τ).loc Cert.LnBwdIdeal.main_arg1)
      ∧ m' ((c.tc : Thread Cert.GradNormIdeal.nD Cert.GradNormIdeal.τ).loc Cert.GradNormIdeal.main_arg2) = m ((c.tc : Thread Cert.LnBwdIdeal.nD Cert.LnBwdIdeal.τ).loc Cert.LnBwdIdeal.main_arg2)) →
    ∃ (v0 : (c : Dev Cert.LnBwdIdeal.nD) → Buf (Elt Ideal) ((c.tc : Thread Cert.LnBwdIdeal.nD Cert.LnBwdIdeal.τ).loc Cert.LnBwdIdeal.main_v0_0)) (v1 : (c : Dev Cert.LnBwdIdeal.nD) → Buf (Elt Ideal) ((c.tc : Thread Cert.LnBwdIdeal.nD Cert.LnBwdIdeal.τ).loc Cert.LnBwdIdeal.main_v0_1)) (v2 : (c : Dev Cert.LnBwdIdeal.nD) → Buf (Elt Ideal) ((c.tc : Thread Cert.LnBwdIdeal.nD Cert.LnBwdIdeal.τ).loc Cert.LnBwdIdeal.main_v0_2)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v0_0) = v0 c
          ∧ r.2.mem ((c.tc : Thread Cert.LnBwdIdeal.nD Cert.LnBwdIdeal.τ).loc Cert.LnBwdIdeal.main_v0_1) = v1 c
          ∧ r.2.mem ((c.tc : Thread Cert.LnBwdIdeal.nD Cert.LnBwdIdeal.τ).loc Cert.LnBwdIdeal.main_v0_2) = v2 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ θ_run (Cert.GradNormIdeal.defs (F := Ideal)) (onTc (τ := Cert.GradNormIdeal.τ) (Cert.GradNormIdeal.main (F := Ideal))) ⟨m', fun _ => 0, g'⟩ (fun r => ∀ c : Dev Cert.GradNormIdeal.nD,
          r.2.mem ((c.tc : Thread Cert.GradNormIdeal.nD Cert.GradNormIdeal.τ).loc Cert.GradNormIdeal.main_v61) = v0 c
          ∧ r.2.mem ((c.tc : Thread Cert.GradNormIdeal.nD Cert.GradNormIdeal.τ).loc Cert.GradNormIdeal.main_v34) = v1 c
          ∧ r.2.mem ((c.tc : Thread Cert.GradNormIdeal.nD Cert.GradNormIdeal.τ).loc Cert.GradNormIdeal.main_v31) = v2 c
          ∧ r.2.mem ((c.tc : Thread Cert.GradNormIdeal.nD Cert.GradNormIdeal.τ).loc Cert.GradNormIdeal.main_arg0) = m' ((c.tc : Thread Cert.GradNormIdeal.nD Cert.GradNormIdeal.τ).loc Cert.GradNormIdeal.main_arg0)
          ∧ r.2.mem ((c.tc : Thread Cert.GradNormIdeal.nD Cert.GradNormIdeal.τ).loc Cert.GradNormIdeal.main_arg1) = m' ((c.tc : Thread Cert.GradNormIdeal.nD Cert.GradNormIdeal.τ).loc Cert.GradNormIdeal.main_arg1)
          ∧ r.2.mem ((c.tc : Thread Cert.GradNormIdeal.nD Cert.GradNormIdeal.τ).loc Cert.GradNormIdeal.main_arg2) = m' ((c.tc : Thread Cert.GradNormIdeal.nD Cert.GradNormIdeal.τ).loc Cert.GradNormIdeal.main_arg2))

def Claim : Prop :=
  ∃ (hKernel : Cert.Kernel.Facts) (hKernelIdeal : Cert.KernelIdeal.Facts) (hReferenceIdeal : Cert.ReferenceIdeal.Facts) (hWgradUp : Cert.WgradUp.Facts) (hWgradUpIdeal : Cert.WgradUpIdeal.Facts) (hGradUpWIdeal : Cert.GradUpWIdeal.Facts) (hBwdDx1 : Cert.BwdDx1.Facts) (hBwdDx1Ideal : Cert.BwdDx1Ideal.Facts) (hGradUpXIdeal : Cert.GradUpXIdeal.Facts) (hFwdUp : Cert.FwdUp.Facts) (hFwdUpIdeal : Cert.FwdUpIdeal.Facts) (hProjUpIdeal : Cert.ProjUpIdeal.Facts) (hFwdIn : Cert.FwdIn.Facts) (hFwdInIdeal : Cert.FwdInIdeal.Facts) (hProjInIdeal : Cert.ProjInIdeal.Facts) (hWgradIn : Cert.WgradIn.Facts) (hWgradInIdeal : Cert.WgradInIdeal.Facts) (hGradInWIdeal : Cert.GradInWIdeal.Facts) (hBwdDx : Cert.BwdDx.Facts) (hBwdDxIdeal : Cert.BwdDxIdeal.Facts) (hGradInXIdeal : Cert.GradInXIdeal.Facts) (hBwdDa : Cert.BwdDa.Facts) (hBwdDaIdeal : Cert.BwdDaIdeal.Facts) (hGradDownAIdeal : Cert.GradDownAIdeal.Facts) (hWgradDown : Cert.WgradDown.Facts) (hWgradDownIdeal : Cert.WgradDownIdeal.Facts) (hGradDownWIdeal : Cert.GradDownWIdeal.Facts) (hBwdDcat : Cert.BwdDcat.Facts) (hBwdDcatIdeal : Cert.BwdDcatIdeal.Facts) (hGradOXIdeal : Cert.GradOXIdeal.Facts) (hWgradO : Cert.WgradO.Facts) (hWgradOIdeal : Cert.WgradOIdeal.Facts) (hGradOWIdeal : Cert.GradOWIdeal.Facts) (hFwdO : Cert.FwdO.Facts) (hFwdOIdeal : Cert.FwdOIdeal.Facts) (hNormOIdeal : Cert.NormOIdeal.Facts) (hFwdDown : Cert.FwdDown.Facts) (hFwdDownIdeal : Cert.FwdDownIdeal.Facts) (hNormDownIdeal : Cert.NormDownIdeal.Facts) (hLnBwd : Cert.LnBwd.Facts) (hLnBwdIdeal : Cert.LnBwdIdeal.Facts) (hGradNormIdeal : Cert.GradNormIdeal.Facts) (hPre_off_floor : Cert.Pre_off_floor.Facts) (hPre_regular : Cert.Pre_regular.Facts) (hPre_tame : Cert.Pre_tame.Facts) (hOn_written : Cert.On_written.Facts) (hOn_but_forget : Cert.On_but_forget.Facts),
    quiescent_Kernel (hKernel := hKernel)
    ∧ quiescent_KernelIdeal (hKernelIdeal := hKernelIdeal)
    ∧ quiescent_KernelIdeal_pre_off_floor (hKernelIdeal := hKernelIdeal) (hPre_off_floor := hPre_off_floor)
    ∧ quiescent_KernelIdeal_pre_regular (hKernelIdeal := hKernelIdeal) (hPre_regular := hPre_regular)
    ∧ quiescent_ReferenceIdeal (hReferenceIdeal := hReferenceIdeal)
    ∧ quiescent_ReferenceIdeal_pre_off_floor (hReferenceIdeal := hReferenceIdeal) (hPre_off_floor := hPre_off_floor)
    ∧ quiescent_ReferenceIdeal_pre_regular (hReferenceIdeal := hReferenceIdeal) (hPre_regular := hPre_regular)
    ∧ quiescent_WgradUp (hWgradUp := hWgradUp)
    ∧ quiescent_WgradUpIdeal (hWgradUpIdeal := hWgradUpIdeal)
    ∧ quiescent_GradUpWIdeal (hGradUpWIdeal := hGradUpWIdeal)
    ∧ quiescent_BwdDx1 (hBwdDx1 := hBwdDx1)
    ∧ quiescent_BwdDx1Ideal (hBwdDx1Ideal := hBwdDx1Ideal)
    ∧ quiescent_GradUpXIdeal (hGradUpXIdeal := hGradUpXIdeal)
    ∧ quiescent_FwdUp (hFwdUp := hFwdUp)
    ∧ quiescent_FwdUpIdeal (hFwdUpIdeal := hFwdUpIdeal)
    ∧ quiescent_ProjUpIdeal (hProjUpIdeal := hProjUpIdeal)
    ∧ quiescent_FwdIn (hFwdIn := hFwdIn)
    ∧ quiescent_FwdInIdeal (hFwdInIdeal := hFwdInIdeal)
    ∧ quiescent_ProjInIdeal (hProjInIdeal := hProjInIdeal)
    ∧ quiescent_WgradIn (hWgradIn := hWgradIn)
    ∧ quiescent_WgradInIdeal (hWgradInIdeal := hWgradInIdeal)
    ∧ quiescent_GradInWIdeal (hGradInWIdeal := hGradInWIdeal)
    ∧ quiescent_BwdDx (hBwdDx := hBwdDx)
    ∧ quiescent_BwdDxIdeal (hBwdDxIdeal := hBwdDxIdeal)
    ∧ quiescent_GradInXIdeal (hGradInXIdeal := hGradInXIdeal)
    ∧ quiescent_BwdDa (hBwdDa := hBwdDa)
    ∧ quiescent_BwdDaIdeal (hBwdDaIdeal := hBwdDaIdeal)
    ∧ quiescent_GradDownAIdeal (hGradDownAIdeal := hGradDownAIdeal)
    ∧ quiescent_WgradDown (hWgradDown := hWgradDown)
    ∧ quiescent_WgradDownIdeal (hWgradDownIdeal := hWgradDownIdeal)
    ∧ quiescent_GradDownWIdeal (hGradDownWIdeal := hGradDownWIdeal)
    ∧ quiescent_BwdDcat (hBwdDcat := hBwdDcat)
    ∧ quiescent_BwdDcatIdeal (hBwdDcatIdeal := hBwdDcatIdeal)
    ∧ quiescent_GradOXIdeal (hGradOXIdeal := hGradOXIdeal)
    ∧ quiescent_WgradO (hWgradO := hWgradO)
    ∧ quiescent_WgradOIdeal (hWgradOIdeal := hWgradOIdeal)
    ∧ quiescent_GradOWIdeal (hGradOWIdeal := hGradOWIdeal)
    ∧ quiescent_FwdO (hFwdO := hFwdO)
    ∧ quiescent_FwdOIdeal (hFwdOIdeal := hFwdOIdeal)
    ∧ quiescent_NormOIdeal (hNormOIdeal := hNormOIdeal)
    ∧ quiescent_FwdDown (hFwdDown := hFwdDown)
    ∧ quiescent_FwdDownIdeal (hFwdDownIdeal := hFwdDownIdeal)
    ∧ quiescent_NormDownIdeal (hNormDownIdeal := hNormDownIdeal)
    ∧ quiescent_LnBwd (hLnBwd := hLnBwd)
    ∧ quiescent_LnBwdIdeal (hLnBwdIdeal := hLnBwdIdeal)
    ∧ quiescent_LnBwdIdeal_pre_tame (hLnBwdIdeal := hLnBwdIdeal) (hPre_tame := hPre_tame)
    ∧ quiescent_GradNormIdeal (hGradNormIdeal := hGradNormIdeal)
    ∧ quiescent_GradNormIdeal_pre_tame (hGradNormIdeal := hGradNormIdeal) (hPre_tame := hPre_tame)
    ∧ preserves_Kernel_KernelIdeal
    ∧ algebraic_KernelIdeal_ReferenceIdeal_on_written_pre_off_floor (hKernelIdeal := hKernelIdeal) (hReferenceIdeal := hReferenceIdeal) (hPre_off_floor := hPre_off_floor) (hOn_written := hOn_written)
    ∧ algebraic_KernelIdeal_ReferenceIdeal_on_but_forget_pre_regular (hKernelIdeal := hKernelIdeal) (hReferenceIdeal := hReferenceIdeal) (hPre_regular := hPre_regular) (hOn_but_forget := hOn_but_forget)
    ∧ preserves_WgradUp_WgradUpIdeal
    ∧ algebraic_WgradUpIdeal_GradUpWIdeal (hWgradUpIdeal := hWgradUpIdeal) (hGradUpWIdeal := hGradUpWIdeal)
    ∧ preserves_BwdDx1_BwdDx1Ideal
    ∧ algebraic_BwdDx1Ideal_GradUpXIdeal (hBwdDx1Ideal := hBwdDx1Ideal) (hGradUpXIdeal := hGradUpXIdeal)
    ∧ preserves_FwdUp_FwdUpIdeal
    ∧ algebraic_FwdUpIdeal_ProjUpIdeal (hFwdUpIdeal := hFwdUpIdeal) (hProjUpIdeal := hProjUpIdeal)
    ∧ preserves_FwdIn_FwdInIdeal
    ∧ algebraic_FwdInIdeal_ProjInIdeal (hFwdInIdeal := hFwdInIdeal) (hProjInIdeal := hProjInIdeal)
    ∧ preserves_WgradIn_WgradInIdeal
    ∧ algebraic_WgradInIdeal_GradInWIdeal (hWgradInIdeal := hWgradInIdeal) (hGradInWIdeal := hGradInWIdeal)
    ∧ preserves_BwdDx_BwdDxIdeal
    ∧ algebraic_BwdDxIdeal_GradInXIdeal (hBwdDxIdeal := hBwdDxIdeal) (hGradInXIdeal := hGradInXIdeal)
    ∧ preserves_BwdDa_BwdDaIdeal
    ∧ algebraic_BwdDaIdeal_GradDownAIdeal (hBwdDaIdeal := hBwdDaIdeal) (hGradDownAIdeal := hGradDownAIdeal)
    ∧ preserves_WgradDown_WgradDownIdeal
    ∧ algebraic_WgradDownIdeal_GradDownWIdeal (hWgradDownIdeal := hWgradDownIdeal) (hGradDownWIdeal := hGradDownWIdeal)
    ∧ preserves_BwdDcat_BwdDcatIdeal
    ∧ algebraic_BwdDcatIdeal_GradOXIdeal (hBwdDcatIdeal := hBwdDcatIdeal) (hGradOXIdeal := hGradOXIdeal)
    ∧ preserves_WgradO_WgradOIdeal
    ∧ algebraic_WgradOIdeal_GradOWIdeal (hWgradOIdeal := hWgradOIdeal) (hGradOWIdeal := hGradOWIdeal)
    ∧ preserves_FwdO_FwdOIdeal
    ∧ algebraic_FwdOIdeal_NormOIdeal (hFwdOIdeal := hFwdOIdeal) (hNormOIdeal := hNormOIdeal)
    ∧ preserves_FwdDown_FwdDownIdeal
    ∧ algebraic_FwdDownIdeal_NormDownIdeal (hFwdDownIdeal := hFwdDownIdeal) (hNormDownIdeal := hNormDownIdeal)
    ∧ preserves_LnBwd_LnBwdIdeal
    ∧ algebraic_LnBwdIdeal_GradNormIdeal_pre_tame (hLnBwdIdeal := hLnBwdIdeal) (hGradNormIdeal := hGradNormIdeal) (hPre_tame := hPre_tame)
-- ==== On_but_forget.lean ====
abbrev S8256x3072 : Shape := ⟨2, ![8256, 3072]⟩
abbrev S8256x1024 : Shape := ⟨2, ![8256, 1024]⟩
abbrev S2x512 : Shape := ⟨2, ![2, 512]⟩
abbrev S1x128 : Shape := ⟨2, ![1, 128]⟩
abbrev S_ : Shape := ⟨0, ![]⟩

class Facts : Prop where
  bcast_S_S8256x3072 : S_.BroadcastsInDim S8256x3072 (![] : Fin 0 → Fin S8256x3072.rank)
  bcast_S_S2x512 : S_.BroadcastsInDim S2x512 (![] : Fin 0 → Fin S2x512.rank)
  bcast_S_S1x128 : S_.BroadcastsInDim S1x128 (![] : Fin 0 → Fin S1x128.rank)

variable [Facts]

def fn {F : FTy → Type} [FloatOps F] (main_arg0 : FVec F S8256x3072 .f32) (main_arg1 : FVec F S8256x1024 .bf16) (main_arg2 : FVec F S2x512 .f32) (main_arg3 : FVec F S1x128 .f32) : IVec S8256x3072 1 × IVec S2x512 1 × IVec S1x128 1 :=
  let main_v0 : IVec S8256x3072 32 := iotaInDim S8256x3072 32 1
  let main_c : IVec S_ 32 := constantI S_ 32 512#32
  let main_v1 : IVec S8256x3072 32 := broadcastInDim S8256x3072 ![] bcast_S_S8256x3072 main_c
  let main_v2 : IVec S8256x3072 1 := cmpi .slt main_v0 main_v1
  let main_c_0 : IVec S_ 32 := constantI S_ 32 1024#32
  let main_v3 : IVec S8256x3072 32 := broadcastInDim S8256x3072 ![] bcast_S_S8256x3072 main_c_0
  let main_v4 : IVec S8256x3072 1 := cmpi .sge main_v0 main_v3
  let main_c_1 : IVec S_ 32 := constantI S_ 32 2048#32
  let main_v5 : IVec S8256x3072 32 := broadcastInDim S8256x3072 ![] bcast_S_S8256x3072 main_c_1
  let main_v6 : IVec S8256x3072 1 := cmpi .slt main_v0 main_v5
  let main_v7 : IVec S8256x3072 1 := andi main_v4 main_v6
  let main_v8 : IVec S8256x3072 1 := ori main_v2 main_v7
  let main_v9 : IVec S2x512 32 := iotaInDim S2x512 32 0
  let main_c_2 : IVec S_ 32 := constantI S_ 32 0#32
  let main_v10 : IVec S2x512 32 := broadcastInDim S2x512 ![] bcast_S_S2x512 main_c_2
  let main_v11 : IVec S2x512 1 := cmpi .slt main_v9 main_v10
  let main_v12 : IVec S1x128 32 := iotaInDim S1x128 32 0
  let main_c_3 : IVec S_ 32 := constantI S_ 32 0#32
  let main_v13 : IVec S1x128 32 := broadcastInDim S1x128 ![] bcast_S_S1x128 main_c_3
  let main_v14 : IVec S1x128 1 := cmpi .sge main_v12 main_v13
  (main_v8, main_v11, main_v14)
-- ==== On_written.lean ====
abbrev S8256x3072 : Shape := ⟨2, ![8256, 3072]⟩
abbrev S8256x1024 : Shape := ⟨2, ![8256, 1024]⟩
abbrev S2x512 : Shape := ⟨2, ![2, 512]⟩
abbrev S1x128 : Shape := ⟨2, ![1, 128]⟩
abbrev S_ : Shape := ⟨0, ![]⟩

class Facts : Prop where
  bcast_S_S8256x3072 : S_.BroadcastsInDim S8256x3072 (![] : Fin 0 → Fin S8256x3072.rank)
  bcast_S_S2x512 : S_.BroadcastsInDim S2x512 (![] : Fin 0 → Fin S2x512.rank)
  bcast_S_S1x128 : S_.BroadcastsInDim S1x128 (![] : Fin 0 → Fin S1x128.rank)

variable [Facts]

def fn {F : FTy → Type} [FloatOps F] (main_arg0 : FVec F S8256x3072 .f32) (main_arg1 : FVec F S8256x1024 .bf16) (main_arg2 : FVec F S2x512 .f32) (main_arg3 : FVec F S1x128 .f32) : IVec S8256x3072 1 × IVec S2x512 1 × IVec S1x128 1 :=
  let main_v0 : IVec S8256x3072 32 := iotaInDim S8256x3072 32 1
  let main_c : IVec S_ 32 := constantI S_ 32 2048#32
  let main_v1 : IVec S8256x3072 32 := broadcastInDim S8256x3072 ![] bcast_S_S8256x3072 main_c
  let main_v2 : IVec S8256x3072 1 := cmpi .slt main_v0 main_v1
  let main_v3 : IVec S2x512 32 := iotaInDim S2x512 32 0
  let main_c_0 : IVec S_ 32 := constantI S_ 32 0#32
  let main_v4 : IVec S2x512 32 := broadcastInDim S2x512 ![] bcast_S_S2x512 main_c_0
  let main_v5 : IVec S2x512 1 := cmpi .sge main_v3 main_v4
  let main_v6 : IVec S1x128 32 := iotaInDim S1x128 32 0
  let main_c_1 : IVec S_ 32 := constantI S_ 32 0#32
  let main_v7 : IVec S1x128 32 := broadcastInDim S1x128 ![] bcast_S_S1x128 main_c_1
  let main_v8 : IVec S1x128 1 := cmpi .sge main_v6 main_v7
  (main_v2, main_v5, main_v8)
-- ==== Pre_off_floor.lean ====
abbrev S8256x3072 : Shape := ⟨2, ![8256, 3072]⟩
abbrev S8256x1024 : Shape := ⟨2, ![8256, 1024]⟩
abbrev S2x512 : Shape := ⟨2, ![2, 512]⟩
abbrev S1x128 : Shape := ⟨2, ![1, 128]⟩
abbrev S_ : Shape := ⟨0, ![]⟩
abbrev S512 : Shape := ⟨1, ![512]⟩
abbrev S1x512 : Shape := ⟨2, ![1, 512]⟩
abbrev S8256x512 : Shape := ⟨2, ![8256, 512]⟩

class Facts : Prop where
  reducesTo_S2x512_S512_d0 : S2x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S1x512_S2x512_0_1 : S1x512.BroadcastsInDim S2x512 (![0, 1] : Fin 2 → Fin S2x512.rank)
  slices_S2x512_S1x512_0_0 : S2x512.Slices ![0, 0] S1x512
  shapeCasts_S1x512_S512 : S1x512.ShapeCasts S512
  slices_S2x512_S1x512_1_0 : S2x512.Slices ![1, 0] S1x512
  slices_S8256x3072_S8256x512_0_512 : S8256x3072.Slices ![0, 512] S8256x512
  bcast_S_S8256x512 : S_.BroadcastsInDim S8256x512 (![] : Fin 0 → Fin S8256x512.rank)
  bcast_S1x512_S8256x512_0_1 : S1x512.BroadcastsInDim S8256x512 (![0, 1] : Fin 2 → Fin S8256x512.rank)
  bcast_S_S8256x3072 : S_.BroadcastsInDim S8256x3072 (![] : Fin 0 → Fin S8256x3072.rank)
  reducesTo_S8256x3072_S_d0_1 : S8256x3072.ReducesTo [0, 1] S_
  bitsLt_bf16_f32 : FTy.bits .bf16 < FTy.bits .f32
  bcast_S_S8256x1024 : S_.BroadcastsInDim S8256x1024 (![] : Fin 0 → Fin S8256x1024.rank)
  reducesTo_S8256x1024_S_d0_1 : S8256x1024.ReducesTo [0, 1] S_
  bcast_S_S2x512 : S_.BroadcastsInDim S2x512 (![] : Fin 0 → Fin S2x512.rank)
  reducesTo_S2x512_S_d0_1 : S2x512.ReducesTo [0, 1] S_
  bcast_S_S1x128 : S_.BroadcastsInDim S1x128 (![] : Fin 0 → Fin S1x128.rank)
  reducesTo_S1x128_S_d0_1 : S1x128.ReducesTo [0, 1] S_
  reducesTo_S8256x512_S_d0_1 : S8256x512.ReducesTo [0, 1] S_

variable [Facts]

def fn_part3 {F : FTy → Type} [FloatOps F] (main_v53 : IVec S_ 1) (main_v55 : IVec S8256x512 1) (main_c_13 : IVec S_ 1) : IVec S_ 1 :=
  let main_v56 : IVec S_ 1 := (fun x v => Host.reduce IntOp.andi x v reducesTo_S8256x512_S_d0_1 h_S_) main_v55 main_c_13
  let main_v57 : IVec S_ 1 := andi main_v53 main_v56
  main_v57

def fn_part2 {F : FTy → Type} [FloatOps F] (main_arg2 : FVec F S2x512 .f32) (main_arg3 : FVec F S1x128 .f32) (main_v33 : FVec F S8256x512 .f32) (main_v37 : IVec S_ 1) (main_v39 : FVec F S8256x1024 .f32) : IVec S_ 1 :=
  let main_cst_6 : FVec F S_ .f32 := constant S_ .f32 0x7F800000#32
  let main_v40 : FVec F S8256x1024 .f32 := broadcastInDim S8256x1024 ![] bcast_S_S8256x1024 main_cst_6
  let main_v41 : IVec S8256x1024 1 := cmpf .olt main_v39 main_v40
  let main_c_7 : IVec S_ 1 := constantI S_ 1 1#1
  let main_v42 : IVec S_ 1 := (fun x v => Host.reduce IntOp.andi x v reducesTo_S8256x1024_S_d0_1 h_S_) main_v41 main_c_7
  let main_v43 : IVec S_ 1 := andi main_v37 main_v42
  let main_v44 : FVec F S2x512 .f32 := Host.absf main_arg2
  let main_cst_8 : FVec F S_ .f32 := constant S_ .f32 0x7F800000#32
  let main_v45 : FVec F S2x512 .f32 := broadcastInDim S2x512 ![] bcast_S_S2x512 main_cst_8
  let main_v46 : IVec S2x512 1 := cmpf .olt main_v44 main_v45
  let main_c_9 : IVec S_ 1 := constantI S_ 1 1#1
  let main_v47 : IVec S_ 1 := (fun x v => Host.reduce IntOp.andi x v reducesTo_S2x512_S_d0_1 h_S_) main_v46 main_c_9
  let main_v48 : IVec S_ 1 := andi main_v43 main_v47
  let main_v49 : FVec F S1x128 .f32 := Host.absf main_arg3
  let main_cst_10 : FVec F S_ .f32 := constant S_ .f32 0x7F800000#32
  let main_v50 : FVec F S1x128 .f32 := broadcastInDim S1x128 ![] bcast_S_S1x128 main_cst_10
  let main_v51 : IVec S1x128 1 := cmpf .olt main_v49 main_v50
  let main_c_11 : IVec S_ 1 := constantI S_ 1 1#1
  let main_v52 : IVec S_ 1 := (fun x v => Host.reduce IntOp.andi x v reducesTo_S1x128_S_d0_1 h_S_) main_v51 main_c_11
  let main_v53 : IVec S_ 1 := andi main_v48 main_v52
  let main_cst_12 : FVec F S_ .f32 := constant S_ .f32 0x0DA24260#32
  let main_v54 : FVec F S8256x512 .f32 := broadcastInDim S8256x512 ![] bcast_S_S8256x512 main_cst_12
  let main_v55 : IVec S8256x512 1 := cmpf .une main_v33 main_v54
  let main_c_13 : IVec S_ 1 := constantI S_ 1 1#1
  fn_part3 (F := F) main_v53 main_v55 main_c_13

def fn_part1 {F : FTy → Type} [FloatOps F] (main_arg0 : FVec F S8256x3072 .f32) (main_arg1 : FVec F S8256x1024 .bf16) (main_arg2 : FVec F S2x512 .f32) (main_arg3 : FVec F S1x128 .f32) (main_v18 : FVec F S512 .f32) (main_v19 : FVec F S512 .f32) : IVec S_ 1 :=
  let main_v20 : FVec F S512 .f32 := subf main_v19 main_v18
  let main_v21 : FVec F S8256x512 .f32 := (extractStridedSlice S8256x512 ![0, 512] · slices_S8256x3072_S8256x512_0_512) main_arg0
  let main_v22 : FVec F S8256x512 .f32 := Host.negf main_v21
  let main_v23 : FVec F S8256x512 .f32 := Host.exp main_v22
  let main_cst_3 : FVec F S_ .f32 := constant S_ .f32 0x3F800000#32
  let main_v24 : FVec F S8256x512 .f32 := broadcastInDim S8256x512 ![] bcast_S_S8256x512 main_cst_3
  let main_v25 : FVec F S8256x512 .f32 := addf main_v24 main_v23
  let main_cst_4 : FVec F S_ .f32 := constant S_ .f32 0x3F800000#32
  let main_v26 : FVec F S8256x512 .f32 := broadcastInDim S8256x512 ![] bcast_S_S8256x512 main_cst_4
  let main_v27 : FVec F S8256x512 .f32 := Host.divf main_v26 main_v25
  let main_v28 : FVec F S1x512 .f32 := broadcastInDim S1x512 ![1] bcast_S512_S1x512_1 main_v20
  let main_v29 : FVec F S8256x512 .f32 := broadcastInDim S8256x512 ![0, 1] bcast_S1x512_S8256x512_0_1 main_v28
  let main_v30 : FVec F S8256x512 .f32 := mulf main_v29 main_v27
  let main_v31 : FVec F S1x512 .f32 := broadcastInDim S1x512 ![1] bcast_S512_S1x512_1 main_v18
  let main_v32 : FVec F S8256x512 .f32 := broadcastInDim S8256x512 ![0, 1] bcast_S1x512_S8256x512_0_1 main_v31
  let main_v33 : FVec F S8256x512 .f32 := addf main_v32 main_v30
  let main_v34 : FVec F S8256x3072 .f32 := Host.absf main_arg0
  let main_cst_5 : FVec F S_ .f32 := constant S_ .f32 0x7F800000#32
  let main_v35 : FVec F S8256x3072 .f32 := broadcastInDim S8256x3072 ![] bcast_S_S8256x3072 main_cst_5
  let main_v36 : IVec S8256x3072 1 := cmpf .olt main_v34 main_v35
  let main_c : IVec S_ 1 := constantI S_ 1 1#1
  let main_v37 : IVec S_ 1 := (fun x v => Host.reduce IntOp.andi x v reducesTo_S8256x3072_S_d0_1 h_S_) main_v36 main_c
  let main_v38 : FVec F S8256x1024 .f32 := (extf .f32 · bitsLt_bf16_f32) main_arg1
  let main_v39 : FVec F S8256x1024 .f32 := Host.absf main_v38
  fn_part2 (F := F) main_arg2 main_arg3 main_v33 main_v37 main_v39

def fn {F : FTy → Type} [FloatOps F] (main_arg0 : FVec F S8256x3072 .f32) (main_arg1 : FVec F S8256x1024 .bf16) (main_arg2 : FVec F S2x512 .f32) (main_arg3 : FVec F S1x128 .f32) : IVec S_ 1 :=
  let main_cst : FVec F S_ .f32 := constant S_ .f32 0xFF800000#32
  let main_v0 : FVec F S512 .f32 := (fun x v => Host.reduce FloatOps.maximumf x v reducesTo_S2x512_S512_d0 h_S_) main_arg2 main_cst
  let main_cst_0 : FVec F S_ .f32 := constant S_ .f32 0xFF800000#32
  let main_v1 : FVec F S512 .f32 := broadcastInDim S512 ![] bcast_S_S512 main_cst_0
  let main_v2 : FVec F S512 .f32 := maximumf main_v1 main_v0
  let main_v3 : FVec F S1x512 .f32 := broadcastInDim S1x512 ![1] bcast_S512_S1x512_1 main_v2
  let main_v4 : FVec F S2x512 .f32 := broadcastInDim S2x512 ![0, 1] bcast_S1x512_S2x512_0_1 main_v3
  let main_v5 : FVec F S2x512 .f32 := subf main_arg2 main_v4
  let main_v6 : FVec F S2x512 .f32 := Host.exp main_v5
  let main_cst_1 : FVec F S_ .f32 := constant S_ .f32 0x00000000#32
  let main_v7 : FVec F S512 .f32 := (fun x v => Host.reduceAdd x v reducesTo_S2x512_S512_d0 h_S_) main_v6 main_cst_1
  let main_v8 : FVec F S1x512 .f32 := broadcastInDim S1x512 ![1] bcast_S512_S1x512_1 main_v7
  let main_v9 : FVec F S2x512 .f32 := broadcastInDim S2x512 ![0, 1] bcast_S1x512_S2x512_0_1 main_v8
  let main_v10 : FVec F S2x512 .f32 := Host.divf main_v6 main_v9
  let main_v11 : FVec F S1x512 .f32 := (extractStridedSlice S1x512 ![0, 0] · slices_S2x512_S1x512_0_0) main_v10
  let main_v12 : FVec F S512 .f32 := shapeCast S512 main_v11 shapeCasts_S1x512_S512
  let main_v13 : FVec F S1x512 .f32 := (extractStridedSlice S1x512 ![1, 0] · slices_S2x512_S1x512_1_0) main_v10
  let main_v14 : FVec F S512 .f32 := shapeCast S512 main_v13 shapeCasts_S1x512_S512
  let main_v15 : FVec F S512 .f32 := addf main_v12 main_v14
  let main_v16 : FVec F S1x512 .f32 := (extractStridedSlice S1x512 ![0, 0] · slices_S2x512_S1x512_0_0) main_v10
  let main_v17 : FVec F S512 .f32 := shapeCast S512 main_v16 shapeCasts_S1x512_S512
  let main_v18 : FVec F S512 .f32 := subf main_v15 main_v17
  let main_cst_2 : FVec F S_ .f32 := constant S_ .f32 0x3F800000#32
  let main_v19 : FVec F S512 .f32 := broadcastInDim S512 ![] bcast_S_S512 main_cst_2
  fn_part1 (F := F) main_arg0 main_arg1 main_arg2 main_arg3 main_v18 main_v19
-- ==== Pre_regular.lean ====
abbrev S8256x3072 : Shape := ⟨2, ![8256, 3072]⟩
abbrev S8256x1024 : Shape := ⟨2, ![8256, 1024]⟩
abbrev S2x512 : Shape := ⟨2, ![2, 512]⟩
abbrev S1x128 : Shape := ⟨2, ![1, 128]⟩
abbrev S_ : Shape := ⟨0, ![]⟩

class Facts : Prop where
  bcast_S_S8256x3072 : S_.BroadcastsInDim S8256x3072 (![] : Fin 0 → Fin S8256x3072.rank)
  reducesTo_S8256x3072_S_d0_1 : S8256x3072.ReducesTo [0, 1] S_
  h_S_ : 0 < S_.numel
  bitsLt_bf16_f32 : FTy.bits .bf16 < FTy.bits .f32
  bcast_S_S8256x1024 : S_.BroadcastsInDim S8256x1024 (![] : Fin 0 → Fin S8256x1024.rank)
  reducesTo_S8256x1024_S_d0_1 : S8256x1024.ReducesTo [0, 1] S_
  bcast_S_S2x512 : S_.BroadcastsInDim S2x512 (![] : Fin 0 → Fin S2x512.rank)
  reducesTo_S2x512_S_d0_1 : S2x512.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_v14 : IVec S_ 1) (main_v15 : FVec F S1x128 .f32) (main_v16 : FVec F S1x128 .f32) : IVec S_ 1 :=
  let main_v17 : IVec S1x128 1 := cmpf .olt main_v15 main_v16
  let main_c_5 : IVec S_ 1 := constantI S_ 1 1#1
  let main_v18 : IVec S_ 1 := (fun x v => Host.reduce IntOp.andi x v reducesTo_S1x128_S_d0_1 h_S_) main_v17 main_c_5
  let main_v19 : IVec S_ 1 := andi main_v14 main_v18
  main_v19

def fn {F : FTy → Type} [FloatOps F] (main_arg0 : FVec F S8256x3072 .f32) (main_arg1 : FVec F S8256x1024 .bf16) (main_arg2 : FVec F S2x512 .f32) (main_arg3 : FVec F S1x128 .f32) : IVec S_ 1 :=
  let main_v0 : FVec F S8256x3072 .f32 := Host.absf main_arg0
  let main_cst : FVec F S_ .f32 := constant S_ .f32 0x7F800000#32
  let main_v1 : FVec F S8256x3072 .f32 := broadcastInDim S8256x3072 ![] bcast_S_S8256x3072 main_cst
  let main_v2 : IVec S8256x3072 1 := cmpf .olt main_v0 main_v1
  let main_c : IVec S_ 1 := constantI S_ 1 1#1
  let main_v3 : IVec S_ 1 := (fun x v => Host.reduce IntOp.andi x v reducesTo_S8256x3072_S_d0_1 h_S_) main_v2 main_c
  let main_v4 : FVec F S8256x1024 .f32 := (extf .f32 · bitsLt_bf16_f32) main_arg1
  let main_v5 : FVec F S8256x1024 .f32 := Host.absf main_v4
  let main_cst_0 : FVec F S_ .f32 := constant S_ .f32 0x7F800000#32
  let main_v6 : FVec F S8256x1024 .f32 := broadcastInDim S8256x1024 ![] bcast_S_S8256x1024 main_cst_0
  let main_v7 : IVec S8256x1024 1 := cmpf .olt main_v5 main_v6
  let main_c_1 : IVec S_ 1 := constantI S_ 1 1#1
  let main_v8 : IVec S_ 1 := (fun x v => Host.reduce IntOp.andi x v reducesTo_S8256x1024_S_d0_1 h_S_) main_v7 main_c_1
  let main_v9 : IVec S_ 1 := andi main_v3 main_v8
  let main_v10 : FVec F S2x512 .f32 := Host.absf main_arg2
  let main_cst_2 : FVec F S_ .f32 := constant S_ .f32 0x7F800000#32
  let main_v11 : FVec F S2x512 .f32 := broadcastInDim S2x512 ![] bcast_S_S2x512 main_cst_2
  let main_v12 : IVec S2x512 1 := cmpf .olt main_v10 main_v11
  let main_c_3 : IVec S_ 1 := constantI S_ 1 1#1
  let main_v13 : IVec S_ 1 := (fun x v => Host.reduce IntOp.andi x v reducesTo_S2x512_S_d0_1 h_S_) main_v12 main_c_3
  let main_v14 : IVec S_ 1 := andi main_v9 main_v13
  let main_v15 : FVec F S1x128 .f32 := Host.absf main_arg3
  let main_cst_4 : FVec F S_ .f32 := constant S_ .f32 0x7F800000#32
  let main_v16 : FVec F S1x128 .f32 := broadcastInDim S1x128 ![] bcast_S_S1x128 main_cst_4
  fn_part1 (F := F) main_v14 main_v15 main_v16
-- ==== Pre_tame.lean ====
abbrev S8256x1024 : Shape := ⟨2, ![8256, 1024]⟩
abbrev S1x1024 : Shape := ⟨2, ![1, 1024]⟩
abbrev S_ : Shape := ⟨0, ![]⟩

class Facts : Prop where
  bitsLt_bf16_f32 : FTy.bits .bf16 < FTy.bits .f32
  bcast_S_S8256x1024 : S_.BroadcastsInDim S8256x1024 (![] : Fin 0 → Fin S8256x1024.rank)
  reducesTo_S8256x1024_S_d0_1 : S8256x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8256x1024 .bf16) (main_arg1 : FVec F S8256x1024 .bf16) (main_arg2 : FVec F S1x1024 .f32) : IVec S_ 1 :=
  let main_v0 : FVec F S8256x1024 .f32 := (extf .f32 · bitsLt_bf16_f32) main_arg0
  let main_v1 : FVec F S8256x1024 .f32 := Host.absf main_v0
  let main_cst : FVec F S_ .f32 := constant S_ .f32 0x7F800000#32
  let main_v2 : FVec F S8256x1024 .f32 := broadcastInDim S8256x1024 ![] bcast_S_S8256x1024 main_cst
  let main_v3 : IVec S8256x1024 1 := cmpf .olt main_v1 main_v2
  let main_c : IVec S_ 1 := constantI S_ 1 1#1
  let main_v4 : IVec S_ 1 := (fun x v => Host.reduce IntOp.andi x v reducesTo_S8256x1024_S_d0_1 h_S_) main_v3 main_c
  let main_v5 : FVec F S8256x1024 .f32 := (extf .f32 · bitsLt_bf16_f32) main_arg1
  let main_v6 : FVec F S8256x1024 .f32 := Host.absf main_v5
  let main_cst_0 : FVec F S_ .f32 := constant S_ .f32 0x7F800000#32
  let main_v7 : FVec F S8256x1024 .f32 := broadcastInDim S8256x1024 ![] bcast_S_S8256x1024 main_cst_0
  let main_v8 : IVec S8256x1024 1 := cmpf .olt main_v6 main_v7
  let main_c_1 : IVec S_ 1 := constantI S_ 1 1#1
  let main_v9 : IVec S_ 1 := (fun x v => Host.reduce IntOp.andi x v reducesTo_S8256x1024_S_d0_1 h_S_) main_v8 main_c_1
  let main_v10 : IVec S_ 1 := andi main_v4 main_v9
  let main_v11 : FVec F S1x1024 .f32 := Host.absf main_arg2
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_c_3 : IVec S_ 1 := constantI S_ 1 1#1
  let main_v14 : IVec S_ 1 := (fun x v => Host.reduce IntOp.andi x v reducesTo_S1x1024_S_d0_1 h_S_) main_v13 main_c_3
  let main_v15 : IVec S_ 1 := andi main_v10 main_v14
  main_v15
-- ==== Kernel.lean ====
abbrev S8256x3072 : Shape := ⟨2, ![8256, 3072]⟩
abbrev S8256x1024 : Shape := ⟨2, ![8256, 1024]⟩
abbrev S2x512 : Shape := ⟨2, ![2, 512]⟩
abbrev S1x128 : Shape := ⟨2, ![1, 128]⟩
abbrev S8256x512 : Shape := ⟨2, ![8256, 512]⟩
abbrev S_ : Shape := ⟨0, ![]⟩
abbrev S512 : Shape := ⟨1, ![512]⟩
abbrev S1x512 : Shape := ⟨2, ![1, 512]⟩
abbrev S8256x4x128 : Shape := ⟨3, ![8256, 4, 128]⟩
abbrev S8256x8256 : Shape := ⟨2, ![8256, 8256]⟩
abbrev S8256x8256x1x1 : Shape := ⟨4, ![8256, 8256, 1, 1]⟩
abbrev S8256x1x4x128 : Shape := ⟨4, ![8256, 1, 4, 128]⟩
abbrev S1x8256x4x128 : Shape := ⟨4, ![1, 8256, 4, 128]⟩
abbrev S8256x8256x4x128 : Shape := ⟨4, ![8256, 8256, 4, 128]⟩
abbrev S8256x8256x4 : Shape := ⟨3, ![8256, 8256, 4]⟩
abbrev S8256x8256x4x1 : Shape := ⟨4, ![8256, 8256, 4, 1]⟩
abbrev S516x1x516x1x1 : Shape := ⟨5, ![516, 1, 516, 1, 1]⟩
abbrev S516x16x516x16x4 : Shape := ⟨5, ![516, 16, 516, 16, 4]⟩
abbrev S516x16x16x4 : Shape := ⟨4, ![516, 16, 16, 4]⟩
abbrev S516x16x4x16 : Shape := ⟨4, ![516, 16, 4, 16]⟩
abbrev S8256x64 : Shape := ⟨2, ![8256, 64]⟩
abbrev S1x4x128 : Shape := ⟨3, ![1, 4, 128]⟩
abbrev S515x4x128 : Shape := ⟨3, ![515, 4, 128]⟩
abbrev S516x4x128 : Shape := ⟨3, ![516, 4, 128]⟩
abbrev S516x8256x1x1 : Shape := ⟨4, ![516, 8256, 1, 1]⟩
abbrev S516x1x4x128 : Shape := ⟨4, ![516, 1, 4, 128]⟩
abbrev S516x8256x4x128 : Shape := ⟨4, ![516, 8256, 4, 128]⟩
abbrev S1x8256x4x128x1 : Shape := ⟨5, ![1, 8256, 4, 128, 1]⟩
abbrev S516x8256x4x1x128 : Shape := ⟨5, ![516, 8256, 4, 1, 128]⟩
abbrev S516x8256x4x128x128 : Shape := ⟨5, ![516, 8256, 4, 128, 128]⟩
abbrev S516x4x128x128 : Shape := ⟨4, ![516, 4, 128, 128]⟩
abbrev S516x512x128 : Shape := ⟨3, ![516, 512, 128]⟩
abbrev S192x512 : Shape := ⟨2, ![192, 512]⟩
abbrev S12x512x128 : Shape := ⟨3, ![12, 512, 128]⟩
abbrev S192x64 : Shape := ⟨2, ![192, 64]⟩
abbrev S192x2048 : Shape := ⟨2, ![192, 2048]⟩
abbrev S4x128x128 : Shape := ⟨3, ![4, 128, 128]⟩
abbrev S16x16 : Shape := ⟨2, ![16, 16]⟩
abbrev S16x512 : Shape := ⟨2, ![16, 512]⟩
abbrev S16x128 : Shape := ⟨2, ![16, 128]⟩
abbrev S16 : Shape := ⟨1, ![16]⟩
abbrev S16x1 : Shape := ⟨2, ![16, 1]⟩
abbrev S128 : Shape := ⟨1, ![128]⟩
abbrev S16x64 : Shape := ⟨2, ![16, 64]⟩
abbrev S1x128x128 : Shape := ⟨3, ![1, 128, 128]⟩
abbrev S128x128 : Shape := ⟨2, ![128, 128]⟩
abbrev S16x2048 : Shape := ⟨2, ![16, 2048]⟩

abbrev nBuf : Space → Nat
  | .hbm => 167
  | .vmem => 25
  | .smem => 0
  | _ => 0

abbrev hbmTy0_0 (i : Nat) : BufTy := match i % 128 with
  | 0 => ⟨S8256x3072, .f32⟩
  | 1 => ⟨S8256x1024, .bf16⟩
  | 2 => ⟨S2x512, .f32⟩
  | 3 => ⟨S1x128, .f32⟩
  | 4 => ⟨S8256x512, .f32⟩
  | 5 => ⟨S8256x512, .f32⟩
  | 6 => ⟨S8256x512, .f32⟩
  | 7 => ⟨S_, .f32⟩
  | 8 => ⟨S512, .f32⟩
  | 9 => ⟨S_, .f32⟩
  | 10 => ⟨S512, .f32⟩
  | 11 => ⟨S512, .f32⟩
  | 12 => ⟨S1x512, .f32⟩
  | 13 => ⟨S2x512, .f32⟩
  | 14 => ⟨S2x512, .f32⟩
  | 15 => ⟨S2x512, .f32⟩
  | 16 => ⟨S_, .f32⟩
  | 17 => ⟨S512, .f32⟩
  | 18 => ⟨S1x512, .f32⟩
  | 19 => ⟨S2x512, .f32⟩
  | 20 => ⟨S2x512, .f32⟩
  | 21 => ⟨S1x512, .f32⟩
  | 22 => ⟨S512, .f32⟩
  | 23 => ⟨S1x512, .f32⟩
  | 24 => ⟨S512, .f32⟩
  | 25 => ⟨S512, .f32⟩
  | 26 => ⟨S1x512, .f32⟩
  | 27 => ⟨S512, .f32⟩
  | 28 => ⟨S512, .f32⟩
  | 29 => ⟨S8256x512, .f32⟩
  | 30 => ⟨S8256x512, .f32⟩
  | 31 => ⟨S_, .f32⟩
  | 32 => ⟨S8256x512, .f32⟩
  | 33 => ⟨S8256x512, .f32⟩
  | 34 => ⟨S_, .f32⟩
  | 35 => ⟨S8256x512, .f32⟩
  | 36 => ⟨S8256x512, .f32⟩
  | 37 => ⟨S_, .f32⟩
  | 38 => ⟨S512, .f32⟩
  | 39 => ⟨S512, .f32⟩
  | 40 => ⟨S1x512, .f32⟩
  | 41 => ⟨S8256x512, .f32⟩
  | 42 => ⟨S8256x512, .f32⟩
  | 43 => ⟨S1x512, .f32⟩
  | 44 => ⟨S8256x512, .f32⟩
  | 45 => ⟨S8256x512, .f32⟩
  | 46 => ⟨S_, .f32⟩
  | 47 => ⟨S8256x512, .f32⟩
  | 48 => ⟨S8256x512, .f32⟩
  | 49 => ⟨S8256x512, .f32⟩
  | 50 => ⟨S_, .f32⟩
  | 51 => ⟨S512, .f32⟩
  | 52 => ⟨S512, .f32⟩
  | 53 => ⟨S_, .f32⟩
  | 54 => ⟨S8256x512, .f32⟩
  | 55 => ⟨S8256x512, .f32⟩
  | 56 => ⟨S1x512, .f32⟩
  | 57 => ⟨S8256x512, .f32⟩
  | 58 => ⟨S8256x512, .f32⟩
  | 59 => ⟨S_, .f32⟩
  | 60 => ⟨S8256x512, .f32⟩
  | 61 => ⟨S8256x512, .f32⟩
  | 62 => ⟨S8256x4x128, .f32⟩
  | 63 => ⟨S8256x4x128, .f32⟩
  | 64 => ⟨S8256x4x128, .f32⟩
  | 65 => ⟨S_, .f32⟩
  | 66 => ⟨S_, .f32⟩
  | 67 => ⟨S8256x512, .f32⟩
  | 68 => ⟨S8256x4x128, .f32⟩
  | 69 => ⟨S_, .i1⟩
  | 70 => ⟨S8256x8256, .i1⟩
  | 71 => ⟨S8256x8256, .i32⟩
  | 72 => ⟨S_, .i32⟩
  | 73 => ⟨S8256x8256, .i32⟩
  | 74 => ⟨S8256x8256, .i32⟩
  | 75 => ⟨S8256x8256, .i32⟩
  | 76 => ⟨S8256x8256, .i1⟩
  | 77 => ⟨S_, .i1⟩
  | 78 => ⟨S8256x8256, .i1⟩
  | 79 => ⟨S8256x8256, .i1⟩
  | 80 => ⟨S8256x8256x1x1, .i1⟩
  | 81 => ⟨S8256x1x4x128, .f32⟩
  | 82 => ⟨S1x8256x4x128, .f32⟩
  | 83 => ⟨S8256x8256x4x128, .f32⟩
  | 84 => ⟨S8256x8256x4x128, .f32⟩
  | 85 => ⟨S8256x8256x4x128, .f32⟩
  | 86 => ⟨S_, .f32⟩
  | 87 => ⟨S_, .f32⟩
  | 88 => ⟨S8256x8256x4x128, .i1⟩
  | 89 => ⟨S8256x8256x4x128, .f32⟩
  | 90 => ⟨S8256x8256x4x128, .f32⟩
  | 91 => ⟨S8256x8256x4x128, .f32⟩
  | 92 => ⟨S_, .f32⟩
  | 93 => ⟨S_, .f32⟩
  | 94 => ⟨S8256x8256x4x128, .i1⟩
  | 95 => ⟨S8256x8256x4x128, .f32⟩
  | 96 => ⟨S8256x8256x4x128, .f32⟩
  | 97 => ⟨S8256x1x4x128, .f32⟩
  | 98 => ⟨S1x8256x4x128, .f32⟩
  | 99 => ⟨S8256x8256x4x128, .f32⟩
  | 100 => ⟨S8256x8256x4x128, .f32⟩
  | 101 => ⟨S8256x8256x4x128, .f32⟩
  | 102 => ⟨S8256x8256x4x128, .f32⟩
  | 103 => ⟨S_, .f32⟩
  | 104 => ⟨S8256x8256x4, .f32⟩
  | 105 => ⟨S8256x8256x4x1, .f32⟩
  | 106 => ⟨S1x8256x4x128, .f32⟩
  | 107 => ⟨S8256x8256x4x128, .f32⟩
  | 108 => ⟨S8256x8256x4x128, .f32⟩
  | 109 => ⟨S8256x8256x4x128, .f32⟩
  | 110 => ⟨S_, .f32⟩
  | 111 => ⟨S8256x4x128, .f32⟩
  | 112 => ⟨S516x1x516x1x1, .i32⟩
  | 113 => ⟨S516x1x516x1x1, .i32⟩
  | 114 => ⟨S516x1x516x1x1, .i1⟩
  | 115 => ⟨S516x16x516x16x4, .f32⟩
  | 116 => ⟨S_, .f32⟩
  | 117 => ⟨S_, .f32⟩
  | 118 => ⟨S516x16x516x16x4, .i1⟩
  | 119 => ⟨S516x16x516x16x4, .f32⟩
  | 120 => ⟨S516x16x516x16x4, .f32⟩
  | 121 => ⟨S_, .f32⟩
  | 122 => ⟨S516x16x16x4, .f32⟩
  | 123 => ⟨S516x16x4x16, .f32⟩
  | 124 => ⟨S8256x64, .f32⟩
  | 125 => ⟨S_, .f32⟩
  | 126 => ⟨S1x4x128, .f32⟩
  | 127 => ⟨S515x4x128, .f32⟩
  | _ => ⟨S8256x3072, .f32⟩

abbrev hbmTy0_1 (i : Nat) : BufTy := match i % 128 with
  | 0 => ⟨S516x4x128, .f32⟩
  | 1 => ⟨S516x8256x1x1, .i32⟩
  | 2 => ⟨S516x8256x1x1, .i32⟩
  | 3 => ⟨S_, .i32⟩
  | 4 => ⟨S516x8256x1x1, .i32⟩
  | 5 => ⟨S516x8256x1x1, .i32⟩
  | 6 => ⟨S516x8256x1x1, .i1⟩
  | 7 => ⟨S516x1x4x128, .f32⟩
  | 8 => ⟨S1x8256x4x128, .f32⟩
  | 9 => ⟨S516x8256x4x128, .f32⟩
  | 10 => ⟨S516x8256x4x128, .f32⟩
  | 11 => ⟨S516x8256x4x128, .f32⟩
  | 12 => ⟨S_, .f32⟩
  | 13 => ⟨S_, .f32⟩
  | 14 => ⟨S516x8256x4x128, .i1⟩
  | 15 => ⟨S516x8256x4x128, .f32⟩
  | 16 => ⟨S516x8256x4x128, .f32⟩
  | 17 => ⟨S516x8256x4x128, .f32⟩
  | 18 => ⟨S1x8256x4x128, .f32⟩
  | 19 => ⟨S516x8256x4x128, .f32⟩
  | 20 => ⟨S516x8256x4x128, .f32⟩
  | 21 => ⟨S_, .f32⟩
  | 22 => ⟨S_, .f32⟩
  | 23 => ⟨S516x8256x4x128, .i1⟩
  | 24 => ⟨S516x8256x4x128, .f32⟩
  | 25 => ⟨S516x8256x4x128, .f32⟩
  | 26 => ⟨S1x8256x4x128x1, .f32⟩
  | 27 => ⟨S516x8256x4x1x128, .f32⟩
  | 28 => ⟨S516x8256x4x128x128, .f32⟩
  | 29 => ⟨S516x8256x4x128x128, .f32⟩
  | 30 => ⟨S516x8256x4x128x128, .f32⟩
  | 31 => ⟨S_, .f32⟩
  | 32 => ⟨S516x4x128x128, .f32⟩
  | 33 => ⟨S8256x512, .f32⟩
  | 34 => ⟨S516x512x128, .f32⟩
  | 35 => ⟨S516x512x128, .bf16⟩
  | 36 => ⟨S8256x3072, .bf16⟩
  | 37 => ⟨S2x512, .f32⟩
  | 38 => ⟨S1x128, .f32⟩
  | _ => ⟨S8256x3072, .f32⟩

abbrev hbmTy (i : Nat) : BufTy := match i / 128 with
  | 0 => hbmTy0_0 i
  | 1 => hbmTy0_1 i
  | _ => ⟨S8256x3072, .f32⟩

abbrev bufTy : (tb : Table) → Fin (tcTables nBuf tb) → BufTy
  | .hbm, ⟨i, _⟩ => hbmTy i
  | .local _ .vmem, ⟨0, _⟩ => ⟨S192x512, .f32⟩
  | .local _ .vmem, ⟨1, _⟩ => ⟨S192x512, .f32⟩
  | .local _ .vmem, ⟨2, _⟩ => ⟨S192x512, .f32⟩
  | .local _ .vmem, ⟨3, _⟩ => ⟨S192x512, .f32⟩
  | .local _ .vmem, ⟨4, _⟩ => ⟨S192x512, .f32⟩
  | .local _ .vmem, ⟨5, _⟩ => ⟨S192x512, .f32⟩
  | .local _ .vmem, ⟨6, _⟩ => ⟨S192x512, .f32⟩
  | .local _ .vmem, ⟨7, _⟩ => ⟨S192x512, .f32⟩
  | .local _ .vmem, ⟨8, _⟩ => ⟨S192x512, .f32⟩
  | .local _ .vmem, ⟨9, _⟩ => ⟨S192x512, .f32⟩
  | .local _ .vmem, ⟨10, _⟩ => ⟨S12x512x128, .bf16⟩
  | .local _ .vmem, ⟨11, _⟩ => ⟨S12x512x128, .bf16⟩
  | .local _ .vmem, ⟨12, _⟩ => ⟨S192x64, .f32⟩
  | .local _ .vmem, ⟨13, _⟩ => ⟨S192x64, .f32⟩
  | .local _ .vmem, ⟨14, _⟩ => ⟨S192x512, .bf16⟩
  | .local _ .vmem, ⟨15, _⟩ => ⟨S192x512, .bf16⟩
  | .local _ .vmem, ⟨16, _⟩ => ⟨S2x512, .f32⟩
  | .local _ .vmem, ⟨17, _⟩ => ⟨S1x128, .f32⟩
  | .local _ .vmem, ⟨18, _⟩ => ⟨S192x2048, .bf16⟩
  | .local _ .vmem, ⟨19, _⟩ => ⟨S192x2048, .bf16⟩
  | .local _ .vmem, ⟨20, _⟩ => ⟨S2x512, .f32⟩
  | .local _ .vmem, ⟨21, _⟩ => ⟨S1x128, .f32⟩
  | .local _ .vmem, ⟨22, _⟩ => ⟨S4x128x128, .f32⟩
  | .local _ .vmem, ⟨23, _⟩ => ⟨S1x512, .f32⟩
  | .local _ .vmem, ⟨24, _⟩ => ⟨S4x128x128, .bf16⟩
  | _, _ => ⟨S8256x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_call0_call0_cst : Ref sig .tc := ⟨.hbm, 65, rfl⟩
abbrev main_call0_call0_v0 : Ref sig .tc := ⟨.hbm, 66, rfl⟩
abbrev main_v51 : Ref sig .tc := ⟨.hbm, 67, rfl⟩
abbrev main_v52 : Ref sig .tc := ⟨.hbm, 68, rfl⟩
abbrev main_c : Ref sig .tc := ⟨.hbm, 69, rfl⟩
abbrev main_v53 : Ref sig .tc := ⟨.hbm, 70, rfl⟩
abbrev main_call1_v0 : Ref sig .tc := ⟨.hbm, 71, rfl⟩
abbrev main_call1_c : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_c_0 : Ref sig .tc := ⟨.hbm, 77, rfl⟩
abbrev main_call1_v5 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_9 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v61 : Ref sig .tc := ⟨.hbm, 90, rfl⟩
abbrev main_v62 : Ref sig .tc := ⟨.hbm, 91, rfl⟩
abbrev main_cst_10 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_11 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_12 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_13 : Ref sig .tc := ⟨.hbm, 116, rfl⟩
abbrev main_call4_v0 : Ref sig .tc := ⟨.hbm, 117, rfl⟩
abbrev main_call4_v1 : Ref sig .tc := ⟨.hbm, 118, rfl⟩
abbrev main_call4_v2 : Ref sig .tc := ⟨.hbm, 119, rfl⟩
abbrev main_v81 : Ref sig .tc := ⟨.hbm, 120, rfl⟩
abbrev main_cst_14 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_15 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_c_16 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_17 : Ref sig .tc := ⟨.hbm, 140, rfl⟩
abbrev main_call5_v0 : Ref sig .tc := ⟨.hbm, 141, rfl⟩
abbrev main_call5_v1 : Ref sig .tc := ⟨.hbm, 142, rfl⟩
abbrev main_call5_v2 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_18 : Ref sig .tc := ⟨.hbm, 149, rfl⟩
abbrev main_call6_v0 : Ref sig .tc := ⟨.hbm, 150, rfl⟩
abbrev main_call6_v1 : Ref sig .tc := ⟨.hbm, 151, rfl⟩
abbrev main_call6_v2 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_cst_19 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113_0 : Ref sig .tc := ⟨.hbm, 164, rfl⟩
abbrev main_v113_1 : Ref sig .tc := ⟨.hbm, 165, rfl⟩
abbrev main_v113_2 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![43], ![false]⟩

@[reducible] def k0_t1_loop : Scf.Loop 32 :=
  let c0_i32_5 : BitVec 32 := 0#32
  let c12_i32 : BitVec 32 := 12#32
  let v20 : BitVec 32 := Scalar.addi c0_i32_5 c12_i32
  let c1_i32 : BitVec 32 := 1#32
  ⟨c0_i32_5, v20, c1_i32⟩
def k0_mult1 (k0_t1 : Fin k0_t1_loop.trips) : BitVec 32 :=
  let c11_i32 : BitVec 32 := 11#32
  let c0_i32_5 : BitVec 32 := 0#32
  let c1_i32 : BitVec 32 := 1#32
  let arg17 : BitVec 32 := Scf.iv c0_i32_5 c1_i32 k0_t1
  let v24 : BitVec 32 := Scalar.subi c11_i32 arg17
  let c16_i32 : BitVec 32 := 16#32
  let v25 : BitVec 32 := Scalar.muli v24 c16_i32
  v25
def k0_off1 (k0_t1 : Fin k0_t1_loop.trips) : Fin 2 → Nat :=
  let c11_i32 : BitVec 32 := 11#32
  let c0_i32_5 : BitVec 32 := 0#32
  let c1_i32 : BitVec 32 := 1#32
  let arg17 : BitVec 32 := Scf.iv c0_i32_5 c1_i32 k0_t1
  let v24 : BitVec 32 := Scalar.subi c11_i32 arg17
  let c16_i32 : BitVec 32 := 16#32
  let v25 : BitVec 32 := Scalar.muli v24 c16_i32
  let v26 : BitVec 32 := v25
  let v27 : Index := Scalar.indexCast v26
  let c0_8 : Index := 0#32
  ![v27.toNat, 0]
def k0_off2 (k0_t1 : Fin k0_t1_loop.trips) : Fin 2 → Nat :=
  let c11_i32 : BitVec 32 := 11#32
  let c0_i32_5 : BitVec 32 := 0#32
  let c1_i32 : BitVec 32 := 1#32
  let arg17 : BitVec 32 := Scf.iv c0_i32_5 c1_i32 k0_t1
  let v24 : BitVec 32 := Scalar.subi c11_i32 arg17
  let c16_i32 : BitVec 32 := 16#32
  let v25 : BitVec 32 := Scalar.muli v24 c16_i32
  let v26 : BitVec 32 := v25
  let v232 : Index := Scalar.indexCast v26
  let c0_58 : Index := 0#32
  ![v232.toNat, 0]
def k0_off3 (k0_t1 : Fin k0_t1_loop.trips) : Fin 3 → Nat :=
  let c11_i32 : BitVec 32 := 11#32
  let c0_i32_5 : BitVec 32 := 0#32
  let c1_i32 : BitVec 32 := 1#32
  let arg17 : BitVec 32 := Scf.iv c0_i32_5 c1_i32 k0_t1
  let v24 : BitVec 32 := Scalar.subi c11_i32 arg17
  let v588 : Index := Scalar.indexCast v24
  let c0_81 : Index := 0#32
  let c0_82 : Index := 0#32
  ![v588.toNat, 0, 0]
def k0_off4 (k0_t1 : Fin k0_t1_loop.trips) : Fin 3 → Nat :=
  let c11_i32 : BitVec 32 := 11#32
  let c0_i32_5 : BitVec 32 := 0#32
  let c1_i32 : BitVec 32 := 1#32
  let arg17 : BitVec 32 := Scf.iv c0_i32_5 c1_i32 k0_t1
  let v24 : BitVec 32 := Scalar.subi c11_i32 arg17
  let v987 : Index := Scalar.indexCast v24
  let c128 : Index := 128#32
  let c0_129 : Index := 0#32
  ![v987.toNat, 128, 0]
def k0_off5 (k0_t1 : Fin k0_t1_loop.trips) : Fin 3 → Nat :=
  let c11_i32 : BitVec 32 := 11#32
  let c0_i32_5 : BitVec 32 := 0#32
  let c1_i32 : BitVec 32 := 1#32
  let arg17 : BitVec 32 := Scf.iv c0_i32_5 c1_i32 k0_t1
  let v24 : BitVec 32 := Scalar.subi c11_i32 arg17
  let v1386 : Index := Scalar.indexCast v24
  let c256 : Index := 256#32
  let c0_176 : Index := 0#32
  ![v1386.toNat, 256, 0]
def k0_off6 (k0_t1 : Fin k0_t1_loop.trips) : Fin 3 → Nat :=
  let c11_i32 : BitVec 32 := 11#32
  let c0_i32_5 : BitVec 32 := 0#32
  let c1_i32 : BitVec 32 := 1#32
  let arg17 : BitVec 32 := Scf.iv c0_i32_5 c1_i32 k0_t1
  let v24 : BitVec 32 := Scalar.subi c11_i32 arg17
  let v1785 : Index := Scalar.indexCast v24
  let c384 : Index := 384#32
  let c0_222 : Index := 0#32
  ![v1785.toNat, 384, 0]
def k0_off7 (k0_t1 : Fin k0_t1_loop.trips) : Fin 2 → Nat :=
  let c11_i32 : BitVec 32 := 11#32
  let c0_i32_5 : BitVec 32 := 0#32
  let c1_i32 : BitVec 32 := 1#32
  let arg17 : BitVec 32 := Scf.iv c0_i32_5 c1_i32 k0_t1
  let v24 : BitVec 32 := Scalar.subi c11_i32 arg17
  let c16_i32 : BitVec 32 := 16#32
  let v25 : BitVec 32 := Scalar.muli v24 c16_i32
  let v26 : BitVec 32 := v25
  let v1893 : Index := Scalar.indexCast v26
  let c0_267 : Index := 0#32
  ![v1893.toNat, 0]
def k0_cond2 (i : grid0.Coords) : BitVec 1 :=
  let arg0 : BitVec 32 := BitVec.ofNat 32 (i 0).val
  let c42_i32 : BitVec 32 := 42#32
  let v21 : BitVec 1 := Scalar.cmpi .eq arg0 c42_i32
  let v22 : BitVec 32 := Scalar.extui v21
  let c0_i32_7 : BitVec 32 := 0#32
  let v23 : BitVec 1 := Scalar.cmpi .ne v22 c0_i32_7
  v23

def cc0_transform_0 (i : grid0.Coords) : Fin 2 → Nat :=
  let arg0 : BitVec 32 := BitVec.ofNat 32 (i 0).val
  let c42_i32 : BitVec 32 := 42#32
  let v0 : BitVec 32 := Scalar.subi c42_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c42_i32 : BitVec 32 := 42#32
  let v0 : BitVec 32 := Scalar.subi c42_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c42_i32 : BitVec 32 := 42#32
  let v0 : BitVec 32 := Scalar.subi c42_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c42_i32 : BitVec 32 := 42#32
  let v0 : BitVec 32 := Scalar.subi c42_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c42_i32 : BitVec 32 := 42#32
  let v0 : BitVec 32 := Scalar.subi c42_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c42_i32 : BitVec 32 := 42#32
  let v0 : BitVec 32 := Scalar.subi c42_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c42_i32 : BitVec 32 := 42#32
  let v0 : BitVec 32 := Scalar.subi c42_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c42_i32 : BitVec 32 := 42#32
  let v0 : BitVec 32 := Scalar.subi c42_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c42_i32 : BitVec 32 := 42#32
  let v0 : BitVec 32 := Scalar.subi c42_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S12x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S192x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8256x3072 : Shape := ⟨2, ![8256, 3072]⟩
abbrev S8256x1024 : Shape := ⟨2, ![8256, 1024]⟩
abbrev S2x512 : Shape := ⟨2, ![2, 512]⟩
abbrev S1x128 : Shape := ⟨2, ![1, 128]⟩
abbrev S8256x512 : Shape := ⟨2, ![8256, 512]⟩
abbrev S128 : Shape := ⟨1, ![128]⟩
abbrev S_ : Shape := ⟨0, ![]⟩
abbrev S512 : Shape := ⟨1, ![512]⟩
abbrev S1x512 : Shape := ⟨2, ![1, 512]⟩
abbrev S8256x4x128 : Shape := ⟨3, ![8256, 4, 128]⟩
abbrev S8256x8256 : Shape := ⟨2, ![8256, 8256]⟩
abbrev S8256x8256x1x1 : Shape := ⟨4, ![8256, 8256, 1, 1]⟩
abbrev S8256x1x4x128 : Shape := ⟨4, ![8256, 1, 4, 128]⟩
abbrev S1x8256x4x128 : Shape := ⟨4, ![1, 8256, 4, 128]⟩
abbrev S8256x8256x4x128 : Shape := ⟨4, ![8256, 8256, 4, 128]⟩
abbrev S8256x8256x4 : Shape := ⟨3, ![8256, 8256, 4]⟩
abbrev S8256x8256x4x1 : Shape := ⟨4, ![8256, 8256, 4, 1]⟩
abbrev S8256x4 : Shape := ⟨2, ![8256, 4]⟩
abbrev S8256x4x1 : Shape := ⟨3, ![8256, 4, 1]⟩
abbrev S1x1x128 : Shape := ⟨3, ![1, 1, 128]⟩

abbrev nBuf : Space → Nat
  | .hbm => 354
  | .vmem => 0
  | .smem => 0
  | _ => 0

abbrev hbmTy0_0 (i : Nat) : BufTy := match i % 128 with
  | 0 => ⟨S8256x3072, .f32⟩
  | 1 => ⟨S8256x1024, .bf16⟩
  | 2 => ⟨S2x512, .f32⟩
  | 3 => ⟨S1x128, .f32⟩
  | 4 => ⟨S8256x512, .f32⟩
  | 5 => ⟨S8256x512, .f32⟩
  | 6 => ⟨S8256x512, .f32⟩
  | 7 => ⟨S8256x512, .f32⟩
  | 8 => ⟨S8256x512, .bf16⟩
  | 9 => ⟨S8256x512, .f32⟩
  | 10 => ⟨S128, .f32⟩
  | 11 => ⟨S_, .f32⟩
  | 12 => ⟨S512, .f32⟩
  | 13 => ⟨S1x512, .f32⟩
  | 14 => ⟨S2x512, .f32⟩
  | 15 => ⟨S2x512, .i1⟩
  | 16 => ⟨S2x512, .f32⟩
  | 17 => ⟨S_, .f32⟩
  | 18 => ⟨S512, .f32⟩
  | 19 => ⟨S_, .f32⟩
  | 20 => ⟨S512, .f32⟩
  | 21 => ⟨S512, .f32⟩
  | 22 => ⟨S_, .f32⟩
  | 23 => ⟨S512, .f32⟩
  | 24 => ⟨S512, .i1⟩
  | 25 => ⟨S_, .f32⟩
  | 26 => ⟨S512, .f32⟩
  | 27 => ⟨S512, .i1⟩
  | 28 => ⟨S_, .f32⟩
  | 29 => ⟨S512, .f32⟩
  | 30 => ⟨S_, .f32⟩
  | 31 => ⟨S512, .f32⟩
  | 32 => ⟨S_, .f32⟩
  | 33 => ⟨S512, .f32⟩
  | 34 => ⟨S512, .f32⟩
  | 35 => ⟨S512, .f32⟩
  | 36 => ⟨S1x512, .f32⟩
  | 37 => ⟨S2x512, .f32⟩
  | 38 => ⟨S2x512, .f32⟩
  | 39 => ⟨S2x512, .f32⟩
  | 40 => ⟨S_, .f32⟩
  | 41 => ⟨S512, .f32⟩
  | 42 => ⟨S1x512, .f32⟩
  | 43 => ⟨S2x512, .f32⟩
  | 44 => ⟨S2x512, .f32⟩
  | 45 => ⟨S1x512, .f32⟩
  | 46 => ⟨S_, .f32⟩
  | 47 => ⟨S1x512, .f32⟩
  | 48 => ⟨S1x512, .f32⟩
  | 49 => ⟨S1x512, .f32⟩
  | 50 => ⟨S512, .f32⟩
  | 51 => ⟨S1x512, .f32⟩
  | 52 => ⟨S512, .f32⟩
  | 53 => ⟨S512, .f32⟩
  | 54 => ⟨S1x512, .f32⟩
  | 55 => ⟨S512, .f32⟩
  | 56 => ⟨S512, .f32⟩
  | 57 => ⟨S8256x512, .f32⟩
  | 58 => ⟨S8256x512, .f32⟩
  | 59 => ⟨S_, .f32⟩
  | 60 => ⟨S8256x512, .f32⟩
  | 61 => ⟨S8256x512, .f32⟩
  | 62 => ⟨S_, .f32⟩
  | 63 => ⟨S8256x512, .f32⟩
  | 64 => ⟨S8256x512, .f32⟩
  | 65 => ⟨S_, .f32⟩
  | 66 => ⟨S8256x512, .f32⟩
  | 67 => ⟨S8256x512, .f32⟩
  | 68 => ⟨S8256x512, .f32⟩
  | 69 => ⟨S_, .f32⟩
  | 70 => ⟨S512, .f32⟩
  | 71 => ⟨S512, .f32⟩
  | 72 => ⟨S1x512, .f32⟩
  | 73 => ⟨S8256x512, .f32⟩
  | 74 => ⟨S8256x512, .f32⟩
  | 75 => ⟨S1x512, .f32⟩
  | 76 => ⟨S8256x512, .f32⟩
  | 77 => ⟨S8256x512, .f32⟩
  | 78 => ⟨S_, .f32⟩
  | 79 => ⟨S8256x512, .f32⟩
  | 80 => ⟨S8256x512, .f32⟩
  | 81 => ⟨S_, .f32⟩
  | 82 => ⟨S8256x512, .f32⟩
  | 83 => ⟨S8256x512, .i1⟩
  | 84 => ⟨S_, .f32⟩
  | 85 => ⟨S8256x512, .f32⟩
  | 86 => ⟨S8256x512, .i1⟩
  | 87 => ⟨S_, .f32⟩
  | 88 => ⟨S8256x512, .f32⟩
  | 89 => ⟨S_, .f32⟩
  | 90 => ⟨S8256x512, .f32⟩
  | 91 => ⟨S_, .f32⟩
  | 92 => ⟨S8256x512, .f32⟩
  | 93 => ⟨S8256x512, .f32⟩
  | 94 => ⟨S8256x512, .f32⟩
  | 95 => ⟨S8256x512, .f32⟩
  | 96 => ⟨S_, .f32⟩
  | 97 => ⟨S512, .f32⟩
  | 98 => ⟨S512, .f32⟩
  | 99 => ⟨S_, .f32⟩
  | 100 => ⟨S8256x512, .f32⟩
  | 101 => ⟨S8256x512, .f32⟩
  | 102 => ⟨S1x512, .f32⟩
  | 103 => ⟨S8256x512, .f32⟩
  | 104 => ⟨S8256x512, .f32⟩
  | 105 => ⟨S_, .f32⟩
  | 106 => ⟨S8256x512, .f32⟩
  | 107 => ⟨S8256x512, .f32⟩
  | 108 => ⟨S8256x4x128, .f32⟩
  | 109 => ⟨S8256x4x128, .f32⟩
  | 110 => ⟨S8256x4x128, .f32⟩
  | 111 => ⟨S_, .f32⟩
  | 112 => ⟨S_, .f32⟩
  | 113 => ⟨S8256x512, .f32⟩
  | 114 => ⟨S8256x4x128, .f32⟩
  | 115 => ⟨S_, .i1⟩
  | 116 => ⟨S8256x8256, .i1⟩
  | 117 => ⟨S8256x8256, .i32⟩
  | 118 => ⟨S_, .i32⟩
  | 119 => ⟨S8256x8256, .i32⟩
  | 120 => ⟨S8256x8256, .i32⟩
  | 121 => ⟨S8256x8256, .i32⟩
  | 122 => ⟨S8256x8256, .i1⟩
  | 123 => ⟨S_, .i1⟩
  | 124 => ⟨S8256x8256, .i1⟩
  | 125 => ⟨S8256x8256, .i1⟩
  | 126 => ⟨S8256x8256x1x1, .i1⟩
  | 127 => ⟨S8256x1x4x128, .f32⟩
  | _ => ⟨S8256x3072, .f32⟩

abbrev hbmTy0_1 (i : Nat) : BufTy := match i % 128 with
  | 0 => ⟨S1x8256x4x128, .f32⟩
  | 1 => ⟨S8256x8256x4x128, .f32⟩
  | 2 => ⟨S8256x8256x4x128, .f32⟩
  | 3 => ⟨S8256x8256x4x128, .f32⟩
  | 4 => ⟨S_, .f32⟩
  | 5 => ⟨S_, .f32⟩
  | 6 => ⟨S8256x8256x4x128, .i1⟩
  | 7 => ⟨S8256x8256x4x128, .f32⟩
  | 8 => ⟨S8256x8256x4x128, .f32⟩
  | 9 => ⟨S_, .f32⟩
  | 10 => ⟨S8256x8256x4x128, .f32⟩
  | 11 => ⟨S8256x8256x4x128, .f32⟩
  | 12 => ⟨S_, .f32⟩
  | 13 => ⟨S_, .f32⟩
  | 14 => ⟨S8256x8256x4x128, .i1⟩
  | 15 => ⟨S8256x8256x4x128, .f32⟩
  | 16 => ⟨S8256x8256x4x128, .f32⟩
  | 17 => ⟨S_, .f32⟩
  | 18 => ⟨S8256x8256x4x128, .f32⟩
  | 19 => ⟨S8256x1x4x128, .f32⟩
  | 20 => ⟨S1x8256x4x128, .f32⟩
  | 21 => ⟨S8256x8256x4x128, .f32⟩
  | 22 => ⟨S8256x8256x4x128, .f32⟩
  | 23 => ⟨S8256x8256x4x128, .f32⟩
  | 24 => ⟨S8256x8256x4x128, .f32⟩
  | 25 => ⟨S_, .f32⟩
  | 26 => ⟨S8256x8256x4, .f32⟩
  | 27 => ⟨S8256x8256x4x1, .f32⟩
  | 28 => ⟨S1x8256x4x128, .f32⟩
  | 29 => ⟨S8256x8256x4x128, .f32⟩
  | 30 => ⟨S8256x8256x4x128, .f32⟩
  | 31 => ⟨S8256x8256x4x128, .f32⟩
  | 32 => ⟨S_, .f32⟩
  | 33 => ⟨S8256x4x128, .f32⟩
  | 34 => ⟨S8256x4x128, .f32⟩
  | 35 => ⟨S_, .f32⟩
  | 36 => ⟨S8256x4x128, .f32⟩
  | 37 => ⟨S8256x4x128, .f32⟩
  | 38 => ⟨S_, .f32⟩
  | 39 => ⟨S8256x4, .f32⟩
  | 40 => ⟨S8256x4x1, .f32⟩
  | 41 => ⟨S_, .f32⟩
  | 42 => ⟨S8256x4x1, .f32⟩
  | 43 => ⟨S8256x4x1, .f32⟩
  | 44 => ⟨S_, .f32⟩
  | 45 => ⟨S8256x4x1, .f32⟩
  | 46 => ⟨S8256x4x1, .f32⟩
  | 47 => ⟨S8256x4x1, .f32⟩
  | 48 => ⟨S8256x4x1, .f32⟩
  | 49 => ⟨S_, .f32⟩
  | 50 => ⟨S8256x4x1, .f32⟩
  | 51 => ⟨S8256x4x1, .f32⟩
  | 52 => ⟨S8256x4x128, .f32⟩
  | 53 => ⟨S8256x4x128, .f32⟩
  | 54 => ⟨S1x1x128, .f32⟩
  | 55 => ⟨S8256x4x128, .f32⟩
  | 56 => ⟨S8256x4x128, .f32⟩
  | 57 => ⟨S8256x4x128, .f32⟩
  | 58 => ⟨S8256x4x128, .f32⟩
  | 59 => ⟨S8256x4x128, .f32⟩
  | 60 => ⟨S_, .f32⟩
  | 61 => ⟨S8256x4x128, .f32⟩
  | 62 => ⟨S8256x4x128, .f32⟩
  | 63 => ⟨S_, .f32⟩
  | 64 => ⟨S8256x4x128, .f32⟩
  | 65 => ⟨S8256x4x128, .f32⟩
  | 66 => ⟨S_, .f32⟩
  | 67 => ⟨S8256x4x128, .f32⟩
  | 68 => ⟨S8256x4x128, .f32⟩
  | 69 => ⟨S8256x4x128, .f32⟩
  | 70 => ⟨S8256x4x128, .f32⟩
  | 71 => ⟨S8256x4x128, .f32⟩
  | 72 => ⟨S8256x512, .f32⟩
  | 73 => ⟨S8256x4x128, .f32⟩
  | 74 => ⟨S8256x4x128, .f32⟩
  | 75 => ⟨S8256x4x128, .f32⟩
  | 76 => ⟨S8256x4x128, .f32⟩
  | 77 => ⟨S8256x4x128, .f32⟩
  | 78 => ⟨S8256x4x128, .f32⟩
  | 79 => ⟨S8256x4x128, .f32⟩
  | 80 => ⟨S8256x512, .f32⟩
  | 81 => ⟨S8256x4x128, .f32⟩
  | 82 => ⟨S_, .f32⟩
  | 83 => ⟨S128, .f32⟩
  | 84 => ⟨S1x1x128, .f32⟩
  | 85 => ⟨S8256x4x128, .f32⟩
  | 86 => ⟨S8256x4x128, .f32⟩
  | 87 => ⟨S_, .f32⟩
  | 88 => ⟨S128, .f32⟩
  | 89 => ⟨S8256x4x128, .f32⟩
  | 90 => ⟨S_, .f32⟩
  | 91 => ⟨S8256x4, .f32⟩
  | 92 => ⟨S8256x4x1, .f32⟩
  | 93 => ⟨S8256x4x128, .f32⟩
  | 94 => ⟨S8256x4x128, .f32⟩
  | 95 => ⟨S8256x4x1, .f32⟩
  | 96 => ⟨S_, .f32⟩
  | 97 => ⟨S8256x4x1, .f32⟩
  | 98 => ⟨S8256x4x1, .f32⟩
  | 99 => ⟨S_, .f32⟩
  | 100 => ⟨S8256x4, .f32⟩
  | 101 => ⟨S8256x4x128, .f32⟩
  | 102 => ⟨S8256x4x128, .f32⟩
  | 103 => ⟨S8256x4x128, .f32⟩
  | 104 => ⟨S8256x8256x4x128, .f32⟩
  | 105 => ⟨S8256x8256x4x128, .f32⟩
  | 106 => ⟨S8256x8256x4x128, .f32⟩
  | 107 => ⟨S_, .f32⟩
  | 108 => ⟨S8256x4x128, .f32⟩
  | 109 => ⟨S1x8256x4x128, .f32⟩
  | 110 => ⟨S8256x8256x4x128, .f32⟩
  | 111 => ⟨S8256x8256x4x128, .f32⟩
  | 112 => ⟨S_, .f32⟩
  | 113 => ⟨S8256x8256x4, .f32⟩
  | 114 => ⟨S8256x8256x4x1, .f32⟩
  | 115 => ⟨S_, .f32⟩
  | 116 => ⟨S8256x4x128, .f32⟩
  | 117 => ⟨S_, .f32⟩
  | 118 => ⟨S8256x8256x4, .f32⟩
  | 119 => ⟨S8256x8256x4x128, .f32⟩
  | 120 => ⟨S8256x8256x4x128, .f32⟩
  | 121 => ⟨S8256x8256x4x128, .f32⟩
  | 122 => ⟨S8256x8256x4x128, .f32⟩
  | 123 => ⟨S8256x8256x4x128, .f32⟩
  | 124 => ⟨S_, .f32⟩
  | 125 => ⟨S8256x4x128, .f32⟩
  | 126 => ⟨S1x8256x4x128, .f32⟩
  | 127 => ⟨S8256x8256x4x128, .f32⟩
  | _ => ⟨S8256x3072, .f32⟩

abbrev hbmTy0_2 (i : Nat) : BufTy := match i % 128 with
  | 0 => ⟨S8256x8256x4x128, .f32⟩
  | 1 => ⟨S_, .f32⟩
  | 2 => ⟨S8256x4x128, .f32⟩
  | 3 => ⟨S8256x1x4x128, .f32⟩
  | 4 => ⟨S_, .f32⟩
  | 5 => ⟨S8256x4x128, .f32⟩
  | 6 => ⟨S_, .f32⟩
  | 7 => ⟨S8256x4x128, .f32⟩
  | 8 => ⟨S_, .f32⟩
  | 9 => ⟨S8256x8256x4x128, .f32⟩
  | 10 => ⟨S8256x8256x4x128, .f32⟩
  | 11 => ⟨S8256x8256x4x128, .f32⟩
  | 12 => ⟨S_, .f32⟩
  | 13 => ⟨S8256x8256x4x128, .f32⟩
  | 14 => ⟨S8256x8256x4x128, .f32⟩
  | 15 => ⟨S_, .f32⟩
  | 16 => ⟨S8256x4x128, .f32⟩
  | 17 => ⟨S8256x1x4x128, .f32⟩
  | 18 => ⟨S8256x8256x4x128, .f32⟩
  | 19 => ⟨S_, .f32⟩
  | 20 => ⟨S8256x4x128, .f32⟩
  | 21 => ⟨S1x8256x4x128, .f32⟩
  | 22 => ⟨S_, .f32⟩
  | 23 => ⟨S8256x4x128, .f32⟩
  | 24 => ⟨S_, .f32⟩
  | 25 => ⟨S8256x4x128, .f32⟩
  | 26 => ⟨S8256x4x128, .f32⟩
  | 27 => ⟨S8256x512, .f32⟩
  | 28 => ⟨S_, .f32⟩
  | 29 => ⟨S_, .f32⟩
  | 30 => ⟨S8256x512, .f32⟩
  | 31 => ⟨S8256x512, .f32⟩
  | 32 => ⟨S8256x512, .f32⟩
  | 33 => ⟨S8256x512, .f32⟩
  | 34 => ⟨S_, .f32⟩
  | 35 => ⟨S8256x512, .f32⟩
  | 36 => ⟨S8256x512, .f32⟩
  | 37 => ⟨S8256x512, .f32⟩
  | 38 => ⟨S8256x512, .f32⟩
  | 39 => ⟨S8256x512, .f32⟩
  | 40 => ⟨S_, .f32⟩
  | 41 => ⟨S512, .f32⟩
  | 42 => ⟨S1x512, .f32⟩
  | 43 => ⟨S_, .f32⟩
  | 44 => ⟨S512, .f32⟩
  | 45 => ⟨S8256x512, .f32⟩
  | 46 => ⟨S512, .f32⟩
  | 47 => ⟨S8256x512, .f32⟩
  | 48 => ⟨S8256x512, .f32⟩
  | 49 => ⟨S_, .f32⟩
  | 50 => ⟨S512, .f32⟩
  | 51 => ⟨S1x512, .f32⟩
  | 52 => ⟨S_, .f32⟩
  | 53 => ⟨S512, .f32⟩
  | 54 => ⟨S512, .f32⟩
  | 55 => ⟨S8256x512, .f32⟩
  | 56 => ⟨S8256x512, .f32⟩
  | 57 => ⟨S8256x512, .f32⟩
  | 58 => ⟨S8256x512, .f32⟩
  | 59 => ⟨S_, .f32⟩
  | 60 => ⟨S512, .f32⟩
  | 61 => ⟨S1x512, .f32⟩
  | 62 => ⟨S_, .f32⟩
  | 63 => ⟨S512, .f32⟩
  | 64 => ⟨S512, .f32⟩
  | 65 => ⟨S512, .f32⟩
  | 66 => ⟨S8256x512, .f32⟩
  | 67 => ⟨S512, .f32⟩
  | 68 => ⟨S1x512, .f32⟩
  | 69 => ⟨S_, .f32⟩
  | 70 => ⟨S2x512, .f32⟩
  | 71 => ⟨S1x512, .f32⟩
  | 72 => ⟨S_, .f32⟩
  | 73 => ⟨S2x512, .f32⟩
  | 74 => ⟨S2x512, .f32⟩
  | 75 => ⟨S1x512, .f32⟩
  | 76 => ⟨S_, .f32⟩
  | 77 => ⟨S2x512, .f32⟩
  | 78 => ⟨S2x512, .f32⟩
  | 79 => ⟨S2x512, .f32⟩
  | 80 => ⟨S2x512, .f32⟩
  | 81 => ⟨S2x512, .f32⟩
  | 82 => ⟨S_, .f32⟩
  | 83 => ⟨S512, .f32⟩
  | 84 => ⟨S1x512, .f32⟩
  | 85 => ⟨S1x512, .f32⟩
  | 86 => ⟨S2x512, .f32⟩
  | 87 => ⟨S2x512, .f32⟩
  | 88 => ⟨S_, .f32⟩
  | 89 => ⟨S512, .f32⟩
  | 90 => ⟨S2x512, .f32⟩
  | 91 => ⟨S2x512, .f32⟩
  | 92 => ⟨S2x512, .f32⟩
  | 93 => ⟨S_, .f32⟩
  | 94 => ⟨S8256x1024, .f32⟩
  | 95 => ⟨S8256x3072, .f32⟩
  | 96 => ⟨S8256x3072, .bf16⟩
  | 97 => ⟨S1x128, .f32⟩
  | _ => ⟨S8256x3072, .f32⟩

abbrev hbmTy (i : Nat) : BufTy := match i / 128 with
  | 0 => hbmTy0_0 i
  | 1 => hbmTy0_1 i
  | 2 => hbmTy0_2 i
  | _ => ⟨S8256x3072, .f32⟩

abbrev bufTy : (tb : Table) → Fin (tcTables nBuf tb) → BufTy
  | .hbm, ⟨i, _⟩ => hbmTy i
  | _, _ => ⟨S8256x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_13 : Ref sig .tc := ⟨.hbm, 78, rfl⟩
abbrev main_v60 : Ref sig .tc := ⟨.hbm, 79, rfl⟩
abbrev main_v61 : Ref sig .tc := ⟨.hbm, 80, rfl⟩
abbrev main_cst_14 : Ref sig .tc := ⟨.hbm, 81, rfl⟩
abbrev main_v62 : Ref sig .tc := ⟨.hbm, 82, rfl⟩
abbrev main_v63 : Ref sig .tc := ⟨.hbm, 83, rfl⟩
abbrev main_cst_15 : Ref sig .tc := ⟨.hbm, 84, rfl⟩
abbrev main_v64 : Ref sig .tc := ⟨.hbm, 85, rfl⟩
abbrev main_v65 : Ref sig .tc := ⟨.hbm, 86, rfl⟩
abbrev main_cst_16 : Ref sig .tc := ⟨.hbm, 87, rfl⟩
abbrev main_v66 : Ref sig .tc := ⟨.hbm, 88, rfl⟩
abbrev main_cst_17 : Ref sig .tc := ⟨.hbm, 89, rfl⟩
abbrev main_v67 : Ref sig .tc := ⟨.hbm, 90, rfl⟩
abbrev main_cst_18 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_19 : Ref sig .tc := ⟨.hbm, 96, rfl⟩
abbrev main_v72 : Ref sig .tc := ⟨.hbm, 97, rfl⟩
abbrev main_v73 : Ref sig .tc := ⟨.hbm, 98, rfl⟩
abbrev main_cst_20 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_21 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_call0_call0_cst : Ref sig .tc := ⟨.hbm, 111, rfl⟩
abbrev main_call0_call0_v0 : Ref sig .tc := ⟨.hbm, 112, rfl⟩
abbrev main_v84 : Ref sig .tc := ⟨.hbm, 113, rfl⟩
abbrev main_v85 : Ref sig .tc := ⟨.hbm, 114, rfl⟩
abbrev main_c : Ref sig .tc := ⟨.hbm, 115, rfl⟩
abbrev main_v86 : Ref sig .tc := ⟨.hbm, 116, rfl⟩
abbrev main_call1_v0 : Ref sig .tc := ⟨.hbm, 117, rfl⟩
abbrev main_call1_c : Ref sig .tc := ⟨.hbm, 118, rfl⟩
abbrev main_call1_v1 : Ref sig .tc := ⟨.hbm, 119, rfl⟩
abbrev main_call1_v2 : Ref sig .tc := ⟨.hbm, 120, rfl⟩
abbrev main_call1_v3 : Ref sig .tc := ⟨.hbm, 121, rfl⟩
abbrev main_call1_v4 : Ref sig .tc := ⟨.hbm, 122, rfl⟩
abbrev main_call1_c_0 : Ref sig .tc := ⟨.hbm, 123, rfl⟩
abbrev main_call1_v5 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_22 : Ref sig .tc := ⟨.hbm, 132, rfl⟩
abbrev main_call2_v0 : Ref sig .tc := ⟨.hbm, 133, rfl⟩
abbrev main_v94_1 : Ref sig .tc := ⟨.hbm, 134, rfl⟩
abbrev main_call2_v2 : Ref sig .tc := ⟨.hbm, 135, rfl⟩
abbrev main_v94_0 : Ref sig .tc := ⟨.hbm, 136, rfl⟩
abbrev main_call2_cst : Ref sig .tc := ⟨.hbm, 137, rfl⟩
abbrev main_v94_2 : Ref sig .tc := ⟨.hbm, 138, rfl⟩
abbrev main_v95 : Ref sig .tc := ⟨.hbm, 139, rfl⟩
abbrev main_cst_23 : Ref sig .tc := ⟨.hbm, 140, rfl⟩
abbrev main_call3_v0 : Ref sig .tc := ⟨.hbm, 141, rfl⟩
abbrev main_v96_1 : Ref sig .tc := ⟨.hbm, 142, rfl⟩
abbrev main_call3_v2 : Ref sig .tc := ⟨.hbm, 143, rfl⟩
abbrev main_v96_0 : Ref sig .tc := ⟨.hbm, 144, rfl⟩
abbrev main_call3_cst : Ref sig .tc := ⟨.hbm, 145, rfl⟩
abbrev main_v96_2 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_cst_24 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_25 : Ref sig .tc := ⟨.hbm, 160, rfl⟩
abbrev main_v109 : Ref sig .tc := ⟨.hbm, 161, rfl⟩
abbrev main_v110 : Ref sig .tc := ⟨.hbm, 162, rfl⟩
abbrev main_cst_26 : Ref sig .tc := ⟨.hbm, 163, rfl⟩
abbrev main_v111 : Ref sig .tc := ⟨.hbm, 164, rfl⟩
abbrev main_v112 : Ref sig .tc := ⟨.hbm, 165, rfl⟩
abbrev main_cst_27 : Ref sig .tc := ⟨.hbm, 166, rfl⟩
abbrev main_v113 : Ref sig .tc := ⟨.hbm, 167, rfl⟩
abbrev main_v114 : Ref sig .tc := ⟨.hbm, 168, rfl⟩
abbrev main_cst_28 : Ref sig .tc := ⟨.hbm, 169, rfl⟩
abbrev main_v115 : Ref sig .tc := ⟨.hbm, 170, rfl⟩
abbrev main_v116 : Ref sig .tc := ⟨.hbm, 171, rfl⟩
abbrev main_cst_29 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_cst_30 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_call4_v0 : Ref sig .tc := ⟨.hbm, 186, rfl⟩
abbrev main_call4_v1 : Ref sig .tc := ⟨.hbm, 187, rfl⟩
abbrev main_call4_cst : Ref sig .tc := ⟨.hbm, 188, rfl⟩
abbrev main_call4_v2 : Ref sig .tc := ⟨.hbm, 189, rfl⟩
abbrev main_call4_v3 : Ref sig .tc := ⟨.hbm, 190, rfl⟩
abbrev main_call4_cst_0 : Ref sig .tc := ⟨.hbm, 191, rfl⟩
abbrev main_call4_v4 : Ref sig .tc := ⟨.hbm, 192, rfl⟩
abbrev main_v129_2 : Ref sig .tc := ⟨.hbm, 193, rfl⟩
abbrev main_call4_cst_1 : Ref sig .tc := ⟨.hbm, 194, rfl⟩
abbrev main_call4_v6 : Ref sig .tc := ⟨.hbm, 195, rfl⟩
abbrev main_call4_v7 : Ref sig .tc := ⟨.hbm, 196, rfl⟩
abbrev main_v129_1 : Ref sig .tc := ⟨.hbm, 197, rfl⟩
abbrev main_v129_0 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_call5_v0 : Ref sig .tc := ⟨.hbm, 204, rfl⟩
abbrev main_call5_v1 : Ref sig .tc := ⟨.hbm, 205, rfl⟩
abbrev main_call5_v2 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_cst_31 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_cst_32 : Ref sig .tc := ⟨.hbm, 215, rfl⟩
abbrev main_v142 : Ref sig .tc := ⟨.hbm, 216, rfl⟩
abbrev main_v143 : Ref sig .tc := ⟨.hbm, 217, rfl⟩
abbrev main_cst_33 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_cst_34 : Ref sig .tc := ⟨.hbm, 224, rfl⟩
abbrev main_v149 : Ref sig .tc := ⟨.hbm, 225, rfl⟩
abbrev main_v150 : Ref sig .tc := ⟨.hbm, 226, rfl⟩
abbrev main_cst_35 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_cst_36 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_cst_37 : Ref sig .tc := ⟨.hbm, 240, rfl⟩
abbrev main_v162 : Ref sig .tc := ⟨.hbm, 241, rfl⟩
abbrev main_v163 : Ref sig .tc := ⟨.hbm, 242, rfl⟩
abbrev main_cst_38 : Ref sig .tc := ⟨.hbm, 243, rfl⟩
abbrev main_v164 : Ref sig .tc := ⟨.hbm, 244, rfl⟩
abbrev main_cst_39 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_v170 : Ref sig .tc := ⟨.hbm, 251, rfl⟩
abbrev main_cst_40 : Ref sig .tc := ⟨.hbm, 252, rfl⟩
abbrev main_v171 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_cst_41 : Ref sig .tc := ⟨.hbm, 257, rfl⟩
abbrev main_v175 : Ref sig .tc := ⟨.hbm, 258, rfl⟩
abbrev main_v176 : Ref sig .tc := ⟨.hbm, 259, rfl⟩
abbrev main_cst_42 : Ref sig .tc := ⟨.hbm, 260, rfl⟩
abbrev main_v177 : Ref sig .tc := ⟨.hbm, 261, rfl⟩
abbrev main_cst_43 : Ref sig .tc := ⟨.hbm, 262, rfl⟩
abbrev main_v178 : Ref sig .tc := ⟨.hbm, 263, rfl⟩
abbrev main_call6_cst : Ref sig .tc := ⟨.hbm, 264, rfl⟩
abbrev main_call6_v0 : Ref sig .tc := ⟨.hbm, 265, rfl⟩
abbrev main_v179 : Ref sig .tc := ⟨.hbm, 266, rfl⟩
abbrev main_v180 : Ref sig .tc := ⟨.hbm, 267, rfl⟩
abbrev main_call7_cst : Ref sig .tc := ⟨.hbm, 268, rfl⟩
abbrev main_call7_v0 : Ref sig .tc := ⟨.hbm, 269, rfl⟩
abbrev main_v181 : Ref sig .tc := ⟨.hbm, 270, rfl⟩
abbrev main_cst_44 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_cst_45 : Ref sig .tc := ⟨.hbm, 275, rfl⟩
abbrev main_v185 : Ref sig .tc := ⟨.hbm, 276, rfl⟩
abbrev main_v186 : Ref sig .tc := ⟨.hbm, 277, rfl⟩
abbrev main_cst_46 : Ref sig .tc := ⟨.hbm, 278, rfl⟩
abbrev main_v187 : Ref sig .tc := ⟨.hbm, 279, rfl⟩
abbrev main_cst_47 : Ref sig .tc := ⟨.hbm, 280, rfl⟩
abbrev main_v188 : Ref sig .tc := ⟨.hbm, 281, rfl⟩
abbrev main_v189 : Ref sig .tc := ⟨.hbm, 282, rfl⟩
abbrev main_v190 : Ref sig .tc := ⟨.hbm, 283, rfl⟩
abbrev main_call8_call0_cst : Ref sig .tc := ⟨.hbm, 284, rfl⟩
abbrev main_call8_call0_v0 : Ref sig .tc := ⟨.hbm, 285, rfl⟩
abbrev main_v191 : Ref sig .tc := ⟨.hbm, 286, rfl⟩
abbrev main_v192 : Ref sig .tc := ⟨.hbm, 287, rfl⟩
abbrev main_v193 : Ref sig .tc := ⟨.hbm, 288, rfl⟩
abbrev main_v194 : Ref sig .tc := ⟨.hbm, 289, rfl⟩
abbrev main_cst_48 : Ref sig .tc := ⟨.hbm, 290, rfl⟩
abbrev main_v195 : Ref sig .tc := ⟨.hbm, 291, rfl⟩
abbrev main_v196 : Ref sig .tc := ⟨.hbm, 292, rfl⟩
abbrev main_v197 : Ref sig .tc := ⟨.hbm, 293, rfl⟩
abbrev main_v198 : Ref sig .tc := ⟨.hbm, 294, rfl⟩
abbrev main_v199 : Ref sig .tc := ⟨.hbm, 295, rfl⟩
abbrev main_cst_49 : Ref sig .tc := ⟨.hbm, 296, rfl⟩
abbrev main_v200 : Ref sig .tc := ⟨.hbm, 297, rfl⟩
abbrev main_v201 : Ref sig .tc := ⟨.hbm, 298, rfl⟩
abbrev main_cst_50 : Ref sig .tc := ⟨.hbm, 299, rfl⟩
abbrev main_v202 : Ref sig .tc := ⟨.hbm, 300, rfl⟩
abbrev main_v203 : Ref sig .tc := ⟨.hbm, 301, rfl⟩
abbrev main_v204 : Ref sig .tc := ⟨.hbm, 302, rfl⟩
abbrev main_v205 : Ref sig .tc := ⟨.hbm, 303, rfl⟩
abbrev main_v206 : Ref sig .tc := ⟨.hbm, 304, rfl⟩
abbrev main_cst_51 : Ref sig .tc := ⟨.hbm, 305, rfl⟩
abbrev main_v207 : Ref sig .tc := ⟨.hbm, 306, rfl⟩
abbrev main_v208 : Ref sig .tc := ⟨.hbm, 307, rfl⟩
abbrev main_cst_52 : Ref sig .tc := ⟨.hbm, 308, rfl⟩
abbrev main_v209 : Ref sig .tc := ⟨.hbm, 309, rfl⟩
abbrev main_v210 : Ref sig .tc := ⟨.hbm, 310, rfl⟩
abbrev main_v211 : Ref sig .tc := ⟨.hbm, 311, rfl⟩
abbrev main_v212 : Ref sig .tc := ⟨.hbm, 312, rfl⟩
abbrev main_v213 : Ref sig .tc := ⟨.hbm, 313, rfl⟩
abbrev main_v214 : Ref sig .tc := ⟨.hbm, 314, rfl⟩
abbrev main_cst_53 : Ref sig .tc := ⟨.hbm, 315, rfl⟩
abbrev main_v215 : Ref sig .tc := ⟨.hbm, 316, rfl⟩
abbrev main_v216 : Ref sig .tc := ⟨.hbm, 317, rfl⟩
abbrev main_cst_54 : Ref sig .tc := ⟨.hbm, 318, rfl⟩
abbrev main_v217 : Ref sig .tc := ⟨.hbm, 319, rfl⟩
abbrev main_v218 : Ref sig .tc := ⟨.hbm, 320, rfl⟩
abbrev main_v219 : Ref sig .tc := ⟨.hbm, 321, rfl⟩
abbrev main_v220 : Ref sig .tc := ⟨.hbm, 322, rfl⟩
abbrev main_v221 : Ref sig .tc := ⟨.hbm, 323, rfl⟩
abbrev main_v222 : Ref sig .tc := ⟨.hbm, 324, rfl⟩
abbrev main_cst_55 : Ref sig .tc := ⟨.hbm, 325, rfl⟩
abbrev main_v223 : Ref sig .tc := ⟨.hbm, 326, rfl⟩
abbrev main_v224 : Ref sig .tc := ⟨.hbm, 327, rfl⟩
abbrev main_cst_56 : Ref sig .tc := ⟨.hbm, 328, rfl⟩
abbrev main_v225 : Ref sig .tc := ⟨.hbm, 329, rfl⟩
abbrev main_v226 : Ref sig .tc := ⟨.hbm, 330, rfl⟩
abbrev main_v227 : Ref sig .tc := ⟨.hbm, 331, rfl⟩
abbrev main_cst_57 : Ref sig .tc := ⟨.hbm, 332, rfl⟩
abbrev main_v228 : Ref sig .tc := ⟨.hbm, 333, rfl⟩
abbrev main_v229 : Ref sig .tc := ⟨.hbm, 334, rfl⟩
abbrev main_v230 : Ref sig .tc := ⟨.hbm, 335, rfl⟩
abbrev main_v231 : Ref sig .tc := ⟨.hbm, 336, rfl⟩
abbrev main_v232 : Ref sig .tc := ⟨.hbm, 337, rfl⟩
abbrev main_cst_58 : Ref sig .tc := ⟨.hbm, 338, rfl⟩
abbrev main_v233 : Ref sig .tc := ⟨.hbm, 339, rfl⟩
abbrev main_v234 : Ref sig .tc := ⟨.hbm, 340, rfl⟩
abbrev main_v235 : Ref sig .tc := ⟨.hbm, 341, rfl⟩
abbrev main_v236 : Ref sig .tc := ⟨.hbm, 342, rfl⟩
abbrev main_v237 : Ref sig .tc := ⟨.hbm, 343, rfl⟩
abbrev main_cst_59 : Ref sig .tc := ⟨.hbm, 344, rfl⟩
abbrev main_v238 : Ref sig .tc := ⟨.hbm, 345, rfl⟩
abbrev main_v239 : Ref sig .tc := ⟨.hbm, 346, rfl⟩
abbrev main_v240 : Ref sig .tc := ⟨.hbm, 347, rfl⟩
abbrev main_v241 : Ref sig .tc := ⟨.hbm, 348, rfl⟩
abbrev main_cst_60 : Ref sig .tc := ⟨.hbm, 349, rfl⟩
abbrev main_v242 : Ref sig .tc := ⟨.hbm, 350, rfl⟩
abbrev main_v243 : Ref sig .tc := ⟨.hbm, 351, rfl⟩
abbrev main_v244 : Ref sig .tc := ⟨.hbm, 352, rfl⟩
abbrev main_v245 : Ref sig .tc := ⟨.hbm, 353, rfl⟩

abbrev nD : Nat := 1
abbrev τ : Topo := Topo.v7x

variable {F : FTy → Type} [FloatOps F]
-- ==== WgradUp.lean ====
abbrev S8256x1024 : Shape := ⟨2, ![8256, 1024]⟩
abbrev S8256x5632 : Shape := ⟨2, ![8256, 5632]⟩
abbrev S1024x5632 : Shape := ⟨2, ![1024, 5632]⟩
abbrev S8256x512 : Shape := ⟨2, ![8256, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8256x1024, .bf16⟩
  | .hbm, ⟨1, _⟩ => ⟨S8256x5632, .bf16⟩
  | .hbm, ⟨2, _⟩ => ⟨S1024x5632, .bf16⟩
  | .local _ .vmem, ⟨0, _⟩ => ⟨S8256x512, .bf16⟩
  | .local _ .vmem, ⟨1, _⟩ => ⟨S8256x512, .bf16⟩
  | .local _ .vmem, ⟨2, _⟩ => ⟨S8256x512, .bf16⟩
  | .local _ .vmem, ⟨3, _⟩ => ⟨S8256x512, .bf16⟩
  | .local _ .vmem, ⟨4, _⟩ => ⟨S512x512, .bf16⟩
  | .local _ .vmem, ⟨5, _⟩ => ⟨S512x512, .bf16⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradUpWIdeal.lean ====
abbrev S8256x1024 : Shape := ⟨2, ![8256, 1024]⟩
abbrev S8256x5632 : Shape := ⟨2, ![8256, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x5632, .bf16⟩
  | .hbm, ⟨2, _⟩ => ⟨S_, .f32⟩
  | .hbm, ⟨3, _⟩ => ⟨S1024x5632, .f32⟩
  | .hbm, ⟨4, _⟩ => ⟨S8256x1024, .f32⟩
  | .hbm, ⟨5, _⟩ => ⟨S8256x5632, .f32⟩
  | .hbm, ⟨6, _⟩ => ⟨S8256x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BwdDx1.lean ====
abbrev S1024x5632 : Shape := ⟨2, ![1024, 5632]⟩
abbrev S8256x5632 : Shape := ⟨2, ![8256, 5632]⟩
abbrev S8256x1024 : Shape := ⟨2, ![8256, 1024]⟩
abbrev S688x2816 : Shape := ⟨2, ![688, 2816]⟩
abbrev S1024x2816 : Shape := ⟨2, ![1024, 2816]⟩
abbrev S688x1024 : Shape := ⟨2, ![688, 1024]⟩

abbrev nBuf : Space → Nat
  | .hbm => 4
  | .vmem => 9
  | .smem => 0
  | _ => 0

abbrev bufTy : (tb : Table) → Fin (tcTables nBuf tb) → BufTy
  | .hbm, ⟨0, _⟩ => ⟨S1024x5632, .bf16⟩
  | .hbm, ⟨1, _⟩ => ⟨S8256x5632, .bf16⟩
  | .hbm, ⟨2, _⟩ => ⟨S8256x1024, .bf16⟩
  | .hbm, ⟨3, _⟩ => ⟨S8256x1024, .bf16⟩
  | .local _ .vmem, ⟨0, _⟩ => ⟨S688x2816, .bf16⟩
  | .local _ .vmem, ⟨1, _⟩ => ⟨S688x2816, .bf16⟩
  | .local _ .vmem, ⟨2, _⟩ => ⟨S1024x2816, .bf16⟩
  | .local _ .vmem, ⟨3, _⟩ => ⟨S1024x2816, .bf16⟩
  | .local _ .vmem, ⟨4, _⟩ => ⟨S688x1024, .bf16⟩
  | .local _ .vmem, ⟨5, _⟩ => ⟨S688x1024, .bf16⟩
  | .local _ .vmem, ⟨6, _⟩ => ⟨S688x1024, .bf16⟩
  | .local _ .vmem, ⟨7, _⟩ => ⟨S688x1024, .bf16⟩
  | .local _ .vmem, ⟨8, _⟩ => ⟨S688x1024, .f32⟩
  | _, _ => ⟨S1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![12, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GradUpXIdeal.lean ====
abbrev S1024x5632 : Shape := ⟨2, ![1024, 5632]⟩
abbrev S8256x5632 : Shape := ⟨2, ![8256, 5632]⟩
abbrev S8256x1024 : Shape := ⟨2, ![8256, 1024]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S1024x5632, .bf16⟩
  | .hbm, ⟨1, _⟩ => ⟨S8256x5632, .bf16⟩
  | .hbm, ⟨2, _⟩ => ⟨S8256x1024, .bf16⟩
  | .hbm, ⟨3, _⟩ => ⟨S_, .f32⟩
  | .hbm, ⟨4, _⟩ => ⟨S8256x1024, .f32⟩
  | .hbm, ⟨5, _⟩ => ⟨S_, .f32⟩
  | .hbm, ⟨6, _⟩ => ⟨S8256x1024, .f32⟩
  | .hbm, ⟨7, _⟩ => ⟨S8256x1024, .f32⟩
  | .hbm, ⟨8, _⟩ => ⟨S1024x5632, .f32⟩
  | .hbm, ⟨9, _⟩ => ⟨S8256x5632, .f32⟩
  | .hbm, ⟨10, _⟩ => ⟨S8256x1024, .f32⟩
  | .hbm, ⟨11, _⟩ => ⟨S8256x5632, .f32⟩
  | .hbm, ⟨12, _⟩ => ⟨S8256x1024, .f32⟩
  | .hbm, ⟨13, _⟩ => ⟨S_, .f32⟩
  | .hbm, ⟨14, _⟩ => ⟨S8256x1024, .f32⟩
  | .hbm, ⟨15, _⟩ => ⟨S8256x1024, .f32⟩
  | .hbm, ⟨16, _⟩ => ⟨S8256x1024, .f32⟩
  | .hbm, ⟨17, _⟩ => ⟨S8256x1024, .bf16⟩
  | _, _ => ⟨S1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== FwdUp.lean ====
abbrev S8256x1024 : Shape := ⟨2, ![8256, 1024]⟩
abbrev S1024x5632 : Shape := ⟨2, ![1024, 5632]⟩
abbrev S8256x5632 : Shape := ⟨2, ![8256, 5632]⟩
abbrev S1376x1024 : Shape := ⟨2, ![1376, 1024]⟩
abbrev S1024x1408 : Shape := ⟨2, ![1024, 1408]⟩
abbrev S1376x1408 : Shape := ⟨2, ![1376, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8256x1024, .bf16⟩
  | .hbm, ⟨1, _⟩ => ⟨S1024x5632, .bf16⟩
  | .hbm, ⟨2, _⟩ => ⟨S8256x5632, .bf16⟩
  | .local _ .vmem, ⟨0, _⟩ => ⟨S1376x1024, .bf16⟩
  | .local _ .vmem, ⟨1, _⟩ => ⟨S1376x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1376x1408, .bf16⟩
  | .local _ .vmem, ⟨5, _⟩ => ⟨S1376x1408, .bf16⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjUpIdeal.lean ====
abbrev S8256x1024 : Shape := ⟨2, ![8256, 1024]⟩
abbrev S1024x5632 : Shape := ⟨2, ![1024, 5632]⟩
abbrev S8256x5632 : Shape := ⟨2, ![8256, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S1024x5632, .bf16⟩
  | .hbm, ⟨2, _⟩ => ⟨S8256x1024, .f32⟩
  | .hbm, ⟨3, _⟩ => ⟨S1024x5632, .f32⟩
  | .hbm, ⟨4, _⟩ => ⟨S8256x5632, .f32⟩
  | .hbm, ⟨5, _⟩ => ⟨S8256x5632, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FwdIn.lean ====
abbrev S8256x1024 : Shape := ⟨2, ![8256, 1024]⟩
abbrev S1024x3072 : Shape := ⟨2, ![1024, 3072]⟩
abbrev S8256x3072 : Shape := ⟨2, ![8256, 3072]⟩
abbrev S1376x1024 : Shape := ⟨2, ![1376, 1024]⟩
abbrev S1024x1536 : Shape := ⟨2, ![1024, 1536]⟩
abbrev S1376x1536 : Shape := ⟨2, ![1376, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8256x1024, .bf16⟩
  | .hbm, ⟨1, _⟩ => ⟨S1024x3072, .bf16⟩
  | .hbm, ⟨2, _⟩ => ⟨S8256x3072, .f32⟩
  | .local _ .vmem, ⟨0, _⟩ => ⟨S1376x1024, .bf16⟩
  | .local _ .vmem, ⟨1, _⟩ => ⟨S1376x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1376x1536, .f32⟩
  | .local _ .vmem, ⟨5, _⟩ => ⟨S1376x1536, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInIdeal.lean ====
abbrev S8256x1024 : Shape := ⟨2, ![8256, 1024]⟩
abbrev S1024x3072 : Shape := ⟨2, ![1024, 3072]⟩
abbrev S8256x3072 : Shape := ⟨2, ![8256, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S1024x3072, .bf16⟩
  | .hbm, ⟨2, _⟩ => ⟨S8256x1024, .f32⟩
  | .hbm, ⟨3, _⟩ => ⟨S1024x3072, .f32⟩
  | .hbm, ⟨4, _⟩ => ⟨S8256x3072, .f32⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== WgradIn.lean ====
abbrev S8256x1024 : Shape := ⟨2, ![8256, 1024]⟩
abbrev S8256x3072 : Shape := ⟨2, ![8256, 3072]⟩
abbrev S1024x3072 : Shape := ⟨2, ![1024, 3072]⟩
abbrev S8256x512 : Shape := ⟨2, ![8256, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8256x1024, .bf16⟩
  | .hbm, ⟨1, _⟩ => ⟨S8256x3072, .bf16⟩
  | .hbm, ⟨2, _⟩ => ⟨S1024x3072, .bf16⟩
  | .local _ .vmem, ⟨0, _⟩ => ⟨S8256x512, .bf16⟩
  | .local _ .vmem, ⟨1, _⟩ => ⟨S8256x512, .bf16⟩
  | .local _ .vmem, ⟨2, _⟩ => ⟨S8256x512, .bf16⟩
  | .local _ .vmem, ⟨3, _⟩ => ⟨S8256x512, .bf16⟩
  | .local _ .vmem, ⟨4, _⟩ => ⟨S512x512, .bf16⟩
  | .local _ .vmem, ⟨5, _⟩ => ⟨S512x512, .bf16⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradInWIdeal.lean ====
abbrev S8256x1024 : Shape := ⟨2, ![8256, 1024]⟩
abbrev S8256x3072 : Shape := ⟨2, ![8256, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x3072, .bf16⟩
  | .hbm, ⟨2, _⟩ => ⟨S_, .f32⟩
  | .hbm, ⟨3, _⟩ => ⟨S1024x3072, .f32⟩
  | .hbm, ⟨4, _⟩ => ⟨S8256x1024, .f32⟩
  | .hbm, ⟨5, _⟩ => ⟨S8256x3072, .f32⟩
  | .hbm, ⟨6, _⟩ => ⟨S8256x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BwdDx.lean ====
abbrev S1024x3072 : Shape := ⟨2, ![1024, 3072]⟩
abbrev S8256x3072 : Shape := ⟨2, ![8256, 3072]⟩
abbrev S8256x1024 : Shape := ⟨2, ![8256, 1024]⟩
abbrev S1376x1536 : Shape := ⟨2, ![1376, 1536]⟩
abbrev S1024x1536 : Shape := ⟨2, ![1024, 1536]⟩
abbrev S1376x1024 : Shape := ⟨2, ![1376, 1024]⟩

abbrev nBuf : Space → Nat
  | .hbm => 4
  | .vmem => 8
  | .smem => 0
  | _ => 0

abbrev bufTy : (tb : Table) → Fin (tcTables nBuf tb) → BufTy
  | .hbm, ⟨0, _⟩ => ⟨S1024x3072, .bf16⟩
  | .hbm, ⟨1, _⟩ => ⟨S8256x3072, .bf16⟩
  | .hbm, ⟨2, _⟩ => ⟨S8256x1024, .bf16⟩
  | .hbm, ⟨3, _⟩ => ⟨S8256x1024, .f32⟩
  | .local _ .vmem, ⟨0, _⟩ => ⟨S1376x1536, .bf16⟩
  | .local _ .vmem, ⟨1, _⟩ => ⟨S1376x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1376x1024, .bf16⟩
  | .local _ .vmem, ⟨5, _⟩ => ⟨S1376x1024, .bf16⟩
  | .local _ .vmem, ⟨6, _⟩ => ⟨S1376x1024, .f32⟩
  | .local _ .vmem, ⟨7, _⟩ => ⟨S1376x1024, .f32⟩
  | _, _ => ⟨S1024x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let c1_i32 : BitVec 32 := 1#32
  let v7 : BitVec 1 := Scalar.cmpi .slt arg2 c1_i32
  let v8 : BitVec 1 := Scalar.andi v6 v7
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1376x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GradInXIdeal.lean ====
abbrev S1024x3072 : Shape := ⟨2, ![1024, 3072]⟩
abbrev S8256x3072 : Shape := ⟨2, ![8256, 3072]⟩
abbrev S8256x1024 : Shape := ⟨2, ![8256, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1024x3072, .bf16⟩
  | .hbm, ⟨1, _⟩ => ⟨S8256x3072, .bf16⟩
  | .hbm, ⟨2, _⟩ => ⟨S8256x1024, .bf16⟩
  | .hbm, ⟨3, _⟩ => ⟨S_, .f32⟩
  | .hbm, ⟨4, _⟩ => ⟨S8256x1024, .f32⟩
  | .hbm, ⟨5, _⟩ => ⟨S_, .f32⟩
  | .hbm, ⟨6, _⟩ => ⟨S8256x1024, .f32⟩
  | .hbm, ⟨7, _⟩ => ⟨S8256x1024, .f32⟩
  | .hbm, ⟨8, _⟩ => ⟨S1024x3072, .f32⟩
  | .hbm, ⟨9, _⟩ => ⟨S8256x3072, .f32⟩
  | .hbm, ⟨10, _⟩ => ⟨S8256x1024, .f32⟩
  | .hbm, ⟨11, _⟩ => ⟨S8256x3072, .f32⟩
  | .hbm, ⟨12, _⟩ => ⟨S8256x1024, .f32⟩
  | .hbm, ⟨13, _⟩ => ⟨S_, .f32⟩
  | .hbm, ⟨14, _⟩ => ⟨S8256x1024, .f32⟩
  | .hbm, ⟨15, _⟩ => ⟨S8256x1024, .f32⟩
  | .hbm, ⟨16, _⟩ => ⟨S8256x1024, .f32⟩
  | _, _ => ⟨S1024x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== BwdDa.lean ====
abbrev S2816x1024 : Shape := ⟨2, ![2816, 1024]⟩
abbrev S8256x1024 : Shape := ⟨2, ![8256, 1024]⟩
abbrev S8256x2816 : Shape := ⟨2, ![8256, 2816]⟩
abbrev S1376x1024 : Shape := ⟨2, ![1376, 1024]⟩
abbrev S1408x1024 : Shape := ⟨2, ![1408, 1024]⟩
abbrev S1376x1408 : Shape := ⟨2, ![1376, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2816x1024, .bf16⟩
  | .hbm, ⟨1, _⟩ => ⟨S8256x1024, .bf16⟩
  | .hbm, ⟨2, _⟩ => ⟨S8256x2816, .bf16⟩
  | .local _ .vmem, ⟨0, _⟩ => ⟨S1376x1024, .bf16⟩
  | .local _ .vmem, ⟨1, _⟩ => ⟨S1376x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1376x1408, .bf16⟩
  | .local _ .vmem, ⟨5, _⟩ => ⟨S1376x1408, .bf16⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradDownAIdeal.lean ====
abbrev S2816x1024 : Shape := ⟨2, ![2816, 1024]⟩
abbrev S8256x1024 : Shape := ⟨2, ![8256, 1024]⟩
abbrev S_ : Shape := ⟨0, ![]⟩
abbrev S8256x2816 : Shape := ⟨2, ![8256, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2816x1024, .bf16⟩
  | .hbm, ⟨1, _⟩ => ⟨S8256x1024, .bf16⟩
  | .hbm, ⟨2, _⟩ => ⟨S_, .f32⟩
  | .hbm, ⟨3, _⟩ => ⟨S8256x2816, .f32⟩
  | .hbm, ⟨4, _⟩ => ⟨S2816x1024, .f32⟩
  | .hbm, ⟨5, _⟩ => ⟨S8256x1024, .f32⟩
  | .hbm, ⟨6, _⟩ => ⟨S8256x1024, .f32⟩
  | .hbm, ⟨7, _⟩ => ⟨S8256x2816, .f32⟩
  | .hbm, ⟨8, _⟩ => ⟨S8256x2816, .bf16⟩
  | _, _ => ⟨S2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WgradDown.lean ====
abbrev S8256x2816 : Shape := ⟨2, ![8256, 2816]⟩
abbrev S8256x1024 : Shape := ⟨2, ![8256, 1024]⟩
abbrev S2816x1024 : Shape := ⟨2, ![2816, 1024]⟩
abbrev S1376x1408 : Shape := ⟨2, ![1376, 1408]⟩
abbrev S1376x1024 : Shape := ⟨2, ![1376, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8256x2816, .bf16⟩
  | .hbm, ⟨1, _⟩ => ⟨S8256x1024, .bf16⟩
  | .hbm, ⟨2, _⟩ => ⟨S2816x1024, .bf16⟩
  | .local _ .vmem, ⟨0, _⟩ => ⟨S1376x1408, .bf16⟩
  | .local _ .vmem, ⟨1, _⟩ => ⟨S1376x1408, .bf16⟩
  | .local _ .vmem, ⟨2, _⟩ => ⟨S1376x1024, .bf16⟩
  | .local _ .vmem, ⟨3, _⟩ => ⟨S1376x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8256x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond3 (i : grid0.Coords) : BitVec 1 :=
  let arg2 : BitVec 32 := BitVec.ofNat 32 (i 2).val
  let c5_i32_6 : BitVec 32 := 5#32
  let v11 : BitVec 1 := Scalar.cmpi .eq arg2 c5_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1376x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradDownWIdeal.lean ====
abbrev S8256x2816 : Shape := ⟨2, ![8256, 2816]⟩
abbrev S8256x1024 : Shape := ⟨2, ![8256, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8256x2816, .bf16⟩
  | .hbm, ⟨1, _⟩ => ⟨S8256x1024, .bf16⟩
  | .hbm, ⟨2, _⟩ => ⟨S_, .f32⟩
  | .hbm, ⟨3, _⟩ => ⟨S2816x1024, .f32⟩
  | .hbm, ⟨4, _⟩ => ⟨S8256x2816, .f32⟩
  | .hbm, ⟨5, _⟩ => ⟨S8256x1024, .f32⟩
  | .hbm, ⟨6, _⟩ => ⟨S8256x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8256x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BwdDcat.lean ====
abbrev S1024x1024 : Shape := ⟨2, ![1024, 1024]⟩
abbrev S8256x1024 : Shape := ⟨2, ![8256, 1024]⟩
abbrev S1376x1024 : Shape := ⟨2, ![1376, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S8256x1024, .bf16⟩
  | .hbm, ⟨2, _⟩ => ⟨S8256x1024, .bf16⟩
  | .local _ .vmem, ⟨0, _⟩ => ⟨S1376x1024, .bf16⟩
  | .local _ .vmem, ⟨1, _⟩ => ⟨S1376x1024, .bf16⟩
  | .local _ .vmem, ⟨2, _⟩ => ⟨S1024x1024, .bf16⟩
  | .local _ .vmem, ⟨3, _⟩ => ⟨S1376x1024, .bf16⟩
  | .local _ .vmem, ⟨4, _⟩ => ⟨S1376x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1376x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradOXIdeal.lean ====
abbrev S1024x1024 : Shape := ⟨2, ![1024, 1024]⟩
abbrev S8256x1024 : Shape := ⟨2, ![8256, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S8256x1024, .bf16⟩
  | .hbm, ⟨2, _⟩ => ⟨S_, .f32⟩
  | .hbm, ⟨3, _⟩ => ⟨S8256x1024, .f32⟩
  | .hbm, ⟨4, _⟩ => ⟨S1024x1024, .f32⟩
  | .hbm, ⟨5, _⟩ => ⟨S8256x1024, .f32⟩
  | .hbm, ⟨6, _⟩ => ⟨S8256x1024, .f32⟩
  | .hbm, ⟨7, _⟩ => ⟨S8256x1024, .f32⟩
  | .hbm, ⟨8, _⟩ => ⟨S8256x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WgradO.lean ====
abbrev S8256x1024 : Shape := ⟨2, ![8256, 1024]⟩
abbrev S1024x1024 : Shape := ⟨2, ![1024, 1024]⟩
abbrev S8256x512 : Shape := ⟨2, ![8256, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S1024x1024, .bf16⟩
  | .local _ .vmem, ⟨0, _⟩ => ⟨S8256x512, .bf16⟩
  | .local _ .vmem, ⟨1, _⟩ => ⟨S8256x512, .bf16⟩
  | .local _ .vmem, ⟨2, _⟩ => ⟨S8256x512, .bf16⟩
  | .local _ .vmem, ⟨3, _⟩ => ⟨S8256x512, .bf16⟩
  | .local _ .vmem, ⟨4, _⟩ => ⟨S512x512, .bf16⟩
  | .local _ .vmem, ⟨5, _⟩ => ⟨S512x512, .bf16⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradOWIdeal.lean ====
abbrev S8256x1024 : Shape := ⟨2, ![8256, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S_, .f32⟩
  | .hbm, ⟨3, _⟩ => ⟨S1024x1024, .f32⟩
  | .hbm, ⟨4, _⟩ => ⟨S8256x1024, .f32⟩
  | .hbm, ⟨5, _⟩ => ⟨S8256x1024, .f32⟩
  | .hbm, ⟨6, _⟩ => ⟨S8256x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FwdO.lean ====
abbrev S8256x1024 : Shape := ⟨2, ![8256, 1024]⟩
abbrev S1024x1024 : Shape := ⟨2, ![1024, 1024]⟩
abbrev S1x1024 : Shape := ⟨2, ![1, 1024]⟩
abbrev S688x1024 : Shape := ⟨2, ![688, 1024]⟩
abbrev S688 : Shape := ⟨1, ![688]⟩
abbrev S688x1 : Shape := ⟨2, ![688, 1]⟩

abbrev nBuf : Space → Nat
  | .hbm => 8
  | .vmem => 13
  | .smem => 0
  | _ => 0

abbrev bufTy : (tb : Table) → Fin (tcTables nBuf tb) → BufTy
  | .hbm, ⟨0, _⟩ => ⟨S8256x1024, .bf16⟩
  | .hbm, ⟨1, _⟩ => ⟨S1024x1024, .bf16⟩
  | .hbm, ⟨2, _⟩ => ⟨S8256x1024, .f32⟩
  | .hbm, ⟨3, _⟩ => ⟨S1x1024, .f32⟩
  | .hbm, ⟨4, _⟩ => ⟨S1x1024, .f32⟩
  | .hbm, ⟨5, _⟩ => ⟨S8256x1024, .bf16⟩
  | .hbm, ⟨6, _⟩ => ⟨S8256x1024, .f32⟩
  | .hbm, ⟨7, _⟩ => ⟨S8256x1024, .bf16⟩
  | .local _ .vmem, ⟨0, _⟩ => ⟨S688x1024, .bf16⟩
  | .local _ .vmem, ⟨1, _⟩ => ⟨S688x1024, .bf16⟩
  | .local _ .vmem, ⟨2, _⟩ => ⟨S1024x1024, .bf16⟩
  | .local _ .vmem, ⟨3, _⟩ => ⟨S688x1024, .f32⟩
  | .local _ .vmem, ⟨4, _⟩ => ⟨S688x1024, .f32⟩
  | .local _ .vmem, ⟨5, _⟩ => ⟨S1x1024, .f32⟩
  | .local _ .vmem, ⟨6, _⟩ => ⟨S1x1024, .f32⟩
  | .local _ .vmem, ⟨7, _⟩ => ⟨S688x1024, .bf16⟩
  | .local _ .vmem, ⟨8, _⟩ => ⟨S688x1024, .bf16⟩
  | .local _ .vmem, ⟨9, _⟩ => ⟨S688x1024, .f32⟩
  | .local _ .vmem, ⟨10, _⟩ => ⟨S688x1024, .f32⟩
  | .local _ .vmem, ⟨11, _⟩ => ⟨S688x1024, .bf16⟩
  | .local _ .vmem, ⟨12, _⟩ => ⟨S688x1024, .bf16⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S688x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S688x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S688x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== NormOIdeal.lean ====
abbrev S8256x1024 : Shape := ⟨2, ![8256, 1024]⟩
abbrev S1024x1024 : Shape := ⟨2, ![1024, 1024]⟩
abbrev S1x1024 : Shape := ⟨2, ![1, 1024]⟩
abbrev S_ : Shape := ⟨0, ![]⟩
abbrev S8256 : Shape := ⟨1, ![8256]⟩
abbrev S8256x1 : Shape := ⟨2, ![8256, 1]⟩

abbrev nBuf : Space → Nat
  | .hbm => 41
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S1024x1024, .bf16⟩
  | .hbm, ⟨2, _⟩ => ⟨S8256x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S8256x1024, .f32⟩
  | .hbm, ⟨7, _⟩ => ⟨S8256x1024, .f32⟩
  | .hbm, ⟨8, _⟩ => ⟨S8256x1024, .f32⟩
  | .hbm, ⟨9, _⟩ => ⟨S1024x1024, .f32⟩
  | .hbm, ⟨10, _⟩ => ⟨S8256x1024, .f32⟩
  | .hbm, ⟨11, _⟩ => ⟨S8256x1024, .f32⟩
  | .hbm, ⟨12, _⟩ => ⟨S_, .f32⟩
  | .hbm, ⟨13, _⟩ => ⟨S8256, .f32⟩
  | .hbm, ⟨14, _⟩ => ⟨S8256x1, .f32⟩
  | .hbm, ⟨15, _⟩ => ⟨S_, .f32⟩
  | .hbm, ⟨16, _⟩ => ⟨S8256x1, .f32⟩
  | .hbm, ⟨17, _⟩ => ⟨S8256x1, .f32⟩
  | .hbm, ⟨18, _⟩ => ⟨S8256x1024, .f32⟩
  | .hbm, ⟨19, _⟩ => ⟨S8256x1024, .f32⟩
  | .hbm, ⟨20, _⟩ => ⟨S8256x1024, .f32⟩
  | .hbm, ⟨21, _⟩ => ⟨S_, .f32⟩
  | .hbm, ⟨22, _⟩ => ⟨S8256, .f32⟩
  | .hbm, ⟨23, _⟩ => ⟨S8256x1, .f32⟩
  | .hbm, ⟨24, _⟩ => ⟨S_, .f32⟩
  | .hbm, ⟨25, _⟩ => ⟨S8256x1, .f32⟩
  | .hbm, ⟨26, _⟩ => ⟨S8256x1, .f32⟩
  | .hbm, ⟨27, _⟩ => ⟨S8256x1024, .f32⟩
  | .hbm, ⟨28, _⟩ => ⟨S8256x1024, .f32⟩
  | .hbm, ⟨29, _⟩ => ⟨S_, .f32⟩
  | .hbm, ⟨30, _⟩ => ⟨S8256x1, .f32⟩
  | .hbm, ⟨31, _⟩ => ⟨S8256x1, .f32⟩
  | .hbm, ⟨32, _⟩ => ⟨S8256x1, .f32⟩
  | .hbm, ⟨33, _⟩ => ⟨S8256x1024, .f32⟩
  | .hbm, ⟨34, _⟩ => ⟨S8256x1024, .f32⟩
  | .hbm, ⟨35, _⟩ => ⟨S8256x1024, .f32⟩
  | .hbm, ⟨36, _⟩ => ⟨S8256x1024, .f32⟩
  | .hbm, ⟨37, _⟩ => ⟨S8256x1024, .f32⟩
  | .hbm, ⟨38, _⟩ => ⟨S8256x1024, .f32⟩
  | .hbm, ⟨39, _⟩ => ⟨S8256x1024, .bf16⟩
  | .hbm, ⟨40, _⟩ => ⟨S8256x1024, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== FwdDown.lean ====
abbrev S8256x2816 : Shape := ⟨2, ![8256, 2816]⟩
abbrev S2816x1024 : Shape := ⟨2, ![2816, 1024]⟩
abbrev S8256x1024 : Shape := ⟨2, ![8256, 1024]⟩
abbrev S1x1024 : Shape := ⟨2, ![1, 1024]⟩
abbrev S688x2816 : Shape := ⟨2, ![688, 2816]⟩
abbrev S688x1024 : Shape := ⟨2, ![688, 1024]⟩
abbrev S688 : Shape := ⟨1, ![688]⟩
abbrev S688x1 : Shape := ⟨2, ![688, 1]⟩

abbrev nBuf : Space → Nat
  | .hbm => 8
  | .vmem => 13
  | .smem => 0
  | _ => 0

abbrev bufTy : (tb : Table) → Fin (tcTables nBuf tb) → BufTy
  | .hbm, ⟨0, _⟩ => ⟨S8256x2816, .bf16⟩
  | .hbm, ⟨1, _⟩ => ⟨S2816x1024, .bf16⟩
  | .hbm, ⟨2, _⟩ => ⟨S8256x1024, .f32⟩
  | .hbm, ⟨3, _⟩ => ⟨S1x1024, .f32⟩
  | .hbm, ⟨4, _⟩ => ⟨S1x1024, .f32⟩
  | .hbm, ⟨5, _⟩ => ⟨S8256x1024, .bf16⟩
  | .hbm, ⟨6, _⟩ => ⟨S8256x1024, .f32⟩
  | .hbm, ⟨7, _⟩ => ⟨S8256x1024, .bf16⟩
  | .local _ .vmem, ⟨0, _⟩ => ⟨S688x2816, .bf16⟩
  | .local _ .vmem, ⟨1, _⟩ => ⟨S688x2816, .bf16⟩
  | .local _ .vmem, ⟨2, _⟩ => ⟨S2816x1024, .bf16⟩
  | .local _ .vmem, ⟨3, _⟩ => ⟨S688x1024, .f32⟩
  | .local _ .vmem, ⟨4, _⟩ => ⟨S688x1024, .f32⟩
  | .local _ .vmem, ⟨5, _⟩ => ⟨S1x1024, .f32⟩
  | .local _ .vmem, ⟨6, _⟩ => ⟨S1x1024, .f32⟩
  | .local _ .vmem, ⟨7, _⟩ => ⟨S688x1024, .bf16⟩
  | .local _ .vmem, ⟨8, _⟩ => ⟨S688x1024, .bf16⟩
  | .local _ .vmem, ⟨9, _⟩ => ⟨S688x1024, .f32⟩
  | .local _ .vmem, ⟨10, _⟩ => ⟨S688x1024, .f32⟩
  | .local _ .vmem, ⟨11, _⟩ => ⟨S688x1024, .bf16⟩
  | .local _ .vmem, ⟨12, _⟩ => ⟨S688x1024, .bf16⟩
  | _, _ => ⟨S8256x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S688x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S688x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S688x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== NormDownIdeal.lean ====
abbrev S8256x2816 : Shape := ⟨2, ![8256, 2816]⟩
abbrev S2816x1024 : Shape := ⟨2, ![2816, 1024]⟩
abbrev S8256x1024 : Shape := ⟨2, ![8256, 1024]⟩
abbrev S1x1024 : Shape := ⟨2, ![1, 1024]⟩
abbrev S_ : Shape := ⟨0, ![]⟩
abbrev S8256 : Shape := ⟨1, ![8256]⟩
abbrev S8256x1 : Shape := ⟨2, ![8256, 1]⟩

abbrev nBuf : Space → Nat
  | .hbm => 41
  | .vmem => 0
  | .smem => 0
  | _ => 0

abbrev bufTy : (tb : Table) → Fin (tcTables nBuf tb) → BufTy
  | .hbm, ⟨0, _⟩ => ⟨S8256x2816, .bf16⟩
  | .hbm, ⟨1, _⟩ => ⟨S2816x1024, .bf16⟩
  | .hbm, ⟨2, _⟩ => ⟨S8256x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S8256x1024, .f32⟩
  | .hbm, ⟨7, _⟩ => ⟨S8256x1024, .f32⟩
  | .hbm, ⟨8, _⟩ => ⟨S8256x2816, .f32⟩
  | .hbm, ⟨9, _⟩ => ⟨S2816x1024, .f32⟩
  | .hbm, ⟨10, _⟩ => ⟨S8256x1024, .f32⟩
  | .hbm, ⟨11, _⟩ => ⟨S8256x1024, .f32⟩
  | .hbm, ⟨12, _⟩ => ⟨S_, .f32⟩
  | .hbm, ⟨13, _⟩ => ⟨S8256, .f32⟩
  | .hbm, ⟨14, _⟩ => ⟨S8256x1, .f32⟩
  | .hbm, ⟨15, _⟩ => ⟨S_, .f32⟩
  | .hbm, ⟨16, _⟩ => ⟨S8256x1, .f32⟩
  | .hbm, ⟨17, _⟩ => ⟨S8256x1, .f32⟩
  | .hbm, ⟨18, _⟩ => ⟨S8256x1024, .f32⟩
  | .hbm, ⟨19, _⟩ => ⟨S8256x1024, .f32⟩
  | .hbm, ⟨20, _⟩ => ⟨S8256x1024, .f32⟩
  | .hbm, ⟨21, _⟩ => ⟨S_, .f32⟩
  | .hbm, ⟨22, _⟩ => ⟨S8256, .f32⟩
  | .hbm, ⟨23, _⟩ => ⟨S8256x1, .f32⟩
  | .hbm, ⟨24, _⟩ => ⟨S_, .f32⟩
  | .hbm, ⟨25, _⟩ => ⟨S8256x1, .f32⟩
  | .hbm, ⟨26, _⟩ => ⟨S8256x1, .f32⟩
  | .hbm, ⟨27, _⟩ => ⟨S8256x1024, .f32⟩
  | .hbm, ⟨28, _⟩ => ⟨S8256x1024, .f32⟩
  | .hbm, ⟨29, _⟩ => ⟨S_, .f32⟩
  | .hbm, ⟨30, _⟩ => ⟨S8256x1, .f32⟩
  | .hbm, ⟨31, _⟩ => ⟨S8256x1, .f32⟩
  | .hbm, ⟨32, _⟩ => ⟨S8256x1, .f32⟩
  | .hbm, ⟨33, _⟩ => ⟨S8256x1024, .f32⟩
  | .hbm, ⟨34, _⟩ => ⟨S8256x1024, .f32⟩
  | .hbm, ⟨35, _⟩ => ⟨S8256x1024, .f32⟩
  | .hbm, ⟨36, _⟩ => ⟨S8256x1024, .f32⟩
  | .hbm, ⟨37, _⟩ => ⟨S8256x1024, .f32⟩
  | .hbm, ⟨38, _⟩ => ⟨S8256x1024, .f32⟩
  | .hbm, ⟨39, _⟩ => ⟨S8256x1024, .bf16⟩
  | .hbm, ⟨40, _⟩ => ⟨S8256x1024, .bf16⟩
  | _, _ => ⟨S8256x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== LnBwd.lean ====
abbrev S8256x1024 : Shape := ⟨2, ![8256, 1024]⟩
abbrev S1x1024 : Shape := ⟨2, ![1, 1024]⟩
abbrev S688x1024 : Shape := ⟨2, ![688, 1024]⟩
abbrev S688 : Shape := ⟨1, ![688]⟩
abbrev S688x1 : Shape := ⟨2, ![688, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S1x1024, .f32⟩
  | .hbm, ⟨3, _⟩ => ⟨S8256x1024, .bf16⟩
  | .hbm, ⟨4, _⟩ => ⟨S1x1024, .f32⟩
  | .hbm, ⟨5, _⟩ => ⟨S1x1024, .f32⟩
  | .local _ .vmem, ⟨0, _⟩ => ⟨S688x1024, .bf16⟩
  | .local _ .vmem, ⟨1, _⟩ => ⟨S688x1024, .bf16⟩
  | .local _ .vmem, ⟨2, _⟩ => ⟨S688x1024, .bf16⟩
  | .local _ .vmem, ⟨3, _⟩ => ⟨S688x1024, .bf16⟩
  | .local _ .vmem, ⟨4, _⟩ => ⟨S1x1024, .f32⟩
  | .local _ .vmem, ⟨5, _⟩ => ⟨S688x1024, .bf16⟩
  | .local _ .vmem, ⟨6, _⟩ => ⟨S688x1024, .bf16⟩
  | .local _ .vmem, ⟨7, _⟩ => ⟨S1x1024, .f32⟩
  | .local _ .vmem, ⟨8, _⟩ => ⟨S1x1024, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GradNormIdeal.lean ====
abbrev S8256x1024 : Shape := ⟨2, ![8256, 1024]⟩
abbrev S1x1024 : Shape := ⟨2, ![1, 1024]⟩
abbrev S_ : Shape := ⟨0, ![]⟩
abbrev S8256 : Shape := ⟨1, ![8256]⟩
abbrev S8256x1 : Shape := ⟨2, ![8256, 1]⟩
abbrev S1024 : Shape := ⟨1, ![1024]⟩

abbrev nBuf : Space → Nat
  | .hbm => 82
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S8256x1024, .f32⟩
  | .hbm, ⟨6, _⟩ => ⟨S_, .f32⟩
  | .hbm, ⟨7, _⟩ => ⟨S8256, .f32⟩
  | .hbm, ⟨8, _⟩ => ⟨S8256x1, .f32⟩
  | .hbm, ⟨9, _⟩ => ⟨S_, .f32⟩
  | .hbm, ⟨10, _⟩ => ⟨S8256x1, .f32⟩
  | .hbm, ⟨11, _⟩ => ⟨S8256x1, .f32⟩
  | .hbm, ⟨12, _⟩ => ⟨S8256x1024, .f32⟩
  | .hbm, ⟨13, _⟩ => ⟨S8256x1024, .f32⟩
  | .hbm, ⟨14, _⟩ => ⟨S8256x1024, .f32⟩
  | .hbm, ⟨15, _⟩ => ⟨S_, .f32⟩
  | .hbm, ⟨16, _⟩ => ⟨S8256x1024, .f32⟩
  | .hbm, ⟨17, _⟩ => ⟨S8256x1024, .f32⟩
  | .hbm, ⟨18, _⟩ => ⟨S_, .f32⟩
  | .hbm, ⟨19, _⟩ => ⟨S8256, .f32⟩
  | .hbm, ⟨20, _⟩ => ⟨S8256x1, .f32⟩
  | .hbm, ⟨21, _⟩ => ⟨S_, .f32⟩
  | .hbm, ⟨22, _⟩ => ⟨S8256x1, .f32⟩
  | .hbm, ⟨23, _⟩ => ⟨S8256x1, .f32⟩
  | .hbm, ⟨24, _⟩ => ⟨S8256x1024, .f32⟩
  | .hbm, ⟨25, _⟩ => ⟨S8256x1024, .f32⟩
  | .hbm, ⟨26, _⟩ => ⟨S_, .f32⟩
  | .hbm, ⟨27, _⟩ => ⟨S8256x1, .f32⟩
  | .hbm, ⟨28, _⟩ => ⟨S8256x1, .f32⟩
  | .hbm, ⟨29, _⟩ => ⟨S8256x1, .f32⟩
  | .hbm, ⟨30, _⟩ => ⟨S8256x1, .f32⟩
  | .hbm, ⟨31, _⟩ => ⟨S_, .f32⟩
  | .hbm, ⟨32, _⟩ => ⟨S8256x1, .f32⟩
  | .hbm, ⟨33, _⟩ => ⟨S8256x1, .f32⟩
  | .hbm, ⟨34, _⟩ => ⟨S8256x1024, .f32⟩
  | .hbm, ⟨35, _⟩ => ⟨S8256x1024, .f32⟩
  | .hbm, ⟨36, _⟩ => ⟨S8256x1024, .f32⟩
  | .hbm, ⟨37, _⟩ => ⟨S8256x1024, .f32⟩
  | .hbm, ⟨38, _⟩ => ⟨S8256x1024, .f32⟩
  | .hbm, ⟨39, _⟩ => ⟨S8256x1024, .f32⟩
  | .hbm, ⟨40, _⟩ => ⟨S8256x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S8256x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8256x1024, .f32⟩
  | .hbm, ⟨49, _⟩ => ⟨S8256x1024, .f32⟩
  | .hbm, ⟨50, _⟩ => ⟨S8256x1024, .f32⟩
  | .hbm, ⟨51, _⟩ => ⟨S_, .f32⟩
  | .hbm, ⟨52, _⟩ => ⟨S8256, .f32⟩
  | .hbm, ⟨53, _⟩ => ⟨S8256x1, .f32⟩
  | .hbm, ⟨54, _⟩ => ⟨S8256x1024, .f32⟩
  | .hbm, ⟨55, _⟩ => ⟨S8256x1024, .f32⟩
  | .hbm, ⟨56, _⟩ => ⟨S8256x1, .f32⟩
  | .hbm, ⟨57, _⟩ => ⟨S8256x1024, .f32⟩
  | .hbm, ⟨58, _⟩ => ⟨S_, .f32⟩
  | .hbm, ⟨59, _⟩ => ⟨S8256, .f32⟩
  | .hbm, ⟨60, _⟩ => ⟨S8256x1, .f32⟩
  | .hbm, ⟨61, _⟩ => ⟨S_, .f32⟩
  | .hbm, ⟨62, _⟩ => ⟨S8256x1, .f32⟩
  | .hbm, ⟨63, _⟩ => ⟨S8256x1, .f32⟩
  | .hbm, ⟨64, _⟩ => ⟨S_, .f32⟩
  | .hbm, ⟨65, _⟩ => ⟨S8256, .f32⟩
  | .hbm, ⟨66, _⟩ => ⟨S8256x1024, .f32⟩
  | .hbm, ⟨67, _⟩ => ⟨S8256x1024, .f32⟩
  | .hbm, ⟨68, _⟩ => ⟨S8256x1024, .f32⟩
  | .hbm, ⟨69, _⟩ => ⟨S_, .f32⟩
  | .hbm, ⟨70, _⟩ => ⟨S8256, .f32⟩
  | .hbm, ⟨71, _⟩ => ⟨S8256x1, .f32⟩
  | .hbm, ⟨72, _⟩ => ⟨S8256x1024, .f32⟩
  | .hbm, ⟨73, _⟩ => ⟨S8256x1, .f32⟩
  | .hbm, ⟨74, _⟩ => ⟨S_, .f32⟩
  | .hbm, ⟨75, _⟩ => ⟨S8256x1, .f32⟩
  | .hbm, ⟨76, _⟩ => ⟨S8256x1, .f32⟩
  | .hbm, ⟨77, _⟩ => ⟨S_, .f32⟩
  | .hbm, ⟨78, _⟩ => ⟨S8256, .f32⟩
  | .hbm, ⟨79, _⟩ => ⟨S8256x1024, .f32⟩
  | .hbm, ⟨80, _⟩ => ⟨S8256x1024, .f32⟩
  | .hbm, ⟨81, _⟩ => ⟨S8256x1024, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_10 : Ref sig .tc := ⟨.hbm, 58, rfl⟩
abbrev main_v44 : Ref sig .tc := ⟨.hbm, 59, rfl⟩
abbrev main_v45 : Ref sig .tc := ⟨.hbm, 60, rfl⟩
abbrev main_cst_11 : Ref sig .tc := ⟨.hbm, 61, rfl⟩
abbrev main_v46 : Ref sig .tc := ⟨.hbm, 62, rfl⟩
abbrev main_v47 : Ref sig .tc := ⟨.hbm, 63, rfl⟩
abbrev main_cst_12 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_13 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_14 : Ref sig .tc := ⟨.hbm, 74, rfl⟩
abbrev main_v56 : Ref sig .tc := ⟨.hbm, 75, rfl⟩
abbrev main_v57 : Ref sig .tc := ⟨.hbm, 76, rfl⟩
abbrev main_cst_15 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== Proof.Shapes.lean ====
module

public import proofs.«01_k».proof.Pre_off_floor
public import proofs.«01_k».proof.On_but_forget
public import Idealize.ShloMosaic.Lib.Affine
public import Idealize.ShloMosaic.Lib.Decide
public import Idealize.ShloMosaic.Lib.Exec

/-!
# The shape conditions of the second precondition and of the second mask
-/

@[expose] public section

set_option Elab.async false

namespace Cert.Pre_off_floor.Shapes

open Idealize.ShloMosaic Idealize.SL.Sem

theorem reducesTo_S2x512_S512_d0 : S2x512.ReducesTo [0] S512 := by decide
theorem h_S_ : 0 < S_.numel := by decide
theorem bcast_S_S512 : S_.BroadcastsInDim S512 (![] : Fin 0 → Fin S512.rank) := by decide
theorem bcast_S512_S1x512_1 : S512.BroadcastsInDim S1x512 (![1] : Fin 1 → Fin S1x512.rank) := by decide
theorem bcast_S1x512_S2x512_0_1 : S1x512.BroadcastsInDim S2x512 (![0, 1] : Fin 2 → Fin S2x512.rank) := by decide
theorem slices_S2x512_S1x512_0_0 : S2x512.Slices ![0, 0] S1x512 := by decide
theorem shapeCasts_S1x512_S512 : S1x512.ShapeCasts S512 := by decide
theorem slices_S2x512_S1x512_1_0 : S2x512.Slices ![1, 0] S1x512 := by decide
theorem slices_S8256x3072_S8256x512_0_512 : S8256x3072.Slices ![0, 512] S8256x512 := by decide
theorem bcast_S_S8256x512 : S_.BroadcastsInDim S8256x512 (![] : Fin 0 → Fin S8256x512.rank) := by decide
theorem bcast_S1x512_S8256x512_0_1 : S1x512.BroadcastsInDim S8256x512 (![0, 1] : Fin 2 → Fin S8256x512.rank) := by decide
theorem bcast_S_S8256x3072 : S_.BroadcastsInDim S8256x3072 (![] : Fin 0 → Fin S8256x3072.rank) := by decide
theorem reducesTo_S8256x3072_S_d0_1 : S8256x3072.ReducesTo [0, 1] S_ := by decide
theorem bitsLt_bf16_f32 : FTy.bits .bf16 < FTy.bits .f32 := by decide
theorem bcast_S_S8256x1024 : S_.BroadcastsInDim S8256x1024 (![] : Fin 0 → Fin S8256x1024.rank) := by decide
theorem reducesTo_S8256x1024_S_d0_1 : S8256x1024.ReducesTo [0, 1] S_ := by decide
theorem bcast_S_S2x512 : S_.BroadcastsInDim S2x512 (![] : Fin 0 → Fin S2x512.rank) := by decide
theorem reducesTo_S2x512_S_d0_1 : S2x512.ReducesTo [0, 1] S_ := by decide
theorem bcast_S_S1x128 : S_.BroadcastsInDim S1x128 (![] : Fin 0 → Fin S1x128.rank) := by decide
theorem reducesTo_S1x128_S_d0_1 : S1x128.ReducesTo [0, 1] S_ := by decide
theorem reducesTo_S8256x512_S_d0_1 : S8256x512.ReducesTo [0, 1] S_ := by decide

/-- The conditions `Pre_off_floor` states on its shapes. -/
instance facts : Cert.Pre_off_floor.Facts where
  reducesTo_S2x512_S512_d0 := @reducesTo_S2x512_S512_d0
  h_S_ := @h_S_
  bcast_S_S512 := @bcast_S_S512
  bcast_S512_S1x512_1 := @bcast_S512_S1x512_1
  bcast_S1x512_S2x512_0_1 := @bcast_S1x512_S2x512_0_1
  slices_S2x512_S1x512_0_0 := @slices_S2x512_S1x512_0_0
  shapeCasts_S1x512_S512 := @shapeCasts_S1x512_S512
  slices_S2x512_S1x512_1_0 := @slices_S2x512_S1x512_1_0
  slices_S8256x3072_S8256x512_0_512 := @slices_S8256x3072_S8256x512_0_512
  bcast_S_S8256x512 := @bcast_S_S8256x512
  bcast_S1x512_S8256x512_0_1 := @bcast_S1x512_S8256x512_0_1
  bcast_S_S8256x3072 := @bcast_S_S8256x3072
  reducesTo_S8256x3072_S_d0_1 := @reducesTo_S8256x3072_S_d0_1
  bitsLt_bf16_f32 := @bitsLt_bf16_f32
  bcast_S_S8256x1024 := @bcast_S_S8256x1024
  reducesTo_S8256x1024_S_d0_1 := @reducesTo_S8256x1024_S_d0_1
  bcast_S_S2x512 := @bcast_S_S2x512
  reducesTo_S2x512_S_d0_1 := @reducesTo_S2x512_S_d0_1
  bcast_S_S1x128 := @bcast_S_S1x128
  reducesTo_S1x128_S_d0_1 := @reducesTo_S1x128_S_d0_1
  reducesTo_S8256x512_S_d0_1 := @reducesTo_S8256x512_S_d0_1

end Cert.Pre_off_floor.Shapes

namespace Cert.On_but_forget.Shapes

open Idealize.ShloMosaic Idealize.SL.Sem

theorem bcast_S_S8256x3072 : S_.BroadcastsInDim S8256x3072 (![] : Fin 0 → Fin S8256x3072.rank) := by decide
theorem bcast_S_S2x512 : S_.BroadcastsInDim S2x512 (![] : Fin 0 → Fin S2x512.rank) := by decide
theorem bcast_S_S1x128 : S_.BroadcastsInDim S1x128 (![] : Fin 0 → Fin S1x128.rank) := by decide

/-- The conditions `On_but_forget` states on its shapes. -/
instance facts : Cert.On_but_forget.Facts where
  bcast_S_S8256x3072 := @bcast_S_S8256x3072
  bcast_S_S2x512 := @bcast_S_S2x512
  bcast_S_S1x128 := @bcast_S_S1x128

end Cert.On_but_forget.Shapes
-- ==== Proof.Block.lean ====
module

public import proofs.«01_k».proof.Proof.Gen.KernelIdeal

/-! What the kernel does with one block of sixteen rows, as functions of the arrays that it loads: the gates and their
    running logarithm, the gradient of the normalised and gated output, the gradients of query, key and value inside
    the block and through the state, and the gradient of the decay. Every definition holds over any float values. -/

@[expose] public section

noncomputable section

namespace Cert.KernelIdeal.Hgrn

open Idealize.ShloMosaic Idealize.SL.Sem Cert.KernelIdeal.Gen

variable {F : FTy → Type} [FloatOps F]

theorem slices_head (h : Fin 4) : S16x512.Slices ![0, 128 * h.val] S16x128 := by revert h; decide
theorem slices_headRow (h : Fin 4) : S1x512.Slices ![0, 128 * h.val] S1x128 := by revert h; decide
theorem slices_amat (h : Fin 4) : S16x64.Slices ![0, 16 * h.val] S16x16 := by revert h; decide
theorem slices_row (s : Fin 16) : S16x128.Slices ![s.val, 0] S1x128 := by revert s; decide
theorem slices_col (s : Fin 16) : S16x16.Slices ![0, s.val] S16x1 := by revert s; decide

/-- The array that holds one float word everywhere. -/
def const (s : Shape) (w : BitVec 32) : FVec F s .f32 := broadcast s (Scalar.ofBits .f32 w : F .f32)

/-- Head `h` of an array of four heads side by side. -/
def hd {φ : FTy} (h : Fin 4) (x : FVec F S16x512 φ) : FVec F S16x128 φ :=
  extractStridedSlice S16x128 ![0, 128 * h.val] x (slices_head h)

/-- Four heads side by side. -/
def cat (a b c d : FVec F S16x128 .f32) : FVec F S16x512 .f32 :=
  concatenate S16x512 1 [⟨S16x128, a⟩, ⟨S16x128, b⟩, ⟨S16x128, c⟩, ⟨S16x128, d⟩] concatenates_S16x128_S16x128_S16x128_S16x128_S16x512_d1

/-! ## The lower bound and the gates -/

/-- The exponentials of the two rows less their maximum. -/
def ex (b b0 b1 : FVec F S1x512 .f32) : FVec F S1x512 .f32 := exp (subf b (maximumf b0 b1))
def p0 (b0 b1 : FVec F S1x512 .f32) : FVec F S1x512 .f32 := divf (ex b0 b0 b1) (addf (ex b0 b0 b1) (ex b1 b0 b1))
def p1 (b0 b1 : FVec F S1x512 .f32) : FVec F S1x512 .f32 := divf (ex b1 b0 b1) (addf (ex b0 b0 b1) (ex b1 b0 b1))
/-- The second layer's lower bound of the forget gate. -/
def lbRow (b0 b1 : FVec F S1x512 .f32) : FVec F S1x512 .f32 := subf (addf (p0 b0 b1) (p1 b0 b1)) (p0 b0 b1)
/-- One less the lower bound, on every row. -/
def gap (lb : FVec F S1x512 .f32) : FVec F S16x512 .f32 :=
  broadcastTo S16x512 (subf (const S1x512 0x3F800000#32) lb) broadcasts_S1x512_S16x512
/-- The forget gate. -/
def fg (lb : FVec F S1x512 .f32) (fz : FVec F S16x512 .f32) : FVec F S16x512 .f32 :=
  addf (broadcastTo S16x512 lb broadcasts_S1x512_S16x512) (mulf (gap lb) (logistic fz))
/-- The key. -/
def kg (lb : FVec F S1x512 .f32) (fz : FVec F S16x512 .f32) : FVec F S16x512 .f32 :=
  mulf (gap lb) (subf (const S16x512 0x3F800000#32) (logistic fz))
/-- The gate's logarithm. -/
def lg (lb : FVec F S1x512 .f32) (fz : FVec F S16x512 .f32) : FVec F S16x512 .f32 :=
  log (maximumf (fg lb fz) (const S16x512 0x0DA24260#32))

/-- The row's number. -/
def rowNo : IVec S16x512 32 := iota .tc S16x512 32 [0] iota_S16x512_d0_w32
/-- Adds to each row the one `n` above it. -/
def addUp (n : BitVec 32) (x : FVec F S16x512 .f32) : FVec F S16x512 .f32 :=
  addf x (select (cmpi .sge rowNo (broadcast S16x512 n)) (dynamicRotate 0 n none x rotates_S16x512_d0) (const S16x512 0x00000000#32))
/-- The sum of the rows up to each one. -/
def csum (x : FVec F S16x512 .f32) : FVec F S16x512 .f32 := addUp 8#32 (addUp 4#32 (addUp 2#32 (addUp 1#32 x)))
/-- Adds to each row the one `16 - n` below it. -/
def addDown (n : BitVec 32) (x : FVec F S16x512 .f32) : FVec F S16x512 .f32 :=
  addf x (select (cmpi .slt rowNo (broadcast S16x512 n)) (dynamicRotate 0 n none x rotates_S16x512_d0) (const S16x512 0x00000000#32))

/-- The running logarithm of the gates inside the block. -/
def gc (lb : FVec F S1x512 .f32) (fz : FVec F S16x512 .f32) : FVec F S16x512 .f32 := csum (lg lb fz)
/-- Its last row. -/
def gl (lb : FVec F S1x512 .f32) (fz : FVec F S16x512 .f32) : FVec F S1x512 .f32 :=
  extractStridedSlice S1x512 ![15, 0] (gc lb fz) slices_S16x512_o15_0_S1x512
/-- The decay from the block's beginning to each row. -/
def eG (lb : FVec F S1x512 .f32) (fz : FVec F S16x512 .f32) : FVec F S16x512 .f32 := exp (gc lb fz)
/-- The decay from each row to the block's end. -/
def edl (lb : FVec F S1x512 .f32) (fz : FVec F S16x512 .f32) : FVec F S16x512 .f32 :=
  exp (subf (broadcastTo S16x512 (gl lb fz) broadcasts_S1x512_S16x512) (gc lb fz))

/-! ## The normalised and gated output -/

/-- The mean of a row's entries. -/
def mean (x : FVec F S16x128 .f32) : FVec F S16x1 .f32 :=
  divf (shapeCast S16x1 (multiReduction .add [1] S16 x 0x00000000#32 reduces_S16x128_S16 (.inl rfl) rfl) shapeCasts_S16_S16x1)
    (const S16x1 0x43000000#32)
/-- A row's reciprocal root mean square. -/
def rms (o : FVec F S16x128 .f32) : FVec F S16x1 .f32 := rsqrt (addf (mean (mulf o o)) (const S16x1 0x358637BD#32))
/-- A row's scalar on each of its entries. -/
def wide (x : FVec F S16x1 .f32) : FVec F S16x128 .f32 := broadcastTo S16x128 x broadcasts_S16x1_S16x128
/-- The normalised output. -/
def onh (o : FVec F S16x128 .f32) : FVec F S16x128 .f32 := mulf o (wide (rms o))
/-- The gradient before the gate. -/
def dyn (dy gz : FVec F S16x512 .f32) : FVec F S16x512 .f32 := mulf dy (mulf gz (logistic gz))
/-- The sum of the rows. -/
def colSum (x : FVec F S16x128 .f32) : FVec F S1x128 .f32 :=
  shapeCast S1x128 (multiReduction .add [0] S128 x 0x00000000#32 reduces_S16x128_S128 (.inl rfl) rfl) shapeCasts_S128_S1x128
/-- The gradient of a head's output before normalisation, from that before the gate `dn` and the gain `gn`. -/
def doh (gn : FVec F S1x128 .f32) (dn o : FVec F S16x128 .f32) : FVec F S16x128 .f32 :=
  mulf (wide (rms o)) (subf (mulf dn (broadcastTo S16x128 gn broadcasts_S1x128_S16x128))
    (mulf (onh o) (wide (mean (mulf (mulf dn (broadcastTo S16x128 gn broadcasts_S1x128_S16x128)) (onh o))))))
/-- The gradient of the gain from the block. -/
def dgn (dn o : FVec F S16x512 .f32) : FVec F S1x128 .f32 :=
  addf (addf (addf (addf (const S1x128 0x00000000#32) (colSum (mulf (hd 0 dn) (onh (hd 0 o))))) (colSum (mulf (hd 1 dn) (onh (hd 1 o)))))
    (colSum (mulf (hd 2 dn) (onh (hd 2 o))))) (colSum (mulf (hd 3 dn) (onh (hd 3 o))))
/-- The normalised output of all heads. -/
def onAll (o : FVec F S16x512 .f32) : FVec F S16x512 .f32 := cat (onh (hd 0 o)) (onh (hd 1 o)) (onh (hd 2 o)) (onh (hd 3 o))
/-- The gradient of the output gate. -/
def dgz (gn : FVec F S1x128 .f32) (gz dy o : FVec F S16x512 .f32) : FVec F S16x512 .f32 :=
  mulf (mulf (mulf dy (onAll o))
      (broadcastTo S16x512 (concatenate S1x512 1 [⟨S1x128, gn⟩, ⟨S1x128, gn⟩, ⟨S1x128, gn⟩, ⟨S1x128, gn⟩] concatenates_S1x128_S1x128_S1x128_S1x128_S1x512_d1) broadcasts_S1x512_S16x512))
    (mulf (logistic gz) (addf (const S16x512 0x3F800000#32) (mulf gz (subf (const S16x512 0x3F800000#32) (logistic gz)))))
/-- The gradient of the recurrence's output. -/
def dob (gn : FVec F S1x128 .f32) (dn o : FVec F S16x512 .f32) : FVec F S16x512 .bf16 :=
  truncf .bf16 (cat (doh gn (hd 0 dn) (hd 0 o)) (doh gn (hd 1 dn) (hd 1 o)) (doh gn (hd 2 dn) (hd 2 o)) (doh gn (hd 3 dn) (hd 3 o))) bitsLt_bf16_f32

/-! ## The recurrence's gradients inside a block, of one head -/

/-- The products of two arrays' rows. -/
def gram (a b : FVec F S16x128 .bf16) : FVec F S16x16 .f32 :=
  matmul dot_S16x128_S16x128_S16x16_1_1_0_0_n_n none a b (constant S16x16 .f32 0x00000000#32)
def r16 : IVec S16x16 32 := iota .tc S16x16 32 [0] iota_S16x16_d0_w32
def c16 : IVec S16x16 32 := iota .tc S16x16 32 [1] iota_S16x16_d1_w32
/-- The gradient of the weights, on and below the diagonal. -/
def lower (d i : FVec F S16x128 .bf16) : FVec F S16x16 .f32 := select (cmpi .sge r16 c16) (gram d i) (const S16x16 0x00000000#32)
/-- Its transpose. -/
def upper (i d : FVec F S16x128 .bf16) : FVec F S16x16 .f32 := select (cmpi .sle r16 c16) (gram i d) (const S16x16 0x00000000#32)
/-- One row on every row. -/
def spread (x : FVec F S1x128 .f32) : FVec F S16x128 .f32 := broadcastTo S16x128 x broadcasts_S1x128_S16x128
def rowAt (s : Fin 16) (x : FVec F S16x128 .f32) : FVec F S1x128 .f32 := extractStridedSlice S1x128 ![s.val, 0] x (slices_row s)
/-- The decay between each row and row `s`. -/
def decayTo (G : FVec F S16x128 .f32) (s : Fin 16) : FVec F S16x128 .f32 :=
  exp (minimumf (subf G (spread (rowAt s G))) (subf (const S16x128 0x00000000#32) (subf G (spread (rowAt s G)))))
/-- Adds row `s` of `x`, decayed, with the weights of column `s`. -/
def addRow (A : FVec F S16x16 .f32) (G x : FVec F S16x128 .f32) (s : Fin 16) (acc : FVec F S16x128 .f32) : FVec F S16x128 .f32 :=
  addf acc (mulf (wide (extractStridedSlice S16x1 ![0, s.val] A (slices_col s))) (mulf (decayTo G s) (spread (rowAt s x))))
/-- One step for each of the sixteen rows. -/
def sweep {α : Type} (f : Fin 16 → α → α) (z : α) : α :=
  f 15 (f 14 (f 13 (f 12 (f 11 (f 10 (f 9 (f 8 (f 7 (f 6 (f 5 (f 4 (f 3 (f 2 (f 1 (f 0 z)))))))))))))))
def intra (A : FVec F S16x16 .f32) (G x : FVec F S16x128 .f32) : FVec F S16x128 .f32 := sweep (addRow A G x) (const S16x128 0x00000000#32)

/-- A product with a head's state. -/
def mul (x : FVec F S16x128 .bf16) (S : FVec F S128x128 .bf16) : FVec F S16x128 .f32 :=
  matmul dot_S16x128_S128x128_S16x128_1_0_0_1_n_n none x S (constant S16x128 .f32 0x00000000#32)
def flat {φ : FTy} (S : FVec F S1x128x128 φ) : FVec F S128x128 φ := shapeCast S128x128 S shapeCasts_S1x128x128_S128x128
def thick {φ : FTy} (S : FVec F S128x128 φ) : FVec F S1x128x128 φ := shapeCast S1x128x128 S shapeCasts_S128x128_S1x128x128
def half (S : FVec F S1x128x128 .f32) : FVec F S128x128 .bf16 := truncf .bf16 (flat S) bitsLt_bf16_f32

/-- What one block of rows reads: the block's rows of each input, the four heads of the state before the block, and
    what the blocks below left: the gradient of the state, the state that they began with, and two running sums. -/
structure In (F : FTy → Type) where
  q : FVec F S16x512 .f32
  fz : FVec F S16x512 .f32
  i : FVec F S16x512 .f32
  gz : FVec F S16x512 .f32
  o : FVec F S16x512 .f32
  dy : FVec F S16x512 .bf16
  a : FVec F S16x64 .f32
  s : Fin 4 → FVec F S1x128x128 .bf16
  b0 : FVec F S1x512 .f32
  b1 : FVec F S1x512 .f32
  gn : FVec F S1x128 .f32
  ds : Fin 4 → FVec F S1x128x128 .f32
  nx : Fin 4 → FVec F S1x128x128 .bf16

namespace In
variable (I : In F)

def lb : FVec F S1x512 .f32 := lbRow I.b0 I.b1
/-- The scaled query. -/
def qs : FVec F S16x512 .f32 := mulf I.q (const S16x512 0x3DB504F3#32)
def k : FVec F S16x512 .f32 := kg I.lb I.fz
def ib : FVec F S16x512 .bf16 := truncf .bf16 I.i bitsLt_bf16_f32
def dyf : FVec F S16x512 .f32 := extf .f32 I.dy bitsLt_bf16_f32
def dn : FVec F S16x512 .f32 := dyn I.dyf I.gz
def os : FVec F S16x512 .f32 := shapeCast S16x512 I.o shapeCasts_S16x512_S16x512
def d : FVec F S16x512 .bf16 := dob I.gn I.dn I.os
/-- The query with its decay from the block's beginning. -/
def qt : FVec F S16x512 .bf16 := truncf .bf16 (mulf I.qs (eG I.lb I.fz)) bitsLt_bf16_f32
/-- The key with its decay to the block's end. -/
def kd : FVec F S16x512 .bf16 := truncf .bf16 (mulf I.k (edl I.lb I.fz)) bitsLt_bf16_f32
def am (h : Fin 4) : FVec F S16x16 .bf16 :=
  truncf .bf16 (extractStridedSlice S16x16 ![0, 16 * h.val] (shapeCast S16x64 I.a shapeCasts_S16x64_S16x64) (slices_amat h)) bitsLt_bf16_f32

/-- The query's gradient of one head. -/
def dqh (h : Fin 4) : FVec F S16x128 .f32 :=
  addf (intra (lower (hd h I.d) (hd h I.ib)) (hd h (gc I.lb I.fz)) (hd h I.k))
    (mulf (hd h (eG I.lb I.fz)) (mul (hd h I.d) (flat (I.s h))))
/-- The key's gradient of one head. -/
def dkh (h : Fin 4) : FVec F S16x128 .f32 :=
  addf (intra (upper (hd h I.ib) (hd h I.d)) (hd h (gc I.lb I.fz)) (hd h I.qs))
    (mulf (hd h (edl I.lb I.fz)) (mul (hd h I.ib) (half (I.ds h))))
/-- The value's gradient of one head. -/
def dih (h : Fin 4) : FVec F S16x128 .f32 :=
  addf (matmul dot_S16x16_S16x128_S16x128_0_0_1_1_n_n none (I.am h) (hd h I.d) (constant S16x128 .f32 0x00000000#32))
    (matmul dot_S16x128_S128x128_S16x128_1_1_0_0_n_n none (hd h I.kd) (half (I.ds h)) (constant S16x128 .f32 0x00000000#32))
/-- The part of the decay's gradient that passes through the state at the block's end. -/
def tailh (h : Fin 4) : FVec F S1x128 .f32 :=
  shapeCast S1x128 (multiReduction .add [0] S128 (mulf (flat (I.ds h)) (extf .f32 (flat (I.nx h)) bitsLt_bf16_f32)) 0x00000000#32
    reduces_S128x128_S128 (.inl rfl) rfl) shapeCasts_S128_S1x128
/-- The state's gradient at the block's beginning. -/
def dsNew (h : Fin 4) : FVec F S1x128x128 .f32 :=
  thick (addf (mulf (broadcastTo S128x128 (extractStridedSlice S1x128 ![0, 128 * h.val] (exp (gl I.lb I.fz)) (slices_headRow h)) broadcasts_S1x128_S128x128)
      (flat (I.ds h)))
    (matmul dot_S16x128_S16x128_S128x128_0_0_1_1_n_n none (hd h I.d) (hd h I.qt) (constant S128x128 .f32 0x00000000#32)))
def nxNew (h : Fin 4) : FVec F S1x128x128 .bf16 := thick (flat (I.s h))

def dq : FVec F S16x512 .f32 := cat (I.dqh 0) (I.dqh 1) (I.dqh 2) (I.dqh 3)
def dk : FVec F S16x512 .f32 := cat (I.dkh 0) (I.dkh 1) (I.dkh 2) (I.dkh 3)
def di : FVec F S16x512 .f32 := cat (I.dih 0) (I.dih 1) (I.dih 2) (I.dih 3)
def tail : FVec F S1x512 .f32 :=
  concatenate S1x512 1 [⟨S1x128, I.tailh 0⟩, ⟨S1x128, I.tailh 1⟩, ⟨S1x128, I.tailh 2⟩, ⟨S1x128, I.tailh 3⟩] concatenates_S1x128_S1x128_S1x128_S1x128_S1x512_d1
/-- The decay's gradient. -/
def dg : FVec F S16x512 .f32 :=
  addf (addDown 8#32 (addDown 12#32 (addDown 14#32 (addDown 15#32 (subf (mulf I.qs I.dq) (mulf I.k I.dk))))))
    (broadcastTo S16x512 I.tail broadcasts_S1x512_S16x512)
/-- The gradient of the forget gate and of the key together. -/
def dfk : FVec F S16x512 .f32 :=
  subf (select (cmpf .ogt (fg I.lb I.fz) (const S16x512 0x0DA24260#32)) (divf I.dg (fg I.lb I.fz)) (const S16x512 0x00000000#32)) I.dk
def dfz : FVec F S16x512 .f32 :=
  mulf (mulf (mulf (gap I.lb) I.dfk) (logistic I.fz)) (subf (const S16x512 0x3F800000#32) (logistic I.fz))
/-- The block's sixteen rows of the result. -/
def dh : FVec F S16x2048 .bf16 :=
  truncf .bf16 (concatenate S16x2048 1 [⟨S16x512, mulf I.dq (const S16x512 0x3DB504F3#32)⟩, ⟨S16x512, I.dfz⟩, ⟨S16x512, I.di⟩, ⟨S16x512, dgz I.gn I.gz I.dyf I.os⟩]
    concatenates_S16x512_S16x512_S16x512_S16x512_S16x2048_d1) bitsLt_bf16_f32
/-- The gain's gradient with the block's part added. -/
def gNew (g : FVec F S1x128 .f32) : FVec F S1x128 .f32 := addf (shapeCast S1x128 g shapeCasts_S1x128_S1x128) (dgn I.dn I.os)
/-- The lower bound's gradient with the block's part added. -/
def lNew (l : FVec F S1x512 .f32) : FVec F S1x512 .f32 :=
  shapeCast S1x512 (addf l (shapeCast S1x512 (multiReduction .add [0] S512 (mulf I.dfk (subf (const S16x512 0x3F800000#32) (logistic I.fz))) 0x00000000#32
    reduces_S16x512_S512 (.inl rfl) rfl) shapeCasts_S512_S1x512)) shapeCasts_S1x512_S1x512

end In

/-- The lower bound's gradient through the softmax: one row and its negative. -/
def dlb (b0 b1 l : FVec F S1x512 .f32) : FVec F S2x512 .f32 :=
  concatenate S2x512 0 [⟨S1x512, subf (const S1x512 0x00000000#32) (mulf (mulf (p0 b0 b1) (p1 b0 b1)) l)⟩, ⟨S1x512, mulf (mulf (p0 b0 b1) (p1 b0 b1)) l⟩]
    concatenates_S1x512_S1x512_S2x512_d0

end Cert.KernelIdeal.Hgrn

end
-- ==== Proof.TripIn.lean ====
module

public import proofs.«01_k».proof.Proof.Gen.KernelIdeal.Loops
public import proofs.«01_k».proof.Proof.Block

/-! The rows that one trip of the kernel's loop reads, and the pieces that four heads' states make. -/

@[expose] public section

set_option maxRecDepth 8192
set_option maxHeartbeats 4000000

noncomputable section

namespace Cert.KernelIdeal.Hgrn

open Idealize.ShloMosaic Idealize.SL.Sem Cert.KernelIdeal.Gen

variable {F : FTy → Type} [FloatOps F]

/-- The rows of one block that a trip reads, out of the arrays in the cells. -/
def In.of (arg1 : Memref sig .tc .vmem S192x512 .f32) (arg2 : Memref sig .tc .vmem S192x512 .f32) (arg3 : Memref sig .tc .vmem S192x512 .f32) (arg4 : Memref sig .tc .vmem S192x512 .f32) (arg5 : Memref sig .tc .vmem S192x512 .f32) (arg6 : Memref sig .tc .vmem S12x512x128 .bf16) (arg7 : Memref sig .tc .vmem S192x64 .f32) (arg8 : Memref sig .tc .vmem S192x512 .bf16) (arg14 : Memref sig .tc .vmem S4x128x128 .f32) (arg16 : Memref sig .tc .vmem S4x128x128 .bf16) (v3 v4 : Vec F S1x512 .f32) (v16 : Vec F S1x128 .f32)
    (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) (f_arg14 : BufTy.Contents (Elt F) arg14.view.ty) (f_arg16 : BufTy.Contents (Elt F) arg16.view.ty) : In F where
  q := arg1.view.readAt (Elt F) (Rect.unit (s := S192x512) (k0_off1 k) S16x512.size (k0_off1_inb k)).toLoadRect X_arg1
  fz := arg2.view.readAt (Elt F) (Rect.unit (s := S192x512) (k0_off1 k) S16x512.size (k0_off1_inb k)).toLoadRect X_arg2
  i := arg3.view.readAt (Elt F) (Rect.unit (s := S192x512) (k0_off1 k) S16x512.size (k0_off1_inb k)).toLoadRect X_arg3
  gz := arg4.view.readAt (Elt F) (Rect.unit (s := S192x512) (k0_off1 k) S16x512.size (k0_off1_inb k)).toLoadRect X_arg4
  o := arg5.view.readAt (Elt F) (Rect.unit (s := S192x512) (k0_off1 k) S16x512.size (k0_off1_inb k)).toLoadRect X_arg5
  dy := arg8.view.readAt (Elt F) (Rect.unit (s := S192x512) (k0_off1 k) S16x512.size (k0_off1_inb k)).toLoadRect X_arg8
  a := arg7.view.readAt (Elt F) (Rect.unit (s := S192x64) (k0_off2 k) S16x64.size (k0_off2_inb k)).toLoadRect X_arg7
  s := fun | 0 => arg6.view.readAt (Elt F) (Rect.unit (s := S12x512x128) (k0_off3 k) S1x128x128.size (k0_off3_inb k)).toLoadRect X_arg6
           | 1 => arg6.view.readAt (Elt F) (Rect.unit (s := S12x512x128) (k0_off4 k) S1x128x128.size (k0_off4_inb k)).toLoadRect X_arg6
           | 2 => arg6.view.readAt (Elt F) (Rect.unit (s := S12x512x128) (k0_off5 k) S1x128x128.size (k0_off5_inb k)).toLoadRect X_arg6
           | 3 => arg6.view.readAt (Elt F) (Rect.unit (s := S12x512x128) (k0_off6 k) S1x128x128.size (k0_off6_inb k)).toLoadRect X_arg6
  b0 := v3
  b1 := v4
  gn := v16
  ds := fun | 0 => arg14.view.readAt (Elt F) (Rect.unit (s := S4x128x128) ![0, 0, 0] S1x128x128.size inb_S4x128x128_S1x128x128_0_0_0).toLoadRect f_arg14
            | 1 => arg14.view.readAt (Elt F) (Rect.unit (s := S4x128x128) ![1, 0, 0] S1x128x128.size inb_S4x128x128_S1x128x128_1_0_0).toLoadRect f_arg14
            | 2 => arg14.view.readAt (Elt F) (Rect.unit (s := S4x128x128) ![2, 0, 0] S1x128x128.size inb_S4x128x128_S1x128x128_2_0_0).toLoadRect f_arg14
            | 3 => arg14.view.readAt (Elt F) (Rect.unit (s := S4x128x128) ![3, 0, 0] S1x128x128.size inb_S4x128x128_S1x128x128_3_0_0).toLoadRect f_arg14
  nx := fun | 0 => arg16.view.readAt (Elt F) (Rect.unit (s := S4x128x128) ![0, 0, 0] S1x128x128.size inb_S4x128x128_S1x128x128_0_0_0).toLoadRect f_arg16
            | 1 => arg16.view.readAt (Elt F) (Rect.unit (s := S4x128x128) ![1, 0, 0] S1x128x128.size inb_S4x128x128_S1x128x128_1_0_0).toLoadRect f_arg16
            | 2 => arg16.view.readAt (Elt F) (Rect.unit (s := S4x128x128) ![2, 0, 0] S1x128x128.size inb_S4x128x128_S1x128x128_2_0_0).toLoadRect f_arg16
            | 3 => arg16.view.readAt (Elt F) (Rect.unit (s := S4x128x128) ![3, 0, 0] S1x128x128.size inb_S4x128x128_S1x128x128_3_0_0).toLoadRect f_arg16

/-- The pieces of four heads' states. -/
def heads (e : EltTy) (f : Fin 4 → Vec F S1x128x128 e) : List (View.Piece (Elt F) S4x128x128 e) :=
  [⟨Rect.unit (s := S4x128x128) ![3, 0, 0] S1x128x128.size inb_S4x128x128_S1x128x128_3_0_0, f 3⟩, ⟨Rect.unit (s := S4x128x128) ![2, 0, 0] S1x128x128.size inb_S4x128x128_S1x128x128_2_0_0, f 2⟩,
    ⟨Rect.unit (s := S4x128x128) ![1, 0, 0] S1x128x128.size inb_S4x128x128_S1x128x128_1_0_0, f 1⟩, ⟨Rect.unit (s := S4x128x128) ![0, 0, 0] S1x128x128.size inb_S4x128x128_S1x128x128_0_0_0, f 0⟩]

end Cert.KernelIdeal.Hgrn

end
-- ==== Proof.TripHead0.lean ====
module

public import proofs.«01_k».proof.Proof.Gen.KernelIdeal.Loops
public import proofs.«01_k».proof.Proof.TripIn

/-! What one trip of the loop computes of the first head. -/

@[expose] public section

set_option maxRecDepth 8192
set_option maxHeartbeats 4000000

noncomputable section

namespace Cert.KernelIdeal.Hgrn

open Idealize.ShloMosaic Idealize.SL.Sem Cert.KernelIdeal.Gen

variable {F : FTy → Type} [FloatOps F]

section
variable (𝒱 : Variants) (c : Dev nD) (bd : Option 𝒱.V) (i : grid0.Coords) (arg1 : Memref sig .tc .vmem S192x512 .f32) (harg1 : arg1.IsWhole) (arg2 : Memref sig .tc .vmem S192x512 .f32) (harg2 : arg2.IsWhole) (arg3 : Memref sig .tc .vmem S192x512 .f32) (harg3 : arg3.IsWhole) (arg4 : Memref sig .tc .vmem S192x512 .f32) (harg4 : arg4.IsWhole) (arg5 : Memref sig .tc .vmem S192x512 .f32) (harg5 : arg5.IsWhole) (arg6 : Memref sig .tc .vmem S12x512x128 .bf16) (harg6 : arg6.IsWhole) (arg7 : Memref sig .tc .vmem S192x64 .f32) (harg7 : arg7.IsWhole) (arg8 : Memref sig .tc .vmem S192x512 .bf16) (harg8 : arg8.IsWhole) (arg9 : Memref sig .tc .vmem S2x512 .f32) (harg9 : arg9.IsWhole) (arg10 : Memref sig .tc .vmem S1x128 .f32) (harg10 : arg10.IsWhole) (arg11 : Memref sig .tc .vmem S192x2048 .bf16) (harg11 : arg11.IsWhole) (arg12 : Memref sig .tc .vmem S2x512 .f32) (harg12 : arg12.IsWhole) (arg13 : Memref sig .tc .vmem S1x128 .f32) (harg13 : arg13.IsWhole) (arg14 : Memref sig .tc .vmem S4x128x128 .f32) (harg14 : arg14.IsWhole) (arg15 : Memref sig .tc .vmem S1x512 .f32) (harg15 : arg15.IsWhole) (arg16 : Memref sig .tc .vmem S4x128x128 .bf16) (harg16 : arg16.IsWhole) (v3 : Vec F S1x512 .f32) (v4 : Vec F S1x512 .f32) (v16 : Vec F S1x128 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) (f_arg11 : BufTy.Contents (Elt F) arg11.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty)

local notation "theIn" => In.of arg1 arg2 arg3 arg4 arg5 arg6 arg7 arg8 arg14 arg16 v3 v4 v16 X_arg1 X_arg2 X_arg3 X_arg4 X_arg5 X_arg6 X_arg7 X_arg8 k f_arg14 f_arg16
theorem head0_dqh : (trip_k0_t1.sl.r_68 arg2 arg3 arg4 arg5 arg6 arg8 v3 v4 v16 r16 c16 X_arg2 X_arg3 X_arg4 X_arg5 X_arg6 X_arg8 k) = (theIn).dqh 0 := rfl

theorem head0_dkh : (trip_k0_t1.sl.r_69 arg1 arg2 arg3 arg4 arg5 arg8 arg14 v3 v4 v16 r16 c16 X_arg1 X_arg2 X_arg3 X_arg4 X_arg5 X_arg8 k f_arg14) = (theIn).dkh 0 := rfl

theorem head0_dih : (trip_k0_t1.sl.r_70 arg2 arg4 arg5 arg7 arg8 arg14 v3 v4 v16 X_arg2 X_arg4 X_arg5 X_arg7 X_arg8 k f_arg14) = (theIn).dih 0 := rfl

theorem head0_tailh : (trip_k0_t1.sl.r_71 arg14 arg16 f_arg14 f_arg16) = (theIn).tailh 0 := rfl

end

end Cert.KernelIdeal.Hgrn

end
-- ==== Proof.TripHead1.lean ====
module

public import proofs.«01_k».proof.Proof.Gen.KernelIdeal.Loops
public import proofs.«01_k».proof.Proof.TripIn

/-! What one trip of the loop computes of the second head. -/

@[expose] public section

set_option maxRecDepth 8192
set_option maxHeartbeats 4000000

noncomputable section

namespace Cert.KernelIdeal.Hgrn

open Idealize.ShloMosaic Idealize.SL.Sem Cert.KernelIdeal.Gen

variable {F : FTy → Type} [FloatOps F]

section
variable (𝒱 : Variants) (c : Dev nD) (bd : Option 𝒱.V) (i : grid0.Coords) (arg1 : Memref sig .tc .vmem S192x512 .f32) (harg1 : arg1.IsWhole) (arg2 : Memref sig .tc .vmem S192x512 .f32) (harg2 : arg2.IsWhole) (arg3 : Memref sig .tc .vmem S192x512 .f32) (harg3 : arg3.IsWhole) (arg4 : Memref sig .tc .vmem S192x512 .f32) (harg4 : arg4.IsWhole) (arg5 : Memref sig .tc .vmem S192x512 .f32) (harg5 : arg5.IsWhole) (arg6 : Memref sig .tc .vmem S12x512x128 .bf16) (harg6 : arg6.IsWhole) (arg7 : Memref sig .tc .vmem S192x64 .f32) (harg7 : arg7.IsWhole) (arg8 : Memref sig .tc .vmem S192x512 .bf16) (harg8 : arg8.IsWhole) (arg9 : Memref sig .tc .vmem S2x512 .f32) (harg9 : arg9.IsWhole) (arg10 : Memref sig .tc .vmem S1x128 .f32) (harg10 : arg10.IsWhole) (arg11 : Memref sig .tc .vmem S192x2048 .bf16) (harg11 : arg11.IsWhole) (arg12 : Memref sig .tc .vmem S2x512 .f32) (harg12 : arg12.IsWhole) (arg13 : Memref sig .tc .vmem S1x128 .f32) (harg13 : arg13.IsWhole) (arg14 : Memref sig .tc .vmem S4x128x128 .f32) (harg14 : arg14.IsWhole) (arg15 : Memref sig .tc .vmem S1x512 .f32) (harg15 : arg15.IsWhole) (arg16 : Memref sig .tc .vmem S4x128x128 .bf16) (harg16 : arg16.IsWhole) (v3 : Vec F S1x512 .f32) (v4 : Vec F S1x512 .f32) (v16 : Vec F S1x128 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) (f_arg11 : BufTy.Contents (Elt F) arg11.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty)

local notation "theIn" => In.of arg1 arg2 arg3 arg4 arg5 arg6 arg7 arg8 arg14 arg16 v3 v4 v16 X_arg1 X_arg2 X_arg3 X_arg4 X_arg5 X_arg6 X_arg7 X_arg8 k f_arg14 f_arg16
theorem head1_dqh : (trip_k0_t1.sl.r_101 arg2 arg3 arg4 arg5 arg6 arg8 v3 v4 v16 r16 c16 X_arg2 X_arg3 X_arg4 X_arg5 X_arg6 X_arg8 k) = (theIn).dqh 1 := rfl

theorem head1_dkh : (trip_k0_t1.sl.r_102 arg1 arg2 arg3 arg4 arg5 arg8 arg14 v3 v4 v16 r16 c16 X_arg1 X_arg2 X_arg3 X_arg4 X_arg5 X_arg8 k f_arg14) = (theIn).dkh 1 := rfl

theorem head1_dih : (trip_k0_t1.sl.r_103 arg2 arg4 arg5 arg7 arg8 arg14 v3 v4 v16 X_arg2 X_arg4 X_arg5 X_arg7 X_arg8 k f_arg14) = (theIn).dih 1 := rfl

theorem head1_tailh : (trip_k0_t1.sl.r_105 arg14 arg16 f_arg14 f_arg16) = (theIn).tailh 1 := rfl

end

end Cert.KernelIdeal.Hgrn

end
-- ==== Proof.TripHead2.lean ====
module

public import proofs.«01_k».proof.Proof.Gen.KernelIdeal.Loops
public import proofs.«01_k».proof.Proof.TripIn

/-! What one trip of the loop computes of the third head. -/

@[expose] public section

set_option maxRecDepth 8192
set_option maxHeartbeats 4000000

noncomputable section

namespace Cert.KernelIdeal.Hgrn

open Idealize.ShloMosaic Idealize.SL.Sem Cert.KernelIdeal.Gen

variable {F : FTy → Type} [FloatOps F]

section
variable (𝒱 : Variants) (c : Dev nD) (bd : Option 𝒱.V) (i : grid0.Coords) (arg1 : Memref sig .tc .vmem S192x512 .f32) (harg1 : arg1.IsWhole) (arg2 : Memref sig .tc .vmem S192x512 .f32) (harg2 : arg2.IsWhole) (arg3 : Memref sig .tc .vmem S192x512 .f32) (harg3 : arg3.IsWhole) (arg4 : Memref sig .tc .vmem S192x512 .f32) (harg4 : arg4.IsWhole) (arg5 : Memref sig .tc .vmem S192x512 .f32) (harg5 : arg5.IsWhole) (arg6 : Memref sig .tc .vmem S12x512x128 .bf16) (harg6 : arg6.IsWhole) (arg7 : Memref sig .tc .vmem S192x64 .f32) (harg7 : arg7.IsWhole) (arg8 : Memref sig .tc .vmem S192x512 .bf16) (harg8 : arg8.IsWhole) (arg9 : Memref sig .tc .vmem S2x512 .f32) (harg9 : arg9.IsWhole) (arg10 : Memref sig .tc .vmem S1x128 .f32) (harg10 : arg10.IsWhole) (arg11 : Memref sig .tc .vmem S192x2048 .bf16) (harg11 : arg11.IsWhole) (arg12 : Memref sig .tc .vmem S2x512 .f32) (harg12 : arg12.IsWhole) (arg13 : Memref sig .tc .vmem S1x128 .f32) (harg13 : arg13.IsWhole) (arg14 : Memref sig .tc .vmem S4x128x128 .f32) (harg14 : arg14.IsWhole) (arg15 : Memref sig .tc .vmem S1x512 .f32) (harg15 : arg15.IsWhole) (arg16 : Memref sig .tc .vmem S4x128x128 .bf16) (harg16 : arg16.IsWhole) (v3 : Vec F S1x512 .f32) (v4 : Vec F S1x512 .f32) (v16 : Vec F S1x128 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) (f_arg11 : BufTy.Contents (Elt F) arg11.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty)

local notation "theIn" => In.of arg1 arg2 arg3 arg4 arg5 arg6 arg7 arg8 arg14 arg16 v3 v4 v16 X_arg1 X_arg2 X_arg3 X_arg4 X_arg5 X_arg6 X_arg7 X_arg8 k f_arg14 f_arg16
theorem head2_dqh : (trip_k0_t1.sl.r_138 arg2 arg3 arg4 arg5 arg6 arg8 v3 v4 v16 r16 c16 X_arg2 X_arg3 X_arg4 X_arg5 X_arg6 X_arg8 k) = (theIn).dqh 2 := rfl

theorem head2_dkh : (trip_k0_t1.sl.r_139 arg1 arg2 arg3 arg4 arg5 arg8 arg14 v3 v4 v16 r16 c16 X_arg1 X_arg2 X_arg3 X_arg4 X_arg5 X_arg8 k f_arg14) = (theIn).dkh 2 := rfl

theorem head2_dih : (trip_k0_t1.sl.r_140 arg2 arg4 arg5 arg7 arg8 arg14 v3 v4 v16 X_arg2 X_arg4 X_arg5 X_arg7 X_arg8 k f_arg14) = (theIn).dih 2 := rfl

theorem head2_tailh : (trip_k0_t1.sl.r_141 arg14 arg16 f_arg14 f_arg16) = (theIn).tailh 2 := rfl

end

end Cert.KernelIdeal.Hgrn

end
-- ==== Proof.TripHead3.lean ====
module

public import proofs.«01_k».proof.Proof.Gen.KernelIdeal.Loops
public import proofs.«01_k».proof.Proof.TripIn

/-! What one trip of the loop computes of the fourth head. -/

@[expose] public section

set_option maxRecDepth 8192
set_option maxHeartbeats 4000000

noncomputable section

namespace Cert.KernelIdeal.Hgrn

open Idealize.ShloMosaic Idealize.SL.Sem Cert.KernelIdeal.Gen

variable {F : FTy → Type} [FloatOps F]

section
variable (𝒱 : Variants) (c : Dev nD) (bd : Option 𝒱.V) (i : grid0.Coords) (arg1 : Memref sig .tc .vmem S192x512 .f32) (harg1 : arg1.IsWhole) (arg2 : Memref sig .tc .vmem S192x512 .f32) (harg2 : arg2.IsWhole) (arg3 : Memref sig .tc .vmem S192x512 .f32) (harg3 : arg3.IsWhole) (arg4 : Memref sig .tc .vmem S192x512 .f32) (harg4 : arg4.IsWhole) (arg5 : Memref sig .tc .vmem S192x512 .f32) (harg5 : arg5.IsWhole) (arg6 : Memref sig .tc .vmem S12x512x128 .bf16) (harg6 : arg6.IsWhole) (arg7 : Memref sig .tc .vmem S192x64 .f32) (harg7 : arg7.IsWhole) (arg8 : Memref sig .tc .vmem S192x512 .bf16) (harg8 : arg8.IsWhole) (arg9 : Memref sig .tc .vmem S2x512 .f32) (harg9 : arg9.IsWhole) (arg10 : Memref sig .tc .vmem S1x128 .f32) (harg10 : arg10.IsWhole) (arg11 : Memref sig .tc .vmem S192x2048 .bf16) (harg11 : arg11.IsWhole) (arg12 : Memref sig .tc .vmem S2x512 .f32) (harg12 : arg12.IsWhole) (arg13 : Memref sig .tc .vmem S1x128 .f32) (harg13 : arg13.IsWhole) (arg14 : Memref sig .tc .vmem S4x128x128 .f32) (harg14 : arg14.IsWhole) (arg15 : Memref sig .tc .vmem S1x512 .f32) (harg15 : arg15.IsWhole) (arg16 : Memref sig .tc .vmem S4x128x128 .bf16) (harg16 : arg16.IsWhole) (v3 : Vec F S1x512 .f32) (v4 : Vec F S1x512 .f32) (v16 : Vec F S1x128 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) (f_arg11 : BufTy.Contents (Elt F) arg11.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty)

local notation "theIn" => In.of arg1 arg2 arg3 arg4 arg5 arg6 arg7 arg8 arg14 arg16 v3 v4 v16 X_arg1 X_arg2 X_arg3 X_arg4 X_arg5 X_arg6 X_arg7 X_arg8 k f_arg14 f_arg16
theorem head3_dqh : (trip_k0_t1.sl.r_173 arg2 arg3 arg4 arg5 arg6 arg8 v3 v4 v16 r16 c16 X_arg2 X_arg3 X_arg4 X_arg5 X_arg6 X_arg8 k) = (theIn).dqh 3 := rfl

theorem head3_dkh : (trip_k0_t1.sl.r_174 arg1 arg2 arg3 arg4 arg5 arg8 arg14 v3 v4 v16 r16 c16 X_arg1 X_arg2 X_arg3 X_arg4 X_arg5 X_arg8 k f_arg14) = (theIn).dkh 3 := rfl

theorem head3_dih : (trip_k0_t1.sl.r_175 arg2 arg4 arg5 arg7 arg8 arg14 v3 v4 v16 X_arg2 X_arg4 X_arg5 X_arg7 X_arg8 k f_arg14) = (theIn).dih 3 := rfl

theorem head3_tailh : (trip_k0_t1.sl.r_176 arg14 arg16 f_arg14 f_arg16) = (theIn).tailh 3 := rfl

end

end Cert.KernelIdeal.Hgrn

end
-- ==== Proof.Trip.lean ====
module

public import proofs.«01_k».proof.Proof.TripHead0
public import proofs.«01_k».proof.Proof.TripHead1
public import proofs.«01_k».proof.Proof.TripHead2
public import proofs.«01_k».proof.Proof.TripHead3

/-! One trip of the kernel's loop writes what the functions of one block of rows give. -/

@[expose] public section

set_option maxRecDepth 8192
set_option maxHeartbeats 4000000

noncomputable section

namespace Cert.KernelIdeal.Hgrn

open Idealize.ShloMosaic Idealize.SL.Sem Cert.KernelIdeal.Gen

variable {F : FTy → Type} [FloatOps F]

section
variable (𝒱 : Variants) (c : Dev nD) (bd : Option 𝒱.V) (i : grid0.Coords) (arg1 : Memref sig .tc .vmem S192x512 .f32) (harg1 : arg1.IsWhole) (arg2 : Memref sig .tc .vmem S192x512 .f32) (harg2 : arg2.IsWhole) (arg3 : Memref sig .tc .vmem S192x512 .f32) (harg3 : arg3.IsWhole) (arg4 : Memref sig .tc .vmem S192x512 .f32) (harg4 : arg4.IsWhole) (arg5 : Memref sig .tc .vmem S192x512 .f32) (harg5 : arg5.IsWhole) (arg6 : Memref sig .tc .vmem S12x512x128 .bf16) (harg6 : arg6.IsWhole) (arg7 : Memref sig .tc .vmem S192x64 .f32) (harg7 : arg7.IsWhole) (arg8 : Memref sig .tc .vmem S192x512 .bf16) (harg8 : arg8.IsWhole) (arg9 : Memref sig .tc .vmem S2x512 .f32) (harg9 : arg9.IsWhole) (arg10 : Memref sig .tc .vmem S1x128 .f32) (harg10 : arg10.IsWhole) (arg11 : Memref sig .tc .vmem S192x2048 .bf16) (harg11 : arg11.IsWhole) (arg12 : Memref sig .tc .vmem S2x512 .f32) (harg12 : arg12.IsWhole) (arg13 : Memref sig .tc .vmem S1x128 .f32) (harg13 : arg13.IsWhole) (arg14 : Memref sig .tc .vmem S4x128x128 .f32) (harg14 : arg14.IsWhole) (arg15 : Memref sig .tc .vmem S1x512 .f32) (harg15 : arg15.IsWhole) (arg16 : Memref sig .tc .vmem S4x128x128 .bf16) (harg16 : arg16.IsWhole) (v3 : Vec F S1x512 .f32) (v4 : Vec F S1x512 .f32) (v16 : Vec F S1x128 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) (f_arg11 : BufTy.Contents (Elt F) arg11.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty)

local notation "theIn" => In.of arg1 arg2 arg3 arg4 arg5 arg6 arg7 arg8 arg14 arg16 v3 v4 v16 X_arg1 X_arg2 X_arg3 X_arg4 X_arg5 X_arg6 X_arg7 X_arg8 k f_arg14 f_arg16
local notation "theTrip" => trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v16 r16 c16 X_arg1 X_arg2 X_arg3 X_arg4 X_arg5 X_arg6 X_arg7 X_arg8 k

theorem trip_dq : (trip_k0_t1.sl.r_177 arg2 arg3 arg4 arg5 arg6 arg8 v3 v4 v16 r16 c16 X_arg2 X_arg3 X_arg4 X_arg5 X_arg6 X_arg8 k) = (theIn).dq := by
  unfold trip_k0_t1.sl.r_177
  rw [head0_dqh arg1 arg2 arg3 arg4 arg5 arg6 arg7 arg8 arg14 arg16 v3 v4 v16 X_arg1 X_arg2 X_arg3 X_arg4 X_arg5 X_arg6 X_arg7 X_arg8 k f_arg14 f_arg16, head1_dqh arg1 arg2 arg3 arg4 arg5 arg6 arg7 arg8 arg14 arg16 v3 v4 v16 X_arg1 X_arg2 X_arg3 X_arg4 X_arg5 X_arg6 X_arg7 X_arg8 k f_arg14 f_arg16, head2_dqh arg1 arg2 arg3 arg4 arg5 arg6 arg7 arg8 arg14 arg16 v3 v4 v16 X_arg1 X_arg2 X_arg3 X_arg4 X_arg5 X_arg6 X_arg7 X_arg8 k f_arg14 f_arg16, head3_dqh arg1 arg2 arg3 arg4 arg5 arg6 arg7 arg8 arg14 arg16 v3 v4 v16 X_arg1 X_arg2 X_arg3 X_arg4 X_arg5 X_arg6 X_arg7 X_arg8 k f_arg14 f_arg16]
  rfl

theorem trip_dk : (trip_k0_t1.sl.r_178 arg1 arg2 arg3 arg4 arg5 arg8 arg14 v3 v4 v16 r16 c16 X_arg1 X_arg2 X_arg3 X_arg4 X_arg5 X_arg8 k f_arg14) = (theIn).dk := by
  unfold trip_k0_t1.sl.r_178
  rw [head0_dkh arg1 arg2 arg3 arg4 arg5 arg6 arg7 arg8 arg14 arg16 v3 v4 v16 X_arg1 X_arg2 X_arg3 X_arg4 X_arg5 X_arg6 X_arg7 X_arg8 k f_arg14 f_arg16, head1_dkh arg1 arg2 arg3 arg4 arg5 arg6 arg7 arg8 arg14 arg16 v3 v4 v16 X_arg1 X_arg2 X_arg3 X_arg4 X_arg5 X_arg6 X_arg7 X_arg8 k f_arg14 f_arg16, head2_dkh arg1 arg2 arg3 arg4 arg5 arg6 arg7 arg8 arg14 arg16 v3 v4 v16 X_arg1 X_arg2 X_arg3 X_arg4 X_arg5 X_arg6 X_arg7 X_arg8 k f_arg14 f_arg16, head3_dkh arg1 arg2 arg3 arg4 arg5 arg6 arg7 arg8 arg14 arg16 v3 v4 v16 X_arg1 X_arg2 X_arg3 X_arg4 X_arg5 X_arg6 X_arg7 X_arg8 k f_arg14 f_arg16]
  rfl

theorem trip_di : (trip_k0_t1.sl.r_179 arg2 arg4 arg5 arg7 arg8 arg14 v3 v4 v16 X_arg2 X_arg4 X_arg5 X_arg7 X_arg8 k f_arg14) = (theIn).di := by
  unfold trip_k0_t1.sl.r_179
  rw [head0_dih arg1 arg2 arg3 arg4 arg5 arg6 arg7 arg8 arg14 arg16 v3 v4 v16 X_arg1 X_arg2 X_arg3 X_arg4 X_arg5 X_arg6 X_arg7 X_arg8 k f_arg14 f_arg16, head1_dih arg1 arg2 arg3 arg4 arg5 arg6 arg7 arg8 arg14 arg16 v3 v4 v16 X_arg1 X_arg2 X_arg3 X_arg4 X_arg5 X_arg6 X_arg7 X_arg8 k f_arg14 f_arg16, head2_dih arg1 arg2 arg3 arg4 arg5 arg6 arg7 arg8 arg14 arg16 v3 v4 v16 X_arg1 X_arg2 X_arg3 X_arg4 X_arg5 X_arg6 X_arg7 X_arg8 k f_arg14 f_arg16, head3_dih arg1 arg2 arg3 arg4 arg5 arg6 arg7 arg8 arg14 arg16 v3 v4 v16 X_arg1 X_arg2 X_arg3 X_arg4 X_arg5 X_arg6 X_arg7 X_arg8 k f_arg14 f_arg16]
  rfl

theorem trip_rev : (trip_k0_t1.sl.r_180 arg1 arg2 arg3 arg4 arg5 arg6 arg8 arg14 v3 v4 v16 r16 c16 X_arg1 X_arg2 X_arg3 X_arg4 X_arg5 X_arg6 X_arg8 k f_arg14)
    = addDown 12#32 (addDown 14#32 (addDown 15#32 (subf (mulf (theIn).qs (theIn).dq) (mulf (theIn).k (theIn).dk)))) := by
  unfold trip_k0_t1.sl.r_180
  rw [head0_dqh arg1 arg2 arg3 arg4 arg5 arg6 arg7 arg8 arg14 arg16 v3 v4 v16 X_arg1 X_arg2 X_arg3 X_arg4 X_arg5 X_arg6 X_arg7 X_arg8 k f_arg14 f_arg16, head1_dqh arg1 arg2 arg3 arg4 arg5 arg6 arg7 arg8 arg14 arg16 v3 v4 v16 X_arg1 X_arg2 X_arg3 X_arg4 X_arg5 X_arg6 X_arg7 X_arg8 k f_arg14 f_arg16, head2_dqh arg1 arg2 arg3 arg4 arg5 arg6 arg7 arg8 arg14 arg16 v3 v4 v16 X_arg1 X_arg2 X_arg3 X_arg4 X_arg5 X_arg6 X_arg7 X_arg8 k f_arg14 f_arg16, head3_dqh arg1 arg2 arg3 arg4 arg5 arg6 arg7 arg8 arg14 arg16 v3 v4 v16 X_arg1 X_arg2 X_arg3 X_arg4 X_arg5 X_arg6 X_arg7 X_arg8 k f_arg14 f_arg16,
    head0_dkh arg1 arg2 arg3 arg4 arg5 arg6 arg7 arg8 arg14 arg16 v3 v4 v16 X_arg1 X_arg2 X_arg3 X_arg4 X_arg5 X_arg6 X_arg7 X_arg8 k f_arg14 f_arg16, head1_dkh arg1 arg2 arg3 arg4 arg5 arg6 arg7 arg8 arg14 arg16 v3 v4 v16 X_arg1 X_arg2 X_arg3 X_arg4 X_arg5 X_arg6 X_arg7 X_arg8 k f_arg14 f_arg16, head2_dkh arg1 arg2 arg3 arg4 arg5 arg6 arg7 arg8 arg14 arg16 v3 v4 v16 X_arg1 X_arg2 X_arg3 X_arg4 X_arg5 X_arg6 X_arg7 X_arg8 k f_arg14 f_arg16, head3_dkh arg1 arg2 arg3 arg4 arg5 arg6 arg7 arg8 arg14 arg16 v3 v4 v16 X_arg1 X_arg2 X_arg3 X_arg4 X_arg5 X_arg6 X_arg7 X_arg8 k f_arg14 f_arg16]
  rfl

theorem trip_dfk : (trip_k0_t1.sl.r_181 arg1 arg2 arg3 arg4 arg5 arg6 arg8 arg14 arg16 v3 v4 v16 r16 c16 X_arg1 X_arg2 X_arg3 X_arg4 X_arg5 X_arg6 X_arg8 k f_arg14 f_arg16) = (theIn).dfk := by
  unfold trip_k0_t1.sl.r_181
  rw [head0_tailh arg1 arg2 arg3 arg4 arg5 arg6 arg7 arg8 arg14 arg16 v3 v4 v16 X_arg1 X_arg2 X_arg3 X_arg4 X_arg5 X_arg6 X_arg7 X_arg8 k f_arg14 f_arg16, head1_tailh arg1 arg2 arg3 arg4 arg5 arg6 arg7 arg8 arg14 arg16 v3 v4 v16 X_arg1 X_arg2 X_arg3 X_arg4 X_arg5 X_arg6 X_arg7 X_arg8 k f_arg14 f_arg16, head2_tailh arg1 arg2 arg3 arg4 arg5 arg6 arg7 arg8 arg14 arg16 v3 v4 v16 X_arg1 X_arg2 X_arg3 X_arg4 X_arg5 X_arg6 X_arg7 X_arg8 k f_arg14 f_arg16, head3_tailh arg1 arg2 arg3 arg4 arg5 arg6 arg7 arg8 arg14 arg16 v3 v4 v16 X_arg1 X_arg2 X_arg3 X_arg4 X_arg5 X_arg6 X_arg7 X_arg8 k f_arg14 f_arg16,
    trip_dk arg1 arg2 arg3 arg4 arg5 arg6 arg7 arg8 arg14 arg16 v3 v4 v16 X_arg1 X_arg2 X_arg3 X_arg4 X_arg5 X_arg6 X_arg7 X_arg8 k f_arg14 f_arg16,
    trip_rev arg1 arg2 arg3 arg4 arg5 arg6 arg7 arg8 arg14 arg16 v3 v4 v16 X_arg1 X_arg2 X_arg3 X_arg4 X_arg5 X_arg6 X_arg7 X_arg8 k f_arg14 f_arg16]
  rfl

theorem trip_dfg : (trip_k0_t1.sl.r_182 arg1 arg2 arg3 arg4 arg5 arg6 arg8 arg14 arg16 v3 v4 v16 r16 c16 X_arg1 X_arg2 X_arg3 X_arg4 X_arg5 X_arg6 X_arg8 k f_arg14 f_arg16) = mulf (gap (theIn).lb) (theIn).dfk := by
  unfold trip_k0_t1.sl.r_182
  rw [head0_tailh arg1 arg2 arg3 arg4 arg5 arg6 arg7 arg8 arg14 arg16 v3 v4 v16 X_arg1 X_arg2 X_arg3 X_arg4 X_arg5 X_arg6 X_arg7 X_arg8 k f_arg14 f_arg16, head1_tailh arg1 arg2 arg3 arg4 arg5 arg6 arg7 arg8 arg14 arg16 v3 v4 v16 X_arg1 X_arg2 X_arg3 X_arg4 X_arg5 X_arg6 X_arg7 X_arg8 k f_arg14 f_arg16, head2_tailh arg1 arg2 arg3 arg4 arg5 arg6 arg7 arg8 arg14 arg16 v3 v4 v16 X_arg1 X_arg2 X_arg3 X_arg4 X_arg5 X_arg6 X_arg7 X_arg8 k f_arg14 f_arg16, head3_tailh arg1 arg2 arg3 arg4 arg5 arg6 arg7 arg8 arg14 arg16 v3 v4 v16 X_arg1 X_arg2 X_arg3 X_arg4 X_arg5 X_arg6 X_arg7 X_arg8 k f_arg14 f_arg16,
    trip_dk arg1 arg2 arg3 arg4 arg5 arg6 arg7 arg8 arg14 arg16 v3 v4 v16 X_arg1 X_arg2 X_arg3 X_arg4 X_arg5 X_arg6 X_arg7 X_arg8 k f_arg14 f_arg16,
    trip_rev arg1 arg2 arg3 arg4 arg5 arg6 arg7 arg8 arg14 arg16 v3 v4 v16 X_arg1 X_arg2 X_arg3 X_arg4 X_arg5 X_arg6 X_arg7 X_arg8 k f_arg14 f_arg16]
  rfl

theorem trip_dgz : (trip_k0_t1.sl.r_33 arg4 arg5 arg8 v16 X_arg4 X_arg5 X_arg8 k) = dgz (theIn).gn (theIn).gz (theIn).dyf (theIn).os := rfl

theorem trip_gain : (theTrip).2.1 f_arg11 f_arg13 f_arg14 f_arg15 f_arg16
    = [⟨Rect.unit (s := S1x128) ![0, 0] S1x128.size inb_S1x128_S1x128_0_0, (theIn).gNew (arg13.view.readAt (Elt F) (Rect.unit (s := S1x128) ![0, 0] S1x128.size inb_S1x128_S1x128_0_0).toLoadRect f_arg13)⟩] := by
  unfold trip_k0_t1; rfl

theorem trip_ds : (theTrip).2.2.1 f_arg11 f_arg13 f_arg14 f_arg15 f_arg16
    = heads .f32 (theIn).dsNew := by
  unfold trip_k0_t1; rfl

theorem trip_nx : (theTrip).2.2.2.2.1 f_arg11 f_arg13 f_arg14 f_arg15 f_arg16
    = heads .bf16 (theIn).nxNew := by
  unfold trip_k0_t1; rfl

theorem trip_lb : (theTrip).2.2.2.1 f_arg11 f_arg13 f_arg14 f_arg15 f_arg16
    = [⟨Rect.unit (s := S1x512) ![0, 0] S1x512.size inb_S1x512_S1x512_0_0, (theIn).lNew (arg15.view.readAt (Elt F) (Rect.unit (s := S1x512) ![0, 0] S1x512.size inb_S1x512_S1x512_0_0).toLoadRect f_arg15)⟩] := by
  have h : (theTrip).2.2.2.1 f_arg11 f_arg13 f_arg14 f_arg15 f_arg16
      = [⟨Rect.unit (s := S1x512) ![0, 0] S1x512.size inb_S1x512_S1x512_0_0, k0_pay12 (trip_k0_t1.sl.r_5 arg2 X_arg2 k) (trip_k0_t1.sl.r_181 arg1 arg2 arg3 arg4 arg5 arg6 arg8 arg14 arg16 v3 v4 v16 r16 c16 X_arg1 X_arg2 X_arg3 X_arg4 X_arg5 X_arg6 X_arg8 k f_arg14 f_arg16) (arg15.view.readAt (Elt F) (Rect.unit (s := S1x512) ![0, 0] S1x512.size inb_S1x512_S1x512_0_0).toLoadRect f_arg15)⟩] := by
    unfold trip_k0_t1; rfl
  rw [h, trip_dfk arg1 arg2 arg3 arg4 arg5 arg6 arg7 arg8 arg14 arg16 v3 v4 v16 X_arg1 X_arg2 X_arg3 X_arg4 X_arg5 X_arg6 X_arg7 X_arg8 k f_arg14 f_arg16]
  rfl

theorem trip_dh : (theTrip).1 f_arg11 f_arg13 f_arg14 f_arg15 f_arg16
    = [⟨Rect.unit (s := S192x2048) (k0_off7 k) S16x2048.size (k0_off7_inb k), (theIn).dh⟩] := by
  have h : (theTrip).1 f_arg11 f_arg13 f_arg14 f_arg15 f_arg16
      = [⟨Rect.unit (s := S192x2048) (k0_off7 k) S16x2048.size (k0_off7_inb k), k0_pay13 (trip_k0_t1.sl.r_5 arg2 X_arg2 k) (trip_k0_t1.sl.r_33 arg4 arg5 arg8 v16 X_arg4 X_arg5 X_arg8 k) (trip_k0_t1.sl.r_177 arg2 arg3 arg4 arg5 arg6 arg8 v3 v4 v16 r16 c16 X_arg2 X_arg3 X_arg4 X_arg5 X_arg6 X_arg8 k) (trip_k0_t1.sl.r_179 arg2 arg4 arg5 arg7 arg8 arg14 v3 v4 v16 X_arg2 X_arg4 X_arg5 X_arg7 X_arg8 k f_arg14) (trip_k0_t1.sl.r_182 arg1 arg2 arg3 arg4 arg5 arg6 arg8 arg14 arg16 v3 v4 v16 r16 c16 X_arg1 X_arg2 X_arg3 X_arg4 X_arg5 X_arg6 X_arg8 k f_arg14 f_arg16)⟩] := by
    unfold trip_k0_t1; rfl
  rw [h, trip_dgz arg1 arg2 arg3 arg4 arg5 arg6 arg7 arg8 arg14 arg16 v3 v4 v16 X_arg1 X_arg2 X_arg3 X_arg4 X_arg5 X_arg6 X_arg7 X_arg8 k f_arg14 f_arg16, trip_dq arg1 arg2 arg3 arg4 arg5 arg6 arg7 arg8 arg14 arg16 v3 v4 v16 X_arg1 X_arg2 X_arg3 X_arg4 X_arg5 X_arg6 X_arg7 X_arg8 k f_arg14 f_arg16, trip_di arg1 arg2 arg3 arg4 arg5 arg6 arg7 arg8 arg14 arg16 v3 v4 v16 X_arg1 X_arg2 X_arg3 X_arg4 X_arg5 X_arg6 X_arg7 X_arg8 k f_arg14 f_arg16, trip_dfg arg1 arg2 arg3 arg4 arg5 arg6 arg7 arg8 arg14 arg16 v3 v4 v16 X_arg1 X_arg2 X_arg3 X_arg4 X_arg5 X_arg6 X_arg7 X_arg8 k f_arg14 f_arg16]
  rfl

end

end Cert.KernelIdeal.Hgrn

end
-- ==== Proof.Loop.lean ====
module

public import proofs.«01_k».proof.Proof.Trip
public import Idealize.ShloMosaic.Lib.Pipeline.Value
public import Idealize.ShloMosaic.Lib.Pipeline.ValueKit.Tiles
public import Idealize.ShloMosaic.Lib.WritesUnit
public import Idealize.ShloMosaic.Lib.VecWindow

/-! The loop over the twelve blocks of a grid point: the four arrays that it carries after each trip, and the rows that
    it leaves, as functions of the point's input blocks. -/

@[expose] public section

set_option maxRecDepth 8192
set_option maxHeartbeats 1000000

noncomputable section

namespace Cert.KernelIdeal.Hgrn

open Idealize.ShloMosaic Idealize.SL.Sem Cert.KernelIdeal.Gen

variable {F : FTy → Type} [FloatOps F]

/-- The input blocks of one grid point. -/
structure Blk (F : FTy → Type) where
  x0 : Vec F S192x512 .f32
  x1 : Vec F S192x512 .f32
  x2 : Vec F S192x512 .f32
  x3 : Vec F S192x512 .f32
  x4 : Vec F S192x512 .f32
  x5 : Vec F S12x512x128 .bf16
  x6 : Vec F S192x64 .f32
  x7 : Vec F S192x512 .bf16
  b0 : Vec F S1x512 .f32
  b1 : Vec F S1x512 .f32
  gn : Vec F S1x128 .f32

/-- What is carried from block to block: the gain's gradient, the state's gradient, the lower bound's gradient and the
    state that the block below began with. -/
@[ext] structure St (F : FTy → Type) where
  g : Vec F S1x128 .f32
  d : Vec F S4x128x128 .f32
  l : Vec F S1x512 .f32
  n : Vec F S4x128x128 .bf16

/-- One head of four. -/
def head {e : EltTy} (x : Vec F S4x128x128 e) : Fin 4 → Vec F S1x128x128 e
  | 0 => View.ld x (Rect.unit (s := S4x128x128) ![0, 0, 0] S1x128x128.size inb_S4x128x128_S1x128x128_0_0_0)
  | 1 => View.ld x (Rect.unit (s := S4x128x128) ![1, 0, 0] S1x128x128.size inb_S4x128x128_S1x128x128_1_0_0)
  | 2 => View.ld x (Rect.unit (s := S4x128x128) ![2, 0, 0] S1x128x128.size inb_S4x128x128_S1x128x128_2_0_0)
  | 3 => View.ld x (Rect.unit (s := S4x128x128) ![3, 0, 0] S1x128x128.size inb_S4x128x128_S1x128x128_3_0_0)

/-- The index of one head's entry. -/
def at3 (i j : Fin 128) : S1x128x128.Idx := fun | 0 => (0 : Fin 1) | 1 => i | 2 => j
/-- Four heads together. -/
def join {e : EltTy} (p : Fin 4 → Vec F S1x128x128 e) : Vec F S4x128x128 e := fun y => p (y 0) (at3 (y 1) (y 2))

namespace Blk
variable (B : Blk F)

/-- What trip `k` reads. -/
def at' (s : St F) (k : Fin k0_t1_loop.trips) : In F where
  q := View.ld B.x0 (Rect.unit (s := S192x512) (k0_off1 k) S16x512.size (k0_off1_inb k))
  fz := View.ld B.x1 (Rect.unit (s := S192x512) (k0_off1 k) S16x512.size (k0_off1_inb k))
  i := View.ld B.x2 (Rect.unit (s := S192x512) (k0_off1 k) S16x512.size (k0_off1_inb k))
  gz := View.ld B.x3 (Rect.unit (s := S192x512) (k0_off1 k) S16x512.size (k0_off1_inb k))
  o := View.ld B.x4 (Rect.unit (s := S192x512) (k0_off1 k) S16x512.size (k0_off1_inb k))
  dy := View.ld B.x7 (Rect.unit (s := S192x512) (k0_off1 k) S16x512.size (k0_off1_inb k))
  a := View.ld B.x6 (Rect.unit (s := S192x64) (k0_off2 k) S16x64.size (k0_off2_inb k))
  s := fun | 0 => View.ld B.x5 (Rect.unit (s := S12x512x128) (k0_off3 k) S1x128x128.size (k0_off3_inb k))
           | 1 => View.ld B.x5 (Rect.unit (s := S12x512x128) (k0_off4 k) S1x128x128.size (k0_off4_inb k))
           | 2 => View.ld B.x5 (Rect.unit (s := S12x512x128) (k0_off5 k) S1x128x128.size (k0_off5_inb k))
           | 3 => View.ld B.x5 (Rect.unit (s := S12x512x128) (k0_off6 k) S1x128x128.size (k0_off6_inb k))
  b0 := B.b0
  b1 := B.b1
  gn := B.gn
  ds := head s.d
  nx := head s.n

/-- What trip `k` carries on. -/
def step (s : St F) (k : Fin k0_t1_loop.trips) : St F where
  g := (B.at' s k).gNew s.g
  d := join (B.at' s k).dsNew
  l := (B.at' s k).lNew s.l
  n := join (B.at' s k).nxNew

/-- What is carried before trip `k`. -/
def run (s : St F) : ℕ → St F
  | 0 => s
  | k + 1 => if h : k < k0_t1_loop.trips then B.step (run s k) ⟨k, h⟩ else run s k

theorem run_succ (s : St F) (k : Fin k0_t1_loop.trips) : B.run s (k.val + 1) = B.step (B.run s k.val) k := by
  rw [run]; exact dif_pos k.isLt

end Blk

theorem trips_eq : k0_t1_loop.trips = 12 := by decide

/-- The trip that handles a row. -/
def tripOf (y : S192x2048.Idx) : Fin k0_t1_loop.trips := ⟨11 - (y 0).val / 16, by rw [trips_eq]; omega⟩
/-- A row's place in its block. -/
def placeOf (y : S192x2048.Idx) : S16x2048.Idx := fun | 0 => (⟨(y 0).val % 16, Nat.mod_lt _ (by decide)⟩ : Fin 16) | 1 => (y 1 : Fin 2048)

/-- The rows that a grid point leaves. -/
def Blk.rows (B : Blk F) (s : St F) : Vec F S192x2048 .bf16 := fun y => (B.at' (B.run s (tripOf y).val) (tripOf y)).dh (placeOf y)

/-- Four heads' pieces written over any contents leave the four heads. -/
theorem read_heads {κ : Kind} {sp : Space} {e : EltTy} (v : View sig κ sp S4x128x128 e) (f : v.ty.Contents (Elt F)) (p : Fin 4 → Vec F S1x128x128 e) :
    v.read (Elt F) (v.writes (Elt F) f (heads e p)) = join p := by
  funext y
  have hmem : ∀ (n : Fin 4) (a : Fin 3), y 0 = n → (y a).val = (![n.val, 0, 0] : Fin 3 → ℕ) a + (at3 (y 1) (y 2) a).val := by
    intro n a hn
    fin_cases a
    · show (y 0).val = n.val + 0; rw [hn]; rfl
    · show (y 1).val = 0 + (y 1).val; omega
    · show (y 2).val = 0 + (y 2).val; omega
  have hmiss : ∀ (n : Fin 4), y 0 ≠ n → (y 0).val < (![n.val, 0, 0] : Fin 3 → ℕ) 0 ∨ (![n.val, 0, 0] : Fin 3 → ℕ) 0 + S1x128x128.size 0 ≤ (y 0).val := by
    intro n hn
    have : (y 0).val ≠ n.val := fun h => hn (Fin.ext h)
    show (y 0).val < n.val ∨ n.val + 1 ≤ (y 0).val
    omega
  unfold heads join
  by_cases h3 : y 0 = (3 : Fin 4)
  · exact (View.read_writes_cons_unit_of_mem v f _ _ _ y (at3 (y 1) (y 2)) rfl (fun a => hmem 3 a h3)).trans
      (congrArg (fun n : Fin 4 => p n (at3 (y 1) (y 2))) h3.symm)
  refine (View.read_writes_cons_unit_of_not_mem v f _ _ _ y rfl 0 (hmiss 3 h3)).trans ?_
  by_cases h2 : y 0 = (2 : Fin 4)
  · exact (View.read_writes_cons_unit_of_mem v f _ _ _ y (at3 (y 1) (y 2)) rfl (fun a => hmem 2 a h2)).trans
      (congrArg (fun n : Fin 4 => p n (at3 (y 1) (y 2))) h2.symm)
  refine (View.read_writes_cons_unit_of_not_mem v f _ _ _ y rfl 0 (hmiss 2 h2)).trans ?_
  by_cases h1 : y 0 = (1 : Fin 4)
  · exact (View.read_writes_cons_unit_of_mem v f _ _ _ y (at3 (y 1) (y 2)) rfl (fun a => hmem 1 a h1)).trans
      (congrArg (fun n : Fin 4 => p n (at3 (y 1) (y 2))) h1.symm)
  refine (View.read_writes_cons_unit_of_not_mem v f _ _ _ y rfl 0 (hmiss 1 h1)).trans ?_
  have h0 : y 0 = (0 : Fin 4) := by
    have := (y 0).isLt
    have e3 : (y 0).val ≠ 3 := fun h => h3 (Fin.ext h)
    have e2 : (y 0).val ≠ 2 := fun h => h2 (Fin.ext h)
    have e1 : (y 0).val ≠ 1 := fun h => h1 (Fin.ext h)
    exact Fin.ext (by show (y 0).val = 0; have h4 : (y 0).val < 4 := (y 0).isLt; omega)
  exact (View.read_writes_cons_unit_of_mem v f _ _ _ y (at3 (y 1) (y 2)) rfl (fun a => hmem 0 a h0)).trans
    (congrArg (fun n : Fin 4 => p n (at3 (y 1) (y 2))) h0.symm)

section
variable (𝒱 : Variants) (c : Dev nD) (bd : Option 𝒱.V) (i : grid0.Coords) (arg1 : Memref sig .tc .vmem S192x512 .f32) (harg1 : arg1.IsWhole) (arg2 : Memref sig .tc .vmem S192x512 .f32) (harg2 : arg2.IsWhole) (arg3 : Memref sig .tc .vmem S192x512 .f32) (harg3 : arg3.IsWhole) (arg4 : Memref sig .tc .vmem S192x512 .f32) (harg4 : arg4.IsWhole) (arg5 : Memref sig .tc .vmem S192x512 .f32) (harg5 : arg5.IsWhole) (arg6 : Memref sig .tc .vmem S12x512x128 .bf16) (harg6 : arg6.IsWhole) (arg7 : Memref sig .tc .vmem S192x64 .f32) (harg7 : arg7.IsWhole) (arg8 : Memref sig .tc .vmem S192x512 .bf16) (harg8 : arg8.IsWhole) (arg9 : Memref sig .tc .vmem S2x512 .f32) (harg9 : arg9.IsWhole) (arg10 : Memref sig .tc .vmem S1x128 .f32) (harg10 : arg10.IsWhole) (arg11 : Memref sig .tc .vmem S192x2048 .bf16) (harg11 : arg11.IsWhole) (arg12 : Memref sig .tc .vmem S2x512 .f32) (harg12 : arg12.IsWhole) (arg13 : Memref sig .tc .vmem S1x128 .f32) (harg13 : arg13.IsWhole) (arg14 : Memref sig .tc .vmem S4x128x128 .f32) (harg14 : arg14.IsWhole) (arg15 : Memref sig .tc .vmem S1x512 .f32) (harg15 : arg15.IsWhole) (arg16 : Memref sig .tc .vmem S4x128x128 .bf16) (harg16 : arg16.IsWhole) (v3 : Vec F S1x512 .f32) (v4 : Vec F S1x512 .f32) (v16 : Vec F S1x128 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty)

/-- The blocks in the cells. -/
def blkOf : Blk F :=
  ⟨arg1.view.read (Elt F) X_arg1, arg2.view.read (Elt F) X_arg2, arg3.view.read (Elt F) X_arg3, arg4.view.read (Elt F) X_arg4,
    arg5.view.read (Elt F) X_arg5, arg6.view.read (Elt F) X_arg6, arg7.view.read (Elt F) X_arg7, arg8.view.read (Elt F) X_arg8, v3, v4, v16⟩

/-- What the carried cells hold. -/
def stOf (f_arg13 : BufTy.Contents (Elt F) arg13.view.ty) (f_arg14 : BufTy.Contents (Elt F) arg14.view.ty) (f_arg15 : BufTy.Contents (Elt F) arg15.view.ty) (f_arg16 : BufTy.Contents (Elt F) arg16.view.ty) : St F :=
  ⟨arg13.view.read (Elt F) f_arg13, arg14.view.read (Elt F) f_arg14, arg15.view.read (Elt F) f_arg15, arg16.view.read (Elt F) f_arg16⟩

local notation "B₀" => blkOf arg1 arg2 arg3 arg4 arg5 arg6 arg7 arg8 v3 v4 v16 X_arg1 X_arg2 X_arg3 X_arg4 X_arg5 X_arg6 X_arg7 X_arg8
local notation "S₀" => stOf (F := F) arg13 arg14 arg15 arg16

theorem in_eq (k : Fin k0_t1_loop.trips) (f_arg11 : BufTy.Contents (Elt F) arg11.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) :
    In.of arg1 arg2 arg3 arg4 arg5 arg6 arg7 arg8 arg14 arg16 v3 v4 v16 X_arg1 X_arg2 X_arg3 X_arg4 X_arg5 X_arg6 X_arg7 X_arg8 k f_arg14 f_arg16 = (B₀).at' (S₀ f_arg13 f_arg14 f_arg15 f_arg16) k := by
  unfold In.of Blk.at' blkOf stOf
  congr 1

local notation "theTrip" => trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v16 r16 c16 X_arg1 X_arg2 X_arg3 X_arg4 X_arg5 X_arg6 X_arg7 X_arg8

theorem trip_state (k : Fin k0_t1_loop.trips) (f_arg11 : BufTy.Contents (Elt F) arg11.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) :
    S₀ (arg13.view.writes (Elt F) f_arg13 ((theTrip k).2.1 f_arg11 f_arg13 f_arg14 f_arg15 f_arg16)) (arg14.view.writes (Elt F) f_arg14 ((theTrip k).2.2.1 f_arg11 f_arg13 f_arg14 f_arg15 f_arg16))
        (arg15.view.writes (Elt F) f_arg15 ((theTrip k).2.2.2.1 f_arg11 f_arg13 f_arg14 f_arg15 f_arg16)) (arg16.view.writes (Elt F) f_arg16 ((theTrip k).2.2.2.2.1 f_arg11 f_arg13 f_arg14 f_arg15 f_arg16))
      = (B₀).step (S₀ f_arg13 f_arg14 f_arg15 f_arg16) k := by
  rw [trip_gain, trip_ds, trip_nx, trip_lb, in_eq (arg13 := arg13) (arg15 := arg15) (f_arg11 := f_arg11) (f_arg13 := f_arg13) (f_arg15 := f_arg15)]
  apply St.ext
  · refine (View.read_writes_full _ _ _ _ _).trans ?_
    rw [View.readAt_full]; rfl
  · exact read_heads _ _ _
  · refine (View.read_writes_full _ _ _ _ _).trans ?_
    rw [View.readAt_full]; rfl
  · exact read_heads _ _ _

theorem trip_row_hit (k : Fin k0_t1_loop.trips) (f_arg11 : BufTy.Contents (Elt F) arg11.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (y : S192x2048.Idx) (h : tripOf y = k) :
    arg11.view.read (Elt F) (arg11.view.writes (Elt F) f_arg11 ((theTrip k).1 f_arg11 f_arg13 f_arg14 f_arg15 f_arg16)) y
      = ((B₀).at' (S₀ f_arg13 f_arg14 f_arg15 f_arg16) k).dh (placeOf y) := by
  rw [trip_dh, in_eq (arg13 := arg13) (arg15 := arg15) (f_arg11 := f_arg11) (f_arg13 := f_arg13) (f_arg15 := f_arg15)]
  have hy : (y 0).val < 192 := (y 0).isLt
  have hk : 11 - (y 0).val / 16 = k.val := congrArg Fin.val h
  refine View.read_writes_cons_unit_of_mem _ _ _ _ _ y (placeOf y) (k0_off7_eq k) (fun a => ?_)
  fin_cases a
  · show (y 0).val = (176 - 16 * k.val) + (y 0).val % 16
    omega
  · show (y 1).val = 0 + (y 1).val; omega

theorem trip_row_miss (k : Fin k0_t1_loop.trips) (f_arg11 : BufTy.Contents (Elt F) arg11.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (y : S192x2048.Idx) (h : tripOf y ≠ k) :
    arg11.view.read (Elt F) (arg11.view.writes (Elt F) f_arg11 ((theTrip k).1 f_arg11 f_arg13 f_arg14 f_arg15 f_arg16)) y = arg11.view.read (Elt F) f_arg11 y := by
  rw [trip_dh]
  have hy : (y 0).val < 192 := (y 0).isLt
  have h12 : k.val < 12 := lt_of_lt_of_eq k.isLt trips_eq
  have hk : 11 - (y 0).val / 16 ≠ k.val := fun e => h (Fin.ext e)
  refine View.read_writes_cons_unit_of_not_mem _ _ _ _ _ y (k0_off7_eq k) 0 ?_
  show (y 0).val < 176 - 16 * k.val ∨ (176 - 16 * k.val) + 16 ≤ (y 0).val
  omega

end

section
variable (𝒱 : Variants) (c : Dev nD) (bd : Option 𝒱.V) (i : grid0.Coords) (arg1 : Memref sig .tc .vmem S192x512 .f32) (harg1 : arg1.IsWhole) (arg2 : Memref sig .tc .vmem S192x512 .f32) (harg2 : arg2.IsWhole) (arg3 : Memref sig .tc .vmem S192x512 .f32) (harg3 : arg3.IsWhole) (arg4 : Memref sig .tc .vmem S192x512 .f32) (harg4 : arg4.IsWhole) (arg5 : Memref sig .tc .vmem S192x512 .f32) (harg5 : arg5.IsWhole) (arg6 : Memref sig .tc .vmem S12x512x128 .bf16) (harg6 : arg6.IsWhole) (arg7 : Memref sig .tc .vmem S192x64 .f32) (harg7 : arg7.IsWhole) (arg8 : Memref sig .tc .vmem S192x512 .bf16) (harg8 : arg8.IsWhole) (arg9 : Memref sig .tc .vmem S2x512 .f32) (harg9 : arg9.IsWhole) (arg10 : Memref sig .tc .vmem S1x128 .f32) (harg10 : arg10.IsWhole) (arg11 : Memref sig .tc .vmem S192x2048 .bf16) (harg11 : arg11.IsWhole) (arg12 : Memref sig .tc .vmem S2x512 .f32) (harg12 : arg12.IsWhole) (arg13 : Memref sig .tc .vmem S1x128 .f32) (harg13 : arg13.IsWhole) (arg14 : Memref sig .tc .vmem S4x128x128 .f32) (harg14 : arg14.IsWhole) (arg15 : Memref sig .tc .vmem S1x512 .f32) (harg15 : arg15.IsWhole) (arg16 : Memref sig .tc .vmem S4x128x128 .bf16) (harg16 : arg16.IsWhole) (v3 : Vec F S1x512 .f32) (v4 : Vec F S1x512 .f32) (v16 : Vec F S1x128 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (f_arg11 : BufTy.Contents (Elt F) arg11.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty)

local notation "B₀" => blkOf arg1 arg2 arg3 arg4 arg5 arg6 arg7 arg8 v3 v4 v16 X_arg1 X_arg2 X_arg3 X_arg4 X_arg5 X_arg6 X_arg7 X_arg8
local notation "S₀" => stOf (F := F) arg13 arg14 arg15 arg16
local notation "pcs" => pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v16 r16 c16 X_arg1 X_arg2 X_arg3 X_arg4 X_arg5 X_arg6 X_arg7 X_arg8 f_arg11 f_arg13 f_arg14 f_arg15 f_arg16

/-- The carried cells before trip `k`. -/
theorem loop_state : ∀ k : ℕ, k ≤ k0_t1_loop.trips →
    S₀ (arg13.view.writes (Elt F) f_arg13 (pcs k).2.1) (arg14.view.writes (Elt F) f_arg14 (pcs k).2.2.1)
        (arg15.view.writes (Elt F) f_arg15 (pcs k).2.2.2.1) (arg16.view.writes (Elt F) f_arg16 (pcs k).2.2.2.2)
      = (B₀).run (S₀ f_arg13 f_arg14 f_arg15 f_arg16) k
  | 0, _ => rfl
  | k + 1, hk => by
    have ih := loop_state k (Nat.le_of_succ_le hk)
    rw [(B₀).run_succ _ ⟨k, hk⟩, ← ih, ← trip_state (𝒱 := 𝒱) (c := c) (bd := bd) (i := i) (harg1 := harg1) (harg2 := harg2) (harg3 := harg3) (harg4 := harg4) (harg5 := harg5) (harg6 := harg6) (harg7 := harg7) (harg8 := harg8) (arg9 := arg9) (harg9 := harg9) (arg10 := arg10) (harg10 := harg10) (arg11 := arg11) (harg11 := harg11) (arg12 := arg12) (harg12 := harg12) (harg13 := harg13) (harg14 := harg14) (harg15 := harg15) (harg16 := harg16) (f_arg11 := arg11.view.writes (Elt F) f_arg11 (pcs k).1)]
    rw [pb_k0_t1_succ _ _ _ _ _ _ _ _ _ _ _ _ _ _ _ _ _ _ _ _ _ _ _ _ _ _ _ _ _ _ _ _ _ _ _ _ _ _ _ _ _ _ _ _ _ _ _ _ _ _ _ _ _ _ ⟨k, hk⟩]
    simp only [View.writes_append]

/-- The rows left before trip `k`. -/
theorem loop_rows (y : S192x2048.Idx) : ∀ k : ℕ, k ≤ k0_t1_loop.trips → (tripOf y).val < k →
    arg11.view.read (Elt F) (arg11.view.writes (Elt F) f_arg11 (pcs k).1) y = (B₀).rows (S₀ f_arg13 f_arg14 f_arg15 f_arg16) y
  | 0, _, h => absurd h (Nat.not_lt_zero _)
  | k + 1, hk, h => by
    rw [pb_k0_t1_succ _ _ _ _ _ _ _ _ _ _ _ _ _ _ _ _ _ _ _ _ _ _ _ _ _ _ _ _ _ _ _ _ _ _ _ _ _ _ _ _ _ _ _ _ _ _ _ _ _ _ _ _ _ _ ⟨k, hk⟩]
    simp only [View.writes_append]
    by_cases e : tripOf y = ⟨k, hk⟩
    · rw [trip_row_hit (h := e), loop_state _ _ _ _ _ _ _ _ _ _ _ _ _ _ _ _ _ _ _ _ _ _ _ _ _ _ _ _ _ _ _ _ _ _ _ _ _ _ _ _ _ _ _ _ _ _ _ _ _ _ _ _ k (Nat.le_of_succ_le hk)]
      unfold Blk.rows
      rw [e]
    · rw [trip_row_miss (h := e)]
      refine loop_rows y k (Nat.le_of_succ_le hk) (Nat.lt_of_le_of_ne (Nat.lt_succ_iff.mp h) fun h' => e (Fin.ext h'))

end

end Cert.KernelIdeal.Hgrn

end
-- ==== Proof.Body.lean ====
module

public import proofs.«01_k».proof.Proof.Loop
public import proofs.«01_k».proof.Proof.Gen.KernelIdeal.Frame.Runs

/-! The kernel's body at one grid point: from its input blocks and what the point before left, to the rows that it
    writes and what it carries on. Three cases: the first point, which clears what is carried; a middle one; the last,
    which also writes the lower bound's gradient. -/

@[expose] public section

set_option maxRecDepth 16384
set_option maxHeartbeats 4000000

noncomputable section

namespace Cert.KernelIdeal.Hgrn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- A grid point's blocks, from the contents of its ten input cells. -/
def Blk.of (x0 : Vec F S192x512 .f32) (x1 : Vec F S192x512 .f32) (x2 : Vec F S192x512 .f32) (x3 : Vec F S192x512 .f32) (x4 : Vec F S192x512 .f32) (x5 : Vec F S12x512x128 .bf16) (x6 : Vec F S192x64 .f32) (x7 : Vec F S192x512 .bf16) (x8 : Vec F S2x512 .f32) (x9 : Vec F S1x128 .f32) : Blk F :=
  ⟨x0, x1, x2, x3, x4, x5, x6, x7, View.ld x8 (Rect.unit (s := S2x512) ![0, 0] S1x512.size inb_S2x512_S1x512_0_0),
    View.ld x8 (Rect.unit (s := S2x512) ![1, 0] S1x512.size inb_S2x512_S1x512_1_0), x9⟩

/-- What is carried before the first point. -/
def St.zero : St F := ⟨const S1x128 0x00000000#32, const S4x128x128 0x00000000#32, const S1x512 0x00000000#32,
  broadcast S4x128x128 (Scalar.ofBits .bf16 0x0000#16 : F .bf16)⟩

/-- What a grid point carries on. -/
def Blk.out (B : Blk F) (s : St F) : St F := B.run s k0_t1_loop.trips

section
variable (c : Dev nD) (i : grid0.Coords) (arg1 : Memref sig .tc .vmem S192x512 .f32) (harg1 : arg1.IsWhole) (arg2 : Memref sig .tc .vmem S192x512 .f32) (harg2 : arg2.IsWhole) (arg3 : Memref sig .tc .vmem S192x512 .f32) (harg3 : arg3.IsWhole) (arg4 : Memref sig .tc .vmem S192x512 .f32) (harg4 : arg4.IsWhole) (arg5 : Memref sig .tc .vmem S192x512 .f32) (harg5 : arg5.IsWhole) (arg6 : Memref sig .tc .vmem S12x512x128 .bf16) (harg6 : arg6.IsWhole) (arg7 : Memref sig .tc .vmem S192x64 .f32) (harg7 : arg7.IsWhole) (arg8 : Memref sig .tc .vmem S192x512 .bf16) (harg8 : arg8.IsWhole) (arg9 : Memref sig .tc .vmem S2x512 .f32) (harg9 : arg9.IsWhole) (arg10 : Memref sig .tc .vmem S1x128 .f32) (harg10 : arg10.IsWhole) (arg11 : Memref sig .tc .vmem S192x2048 .bf16) (harg11 : arg11.IsWhole) (arg12 : Memref sig .tc .vmem S2x512 .f32) (harg12 : arg12.IsWhole) (arg13 : Memref sig .tc .vmem S1x128 .f32) (harg13 : arg13.IsWhole) (arg14 : Memref sig .tc .vmem S4x128x128 .f32) (harg14 : arg14.IsWhole) (arg15 : Memref sig .tc .vmem S1x512 .f32) (harg15 : arg15.IsWhole) (arg16 : Memref sig .tc .vmem S4x128x128 .bf16) (harg16 : arg16.IsWhole) (x0 : Vec F S192x512 .f32) (x1 : Vec F S192x512 .f32) (x2 : Vec F S192x512 .f32) (x3 : Vec F S192x512 .f32) (x4 : Vec F S192x512 .f32) (x5 : Vec F S12x512x128 .bf16) (x6 : Vec F S192x64 .f32) (x7 : Vec F S192x512 .bf16) (x8 : Vec F S2x512 .f32) (x9 : Vec F S1x128 .f32)

local notation "B₁" => Blk.of x0 x1 x2 x3 x4 x5 x6 x7 x8 x9

/-- Cells that hold a state hold it. -/
theorem stOf_unread (s : St F) : stOf (F := F) arg13 arg14 arg15 arg16 (harg13.unread s.g) (harg14.unread s.d) (harg15.unread s.l) (harg16.unread s.n) = s := by
  unfold stOf
  simp only [Memref.IsWhole.read_unread]

/-- Cells that have been cleared hold the first state. -/
theorem stOf_zero (f13 : BufTy.Contents (Elt F) arg13.view.ty) (f14 : BufTy.Contents (Elt F) arg14.view.ty) (f15 : BufTy.Contents (Elt F) arg15.view.ty) (f16 : BufTy.Contents (Elt F) arg16.view.ty) :
    stOf (F := F) arg13 arg14 arg15 arg16 (arg13.view.writes (Elt F) f13 [⟨Rect.unit (s := S1x128) ![0, 0] S1x128.size inb_S1x128_S1x128_0_0, k0_pay4 (F := F)⟩])
      (arg14.view.writes (Elt F) f14 [⟨Rect.unit (s := S4x128x128) ![0, 0, 0] S4x128x128.size inb_S4x128x128_S4x128x128_0_0_0, k0_pay1 (F := F)⟩])
      (arg15.view.writes (Elt F) f15 [⟨Rect.unit (s := S1x512) ![0, 0] S1x512.size inb_S1x512_S1x512_0_0, k0_pay3 (F := F)⟩])
      (arg16.view.writes (Elt F) f16 [⟨Rect.unit (s := S4x128x128) ![0, 0, 0] S4x128x128.size inb_S4x128x128_S4x128x128_0_0_0, k0_pay2 (F := F)⟩]) = St.zero := by
  apply St.ext <;> exact View.read_writes_full _ _ _ _ _

/-- The blocks that the loop finds in the cells. -/
theorem blkOf_eq : blkOf arg1 arg2 arg3 arg4 arg5 arg6 arg7 arg8
    (arg9.view.readAt (Elt F) (Rect.unit (s := S2x512) ![0, 0] S1x512.size inb_S2x512_S1x512_0_0).toLoadRect (harg9.unread x8))
    (arg9.view.readAt (Elt F) (Rect.unit (s := S2x512) ![1, 0] S1x512.size inb_S2x512_S1x512_1_0).toLoadRect (harg9.unread x8))
    (arg10.view.readAt (Elt F) (Rect.unit (s := S1x128) ![0, 0] S1x128.size inb_S1x128_S1x128_0_0).toLoadRect (harg10.unread x9))
    (harg1.unread x0) (harg2.unread x1) (harg3.unread x2) (harg4.unread x3) (harg5.unread x4) (harg6.unread x5) (harg7.unread x6) (harg8.unread x7) = B₁ := by
  unfold blkOf Blk.of
  rw [View.readAt_full, View.readAt_eq_ld, View.readAt_eq_ld]
  simp only [Memref.IsWhole.read_unread]

theorem after_state {G11 : BufTy.Contents (Elt F) arg11.view.ty} {G13 : BufTy.Contents (Elt F) arg13.view.ty} {G14 : BufTy.Contents (Elt F) arg14.view.ty} {G15 : BufTy.Contents (Elt F) arg15.view.ty} {G16 : BufTy.Contents (Elt F) arg16.view.ty} {s : St F} (hG : stOf (F := F) arg13 arg14 arg15 arg16 G13 G14 G15 G16 = s) :
    stOf (F := F) arg13 arg14 arg15 arg16 (arg13.view.writes (Elt F) G13 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg9.view.readAt (Elt F) (Rect.unit (s := S2x512) ![0, 0] S1x512.size inb_S2x512_S1x512_0_0).toLoadRect (harg9.unread x8)) (arg9.view.readAt (Elt F) (Rect.unit (s := S2x512) ![1, 0] S1x512.size inb_S2x512_S1x512_1_0).toLoadRect (harg9.unread x8)) (arg10.view.readAt (Elt F) (Rect.unit (s := S1x128) ![0, 0] S1x128.size inb_S1x128_S1x128_0_0).toLoadRect (harg10.unread x9)) r16 c16 (harg1.unread x0) (harg2.unread x1) (harg3.unread x2) (harg4.unread x3) (harg5.unread x4) (harg6.unread x5) (harg7.unread x6) (harg8.unread x7) G11 G13 G14 G15 G16 k0_t1_loop.trips).2.1) (arg14.view.writes (Elt F) G14 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg9.view.readAt (Elt F) (Rect.unit (s := S2x512) ![0, 0] S1x512.size inb_S2x512_S1x512_0_0).toLoadRect (harg9.unread x8)) (arg9.view.readAt (Elt F) (Rect.unit (s := S2x512) ![1, 0] S1x512.size inb_S2x512_S1x512_1_0).toLoadRect (harg9.unread x8)) (arg10.view.readAt (Elt F) (Rect.unit (s := S1x128) ![0, 0] S1x128.size inb_S1x128_S1x128_0_0).toLoadRect (harg10.unread x9)) r16 c16 (harg1.unread x0) (harg2.unread x1) (harg3.unread x2) (harg4.unread x3) (harg5.unread x4) (harg6.unread x5) (harg7.unread x6) (harg8.unread x7) G11 G13 G14 G15 G16 k0_t1_loop.trips).2.2.1)
        (arg15.view.writes (Elt F) G15 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg9.view.readAt (Elt F) (Rect.unit (s := S2x512) ![0, 0] S1x512.size inb_S2x512_S1x512_0_0).toLoadRect (harg9.unread x8)) (arg9.view.readAt (Elt F) (Rect.unit (s := S2x512) ![1, 0] S1x512.size inb_S2x512_S1x512_1_0).toLoadRect (harg9.unread x8)) (arg10.view.readAt (Elt F) (Rect.unit (s := S1x128) ![0, 0] S1x128.size inb_S1x128_S1x128_0_0).toLoadRect (harg10.unread x9)) r16 c16 (harg1.unread x0) (harg2.unread x1) (harg3.unread x2) (harg4.unread x3) (harg5.unread x4) (harg6.unread x5) (harg7.unread x6) (harg8.unread x7) G11 G13 G14 G15 G16 k0_t1_loop.trips).2.2.2.1) (arg16.view.writes (Elt F) G16 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg9.view.readAt (Elt F) (Rect.unit (s := S2x512) ![0, 0] S1x512.size inb_S2x512_S1x512_0_0).toLoadRect (harg9.unread x8)) (arg9.view.readAt (Elt F) (Rect.unit (s := S2x512) ![1, 0] S1x512.size inb_S2x512_S1x512_1_0).toLoadRect (harg9.unread x8)) (arg10.view.readAt (Elt F) (Rect.unit (s := S1x128) ![0, 0] S1x128.size inb_S1x128_S1x128_0_0).toLoadRect (harg10.unread x9)) r16 c16 (harg1.unread x0) (harg2.unread x1) (harg3.unread x2) (harg4.unread x3) (harg5.unread x4) (harg6.unread x5) (harg7.unread x6) (harg8.unread x7) G11 G13 G14 G15 G16 k0_t1_loop.trips).2.2.2.2) = (B₁).out s := by
  rw [loop_state, blkOf_eq, hG]
  all_goals first | rfl | exact le_rfl

theorem after_g {G11 : BufTy.Contents (Elt F) arg11.view.ty} {G13 : BufTy.Contents (Elt F) arg13.view.ty} {G14 : BufTy.Contents (Elt F) arg14.view.ty} {G15 : BufTy.Contents (Elt F) arg15.view.ty} {G16 : BufTy.Contents (Elt F) arg16.view.ty} {s : St F} (hG : stOf (F := F) arg13 arg14 arg15 arg16 G13 G14 G15 G16 = s) :
    arg13.view.read (Elt F) (arg13.view.writes (Elt F) G13 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg9.view.readAt (Elt F) (Rect.unit (s := S2x512) ![0, 0] S1x512.size inb_S2x512_S1x512_0_0).toLoadRect (harg9.unread x8)) (arg9.view.readAt (Elt F) (Rect.unit (s := S2x512) ![1, 0] S1x512.size inb_S2x512_S1x512_1_0).toLoadRect (harg9.unread x8)) (arg10.view.readAt (Elt F) (Rect.unit (s := S1x128) ![0, 0] S1x128.size inb_S1x128_S1x128_0_0).toLoadRect (harg10.unread x9)) r16 c16 (harg1.unread x0) (harg2.unread x1) (harg3.unread x2) (harg4.unread x3) (harg5.unread x4) (harg6.unread x5) (harg7.unread x6) (harg8.unread x7) G11 G13 G14 G15 G16 k0_t1_loop.trips).2.1) = ((B₁).out s).g :=
  congrArg St.g (after_state c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 hG)

theorem after_d {G11 : BufTy.Contents (Elt F) arg11.view.ty} {G13 : BufTy.Contents (Elt F) arg13.view.ty} {G14 : BufTy.Contents (Elt F) arg14.view.ty} {G15 : BufTy.Contents (Elt F) arg15.view.ty} {G16 : BufTy.Contents (Elt F) arg16.view.ty} {s : St F} (hG : stOf (F := F) arg13 arg14 arg15 arg16 G13 G14 G15 G16 = s) :
    arg14.view.read (Elt F) (arg14.view.writes (Elt F) G14 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg9.view.readAt (Elt F) (Rect.unit (s := S2x512) ![0, 0] S1x512.size inb_S2x512_S1x512_0_0).toLoadRect (harg9.unread x8)) (arg9.view.readAt (Elt F) (Rect.unit (s := S2x512) ![1, 0] S1x512.size inb_S2x512_S1x512_1_0).toLoadRect (harg9.unread x8)) (arg10.view.readAt (Elt F) (Rect.unit (s := S1x128) ![0, 0] S1x128.size inb_S1x128_S1x128_0_0).toLoadRect (harg10.unread x9)) r16 c16 (harg1.unread x0) (harg2.unread x1) (harg3.unread x2) (harg4.unread x3) (harg5.unread x4) (harg6.unread x5) (harg7.unread x6) (harg8.unread x7) G11 G13 G14 G15 G16 k0_t1_loop.trips).2.2.1) = ((B₁).out s).d :=
  congrArg St.d (after_state c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 hG)

theorem after_l {G11 : BufTy.Contents (Elt F) arg11.view.ty} {G13 : BufTy.Contents (Elt F) arg13.view.ty} {G14 : BufTy.Contents (Elt F) arg14.view.ty} {G15 : BufTy.Contents (Elt F) arg15.view.ty} {G16 : BufTy.Contents (Elt F) arg16.view.ty} {s : St F} (hG : stOf (F := F) arg13 arg14 arg15 arg16 G13 G14 G15 G16 = s) :
    arg15.view.read (Elt F) (arg15.view.writes (Elt F) G15 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg9.view.readAt (Elt F) (Rect.unit (s := S2x512) ![0, 0] S1x512.size inb_S2x512_S1x512_0_0).toLoadRect (harg9.unread x8)) (arg9.view.readAt (Elt F) (Rect.unit (s := S2x512) ![1, 0] S1x512.size inb_S2x512_S1x512_1_0).toLoadRect (harg9.unread x8)) (arg10.view.readAt (Elt F) (Rect.unit (s := S1x128) ![0, 0] S1x128.size inb_S1x128_S1x128_0_0).toLoadRect (harg10.unread x9)) r16 c16 (harg1.unread x0) (harg2.unread x1) (harg3.unread x2) (harg4.unread x3) (harg5.unread x4) (harg6.unread x5) (harg7.unread x6) (harg8.unread x7) G11 G13 G14 G15 G16 k0_t1_loop.trips).2.2.2.1) = ((B₁).out s).l :=
  congrArg St.l (after_state c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 hG)

theorem after_n {G11 : BufTy.Contents (Elt F) arg11.view.ty} {G13 : BufTy.Contents (Elt F) arg13.view.ty} {G14 : BufTy.Contents (Elt F) arg14.view.ty} {G15 : BufTy.Contents (Elt F) arg15.view.ty} {G16 : BufTy.Contents (Elt F) arg16.view.ty} {s : St F} (hG : stOf (F := F) arg13 arg14 arg15 arg16 G13 G14 G15 G16 = s) :
    arg16.view.read (Elt F) (arg16.view.writes (Elt F) G16 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg9.view.readAt (Elt F) (Rect.unit (s := S2x512) ![0, 0] S1x512.size inb_S2x512_S1x512_0_0).toLoadRect (harg9.unread x8)) (arg9.view.readAt (Elt F) (Rect.unit (s := S2x512) ![1, 0] S1x512.size inb_S2x512_S1x512_1_0).toLoadRect (harg9.unread x8)) (arg10.view.readAt (Elt F) (Rect.unit (s := S1x128) ![0, 0] S1x128.size inb_S1x128_S1x128_0_0).toLoadRect (harg10.unread x9)) r16 c16 (harg1.unread x0) (harg2.unread x1) (harg3.unread x2) (harg4.unread x3) (harg5.unread x4) (harg6.unread x5) (harg7.unread x6) (harg8.unread x7) G11 G13 G14 G15 G16 k0_t1_loop.trips).2.2.2.2) = ((B₁).out s).n :=
  congrArg St.n (after_state c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 hG)

theorem after_rows {G11 : BufTy.Contents (Elt F) arg11.view.ty} {G13 : BufTy.Contents (Elt F) arg13.view.ty} {G14 : BufTy.Contents (Elt F) arg14.view.ty} {G15 : BufTy.Contents (Elt F) arg15.view.ty} {G16 : BufTy.Contents (Elt F) arg16.view.ty} {s : St F} (hG : stOf (F := F) arg13 arg14 arg15 arg16 G13 G14 G15 G16 = s) :
    arg11.view.read (Elt F) (arg11.view.writes (Elt F) G11 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg9.view.readAt (Elt F) (Rect.unit (s := S2x512) ![0, 0] S1x512.size inb_S2x512_S1x512_0_0).toLoadRect (harg9.unread x8)) (arg9.view.readAt (Elt F) (Rect.unit (s := S2x512) ![1, 0] S1x512.size inb_S2x512_S1x512_1_0).toLoadRect (harg9.unread x8)) (arg10.view.readAt (Elt F) (Rect.unit (s := S1x128) ![0, 0] S1x128.size inb_S1x128_S1x128_0_0).toLoadRect (harg10.unread x9)) r16 c16 (harg1.unread x0) (harg2.unread x1) (harg3.unread x2) (harg4.unread x3) (harg5.unread x4) (harg6.unread x5) (harg7.unread x6) (harg8.unread x7) G11 G13 G14 G15 G16 k0_t1_loop.trips).1) = (B₁).rows s := by
  funext y
  rw [loop_rows (y := y), blkOf_eq, hG]
  · exact le_rfl
  · exact (tripOf y).isLt

theorem body_A (hc0 : cond0_0 i) (hc1 : ¬cond0_1 i) (xi : Vec F S2x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xi ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare ((B₁).rows St.zero) ∗ owns (c : Thread nD τ) arg12 fullShare xi ∗ owns (c : Thread nD τ) arg13 fullShare ((B₁).out St.zero).g ∗ owns (c : Thread nD τ) arg14 fullShare ((B₁).out St.zero).d ∗ owns (c : Thread nD τ) arg15 fullShare ((B₁).out St.zero).l ∗ owns (c : Thread nD τ) arg16 fullShare ((B₁).out St.zero).n) -∗ K ⟨⟩))
      ⊢ wp frame (wpE (defs₀ (F := F)) Variants.none c none) E (cc0_hgrn_bwd_1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_hgrn_bwd_1_eq_skeleton]; unfold cc0_hgrn_bwd_1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%d14, %f14, -, H14⟩, ⟨%d15, %f15, -, H15⟩, ⟨%d16, %f16, -, H16⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12
  sl_exec (disch := first | sl_exact hc0 | sl_exact hc1)
  sl_step
  iapply Hk
  isplitl [H1]
  · iexists _; isplitr; swap; iexact H1; ipureintro; exact harg1.read_unread _
  isplitl [H2]
  · iexists _; isplitr; swap; iexact H2; ipureintro; exact harg2.read_unread _
  isplitl [H3]
  · iexists _; isplitr; swap; iexact H3; ipureintro; exact harg3.read_unread _
  isplitl [H4]
  · iexists _; isplitr; swap; iexact H4; ipureintro; exact harg4.read_unread _
  isplitl [H5]
  · iexists _; isplitr; swap; iexact H5; ipureintro; exact harg5.read_unread _
  isplitl [H6]
  · iexists _; isplitr; swap; iexact H6; ipureintro; exact harg6.read_unread _
  isplitl [H7]
  · iexists _; isplitr; swap; iexact H7; ipureintro; exact harg7.read_unread _
  isplitl [H8]
  · iexists _; isplitr; swap; iexact H8; ipureintro; exact harg8.read_unread _
  isplitl [H9]
  · iexists _; isplitr; swap; iexact H9; ipureintro; exact harg9.read_unread _
  isplitl [H10]
  · iexists _; isplitr; swap; iexact H10; ipureintro; exact harg10.read_unread _
  isplitl [H11]
  · iexists _; isplitr; swap; iexact H11; ipureintro; exact after_rows c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (stOf_zero _ _ _ _ _ _ _ _)
  isplitl [H12]
  · iexists _; isplitr; swap; iexact H12; ipureintro; exact harg12.read_unread _
  isplitl [H13]
  · iexists _; isplitr; swap; iexact H13; ipureintro; exact (congrArg (View.read (Elt F) _) (View.writes_append _ _ _ _)).trans (after_g c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (stOf_zero _ _ _ _ _ _ _ _))
  isplitl [H14]
  · iexists _; isplitr; swap; iexact H14; ipureintro; exact (congrArg (View.read (Elt F) _) (View.writes_append _ _ _ _)).trans (after_d c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (stOf_zero _ _ _ _ _ _ _ _))
  isplitl [H15]
  · iexists _; isplitr; swap; iexact H15; ipureintro; exact (congrArg (View.read (Elt F) _) (View.writes_append _ _ _ _)).trans (after_l c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (stOf_zero _ _ _ _ _ _ _ _))
  iexists _; isplitr; swap; iexact H16; ipureintro; exact (congrArg (View.read (Elt F) _) (View.writes_append _ _ _ _)).trans (after_n c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (stOf_zero _ _ _ _ _ _ _ _))

theorem body_B (hc0 : ¬cond0_0 i) (hc1 : ¬cond0_1 i) (s : St F) (xi : Vec F S2x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xi ∗ owns (c : Thread nD τ) arg13 fullShare s.g ∗ owns (c : Thread nD τ) arg14 fullShare s.d ∗ owns (c : Thread nD τ) arg15 fullShare s.l ∗ owns (c : Thread nD τ) arg16 fullShare s.n ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare ((B₁).rows s) ∗ owns (c : Thread nD τ) arg12 fullShare xi ∗ owns (c : Thread nD τ) arg13 fullShare ((B₁).out s).g ∗ owns (c : Thread nD τ) arg14 fullShare ((B₁).out s).d ∗ owns (c : Thread nD τ) arg15 fullShare ((B₁).out s).l ∗ owns (c : Thread nD τ) arg16 fullShare ((B₁).out s).n) -∗ K ⟨⟩))
      ⊢ wp frame (wpE (defs₀ (F := F)) Variants.none c none) E (cc0_hgrn_bwd_1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_hgrn_bwd_1_eq_skeleton]; unfold cc0_hgrn_bwd_1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, ⟨%f16, %hf16, H16⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg14.eq_unread hf14; obtain rfl := harg15.eq_unread hf15; obtain rfl := harg16.eq_unread hf16
  sl_exec (disch := first | sl_exact hc0 | sl_exact hc1)
  sl_step
  iapply Hk
  isplitl [H1]
  · iexists _; isplitr; swap; iexact H1; ipureintro; exact harg1.read_unread _
  isplitl [H2]
  · iexists _; isplitr; swap; iexact H2; ipureintro; exact harg2.read_unread _
  isplitl [H3]
  · iexists _; isplitr; swap; iexact H3; ipureintro; exact harg3.read_unread _
  isplitl [H4]
  · iexists _; isplitr; swap; iexact H4; ipureintro; exact harg4.read_unread _
  isplitl [H5]
  · iexists _; isplitr; swap; iexact H5; ipureintro; exact harg5.read_unread _
  isplitl [H6]
  · iexists _; isplitr; swap; iexact H6; ipureintro; exact harg6.read_unread _
  isplitl [H7]
  · iexists _; isplitr; swap; iexact H7; ipureintro; exact harg7.read_unread _
  isplitl [H8]
  · iexists _; isplitr; swap; iexact H8; ipureintro; exact harg8.read_unread _
  isplitl [H9]
  · iexists _; isplitr; swap; iexact H9; ipureintro; exact harg9.read_unread _
  isplitl [H10]
  · iexists _; isplitr; swap; iexact H10; ipureintro; exact harg10.read_unread _
  isplitl [H11]
  · iexists _; isplitr; swap; iexact H11; ipureintro; exact after_rows c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (stOf_unread _ _ _ _ _ _ _ _ s)
  isplitl [H12]
  · iexists _; isplitr; swap; iexact H12; ipureintro; exact harg12.read_unread _
  isplitl [H13]
  · iexists _; isplitr; swap; iexact H13; ipureintro; exact after_g c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (stOf_unread _ _ _ _ _ _ _ _ s)
  isplitl [H14]
  · iexists _; isplitr; swap; iexact H14; ipureintro; exact after_d c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (stOf_unread _ _ _ _ _ _ _ _ s)
  isplitl [H15]
  · iexists _; isplitr; swap; iexact H15; ipureintro; exact after_l c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (stOf_unread _ _ _ _ _ _ _ _ s)
  iexists _; isplitr; swap; iexact H16; ipureintro; exact after_n c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (stOf_unread _ _ _ _ _ _ _ _ s)

theorem body_C (hc0 : ¬cond0_0 i) (hc1 : cond0_1 i) (s : St F) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ owns (c : Thread nD τ) arg13 fullShare s.g ∗ owns (c : Thread nD τ) arg14 fullShare s.d ∗ owns (c : Thread nD τ) arg15 fullShare s.l ∗ owns (c : Thread nD τ) arg16 fullShare s.n ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare ((B₁).rows s) ∗ owns (c : Thread nD τ) arg12 fullShare (dlb (B₁).b0 (B₁).b1 ((B₁).out s).l) ∗ owns (c : Thread nD τ) arg13 fullShare ((B₁).out s).g ∗ owns (c : Thread nD τ) arg14 fullShare ((B₁).out s).d ∗ owns (c : Thread nD τ) arg15 fullShare ((B₁).out s).l ∗ owns (c : Thread nD τ) arg16 fullShare ((B₁).out s).n) -∗ K ⟨⟩))
      ⊢ wp frame (wpE (defs₀ (F := F)) Variants.none c none) E (cc0_hgrn_bwd_1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_hgrn_bwd_1_eq_skeleton]; unfold cc0_hgrn_bwd_1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, ⟨%f15, %hf15, H15⟩, ⟨%f16, %hf16, H16⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg13.eq_unread hf13; obtain rfl := harg14.eq_unread hf14; obtain rfl := harg15.eq_unread hf15; obtain rfl := harg16.eq_unread hf16
  sl_exec (disch := first | sl_exact hc0 | sl_exact hc1)
  sl_step
  iapply Hk
  isplitl [H1]
  · iexists _; isplitr; swap; iexact H1; ipureintro; exact harg1.read_unread _
  isplitl [H2]
  · iexists _; isplitr; swap; iexact H2; ipureintro; exact harg2.read_unread _
  isplitl [H3]
  · iexists _; isplitr; swap; iexact H3; ipureintro; exact harg3.read_unread _
  isplitl [H4]
  · iexists _; isplitr; swap; iexact H4; ipureintro; exact harg4.read_unread _
  isplitl [H5]
  · iexists _; isplitr; swap; iexact H5; ipureintro; exact harg5.read_unread _
  isplitl [H6]
  · iexists _; isplitr; swap; iexact H6; ipureintro; exact harg6.read_unread _
  isplitl [H7]
  · iexists _; isplitr; swap; iexact H7; ipureintro; exact harg7.read_unread _
  isplitl [H8]
  · iexists _; isplitr; swap; iexact H8; ipureintro; exact harg8.read_unread _
  isplitl [H9]
  · iexists _; isplitr; swap; iexact H9; ipureintro; exact harg9.read_unread _
  isplitl [H10]
  · iexists _; isplitr; swap; iexact H10; ipureintro; exact harg10.read_unread _
  isplitl [H11]
  · iexists _; isplitr; swap; iexact H11; ipureintro; exact after_rows c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (stOf_unread _ _ _ _ _ _ _ _ s)
  isplitl [H12]
  · iexists _; isplitr; swap; iexact H12; ipureintro; refine (View.read_writes_full _ _ _ _ _).trans ?_; refine (congrArg (k0_pay14 _ _) ((View.readAt_full _ _ _).trans (after_l c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (stOf_unread _ _ _ _ _ _ _ _ s)))).trans ?_; rw [View.readAt_eq_ld, View.readAt_eq_ld, Memref.IsWhole.read_unread]; rfl
  isplitl [H13]
  · iexists _; isplitr; swap; iexact H13; ipureintro; exact after_g c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (stOf_unread _ _ _ _ _ _ _ _ s)
  isplitl [H14]
  · iexists _; isplitr; swap; iexact H14; ipureintro; exact after_d c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (stOf_unread _ _ _ _ _ _ _ _ s)
  isplitl [H15]
  · iexists _; isplitr; swap; iexact H15; ipureintro; exact after_l c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (stOf_unread _ _ _ _ _ _ _ _ s)
  iexists _; isplitr; swap; iexact H16; ipureintro; exact after_n c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (stOf_unread _ _ _ _ _ _ _ _ s)

end

end Cert.KernelIdeal.Hgrn

end
-- ==== Proof.Grid.lean ====
module

public import proofs.«01_k».proof.Proof.Body
public import Idealize.ShloMosaic.Lib.Claim

/-! The run of the kernel's grid: what is carried from one grid point to the next, and that every execution ends with the
    arrays at what the points wrote. -/

@[expose] public section

set_option maxRecDepth 16384
set_option maxHeartbeats 4000000

noncomputable section

namespace Cert.KernelIdeal.Hgrn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks of grid point `t`. -/
def blkAt (c : Dev nD) (t : Fin cfg0.N) : Blk F :=
  Blk.of (iblk m c 0 t) (iblk m c 1 t) (iblk m c 2 t) (iblk m c 3 t) (iblk m c 4 t) (iblk m c 5 t) (iblk m c 6 t) (iblk m c 7 t) (iblk m c 8 t) (iblk m c 9 t)

/-- What is carried before grid point `n`. -/
def carried (c : Dev nD) : ℕ → St F
  | 0 => St.zero
  | n + 1 => if h : n < cfg0.N then (blkAt m c ⟨n, h⟩).out (carried c n) else carried c n

theorem carried_succ (c : Dev nD) (t : Fin cfg0.N) : carried m c (t.val + 1) = (blkAt m c t).out (carried m c t.val) := by
  rw [carried]; exact dif_pos t.isLt

/-- What the invariant says between points: the scratch holds the carried arrays. -/
def held (c : Dev nD) (s : St F) : sProp 𝕄 :=
  iprop(iprop(owns (c : Thread nD τ) scM0_0 fullShare s.d ∗ owns (c : Thread nD τ) scM0_1 fullShare s.l ∗ owns (c : Thread nD τ) scM0_2 fullShare s.n) ∗ (∃ r, prngReg c r))

/-- The invariant before position `n`: before the first point anything, afterwards the carried arrays. -/
def inv (c : Dev nD) : ℕ → sProp 𝕄
  | 0 => Pipeline.ΦA spec0 c
  | n + 1 => held c (carried m c (n + 1))

theorem inv_zero (c : Dev nD) (n : ℕ) (hz : n = 0) : inv m c n = Pipeline.ΦA spec0 c := by
  subst hz; rfl

theorem inv_pos (c : Dev nD) (n : ℕ) (hz : n ≠ 0) : inv m c n = held c (carried m c n) := by
  cases n with
  | zero => exact absurd rfl hz
  | succ n => rfl

/-- The run's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (blkAt m c t).rows (carried m c t.val)
    | ⟨11, _⟩ => dlb (blkAt m c t).b0 (blkAt m c t).b1 (carried m c (t.val + 1)).l
    | ⟨12, _⟩ => (carried m c (t.val + 1)).g
  Φ t := inv m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = (blkAt m c t).rows (carried m c t.val) := by dsimp only [dats]
theorem after_11 (c : Dev nD) (t : Fin cfg0.N) : (dats m 0 c).after 11 t = dlb (blkAt m c t).b0 (blkAt m c t).b1 (carried m c (t.val + 1)).l := by dsimp only [dats]
theorem after_12 (c : Dev nD) (t : Fin cfg0.N) : (dats m 0 c).after 12 t = (carried m c (t.val + 1)).g := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- After the first point the gain's gradient is still in its cell. -/
theorem before_12 (c : Dev nD) (t : Fin cfg0.N) (h0 : ¬t.val % 43 = 0) (d) :
    (dats m 0 c).before 12 t d = (carried m c t.val).g := by
  have hN : t.val < 43 := lt_of_lt_of_eq t.isLt (show cfg0.N = 43 from N_0)
  rw [Dat.before_out_kept _ 12 rfl t (by omega) (Bool.eq_false_iff.mpr fun h => by have := (flush0_12 _).mp h; dsimp only at this; omega)
    (fun _ => rfl) (fun _ _ => rfl), after_12]
  have h : t.val - 1 + 1 = t.val := by omega
  exact congrArg (fun n => (carried m c n).g) h

theorem leaves_0 (c : Dev nD) (t : Fin cfg0.N) : (dats m 0 c).leavesExact 0 t = owns (c : Thread nD τ) (ms0_0 t) fullShare ((dats m 0 c).after 0 t) := by
  unfold Dat.leavesExact; rw [liveAt0_0 t]
theorem leaves_1 (c : Dev nD) (t : Fin cfg0.N) : (dats m 0 c).leavesExact 1 t = owns (c : Thread nD τ) (ms0_1 t) fullShare ((dats m 0 c).after 1 t) := by
  unfold Dat.leavesExact; rw [liveAt0_1 t]
theorem leaves_2 (c : Dev nD) (t : Fin cfg0.N) : (dats m 0 c).leavesExact 2 t = owns (c : Thread nD τ) (ms0_2 t) fullShare ((dats m 0 c).after 2 t) := by
  unfold Dat.leavesExact; rw [liveAt0_2 t]
theorem leaves_3 (c : Dev nD) (t : Fin cfg0.N) : (dats m 0 c).leavesExact 3 t = owns (c : Thread nD τ) (ms0_3 t) fullShare ((dats m 0 c).after 3 t) := by
  unfold Dat.leavesExact; rw [liveAt0_3 t]
theorem leaves_4 (c : Dev nD) (t : Fin cfg0.N) : (dats m 0 c).leavesExact 4 t = owns (c : Thread nD τ) (ms0_4 t) fullShare ((dats m 0 c).after 4 t) := by
  unfold Dat.leavesExact; rw [liveAt0_4 t]
theorem leaves_5 (c : Dev nD) (t : Fin cfg0.N) : (dats m 0 c).leavesExact 5 t = owns (c : Thread nD τ) (ms0_5 t) fullShare ((dats m 0 c).after 5 t) := by
  unfold Dat.leavesExact; rw [liveAt0_5 t]
theorem leaves_6 (c : Dev nD) (t : Fin cfg0.N) : (dats m 0 c).leavesExact 6 t = owns (c : Thread nD τ) (ms0_6 t) fullShare ((dats m 0 c).after 6 t) := by
  unfold Dat.leavesExact; rw [liveAt0_6 t]
theorem leaves_7 (c : Dev nD) (t : Fin cfg0.N) : (dats m 0 c).leavesExact 7 t = owns (c : Thread nD τ) (ms0_7 t) fullShare ((dats m 0 c).after 7 t) := by
  unfold Dat.leavesExact; rw [liveAt0_7 t]
theorem leaves_8 (c : Dev nD) (t : Fin cfg0.N) : (dats m 0 c).leavesExact 8 t = owns (c : Thread nD τ) (ms0_8 t) fullShare ((dats m 0 c).after 8 t) := by
  unfold Dat.leavesExact; rw [liveAt0_8 t]
theorem leaves_9 (c : Dev nD) (t : Fin cfg0.N) : (dats m 0 c).leavesExact 9 t = owns (c : Thread nD τ) (ms0_9 t) fullShare ((dats m 0 c).after 9 t) := by
  unfold Dat.leavesExact; rw [liveAt0_9 t]
theorem leaves_10 (c : Dev nD) (t : Fin cfg0.N) : (dats m 0 c).leavesExact 10 t = owns (c : Thread nD τ) (ms0_10 t) fullShare ((dats m 0 c).after 10 t) := by
  unfold Dat.leavesExact; rw [liveAt0_10 t]
theorem leaves_12 (c : Dev nD) (t : Fin cfg0.N) : (dats m 0 c).leavesExact 12 t = owns (c : Thread nD τ) (ms0_12 t) fullShare ((dats m 0 c).after 12 t) := by
  unfold Dat.leavesExact; rw [liveAt0_12 t]

/-- What the body is called with at a point, -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- The body at any point. -/
theorem sound_body (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = held c (carried m c (t.val + 1)) from rfl, show (dats m 0 c).Φ t.castSucc = inv m c t.val from rfl]
  have hN : t.val < 43 := lt_of_lt_of_eq t.isLt (show cfg0.N = 43 from N_0)
  simp only [leaves_0, leaves_1, leaves_2, leaves_3, leaves_4, leaves_5, leaves_6, leaves_7, leaves_8, leaves_9, leaves_10, leaves_12, after_0, after_1, after_2, after_3, after_4, after_5, after_6, after_7, after_8, after_9, after_10, after_12]
  by_cases h0 : t.val % 43 = 0
  · have h1 : ¬t.val % 43 = 42 := by omega
    have c0 := (hcond0_0 t).mpr h0
    have c1 : ¬cond0_1 (grid0.coords t) := fun h => h1 ((hcond0_1 t).mp h)
    have hz : t.val = 0 := by omega
    rw [Dat.leavesExact_idle (dats m 0 c) 11 t (idleAt0_11_A t c0 c1) (noFlush0_11_A t c0 c1)]
    rw [carried_succ, inv_zero m c _ hz, PhiA0_eq, hz, show carried m c 0 = St.zero from rfl]
    unfold held
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (body_A c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) c0 c1 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexists _; iexact H12
    isplitl [HS0]; · iexact HS0
    isplitl [HS1]; · iexact HS1
    isplitl [HS2]; · iexact HS2
    iintro ⟨H0, H1, H2, H3, H4, H5, H6, H7, H8, H9, H10, H11, H12, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    iexact H12
  · have c0 : ¬cond0_0 (grid0.coords t) := fun h => h0 ((hcond0_0 t).mp h)
    have hz : t.val ≠ 0 := by omega
    rw [carried_succ, inv_pos m c _ hz]
    simp only [before_12 m c t h0]
    unfold held
    by_cases h1 : t.val % 43 = 42
    · have c1 := (hcond0_1 t).mpr h1
      rw [show (dats m 0 c).leavesExact 11 t = owns (c : Thread nD τ) (ms0_11 t) fullShare ((dats m 0 c).after 11 t) from by
        unfold Dat.leavesExact; rw [liveAt0_11_C t c0 c1], after_11, carried_succ]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body_C c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) c0 c1 (carried m c t.val) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexact H12
      isplitl [HS0]; · iexact HS0
      isplitl [HS1]; · iexact HS1
      isplitl [HS2]; · iexact HS2
      iintro ⟨H0, H1, H2, H3, H4, H5, H6, H7, H8, H9, H10, H11, H12, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · have c1 : ¬cond0_1 (grid0.coords t) := fun h => h1 ((hcond0_1 t).mp h)
      rw [Dat.leavesExact_idle (dats m 0 c) 11 t (idleAt0_11_B t c0 c1) (noFlush0_11_B t c0 c1)]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body_B c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) c0 c1 (carried m c t.val) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      isplitl [H12]; · iexact H12
      isplitl [HS0]; · iexact HS0
      isplitl [HS1]; · iexact HS1
      isplitl [HS2]; · iexact HS2
      iintro ⟨H0, H1, H2, H3, H4, H5, H6, H7, H8, H9, H10, H11, H12, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexact H12

theorem defs₀_at (t : Fin cfg0.N) :
    defs₀ (F := F) .tc cfg0.body (cfg0.bodyArgs t (cfg0.slots t)) = bodyAt0 t := by
  unfold defs₀; rw [Defs.onTc_tc]

/-- The obligation at every point. -/
theorem obligation (c : Dev nD) : BodyObligation (dats (F := F) m 0 c) (defs₀ (F := F)) Variants.none () Set.univ := fun t => by
  rw [bigSep_W0, bigSep_W0, defs₀_at]
  exact triple_restated (sound_body m c t) rfl .rfl fun _ => .rfl

theorem inv_in (c : Dev nD) : Pipeline.ΦA spec0 c ⊢ (dats m 0 c).Φ 0 := by
  rw [show (dats m 0 c).Φ 0 = inv m c 0 from rfl, inv_zero m c 0 rfl]
  try exact Idealize.SL.BI.Entails.refl _

theorem inv_out (c : Dev nD) : (dats m 0 c).Φ (Fin.last cfg0.N) ⊢ Pipeline.ΦA spec0 c := by
  have hN : (Fin.last cfg0.N).val ≠ 0 := by rw [Fin.val_last]; have : cfg0.N = 43 := N_0; omega
  rw [show (dats m 0 c).Φ (Fin.last cfg0.N) = inv m c (Fin.last cfg0.N).val from rfl, inv_pos m c _ hN, PhiA0_eq]
  unfold held
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
/-- The launch, with every counter at zero at the end. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := inv_in m) (hout := inv_out m)

/-- Every execution ends with the arrays at what the points wrote. -/
theorem run : θ_run defs (onTc (τ := τ) (main (F := F))) (s₀ m ρ) (Pipeline.FramePost cfgs (dats m) 0 (V m)) :=
  (θ_run defs _ _).mono (fun _ h => h.1) (run_quiescent m ρ)

/-- The frame: every execution terminates with the argument arrays unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (run_quiescent m ρ))

end Cert.KernelIdeal.Hgrn

end
-- ==== Proof.Same.lean ====
module

public import proofs.«01_k».proof.Defs
public import proofs.«01_k».proof.Proof.Gen.Kernel
public import proofs.«01_k».proof.Proof.Gen.KernelIdeal

/-! # The two printed kernels are one program

The exact kernel, at the bits, is the idealised kernel at the bits: their texts agree statement by
statement.  The body and the host program agree by computation; the table of bodies agrees label by label. -/

@[expose] public section

set_option maxHeartbeats 20000000
set_option maxRecDepth 20000

namespace Cert.Same

open Idealize.ShloMosaic Idealize.SL.Sem

/-- The two kernel functions are one function. -/
theorem body_eq : Kernel.cc0_hgrn_bwd_1 (F := Bits) = KernelIdeal.cc0_hgrn_bwd_1 (F := Bits) := rfl

/-- The two tables of bodies are one table. -/
theorem bodies_eq : Kernel.defs₀ (F := Bits) = KernelIdeal.defs₀ (F := Bits) := by
  unfold Kernel.defs₀ KernelIdeal.defs₀
  rw [body_eq]
  refine congrArg _ ?_
  funext l x
  match l, x with
  | 0, (t, s) => rfl

/-- The two tables, the pipelines' labels among them, are one table. -/
theorem defs_eq : Kernel.defs (F := Bits) = KernelIdeal.defs (F := Bits) := by
  unfold Kernel.defs KernelIdeal.defs
  rw [bodies_eq]
  rfl

/-- The two host programs are one program. -/
theorem main_eq : Kernel.main (F := Bits) = KernelIdeal.main (F := Bits) := rfl

end Cert.Same
-- ==== Proof.Ref.lean ====
module

public import proofs.«01_k».proof.Proof.Gen.ReferenceIdeal.Read
public import proofs.«01_k».proof.Proof.Grid

/-!
# The branch's output that the kernel reads is the reference's
-/

@[expose] public section

set_option maxRecDepth 16384
set_option maxHeartbeats 4000000
noncomputable section

namespace Cert.KernelIdeal.Hgrn

open Idealize.ShloMosaic Idealize.ShloMosaic.TcCoe Idealize.SL.Sem Cert.KernelIdeal.Gen

variable {F : FTy → Type} [FloatOps F]
variable (m : (ℓ : Loc nD τ sig) → Buf (Elt F) ℓ)

theorem V_o (c : Dev nD) : V m c main_v110
    = shapeCast S8256x512 (Cert.ReferenceIdeal.Read.val_main_v109 (F := F) (m ((c : Thread nD τ).loc main_arg0)) (m ((c : Thread nD τ).loc main_arg2))) shapeCasts_S8256x4x128_S8256x512 := by
  entry_read
  rfl

end Cert.KernelIdeal.Hgrn

end
-- ==== Proof.Heads.lean ====
module

public import proofs.«01_k».proof.Proof.Block
public import Idealize.ShloMosaic.Lib.Pointwise
public import Idealize.ShloMosaic.Lib.IdealHost

/-!
# The block's formulas read at an index, over the extended reals
-/

@[expose] public section

set_option maxRecDepth 16384
set_option maxHeartbeats 1000000
noncomputable section

namespace Cert.KernelIdeal.Hgrn

open Idealize.ShloMosaic Idealize.SL.Sem Cert.KernelIdeal.Gen

/-- Entry `l` of head `h` among the four heads' entries side by side. -/
def col (h : Fin 4) (l : Fin 128) : Fin 512 := ⟨128 * h.val + l.val, by omega⟩

theorem hd_at {φ : FTy} (h : Fin 4) (x : FVec Ideal S16x512 φ) (r : Fin 16) (l : Fin 128) : hd h x (ix2 r l) = x (ix2 r (col h l)) := by
  unfold hd
  refine extractStridedSlice_apply _ _ _ _ _ fun a => ?_
  fin_cases a
  · show r.val = 0 + r.val; omega
  · rfl

theorem cat_at (p : Fin 4 → FVec Ideal S16x128 .f32) (h : Fin 4) (r : Fin 16) (l : Fin 128) :
    cat (p 0) (p 1) (p 2) (p 3) (ix2 r (col h l)) = p h (ix2 r l) := by
  have hl := l.isLt
  have e : ∀ (j : Fin 128), j.val = l.val → ix2 r j = ix2 r l := fun j hj => congrArg (ix2 r) (Fin.ext hj)
  unfold cat
  pointwise
  have h4 : h = 0 ∨ h = 1 ∨ h = 2 ∨ h = 3 := by revert h; decide
  rcases h4 with rfl | rfl | rfl | rfl
  · have hc : (col 0 l).val = l.val := by simp [col]
    rw [dif_pos (by omega)]; exact congrArg _ (e _ hc)
  · have hc : (col 1 l).val = 128 + l.val := by simp [col]
    rw [dif_neg (by omega), dif_pos (by omega)]; exact congrArg _ (e _ (by simp only [hc]; omega))
  · have hc : (col 2 l).val = 256 + l.val := by simp [col]
    rw [dif_neg (by omega), dif_neg (by omega), dif_pos (by omega)]; exact congrArg _ (e _ (by simp only [hc]; omega))
  · have hc : (col 3 l).val = 384 + l.val := by simp [col]
    rw [dif_neg (by omega), dif_neg (by omega), dif_neg (by omega)]; exact congrArg _ (e _ (by simp only [hc]; omega))

theorem mean_at (x : FVec Ideal S16x128 .f32) (r : Fin 16) (j : Fin 1) : mean x (ix2 r j) = Ideal.div (∑ l : Fin 128, x (ix2 r l)) (Ideal.ofBits .f32 0x43000000#32) := by
  pointwise [mean, const]

theorem colSum_at (x : FVec Ideal S16x128 .f32) (j : Fin 1) (l : Fin 128) : colSum x (ix2 j l) = ∑ r : Fin 16, x (ix2 r l) := by
  pointwise [colSum]

/-- The reciprocal root mean square of a head's row. -/
def rmsOf (w : Fin 128 → EReal) : EReal :=
  Ideal.rsqrt (Ideal.div (∑ l, w l * w l) (Ideal.ofBits .f32 0x43000000#32) + Ideal.ofBits .f32 0x358637BD#32)

theorem onh_at (o : FVec Ideal S16x128 .f32) (r : Fin 16) (l : Fin 128) : onh o (ix2 r l) = o (ix2 r l) * rmsOf fun j => o (ix2 r j) := by
  pointwise [onh, wide, rms, rmsOf, const, mean]

theorem onAll_at (o : FVec Ideal S16x512 .f32) (h : Fin 4) (r : Fin 16) (l : Fin 128) :
    onAll o (ix2 r (col h l)) = o (ix2 r (col h l)) * rmsOf fun j => o (ix2 r (col h j)) := by
  unfold onAll
  rw [cat_at (fun h => onh (hd h o)) h r l, onh_at]
  simp only [hd_at]

/-- A sigmoid. -/
abbrev sg (x : EReal) : EReal := Ideal.logistic x

theorem gain_at (gn : FVec Ideal S1x128 .f32) (h : Fin 4) (r : Fin 16) (l : Fin 128) :
    broadcastTo S16x512 (concatenate S1x512 1 [⟨S1x128, gn⟩, ⟨S1x128, gn⟩, ⟨S1x128, gn⟩, ⟨S1x128, gn⟩] concatenates_S1x128_S1x128_S1x128_S1x128_S1x512_d1) broadcasts_S1x512_S16x512
      (ix2 r (col h l)) = gn (ix2 0 l) := by
  have hl := l.isLt
  have e : ∀ (j : Fin 128), j.val = l.val → ix2 (0 : Fin 1) j = ix2 0 l := fun j hj => congrArg (ix2 (0 : Fin 1)) (Fin.ext hj)
  pointwise
  have h4 : h = 0 ∨ h = 1 ∨ h = 2 ∨ h = 3 := by revert h; decide
  rcases h4 with rfl | rfl | rfl | rfl
  · have hc : (col 0 l).val = l.val := by simp [col]
    rw [dif_pos (by omega)]; exact congrArg _ (e _ hc)
  · have hc : (col 1 l).val = 128 + l.val := by simp [col]
    rw [dif_neg (by omega), dif_pos (by omega)]; exact congrArg _ (e _ (by simp only [hc]; omega))
  · have hc : (col 2 l).val = 256 + l.val := by simp [col]
    rw [dif_neg (by omega), dif_neg (by omega), dif_pos (by omega)]; exact congrArg _ (e _ (by simp only [hc]; omega))
  · have hc : (col 3 l).val = 384 + l.val := by simp [col]
    rw [dif_neg (by omega), dif_neg (by omega), dif_neg (by omega)]; exact congrArg _ (e _ (by simp only [hc]; omega))

/-- The gradient of the output gate at an entry. -/
theorem dgz_at (gn : FVec Ideal S1x128 .f32) (gz dy o : FVec Ideal S16x512 .f32) (h : Fin 4) (r : Fin 16) (l : Fin 128) :
    dgz gn gz dy o (ix2 r (col h l)) = dy (ix2 r (col h l)) * (o (ix2 r (col h l)) * rmsOf fun j => o (ix2 r (col h j))) * gn (ix2 0 l)
      * (sg (gz (ix2 r (col h l))) * (1 + gz (ix2 r (col h l)) * (1 - sg (gz (ix2 r (col h l)))))) := by
  unfold dgz
  show (dy (ix2 r (col h l)) * onAll o (ix2 r (col h l))) * _ * (Ideal.logistic (gz (ix2 r (col h l))) * (Ideal.ofBits .f32 0x3F800000#32 + gz (ix2 r (col h l)) * (Ideal.ofBits .f32 0x3F800000#32 - Ideal.logistic (gz (ix2 r (col h l)))))) = _
  rw [onAll_at, gain_at, Ideal.ofBits_one_f32]

theorem dyn_at (dy gz : FVec Ideal S16x512 .f32) (i : S16x512.Idx) : dyn dy gz i = dy i * (gz i * sg (gz i)) := rfl

/-- The gradient of the gain at an entry. -/
theorem dgn_at (dn o : FVec Ideal S16x512 .f32) (j : Fin 1) (l : Fin 128) :
    dgn dn o (ix2 j l) = ∑ h : Fin 4, ∑ r : Fin 16, dn (ix2 r (col h l)) * (o (ix2 r (col h l)) * rmsOf fun k => o (ix2 r (col h k))) := by
  unfold dgn
  show Ideal.ofBits .f32 0x00000000#32 + colSum _ (ix2 j l) + colSum _ (ix2 j l) + colSum _ (ix2 j l) + colSum _ (ix2 j l) = _
  rw [Ideal.ofBits_zero_f32, zero_add, Fin.sum_univ_four]
  simp only [colSum_at]
  have e : ∀ (h : Fin 4) (r : Fin 16), mulf (hd h dn) (onh (hd h o)) (ix2 r l) = dn (ix2 r (col h l)) * (o (ix2 r (col h l)) * rmsOf fun k => o (ix2 r (col h k))) := fun h r => by
    show hd h dn (ix2 r l) * onh (hd h o) (ix2 r l) = _
    rw [onh_at]; simp only [hd_at]
  simp only [e]

namespace In
variable (I : In Ideal)

theorem dh_gate (h : Fin 4) (r : Fin 16) (l : Fin 128) :
    I.dh (ix2 r (⟨1536 + (128 * h.val + l.val), by omega⟩ : Fin 2048)) = dgz I.gn I.gz I.dyf I.os (ix2 r (col h l)) := by
  unfold dh
  generalize dgz I.gn I.gz I.dyf I.os = X
  generalize I.dfz = Y
  generalize I.di = Z
  generalize mulf I.dq (const S16x512 0x3DB504F3#32) = W
  pointwise
  rw [dif_neg (by omega), dif_neg (by omega), dif_neg (by omega)]
  exact congrArg X (congrArg (ix2 r) (Fin.ext (by show 1536 + _ - 512 - 512 - 512 = 128 * h.val + l.val; omega)))

theorem gNew_at (g : FVec Ideal S1x128 .f32) (j : Fin 1) (l : Fin 128) :
    I.gNew g (ix2 j l) = g (ix2 j l) + ∑ h : Fin 4, ∑ r : Fin 16, I.dn (ix2 r (col h l)) * (I.o (ix2 r (col h l)) * rmsOf fun k => I.o (ix2 r (col h k))) := by
  unfold gNew
  show shapeCast S1x128 g shapeCasts_S1x128_S1x128 (ix2 j l) + dgn I.dn I.os (ix2 j l) = _
  have e : I.os = I.o := by unfold os; exact shapeCast_self _ _
  rw [dgn_at, shapeCast_self, e]

end In

end Cert.KernelIdeal.Hgrn

end
-- ==== Proof.Reads.lean ====
module

public import proofs.«01_k».proof.Proof.Ref
public import proofs.«01_k».proof.Proof.Heads

/-!
# What a trip reads, in the rows of the arguments

Trip `k` of grid point `t` handles the block of sixteen rows numbered `515 - (12 t + k)`: the grid and the loop both walk
the sequence from its end.
-/

@[expose] public section

set_option maxRecDepth 16384
set_option maxHeartbeats 4000000
noncomputable section

namespace Cert.KernelIdeal.Hgrn

open Idealize.ShloMosaic Idealize.ShloMosaic.TcCoe Idealize.SL.Sem Cert.KernelIdeal.Gen

variable {F : FTy → Type} [FloatOps F]
variable (m : (ℓ : Loc nD τ sig) → Buf (Elt F) ℓ)

theorem pts_eq : cfg0.N = 43 := by decide

/-- The number of the block that trip `k` of point `t` handles. -/
def blkNo (t : Fin cfg0.N) (k : Fin k0_t1_loop.trips) : Fin 516 := ⟨515 - (12 * t.val + k.val), by omega⟩
/-- Row `r` of block `b`. -/
def rowOf (b : Fin 516) (r : Fin 16) : Fin 8256 := ⟨16 * b.val + r.val, by omega⟩

theorem off1 (k : Fin k0_t1_loop.trips) : k0_off1 k = ![176 - 16 * k.val, 0] := by revert k; decide +kernel
theorem off2 (k : Fin k0_t1_loop.trips) : k0_off2 k = ![176 - 16 * k.val, 0] := by revert k; decide +kernel
theorem at0 (t : Fin cfg0.N) : win0_0.index t = ![42 - t.val, 0] := by revert t; decide +kernel
theorem at1 (t : Fin cfg0.N) : win0_1.index t = ![42 - t.val, 1] := by revert t; decide +kernel
theorem at2 (t : Fin cfg0.N) : win0_2.index t = ![42 - t.val, 2] := by revert t; decide +kernel
theorem at3' (t : Fin cfg0.N) : win0_3.index t = ![42 - t.val, 3] := by revert t; decide +kernel
theorem at4 (t : Fin cfg0.N) : win0_4.index t = ![42 - t.val, 0] := by revert t; decide +kernel
theorem at7 (t : Fin cfg0.N) : win0_7.index t = ![42 - t.val, 0] := by revert t; decide +kernel
theorem at8 (t : Fin cfg0.N) : win0_8.index t = ![0, 0] := by revert t; decide +kernel
theorem at9 (t : Fin cfg0.N) : win0_9.index t = ![0, 0] := by revert t; decide +kernel
theorem at10 (t : Fin cfg0.N) : win0_10.index t = ![42 - t.val, 0] := by revert t; decide +kernel

section
variable (c : Dev nD) (t : Fin cfg0.N) (k : Fin k0_t1_loop.trips) (s : St F) (r : Fin 16) (j : Fin 512)

theorem bounds : t.val < 43 ∧ k.val < 12 := ⟨t.isLt.trans_eq pts_eq, k.isLt.trans_eq trips_eq⟩

theorem gz_at : ((blkAt m c t).at' s k).gz (ix2 r j) = m ((c : Thread nD τ).loc main_arg0) (ix2 (rowOf (blkNo t k) r) ⟨1536 + j.val, by omega⟩) := by
  obtain ⟨ht, hk⟩ := bounds t k
  show iblk m c 3 t _ = _
  unfold iblk
  rw [View.read_apply]
  show V m c main_arg0 _ = _
  entry_read
  refine congrArg _ (funext fun a => Fin.ext ?_)
  match a with
  | ⟨0, _⟩ => show win0_3.index t 0 * 192 + 1 * (k0_off1 k 0 + 1 * r.val) = 16 * (515 - (12 * t.val + k.val)) + r.val; rw [at3', off1]; show (42 - t.val) * 192 + 1 * (176 - 16 * k.val + 1 * r.val) = _; omega
  | ⟨1, _⟩ => show win0_3.index t 1 * 512 + 1 * (k0_off1 k 1 + 1 * j.val) = 1536 + j.val; rw [at3', off1]; show 3 * 512 + 1 * (0 + 1 * j.val) = _; omega

theorem dy_at : ((blkAt m c t).at' s k).dy (ix2 r j) = m ((c : Thread nD τ).loc main_arg1) (ix2 (rowOf (blkNo t k) r) ⟨j.val, by omega⟩) := by
  obtain ⟨ht, hk⟩ := bounds t k
  show iblk m c 7 t _ = _
  unfold iblk
  rw [View.read_apply]
  show V m c main_arg1 _ = _
  entry_read
  refine congrArg _ (funext fun a => Fin.ext ?_)
  match a with
  | ⟨0, _⟩ => show win0_7.index t 0 * 192 + 1 * (k0_off1 k 0 + 1 * r.val) = 16 * (515 - (12 * t.val + k.val)) + r.val; rw [at7, off1]; show (42 - t.val) * 192 + 1 * (176 - 16 * k.val + 1 * r.val) = _; omega
  | ⟨1, _⟩ => show win0_7.index t 1 * 512 + 1 * (k0_off1 k 1 + 1 * j.val) = j.val; rw [at7, off1]; show 0 * 512 + 1 * (0 + 1 * j.val) = _; omega

theorem gn_at (l : Fin 128) : ((blkAt m c t).at' s k).gn (ix2 0 l) = m ((c : Thread nD τ).loc main_arg3) (ix2 0 l) := by
  show iblk m c 9 t _ = _
  unfold iblk
  rw [View.read_apply]
  show V m c main_arg3 _ = _
  entry_read
  refine congrArg _ (funext fun a => Fin.ext ?_)
  match a with
  | ⟨0, _⟩ => show win0_9.index t 0 * 1 + 1 * 0 = 0; rw [at9]; rfl
  | ⟨1, _⟩ => show win0_9.index t 1 * 128 + 1 * l.val = l.val; rw [at9]; show 0 * 128 + 1 * l.val = _; omega

theorem o_at (h : Fin 4) (l : Fin 128) : ((blkAt m c t).at' s k).o (ix2 r (col h l))
    = Cert.ReferenceIdeal.Read.val_main_v109 (F := F) (m ((c : Thread nD τ).loc main_arg0)) (m ((c : Thread nD τ).loc main_arg2)) (ix3 (rowOf (blkNo t k) r) h l) := by
  obtain ⟨ht, hk⟩ := bounds t k
  show iblk m c 4 t _ = _
  unfold iblk
  rw [View.read_apply]
  show V m c main_v110 _ = _
  rw [V_o]
  generalize Cert.ReferenceIdeal.Read.val_main_v109 (F := F) (m ((c : Thread nD τ).loc main_arg0)) (m ((c : Thread nD τ).loc main_arg2)) = O
  have e : ∀ y : S8256x512.Idx, y = ix2 (rowOf (blkNo t k) r) (col h l) → shapeCast S8256x512 O shapeCasts_S8256x4x128_S8256x512 y = O (ix3 (rowOf (blkNo t k) r) h l) := by
    rintro _ rfl
    pointwise
    refine congrArg O (congrArg₂ (ix3 _) (Fin.ext ?_) (Fin.ext ?_))
    · show (128 * h.val + l.val) / 128 = h.val; omega
    · show (128 * h.val + l.val) % 128 = l.val; omega
  refine e _ (funext fun a => Fin.ext ?_)
  match a with
  | ⟨0, _⟩ => show win0_4.index t 0 * 192 + 1 * (k0_off1 k 0 + 1 * r.val) = 16 * (515 - (12 * t.val + k.val)) + r.val; rw [at4, off1]; show (42 - t.val) * 192 + 1 * (176 - 16 * k.val + 1 * r.val) = _; omega
  | ⟨1, _⟩ => show win0_4.index t 1 * 512 + 1 * (k0_off1 k 1 + 1 * (128 * h.val + l.val)) = 128 * h.val + l.val; rw [at4, off1]; show 0 * 512 + 1 * (0 + 1 * (128 * h.val + l.val)) = _; omega

end

end Cert.KernelIdeal.Hgrn

end
-- ==== Proof.Arrays.lean ====
module

public import proofs.«01_k».proof.Proof.Reads
public import Idealize.ShloMosaic.Lib.Pipeline.ValueKit

/-!
# The arrays after the run

An entry of the first result is what the trip of its block left, and the two small results are what the last point left.
-/

@[expose] public section

set_option maxRecDepth 16384
set_option maxHeartbeats 400000
noncomputable section

namespace Cert.KernelIdeal.Hgrn

open Idealize.ShloMosaic Idealize.ShloMosaic.TcCoe Idealize.SL.Sem Cert.KernelIdeal.Gen
open Idealize.ShloMosaic.Pipeline (Dat Cfg Window)

variable {F : FTy → Type} [FloatOps F]
variable (m : (ℓ : Loc nD τ sig) → Buf (Elt F) ℓ) (c : Dev nD)

/-- The point that handles block `b`, and the trip. -/
def ptOf (b : Fin 516) : Fin cfg0.N := ⟨42 - b.val / 12, by rw [pts_eq]; omega⟩
def tripAt (b : Fin 516) : Fin k0_t1_loop.trips := ⟨11 - b.val % 12, by rw [trips_eq]; omega⟩
theorem blkNo_of (b : Fin 516) : blkNo (ptOf b) (tripAt b) = b := Fin.ext (by show 515 - (12 * (42 - b.val / 12) + (11 - b.val % 12)) = b.val; omega)

/-- What is carried before block `b`'s trip. -/
def stOfBlk (b : Fin 516) : St F := (blkAt m c (ptOf b)).run (carried m c (ptOf b).val) (tripAt b).val
/-- What block `b`'s trip reads. -/
def inOf (b : Fin 516) : In F := (blkAt m c (ptOf b)).at' (stOfBlk m c b) (tripAt b)

/-- A row that a point leaves is what the trip of its block left. -/
theorem rows_at (t : Fin cfg0.N) (y : S192x2048.Idx) (b : Fin 516) (r : Fin 16) (j : Fin 2048)
    (h0 : (42 - t.val) * 192 + (y 0).val = 16 * b.val + r.val) (h1 : (y 1).val = j.val) :
    (blkAt m c t).rows (carried m c t.val) y = (inOf m c b).dh (ix2 r j) := by
  have hr := r.isLt
  have ht : t.val < 43 := t.isLt.trans_eq pts_eq
  have hy : (y 0).val < 192 := (y 0).isLt
  have et : t = ptOf b := Fin.ext (by show t.val = 42 - b.val / 12; omega)
  have ek : tripOf y = tripAt b := Fin.ext (by show 11 - (y 0).val / 16 = 11 - b.val % 12; omega)
  have ep : placeOf y = ix2 r j := by
    funext a
    match a with
    | ⟨0, _⟩ => exact Fin.ext (by show (y 0).val % 16 = r.val; omega)
    | ⟨1, _⟩ => exact Fin.ext h1
  unfold Blk.rows inOf stOfBlk
  rw [ek, ep, et]

theorem dh_all (i : S8256x3072.Idx) : ∀ (b : Fin 516) (r : Fin 16) (j : Fin 2048), (i 0).val = 16 * b.val + r.val → (i 1).val = j.val →
    ((dats m 0 c).arrAt 10 cfg0.N : S8256x3072.Idx → Elt F .bf16) i = (inOf m c b).dh (ix2 r j) := by
  refine (dats m 0 c).arrAt_forall_of_coversWhere 10 (fun i v => ∀ (b : Fin 516) (r : Fin 16) (j : Fin 2048), (i (0 : Fin 2)).val = 16 * b.val + r.val → (i (1 : Fin 2)).val = j.val → v = (inOf m c b).dh (ix2 r j))
    (fun β => β (1 : Fin _) < 1) (by decide +kernel) (fun t hf y b r j h0 h1 => ?_) (fun j hj b r j' h0 h1 => ?_) i
  · blk_simp at h0 h1
    blk_simp
    refine (congrFun (after_10 m c t) _).trans ?_
    have e0 := congrFun (at10 t) 0
    have e1 := congrFun (at10 t) 1
    refine rows_at m c t _ b r j ?_ ?_
    · show _ + (y (0 : Fin 2)).val = _
      rw [← h0, e0]; rfl
    · show (y (1 : Fin 2)).val = _
      rw [← h1, e1]
      exact (show (y (1 : Fin 2)).val = 0 * 2048 + (y (1 : Fin 2)).val by omega)
  · blk_simp [Pipeline.Window.cell_apply] at hj
    blk_simp at h1
    have := j'.isLt
    omega

theorem gain_arr : ((dats m 0 c).arrAt 12 cfg0.N : S1x128.Idx → Elt F .f32) = (carried m c 43).g := by
  refine (dats m 0 c).arrAt_eq_of_after_last 12 (⟨42, by decide⟩ : Fin cfg0.N) (by decide +kernel) _ fun j => ?_
  exact congrFun (after_12 m c (⟨42, by decide⟩ : Fin cfg0.N)) _

theorem low_arr : ((dats m 0 c).arrAt 11 cfg0.N : S2x512.Idx → Elt F .f32) = dlb (blkAt m c ⟨42, by decide⟩).b0 (blkAt m c ⟨42, by decide⟩).b1 (carried m c 43).l := by
  refine (dats m 0 c).arrAt_eq_of_after_last 11 (⟨42, by decide⟩ : Fin cfg0.N) (by decide +kernel) _ fun j => ?_
  exact congrFun (after_11 m c (⟨42, by decide⟩ : Fin cfg0.N)) _

/-- A fact of what is carried that every trip keeps holds throughout: `P n s` of the state `s` after `n` trips. -/
theorem state_ind (P : ℕ → St F → Prop) (h0 : P 0 St.zero)
    (hs : ∀ (t : Fin cfg0.N) (k : Fin k0_t1_loop.trips) (s : St F), P (12 * t.val + k.val) s → P (12 * t.val + k.val + 1) ((blkAt m c t).step s k)) :
    ∀ n, n ≤ 43 → P (12 * n) (carried m c n) ∧ (∀ h : n < cfg0.N, ∀ k, k ≤ 12 → P (12 * n + k) ((blkAt m c ⟨n, h⟩).run (carried m c n) k)) := by
  have run : ∀ n (h : n < cfg0.N), P (12 * n) (carried m c n) → ∀ k, k ≤ 12 → P (12 * n + k) ((blkAt m c ⟨n, h⟩).run (carried m c n) k) := by
    intro n h hn k
    induction k with
    | zero => exact fun _ => hn
    | succ k ih =>
      intro hk
      have hk' : k < k0_t1_loop.trips := by rw [trips_eq]; omega
      rw [(blkAt m c ⟨n, h⟩).run_succ _ ⟨k, hk'⟩]
      exact hs ⟨n, h⟩ ⟨k, hk'⟩ _ (ih (by omega))
  intro n
  induction n with
  | zero => exact fun _ => ⟨h0, fun h => run 0 h h0⟩
  | succ n ih =>
    intro hn
    have hk : n < cfg0.N := by rw [pts_eq]; omega
    have h1 : P (12 * (n + 1)) (carried m c (n + 1)) := by
      rw [carried_succ m c ⟨n, hk⟩]
      exact (ih (by omega)).2 hk 12 le_rfl
    exact ⟨h1, fun h => run _ h h1⟩

end Cert.KernelIdeal.Hgrn

end
-- ==== Proof.Finite.lean ====
module

public import proofs.«01_k».proof.Proof.Gen.ReferenceIdeal.Read
public import proofs.«01_k».proof.Proof.Gen.Pre_regular
public import Idealize.ShloMosaic.Lib.ReduceAll
public import Idealize.ShloMosaic.Lib.IdealHost

/-!
# The forward values of the reference are real numbers

Over the extended reals a product with an infinite factor does not distribute over a sum, so the laws the gradients
need hold where every factor is a real number. This module shows that, the four arguments being finite, every value
on the reference's forward path up to the head outputs is a real number, and that the sigmoids, the exponentials and
the clamped gate are positive.
-/

@[expose] public section

set_option maxRecDepth 16384
noncomputable section

namespace Cert.Finite

open Idealize.ShloMosaic Idealize.ShloMosaic.TcCoe Idealize.SL.Sem Cert.ReferenceIdeal Cert.ReferenceIdeal.Gen Cert.ReferenceIdeal.Read

/-- The extended real is a real number. -/
def IsR (x : EReal) : Prop := ∃ r : ℝ, x = (r : EReal)

/-- The extended real is a positive real number. -/
def IsP (x : EReal) : Prop := ∃ r : ℝ, 0 < r ∧ x = (r : EReal)

theorem IsP.isR {x : EReal} : IsP x → IsR x := fun ⟨r, _, h⟩ => ⟨r, h⟩

theorem IsR.add {x y : EReal} : IsR x → IsR y → IsR (x + y) := by
  rintro ⟨a, rfl⟩ ⟨b, rfl⟩; exact ⟨a + b, (EReal.coe_add a b).symm⟩
theorem IsP.add {x y : EReal} : IsP x → IsP y → IsP (x + y) := by
  rintro ⟨a, ha, rfl⟩ ⟨b, hb, rfl⟩; exact ⟨a + b, add_pos ha hb, (EReal.coe_add a b).symm⟩
theorem IsR.sub {x y : EReal} : IsR x → IsR y → IsR (x - y) := by
  rintro ⟨a, rfl⟩ ⟨b, rfl⟩; exact ⟨a - b, (EReal.coe_sub a b).symm⟩
theorem IsR.mul {x y : EReal} : IsR x → IsR y → IsR (x * y) := by
  rintro ⟨a, rfl⟩ ⟨b, rfl⟩; exact ⟨a * b, (EReal.coe_mul a b).symm⟩
theorem IsR.neg {x : EReal} : IsR x → IsR (-x) := by
  rintro ⟨a, rfl⟩; exact ⟨-a, (EReal.coe_neg a).symm⟩
theorem IsR.exp {x : EReal} : IsR x → IsP (Ideal.exp x) := by
  rintro ⟨a, rfl⟩; exact ⟨Real.exp a, Real.exp_pos a, Ideal.exp_coe a⟩
theorem IsR.div {x y : EReal} : IsR x → IsP y → IsR (Ideal.div x y) := by
  rintro ⟨a, rfl⟩ ⟨b, hb, rfl⟩
  exact ⟨a * (1 / b), by rw [Ideal.div_coe hb.ne', EReal.coe_mul]⟩
theorem IsP.div {x y : EReal} : IsP x → IsP y → IsP (Ideal.div x y) := by
  rintro ⟨a, ha, rfl⟩ ⟨b, hb, rfl⟩
  exact ⟨a * (1 / b), by positivity, by rw [Ideal.div_coe hb.ne', EReal.coe_mul]⟩
theorem IsP.log {x : EReal} : IsP x → IsR (Ideal.log x) := by
  rintro ⟨a, ha, rfl⟩; exact ⟨Real.log a, by rw [Ideal.log_coe, if_neg ha.not_ge]⟩
theorem IsP.rsqrt {x : EReal} : IsP x → IsP (Ideal.rsqrt x) := by
  rintro ⟨a, ha, rfl⟩
  refine ⟨(Real.sqrt a)⁻¹, inv_pos.2 (Real.sqrt_pos.2 ha), ?_⟩
  rw [Ideal.rsqrt_coe, if_neg ha.not_gt, if_neg ha.ne']
theorem IsR.max_p {x y : EReal} : IsR x → IsP y → IsP (max x y) := by
  rintro ⟨a, rfl⟩ ⟨b, hb, rfl⟩
  exact ⟨max a b, lt_max_of_lt_right hb, (EReal.coe_strictMono.monotone.map_max).symm⟩
theorem IsR.max {x y : EReal} (h : IsR x) (hy : IsR y ∨ y = ⊥) : IsR (max x y) := by
  rcases hy with hy | rfl
  · obtain ⟨a, rfl⟩ := h; obtain ⟨b, rfl⟩ := hy; exact ⟨Max.max a b, (EReal.coe_strictMono.monotone.map_max).symm⟩
  · rwa [max_bot_right]

theorem isR_zero : IsR 0 := ⟨0, rfl⟩
theorem isR_one : IsR 1 := ⟨1, rfl⟩
theorem isP_one : IsP 1 := ⟨1, one_pos, rfl⟩

theorem isR_sum {ι : Type*} (s : Finset ι) (f : ι → EReal) (h : ∀ i ∈ s, IsR (f i)) : IsR (∑ i ∈ s, f i) := by
  classical
  induction s using Finset.induction_on with
  | empty => simpa using isR_zero
  | insert a s ha ih =>
    rw [Finset.sum_insert ha]
    exact (h a (by simp)).add (ih fun i hi => h i (by simp [hi]))

/-- The real numbers' sum among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.foldl {ι : Type*} (f : EReal → ι → EReal) (h : ∀ r n, IsR r → IsR (f r n)) (l : List ι) :
    ∀ r, IsR r → IsR (l.foldl f r) := by
  induction l with
  | nil => exact fun r hr => hr
  | cons a l ih => exact fun r hr => ih _ (h r a hr)

theorem isP_floor : IsP (Ideal.ofBits .f32 0x0DA24260#32) := by
  refine ⟨_, ?_, by simp [Ideal.ofBits, Ideal.ieee, -EReal.coe_mul]; rfl⟩
  norm_num
theorem isP_eps : IsP (Ideal.ofBits .f32 0x358637BD#32) := by
  refine ⟨_, ?_, by simp [Ideal.ofBits, Ideal.ieee, -EReal.coe_mul]; rfl⟩
  norm_num
theorem isP_128 : IsP (Ideal.ofBits .f32 0x43000000#32) := by
  refine ⟨_, ?_, by simp [Ideal.ofBits, Ideal.ieee, -EReal.coe_mul]; rfl⟩
  norm_num
theorem isP_scale : IsP (Ideal.ofBits .f32 0x3DB504F3#32) := by
  refine ⟨_, ?_, by simp [Ideal.ofBits, Ideal.ieee, -EReal.coe_mul]; rfl⟩
  norm_num
theorem ofBits_bot : Ideal.ofBits .f32 0xFF800000#32 = ⊥ := by
  simp [Ideal.ofBits, Ideal.ieee]
theorem ofBits_top : Ideal.ofBits .f32 0x7F800000#32 = ⊤ := by
  simp [Ideal.ofBits, Ideal.ieee]

/-- An extended real of absolute value below infinity is a real number. -/
theorem isR_of_lt {x : EReal} (h : max x (-x) < ⊤) : IsR x := by
  induction x using EReal.rec with
  | bot => simp at h
  | top => simp at h
  | coe a => exact ⟨a, rfl⟩

theorem isR_of_cmp {x : EReal} (h : Ideal.cmp .olt (max x (-x)) ⊤ = 1#1) : IsR x := by
  apply isR_of_lt
  by_contra hn
  rw [show Ideal.cmp .olt (max x (-x)) ⊤ = 0#1 from by simp [Ideal.cmp, hn]] at h
  exact absurd h (by decide)

/-- The precondition read: every element of the four arguments is a real number. -/
theorem of_regular (x0 : FVec Ideal S8256x3072 .f32) (x1 : FVec Ideal S8256x1024 .bf16) (x2 : FVec Ideal S2x512 .f32)
    (x3 : FVec Ideal S1x128 .f32) (h : Cert.Pre_regular.fn (F := Ideal) x0 x1 x2 x3 = fun _ => 1#1) :
    (∀ i, IsR (x0 i)) ∧ (∀ i, IsR (x1 i)) ∧ (∀ i, IsR (x2 i)) ∧ (∀ i, IsR (x3 i)) := by
  have h' := congrFun h (fun a => a.elim0)
  unfold Cert.Pre_regular.fn Cert.Pre_regular.fn_part1 at h'
  haveI : Subsingleton Cert.Pre_regular.S_.Idx := ⟨fun a b => funext fun k => k.elim0⟩
  obtain ⟨h123, h4⟩ := IntOp.andi_eq_one.1 h'
  obtain ⟨h12, h3⟩ := IntOp.andi_eq_one.1 h123
  obtain ⟨h1, h2⟩ := IntOp.andi_eq_one.1 h12
  refine ⟨fun i => isR_of_cmp ?_, fun i => isR_of_cmp ?_, fun i => isR_of_cmp ?_, fun i => isR_of_cmp ?_⟩
  · rw [← ofBits_top]; exact Host.reduce_andi_all _ _ _ _ _ h1 i
  · rw [← ofBits_top]; exact Host.reduce_andi_all _ _ _ _ _ h2 i
  · rw [← ofBits_top]; exact Host.reduce_andi_all _ _ _ _ _ h3 i
  · rw [← ofBits_top]; exact Host.reduce_andi_all _ _ _ _ _ h4 i

/-! ## Along the reference's forward lines -/

section Chain

variable (x0 : FVec Ideal S8256x3072 .f32) (x2 : FVec Ideal S2x512 .f32)
variable (h0 : ∀ i, IsR (x0 i)) (h2 : ∀ i, IsR (x2 i))
include h2

theorem r7 : ∀ i, IsR (val_main_v7 (F := Ideal) x2 i) := fun i => by
  unfold val_main_v7
  rw [Host.reduce_eq_fold_single (FloatOps.maximumf (F := Ideal) (φ := .f32)) x2 _ reducesTo_S2x512_S512_d0 (by decide) h_S_ i]
  have e : ∀ (f : Fin 2 → EReal) (b : EReal), (Finset.univ : Finset (Fin 2)).fold (fun x y : EReal => max x y) b f = max (f 0) (max (f 1) b) := fun f b => rfl
  refine (congrArg IsR (e _ _)).mpr ?_
  exact (h2 _).max (Or.inl ((h2 _).max (Or.inr ofBits_bot)))
theorem r14 : ∀ i, IsR (val_main_v14 (F := Ideal) x2 i) := fun i => by
  show IsR (max (Ideal.ofBits .f32 0xFF800000#32) (val_main_v7 (F := Ideal) x2 i))
  rw [ofBits_bot, max_bot_left]; exact r7 x2 h2 i
theorem p27 : ∀ i, IsP (val_main_v27 (F := Ideal) x2 i) := fun i => ((h2 i).sub (r14 x2 h2 _)).exp
theorem p28 : ∀ i, IsP (val_main_v28 (F := Ideal) x2 i) := fun i => by
  rw [val_main_v28_apply]
  show IsP (Ideal.ofBits .f32 0x00000000#32 + _)
  rw [Ideal.ofBits_zero_f32, zero_add, Fin.sum_univ_two]
  exact (p27 x2 h2 _).add (p27 x2 h2 _)
theorem p31 : ∀ i, IsP (val_main_v31 (F := Ideal) x2 i) := fun i => (p27 x2 h2 i).div (p28 x2 h2 _)
theorem r42 : ∀ i, IsR (val_main_v42 (F := Ideal) x2 i) := fun i =>
  ((p31 x2 h2 _).isR.add (p31 x2 h2 _).isR).sub (p31 x2 h2 _).isR
omit h2
include h0
theorem p48 : ∀ i, IsP (val_main_v48 (F := Ideal) x0 i) := fun i => by
  show IsP (Ideal.div (Ideal.ofBits .f32 0x3F800000#32) (Ideal.ofBits .f32 0x3F800000#32 + Ideal.exp (-(val_main_v1 (F := Ideal) x0 i))))
  rw [Ideal.ofBits_one_f32]
  exact isP_one.div (isP_one.add (h0 _).neg.exp)
include h2
theorem r59 : ∀ i, IsR (val_main_v59 (F := Ideal) x0 x2 i) := fun i => by
  show IsR (val_main_v42 (F := Ideal) x2 _ + (Ideal.ofBits .f32 0x3F800000#32 - val_main_v42 (F := Ideal) x2 _) * val_main_v48 (F := Ideal) x0 i)
  rw [Ideal.ofBits_one_f32]
  exact (r42 x2 h2 _).add ((isR_one.sub (r42 x2 h2 _)).mul (p48 x0 h0 _).isR)
theorem p61 : ∀ i, IsP (val_main_v61 (F := Ideal) x0 x2 i) := fun i => (r59 x0 x2 h0 h2 i).max_p isP_floor
theorem r71 : ∀ i, IsR (val_main_v71 (F := Ideal) x0 x2 i) := fun i => (p61 x0 x2 h0 h2 i).log
theorem r78 : ∀ i, IsR (val_main_v78 (F := Ideal) x0 x2 i) := fun i => by
  show IsR ((Ideal.ofBits .f32 0x3F800000#32 - val_main_v42 (F := Ideal) x2 _) * (Ideal.ofBits .f32 0x3F800000#32 - val_main_v48 (F := Ideal) x0 i))
  rw [Ideal.ofBits_one_f32]
  exact (isR_one.sub (r42 x2 h2 _)).mul (isR_one.sub (p48 x0 h0 _).isR)
theorem r84 : ∀ i, IsR (val_main_v84 (F := Ideal) x0 x2 i) := fun i => by
  unfold val_main_v84 Host.reduceWindowAdd
  rw [Ideal.hostReduceWindowAdd_def]
  unfold Ideal.hostReduceWindowAdd Host.reduceWindow
  have hz : IsR ((val_main_call0_call0_v0 (F := Ideal)) (Shape.Idx.first h_S_)) := by
    show IsR (Ideal.ofBits .f32 0x00000000#32)
    rw [Ideal.ofBits_zero_f32]; exact isR_zero
  refine IsR.foldl _ (fun r n hr => hr.add ?_) _ _ hz
  split
  · exact r71 x0 x2 h0 h2 _
  · exact hz
theorem r93 : ∀ i, IsR (val_main_v93 (F := Ideal) x0 x2 i) := fun i => (r84 x0 x2 h0 h2 _).sub (r84 x0 x2 h0 h2 _)
theorem r94 : ∀ i, IsR (val_main_v94_0 (F := Ideal) x0 x2 i) := fun i => by
  rw [val_main_v94_0_apply]
  unfold Scalar.select
  split
  · exact r93 x0 x2 h0 h2 i
  · show IsR (Ideal.ofBits .f32 0x00000000#32)
    rw [Ideal.ofBits_zero_f32]; exact isR_zero
theorem r96 : ∀ i, IsR (val_main_v96_0 (F := Ideal) x0 x2 i) := fun i => by
  rw [val_main_v96_0_apply]
  unfold Scalar.select
  split
  · exact (r94 x0 x2 h0 h2 i).exp.isR
  · show IsR (Ideal.ofBits .f32 0x00000000#32)
    rw [Ideal.ofBits_zero_f32]; exact isR_zero
theorem r103 : ∀ i, IsR (val_main_v103 (F := Ideal) x0 x2 i) := fun i => by
  rw [val_main_v103_apply]
  refine IsR.add ?_ (isR_sum _ _ fun k _ => ?_)
  · show IsR (Ideal.ofBits .f32 0x00000000#32)
    rw [Ideal.ofBits_zero_f32]; exact isR_zero
  · exact (((h0 _).mul isP_scale.isR).mul (r78 x0 x2 h0 h2 _)).mul (r96 x0 x2 h0 h2 _)
/-- The head outputs are real numbers. -/
theorem r109 : ∀ i, IsR (val_main_v109 (F := Ideal) x0 x2 i) := fun i => by
  rw [val_main_v109_apply]
  refine IsR.add ?_ (isR_sum _ _ fun k _ => ?_)
  · show IsR (Ideal.ofBits .f32 0x00000000#32)
    rw [Ideal.ofBits_zero_f32]; exact isR_zero
  · exact (r103 x0 x2 h0 h2 _).mul (h0 _)

end Chain

end Cert.Finite

end
-- ==== Proof.RefGate.lean ====
module

public import proofs.«01_k».proof.Proof.Finite
public import Idealize.ShloMosaic.Lib.Pointwise

/-!
# The reference's gradients of the output gate and of the gain, read at an index
-/

@[expose] public section

set_option maxRecDepth 16384
set_option maxHeartbeats 1000000
noncomputable section

namespace Cert.RefGate

open Idealize.ShloMosaic Idealize.ShloMosaic.TcCoe Idealize.SL.Sem Cert.ReferenceIdeal Cert.ReferenceIdeal.Gen Cert.ReferenceIdeal.Read Cert.Finite

variable (x0 : FVec Ideal S8256x3072 .f32) (x1 : FVec Ideal S8256x1024 .bf16) (x2 : FVec Ideal S2x512 .f32) (x3 : FVec Ideal S1x128 .f32)
variable (t : Fin 8256) (h : Fin 4) (l : Fin 128)

/-- The gate's entry. -/
abbrev gz : EReal := x0 (ix2 t ⟨1536 + (128 * h.val + l.val), by omega⟩)
/-- The entry of the gradient that comes in. -/
abbrev dy : EReal := x1 (ix2 t ⟨128 * h.val + l.val, by omega⟩)
/-- The head's output. -/
abbrev out : EReal := val_main_v109 (F := Ideal) x0 x2 (ix3 t h l)

theorem v128_at : val_main_v128 (F := Ideal) x0 (ix3 t h l) = gz x0 t h l := by
  pointwise [val_main_v128, val_main_v3]
  refine congrArg x0 (congrArg (ix2 t) (Fin.ext ?_))
  show 1536 + (h.val * 128 + l.val) = 1536 + (128 * h.val + l.val)
  omega
theorem v132_at : val_main_v132 (F := Ideal) x1 (ix3 t h l) = dy x1 t h l := by
  pointwise [val_main_v132, val_main_v5, val_main_v4]
  refine congrArg x1 (congrArg (ix2 t) (Fin.ext ?_))
  show (h.val * 128 + l.val) = 128 * h.val + l.val
  omega
theorem v126_at : val_main_v126 (F := Ideal) x3 (ix3 t h l) = x3 (ix2 0 l) := by
  pointwise [val_main_v126, val_main_v125, val_main_v6]
theorem v124_at : val_main_v124 (F := Ideal) x0 x2 (ix3 t h l)
    = out x0 x2 t h l * Ideal.rsqrt (Ideal.div (∑ j : Fin 128, out x0 x2 t h j * out x0 x2 t h j) (Ideal.ofBits .f32 0x43000000#32) + Ideal.ofBits .f32 0x358637BD#32) := by
  unfold out val_main_v124 val_main_v123 val_main_v119 val_main_v118 val_main_v116 val_main_v114 val_main_v113 val_main_v110 val_main_v117 val_main_v115 val_main_cst_27 val_main_cst_28 val_main_cst_29
  generalize val_main_v109 (F := Ideal) x0 x2 = O
  pointwise
theorem v129_2_at : val_main_v129_2 (F := Ideal) x0 (ix3 t h l) = Ideal.div 1 (1 + Ideal.exp (-(gz x0 t h l))) := by
  rw [← v128_at, ← Ideal.ofBits_one_f32]; rfl
theorem v129_0_at : val_main_v129_0 (F := Ideal) x0 (ix3 t h l) = gz x0 t h l * val_main_v129_2 (F := Ideal) x0 (ix3 t h l) := by
  rw [← v128_at]; rfl
theorem v129_1_at : val_main_v129_1 (F := Ideal) x0 (ix3 t h l) = val_main_v129_2 (F := Ideal) x0 (ix3 t h l) * (1 - val_main_v129_2 (F := Ideal) x0 (ix3 t h l)) := by
  rw [← Ideal.ofBits_one_f32]; rfl

/-- The last 512 of the written columns of the first result. -/
theorem dh_gate : val_main_v244 (F := Ideal) x0 x1 x2 x3 (ix2 t ⟨1536 + (128 * h.val + l.val), by omega⟩) = val_main_v135 (F := Ideal) x0 x1 x2 x3 (ix3 t h l) := by
  unfold val_main_v244 val_main_v243 val_main_v136
  generalize val_main_v196 (F := Ideal) x0 x1 x2 x3 = A0
  generalize val_main_v220 (F := Ideal) x0 x1 x2 x3 = A1
  generalize val_main_v192 (F := Ideal) x0 x1 x2 x3 = A2
  generalize val_main_v135 (F := Ideal) x0 x1 x2 x3 = A3
  generalize val_main_v242 (F := Ideal) = A4
  pointwise
  rw [dif_neg (by omega), dif_neg (by omega), dif_neg (by omega), dif_pos (by omega)]
  refine congrArg A3 (congrArg₂ (ix3 t) (Fin.ext ?_) (Fin.ext ?_))
  · show (1536 + (128 * h.val + l.val) - 512 - 512 - 512) / 128 = h.val; omega
  · show (1536 + (128 * h.val + l.val) - 512 - 512 - 512) % 128 = l.val; omega

/-- The gradient of the gate, over the sigmoid's value. -/
theorem v135_at : val_main_v135 (F := Ideal) x0 x1 x2 x3 (ix3 t h l)
    = val_main_v124 (F := Ideal) x0 x2 (ix3 t h l) * x3 (ix2 0 l) * dy x1 t h l * val_main_v129_2 (F := Ideal) x0 (ix3 t h l)
      + gz x0 t h l * (val_main_v124 (F := Ideal) x0 x2 (ix3 t h l) * x3 (ix2 0 l) * dy x1 t h l)
        * (val_main_v129_2 (F := Ideal) x0 (ix3 t h l) * (1 - val_main_v129_2 (F := Ideal) x0 (ix3 t h l))) := by
  rw [← v126_at x3 t h l, ← v132_at, ← v128_at, ← v129_1_at]; rfl

/-- A sum over the rows and heads of a block of four heads a row. -/
theorem sum_rows (X : S8256x4x128.Idx → EReal) :
    Ideal.hostReduceAdd reducesTo_S8256x4x128_S128_d0_1 X 0 (ix1 l) = ∑ t : Fin 8256, ∑ h : Fin 4, X (ix3 t h l) := by
  unfold Ideal.hostReduceAdd
  rw [zero_add, Finset.sum_filter, sum_idx3]
  refine Finset.sum_congr rfl fun t _ => Finset.sum_congr rfl fun h _ => ?_
  have e : ∀ c : Fin 128, (reducesTo_S8256x4x128_S128_d0_1.drop (ix3 t h c) = ix1 l) ↔ c = l := fun c => by
    constructor
    · intro q; exact Fin.ext (congrArg Fin.val (congrFun q 0))
    · rintro rfl; funext b; fin_cases b; rfl
  simp only [e]
  rw [Finset.sum_ite_eq' Finset.univ l]
  simp

/-- The gradient of the gain. -/
theorem v245_at : val_main_v245 (F := Ideal) x0 x1 x2 (ix2 0 l)
    = ∑ t : Fin 8256, ∑ h : Fin 4, val_main_v124 (F := Ideal) x0 x2 (ix3 t h l) * (dy x1 t h l * (gz x0 t h l * val_main_v129_2 (F := Ideal) x0 (ix3 t h l))) := by
  have e1 : val_main_v245 (F := Ideal) x0 x1 x2 (ix2 0 l) = val_main_v142 (F := Ideal) x0 x1 x2 (ix1 l) := by
    unfold val_main_v245
    pointwise
  have e2 : val_main_v142 (F := Ideal) x0 x1 x2 (ix1 l) = val_main_v139 (F := Ideal) x0 x1 x2 (ix3 0 0 l) := by
    show Ideal.hostReduceAdd reducesTo_S1x1x128_S128_d0_1 (val_main_v139 (F := Ideal) x0 x1 x2) (Ideal.ofBits .f32 0x00000000#32) (ix1 l) = _
    unfold Ideal.hostReduceAdd
    rw [Ideal.ofBits_zero_f32, zero_add, Finset.sum_filter, sum_idx3]
    have e : ∀ (a b : Fin 1) (c : Fin 128), (reducesTo_S1x1x128_S128_d0_1.drop (ix3 a b c) = ix1 l) ↔ c = l := fun a b c => by
      constructor
      · intro q; exact Fin.ext (congrArg Fin.val (congrFun q 0))
      · rintro rfl; funext b; fin_cases b; rfl
    simp only [e]
    simp
  have e3 : val_main_v139 (F := Ideal) x0 x1 x2 (ix3 0 0 l) = val_main_v138 (F := Ideal) x0 x1 x2 (ix1 l) := by
    unfold val_main_v139
    pointwise
  have e4 : val_main_v138 (F := Ideal) x0 x1 x2 (ix1 l) = ∑ t : Fin 8256, ∑ h : Fin 4, val_main_v137 (F := Ideal) x0 x1 x2 (ix3 t h l) := by
    rw [← sum_rows]
    show Ideal.hostReduceAdd reducesTo_S8256x4x128_S128_d0_1 (val_main_v137 (F := Ideal) x0 x1 x2) (Ideal.ofBits .f32 0x00000000#32) (ix1 l) = _
    rw [Ideal.ofBits_zero_f32]
  rw [e1, e2, e3, e4]
  refine Finset.sum_congr rfl fun t _ => Finset.sum_congr rfl fun h _ => ?_
  rw [← v128_at, ← v132_at]; rfl

/-- Over a real sigmoid value `s`, a real gate `g` and a real factor `c` the two forms of the gate's gradient agree. -/
theorem gate_eq {c s g : EReal} (hc : IsR c) (hs : IsR s) (hg : IsR g) : c * s + g * c * (s * (1 - s)) = c * (s * (1 + g * (1 - s))) := by
  obtain ⟨c, rfl⟩ := hc; obtain ⟨s, rfl⟩ := hs; obtain ⟨g, rfl⟩ := hg
  rw [show (1 : EReal) = ((1 : ℝ) : EReal) from rfl]
  simp only [← EReal.coe_mul, ← EReal.coe_add, ← EReal.coe_sub]
  congr 1; ring

/-- The two spellings of the sigmoid of a real number agree. -/
theorem sig_eq {x : EReal} (hx : IsR x) : Ideal.logistic x = Ideal.div 1 (1 + Ideal.exp (-x)) ∧ IsR (Ideal.logistic x) := by
  obtain ⟨a, rfl⟩ := hx
  have hp : (0 : ℝ) < 1 + Real.exp (-a) := by positivity
  refine ⟨?_, _, Ideal.logistic_coe a⟩
  rw [Ideal.logistic_coe, ← EReal.coe_neg, Ideal.exp_coe, show (1 : EReal) = ((1 : ℝ) : EReal) from rfl, ← EReal.coe_add, Ideal.div_coe hp.ne', ← EReal.coe_mul]
  congr 1; rw [one_mul, one_div]

variable (h0 : ∀ i, IsR (x0 i)) (h1 : ∀ i, IsR (x1 i)) (h2 : ∀ i, IsR (x2 i)) (h3 : ∀ i, IsR (x3 i))
include h0 h2
theorem r124 : ∀ i, IsR (val_main_v124 (F := Ideal) x0 x2 i) := fun i => by
  obtain ⟨t, h, l, rfl⟩ : ∃ (t : Fin 8256) (h : Fin 4) (l : Fin 128), i = ix3 t h l := ⟨i 0, i 1, i 2, eq_ix3 i⟩
  rw [v124_at]
  have ho : ∀ i, IsR (val_main_v109 (F := Ideal) x0 x2 i) := r109 x0 x2 h0 h2
  refine (ho _).mul (IsP.isR (IsP.rsqrt ?_))
  obtain ⟨f, hf⟩ : ∃ f : Fin 128 → ℝ, ∀ j, out x0 x2 t h j = (f j : EReal) := ⟨fun j => (ho (ix3 t h j)).choose, fun j => (ho (ix3 t h j)).choose_spec⟩
  obtain ⟨e, he, hee⟩ := isP_eps
  obtain ⟨n, hn, hnn⟩ := isP_128
  have hs : ∑ j : Fin 128, out x0 x2 t h j * out x0 x2 t h j = ((∑ j : Fin 128, f j * f j : ℝ) : EReal) := by
    rw [coe_sum]
    exact Finset.sum_congr rfl fun j _ => by rw [hf, EReal.coe_mul]
  rw [hs, hee, hnn, Ideal.div_coe hn.ne', ← EReal.coe_mul, ← EReal.coe_add]
  refine ⟨_, ?_, rfl⟩
  have : 0 ≤ ∑ j : Fin 128, f j * f j := Finset.sum_nonneg fun j _ => mul_self_nonneg _
  positivity

include h1 h3
/-- The gate's gradient as one product. -/
theorem dh_gate_at : val_main_v244 (F := Ideal) x0 x1 x2 x3 (ix2 t ⟨1536 + (128 * h.val + l.val), by omega⟩)
    = dy x1 t h l * val_main_v124 (F := Ideal) x0 x2 (ix3 t h l) * x3 (ix2 0 l)
      * (Ideal.logistic (gz x0 t h l) * (1 + gz x0 t h l * (1 - Ideal.logistic (gz x0 t h l)))) := by
  rw [dh_gate, v135_at, v129_2_at, ← (sig_eq (h0 _)).1,
    gate_eq (((r124 x0 x2 h0 h2 _).mul (h3 _)).mul (h1 _)) (sig_eq (h0 _)).2 (h0 _)]
  congr 1
  rw [mul_comm, mul_assoc]

end Cert.RefGate

end
-- ==== Proof.Math.lean ====
module

public import Idealize.ShloMosaic.Lib.Pointwise
public import Idealize.ShloMosaic.Lib.IdealHost

/-!
# Gradients of a decayed sum, block by block

Of rows numbered from zero, in blocks of sixteen: the gradients of query, key, value and decay of a decayed weighted
sum, each as what one block contributes and what passes through the state at the block's beginning or end.
-/

@[expose] public section

noncomputable section

namespace Cert.Decay

open Finset

/-- The sum of the first `n` of a sequence. -/
def acc (g : ℕ → ℝ) (n : ℕ) : ℝ := ∑ u ∈ range n, g u

/-- The sum within a block, up to row `r`. -/
def loc (g : ℕ → ℝ) (b r : ℕ) : ℝ := ∑ u ∈ range (r + 1), g (16 * b + u)

theorem acc_block (g : ℕ → ℝ) (b r : ℕ) : acc g (16 * b + r + 1) = acc g (16 * b) + loc g b r := by
  unfold acc loc; rw [add_assoc, sum_range_add]

theorem acc_next (g : ℕ → ℝ) (b : ℕ) : acc g (16 * (b + 1)) = acc g (16 * b) + loc g b 15 := by
  rw [← acc_block]; rfl

/-- The decay from row `s` to row `t`. -/
def wt (g : ℕ → ℝ) (t s : ℕ) : ℝ := if s ≤ t then Real.exp (acc g (t + 1) - acc g (s + 1)) else 0

/-- A block, what is before it and what is after it. -/
theorem split (f : ℕ → ℝ) (nb b : ℕ) (hb : b < nb) :
    ∑ s ∈ range (16 * nb), f s = ∑ s ∈ range (16 * b), f s + ∑ r : Fin 16, f (16 * b + r.val) + ∑ u ∈ range (16 * nb - 16 * (b + 1)), f (16 * (b + 1) + u) := by
  conv_lhs => rw [show 16 * nb = 16 * b + (16 + (16 * nb - 16 * (b + 1))) by omega, sum_range_add, sum_range_add, sum_range (n := 16)]
  rw [add_assoc]
  refine congrArg _ (congrArg _ (sum_congr rfl fun u _ => congrArg f (by omega)))

variable (g k q : ℕ → ℝ) (v D : ℕ → Fin 128 → ℝ) (nb : ℕ)

/-- The gradient of the weight of row `s` in row `t`. -/
def wg (t s : ℕ) : ℝ := ∑ e, D t e * v s e
/-- The state before row `n`. -/
def state (n : ℕ) (e : Fin 128) : ℝ := ∑ s ∈ range n, v s e * (Real.exp (acc g n - acc g (s + 1)) * k s)
/-- The gradient of the state before row `n`. -/
def grad (n : ℕ) (e : Fin 128) : ℝ := ∑ u ∈ range (16 * nb - n), D (n + u) e * (q (n + u) * Real.exp (acc g (n + u + 1) - acc g n))

/-- The query's gradient. -/
def dq (t : ℕ) : ℝ := ∑ s ∈ range (16 * nb), (wg v D t s * wt g t s) * k s
/-- The key's gradient. -/
def dk (s : ℕ) : ℝ := ∑ t ∈ range (16 * nb), q t * (wg v D t s * wt g t s)

variable (hg : ∀ n, g n ≤ 0)

include hg in
theorem loc_anti (b : ℕ) {r s : ℕ} (h : s ≤ r) : loc g b r ≤ loc g b s := by
  unfold loc
  rw [show r + 1 = (s + 1) + (r - s) by omega, sum_range_add]
  have : ∑ x ∈ range (r - s), g (16 * b + (s + 1 + x)) ≤ 0 := sum_nonpos fun _ _ => hg _
  linarith

include hg in
/-- The decay within a block. -/
theorem wt_block (b : ℕ) {r s : ℕ} (h : s ≤ r) : wt g (16 * b + r) (16 * b + s) = Real.exp (min (loc g b r - loc g b s) (-(loc g b r - loc g b s))) := by
  have := loc_anti g hg b h
  unfold wt
  rw [if_pos (by omega), acc_block, acc_block, min_eq_left (by linarith)]
  congr 1; ring

include hg in
theorem dq_block (b : ℕ) (hb : b < nb) (r : Fin 16) : dq g k v D nb (16 * b + r.val)
    = ∑ s : Fin 16, (if s.val ≤ r.val then wg v D (16 * b + r.val) (16 * b + s.val) else 0) * (Real.exp (min (loc g b r.val - loc g b s.val) (-(loc g b r.val - loc g b s.val))) * k (16 * b + s.val))
      + Real.exp (loc g b r.val) * ∑ e, D (16 * b + r.val) e * state g k v (16 * b) e := by
  unfold dq
  rw [split _ nb b hb]
  have h3 : ∑ u ∈ range (16 * nb - 16 * (b + 1)), (wg v D (16 * b + r.val) (16 * (b + 1) + u) * wt g (16 * b + r.val) (16 * (b + 1) + u)) * k (16 * (b + 1) + u) = 0 := by
    refine sum_eq_zero fun u _ => ?_
    unfold wt; rw [if_neg (by omega)]; ring
  rw [h3, add_zero, add_comm]
  congr 1
  · refine sum_congr rfl fun s _ => ?_
    by_cases h : s.val ≤ r.val
    · rw [if_pos h, wt_block g hg b h]; ring
    · rw [if_neg h]; unfold wt; rw [if_neg (by omega)]; ring
  · have e1 : ∀ e, D (16 * b + r.val) e * state g k v (16 * b) e = ∑ s ∈ range (16 * b), D (16 * b + r.val) e * (v s e * (Real.exp (acc g (16 * b) - acc g (s + 1)) * k s)) := fun e => mul_sum _ _ _
    simp only [e1]
    rw [sum_comm, mul_sum]
    refine sum_congr rfl fun s hs => ?_
    have hs := mem_range.1 hs
    unfold wt wg
    rw [if_pos (by omega), acc_block, show acc g (16 * b) + loc g b r.val - acc g (s + 1) = loc g b r.val + (acc g (16 * b) - acc g (s + 1)) by ring, Real.exp_add, sum_mul, sum_mul, mul_sum]
    exact sum_congr rfl fun e _ => by ring

include hg in
theorem dk_block (b : ℕ) (hb : b < nb) (r : Fin 16) : dk g q v D nb (16 * b + r.val)
    = ∑ t : Fin 16, (if r.val ≤ t.val then wg v D (16 * b + t.val) (16 * b + r.val) else 0) * (Real.exp (min (loc g b r.val - loc g b t.val) (-(loc g b r.val - loc g b t.val))) * q (16 * b + t.val))
      + Real.exp (loc g b 15 - loc g b r.val) * ∑ e, v (16 * b + r.val) e * grad g q D nb (16 * (b + 1)) e := by
  unfold dk
  rw [split _ nb b hb]
  have h3 : ∑ t ∈ range (16 * b), q t * (wg v D t (16 * b + r.val) * wt g t (16 * b + r.val)) = 0 := by
    refine sum_eq_zero fun u hu => ?_
    have := mem_range.1 hu
    unfold wt; rw [if_neg (by omega)]; ring
  rw [h3, zero_add]
  congr 1
  · refine sum_congr rfl fun t _ => ?_
    by_cases h : r.val ≤ t.val
    · rw [if_pos h, wt_block g hg b h, min_comm, show loc g b t.val - loc g b r.val = -(loc g b r.val - loc g b t.val) by ring, neg_neg]; ring
    · rw [if_neg h]; unfold wt; rw [if_neg (by omega)]; ring
  · unfold grad
    have e1 : ∀ e, v (16 * b + r.val) e * ∑ u ∈ range (16 * nb - 16 * (b + 1)), D (16 * (b + 1) + u) e * (q (16 * (b + 1) + u) * Real.exp (acc g (16 * (b + 1) + u + 1) - acc g (16 * (b + 1))))
        = ∑ u ∈ range (16 * nb - 16 * (b + 1)), v (16 * b + r.val) e * (D (16 * (b + 1) + u) e * (q (16 * (b + 1) + u) * Real.exp (acc g (16 * (b + 1) + u + 1) - acc g (16 * (b + 1))))) := fun e => mul_sum _ _ _
    simp only [e1]
    rw [sum_comm, mul_sum]
    refine sum_congr rfl fun u _ => ?_
    unfold wt wg
    rw [if_pos (by omega), acc_block g b, show acc g (16 * (b + 1) + u + 1) - (acc g (16 * b) + loc g b r.val) = (loc g b 15 - loc g b r.val) + (acc g (16 * (b + 1) + u + 1) - acc g (16 * (b + 1))) by rw [acc_next]; ring,
      Real.exp_add, sum_mul, mul_sum, mul_sum]
    exact sum_congr rfl fun e _ => by ring

/-- The state's gradient goes from the block's end to its beginning. -/
theorem grad_block (b : ℕ) (hb : b < nb) (e : Fin 128) : grad g q D nb (16 * b) e
    = Real.exp (loc g b 15) * grad g q D nb (16 * (b + 1)) e + ∑ r : Fin 16, D (16 * b + r.val) e * (q (16 * b + r.val) * Real.exp (loc g b r.val)) := by
  unfold grad
  rw [show 16 * nb - 16 * b = 16 + (16 * nb - 16 * (b + 1)) by omega, sum_range_add, add_comm, mul_sum, sum_range (n := 16)]
  congr 1
  · refine sum_congr rfl fun u _ => ?_
    rw [show 16 * b + (16 + u) = 16 * (b + 1) + u by omega, show acc g (16 * (b + 1) + u + 1) - acc g (16 * b) = loc g b 15 + (acc g (16 * (b + 1) + u + 1) - acc g (16 * (b + 1))) by rw [acc_next]; ring, Real.exp_add]
    ring
  · refine sum_congr rfl fun r _ => ?_
    rw [acc_block, add_sub_cancel_left]

theorem grad_last (e : Fin 128) : grad g q D nb (16 * nb) e = 0 := by
  unfold grad; rw [Nat.sub_self, sum_range_zero]

/-- The value's gradient. -/
theorem dv_block {ι : Type} [Fintype ι] (g k q : ι → ℕ → ℝ) (b : ℕ) (hb : b < nb) (r : Fin 16) (e : Fin 128) :
    ∑ t ∈ range (16 * nb), (∑ d, q d t * k d (16 * b + r.val) * wt (g d) t (16 * b + r.val)) * D t e
      = ∑ t : Fin 16, (∑ d, q d (16 * b + t.val) * k d (16 * b + r.val) * wt (g d) (16 * b + t.val) (16 * b + r.val)) * D (16 * b + t.val) e
        + ∑ d, (k d (16 * b + r.val) * Real.exp (loc (g d) b 15 - loc (g d) b r.val)) * grad (g d) (q d) D nb (16 * (b + 1)) e := by
  rw [split _ nb b hb]
  have h3 : ∑ t ∈ range (16 * b), (∑ d, q d t * k d (16 * b + r.val) * wt (g d) t (16 * b + r.val)) * D t e = 0 := by
    refine sum_eq_zero fun u hu => ?_
    have := mem_range.1 hu
    rw [sum_eq_zero, zero_mul]
    intro d _
    unfold wt; rw [if_neg (by omega)]; ring
  rw [h3, zero_add]
  congr 1
  unfold grad
  have e1 : ∀ d, (k d (16 * b + r.val) * Real.exp (loc (g d) b 15 - loc (g d) b r.val)) * ∑ u ∈ range (16 * nb - 16 * (b + 1)), D (16 * (b + 1) + u) e * (q d (16 * (b + 1) + u) * Real.exp (acc (g d) (16 * (b + 1) + u + 1) - acc (g d) (16 * (b + 1))))
      = ∑ u ∈ range (16 * nb - 16 * (b + 1)), (k d (16 * b + r.val) * Real.exp (loc (g d) b 15 - loc (g d) b r.val)) * (D (16 * (b + 1) + u) e * (q d (16 * (b + 1) + u) * Real.exp (acc (g d) (16 * (b + 1) + u + 1) - acc (g d) (16 * (b + 1))))) := fun d => mul_sum _ _ _
  simp only [e1]
  rw [sum_comm]
  refine sum_congr rfl fun u _ => ?_
  rw [sum_mul]
  refine sum_congr rfl fun d _ => ?_
  unfold wt
  rw [if_pos (by omega), acc_block (g d) b, show acc (g d) (16 * (b + 1) + u + 1) - (acc (g d) (16 * b) + loc (g d) b r.val) = (loc (g d) b 15 - loc (g d) b r.val) + (acc (g d) (16 * (b + 1) + u + 1) - acc (g d) (16 * (b + 1))) by rw [acc_next]; ring,
    Real.exp_add]
  ring

/-- The decay's gradient before it is summed. -/
def part (t : ℕ) : ℝ := q t * dq g k v D nb t - k t * dk g q v D nb t

/-- What passes through the state at row `n`. -/
theorem tail (n : ℕ) (hn : n ≤ 16 * nb) : ∑ u ∈ range (16 * nb - n), part g k q v D nb (n + u) = ∑ e, grad g q D nb n e * state g k v n e := by
  let M : ℕ → ℕ → ℝ := fun t s => q t * (wg v D t s * wt g t s) * k s
  have hs : ∀ f : ℕ → ℝ, ∑ s ∈ range (16 * nb), f s = ∑ s ∈ range n, f s + ∑ u ∈ range (16 * nb - n), f (n + u) := fun f => by
    conv_lhs => rw [show 16 * nb = n + (16 * nb - n) by omega, sum_range_add]
  have hp : ∀ u, part g k q v D nb (n + u) = ∑ s ∈ range n, M (n + u) s + ∑ w ∈ range (16 * nb - n), M (n + u) (n + w) - ∑ w ∈ range (16 * nb - n), M (n + w) (n + u) := fun u => by
    unfold part
    have a1 : q (n + u) * dq g k v D nb (n + u) = ∑ s ∈ range (16 * nb), M (n + u) s := by
      unfold dq; rw [mul_sum]; exact sum_congr rfl fun s _ => by show _ = q _ * _ * _; ring
    have a2 : k (n + u) * dk g q v D nb (n + u) = ∑ t ∈ range (16 * nb), M t (n + u) := by
      unfold dk; rw [mul_sum]; exact sum_congr rfl fun s _ => by show _ = q _ * _ * _; ring
    have a3 : ∑ t ∈ range n, M t (n + u) = 0 := sum_eq_zero fun t ht => by
      have := mem_range.1 ht
      show q _ * (_ * wt g _ _) * _ = 0
      unfold wt; rw [if_neg (by omega)]; ring
    rw [a1, a2, hs, hs, a3, zero_add]
  simp only [hp]
  rw [sum_sub_distrib, sum_add_distrib]
  have hc : ∑ u ∈ range (16 * nb - n), ∑ w ∈ range (16 * nb - n), M (n + u) (n + w) = ∑ u ∈ range (16 * nb - n), ∑ w ∈ range (16 * nb - n), M (n + w) (n + u) := sum_comm
  rw [hc, add_sub_cancel_right]
  have e1 : ∀ e, grad g q D nb n e * state g k v n e = ∑ u ∈ range (16 * nb - n), ∑ s ∈ range n, (D (n + u) e * (q (n + u) * Real.exp (acc g (n + u + 1) - acc g n))) * (v s e * (Real.exp (acc g n - acc g (s + 1)) * k s)) := fun e => by
    unfold grad state; rw [sum_mul_sum]
  simp only [e1]
  rw [Finset.sum_comm (s := Finset.univ)]
  refine Finset.sum_congr rfl fun u _ => ?_
  rw [sum_comm]
  refine Finset.sum_congr rfl fun s hs => ?_
  have := mem_range.1 hs
  show q _ * (wg v D _ _ * wt g _ _) * k _ = _
  unfold wt wg
  rw [if_pos (by omega), show acc g (n + u + 1) - acc g (s + 1) = (acc g (n + u + 1) - acc g n) + (acc g n - acc g (s + 1)) by ring, Real.exp_add, sum_mul, mul_sum, sum_mul]
  exact sum_congr rfl fun e _ => by ring

theorem from_row (f : ℕ → ℝ) (R n : ℕ) (h : R ≤ n) : ∑ s ∈ range n, (if R ≤ s then f s else 0) = ∑ u ∈ range (n - R), f (R + u) := by
  obtain ⟨w, rfl⟩ := Nat.exists_eq_add_of_le h
  rw [sum_range_add, Nat.add_sub_cancel_left, sum_eq_zero (s := range R), zero_add]
  · exact sum_congr rfl fun u _ => if_pos (by omega)
  · intro u hu
    have := mem_range.1 hu
    exact if_neg (by omega)

/-- The decay's gradient: the block's part and what passes through the state at its end. -/
theorem dg_block (b : ℕ) (hb : b < nb) (r : Fin 16) : ∑ u ∈ range (16 * nb - (16 * b + r.val)), part g k q v D nb (16 * b + r.val + u)
    = ∑ s : Fin 16, (if r.val ≤ s.val then part g k q v D nb (16 * b + s.val) else 0) + ∑ e, grad g q D nb (16 * (b + 1)) e * state g k v (16 * (b + 1)) e := by
  rw [← tail g k q v D nb (16 * (b + 1)) (by omega)]
  generalize part g k q v D nb = f
  rw [show 16 * nb - (16 * b + r.val) = (16 - r.val) + (16 * nb - 16 * (b + 1)) by omega, sum_range_add]
  congr 1
  · rw [← sum_range (n := 16) (fun s => if r.val ≤ s then f (16 * b + s) else 0), from_row _ _ _ r.isLt.le]
    exact sum_congr rfl fun u _ => congrArg f (by omega)
  · exact sum_congr rfl fun u _ => congrArg f (by omega)

end Cert.Decay

end
-- ==== Proof.RefGrad.lean ====
module

public import proofs.«01_k».proof.Proof.Finite
public import proofs.«01_k».proof.Proof.Heads
public import proofs.«01_k».proof.Proof.RefGate
public import proofs.«01_k».proof.Proof.Math
public import Idealize.ShloMosaic.Lib.Pointwise
public import Idealize.ShloMosaic.Lib.WordCmp

/-!
# The reference's gradients of the recurrence as sums of real numbers

Each array of the reference is read at a row, a head and an entry of the head as a real number, and the sums over pairs of
rows become the sums of `Cert.Decay`.
-/

@[expose] public section

set_option maxRecDepth 16384
set_option maxHeartbeats 1000000
noncomputable section

namespace Cert.RefGrad

open Idealize.ShloMosaic Idealize.ShloMosaic.TcCoe Idealize.SL.Sem Cert.ReferenceIdeal Cert.ReferenceIdeal.Gen Cert.ReferenceIdeal.Read Cert.Finite Cert.Decay Finset
open Cert.KernelIdeal.Hgrn (col)

/-- A real number for each row, zero past the last one. -/
def nat (f : Fin 8256 → EReal) (n : ℕ) : ℝ := if h : n < 8256 then (f ⟨n, h⟩).toReal else 0

theorem nat_coe {f : Fin 8256 → EReal} (hf : ∀ t, IsR (f t)) (t : Fin 8256) : f t = (nat f t.val : EReal) := by
  rw [nat, dif_pos t.isLt]
  obtain ⟨r, hr⟩ := hf t
  show f t = ((f t).toReal : EReal)
  rw [hr, EReal.toReal_coe]

theorem nat_out (f : Fin 8256 → EReal) {n : ℕ} (h : 8256 ≤ n) : nat f n = 0 := by
  rw [nat, dif_neg (by omega)]

/-! ## Running sums -/

theorem window_sum {n m : ℕ} (lo hi : Fin 2 → ℕ) (h : (⟨2, ![n, m]⟩ : Shape).ReduceWindows ![n, 1] ![1, 1] lo hi ⟨2, ![n, m]⟩) (X : (⟨2, ![n, m]⟩ : Shape).Idx → EReal) (j : (⟨2, ![n, m]⟩ : Shape).Idx) :
    Ideal.hostReduceWindowAdd ![n, 1] ![1, 1] lo hi h X 0 j
      = ∑ k : (⟨2, ![n, 1]⟩ : Shape).Idx, (if hin : ∀ a : Fin 2, lo a ≤ (j (a.cast h.1.symm)).val * (![1, 1] : Fin 2 → ℕ) a + (k a).val ∧
        (j (a.cast h.1.symm)).val * (![1, 1] : Fin 2 → ℕ) a + (k a).val - lo a < (⟨2, ![n, m]⟩ : Shape).size a
        then X (fun a => ⟨(j (a.cast h.1.symm)).val * (![1, 1] : Fin 2 → ℕ) a + (k a).val - lo a, (hin a).2⟩) else 0) := by
  rw [sum_idx_eq_foldl]
  unfold Ideal.hostReduceWindowAdd Host.reduceWindow
  refine congrArg (fun F : EReal → Fin _ → EReal => List.foldl F 0 (List.finRange _)) (funext fun a => funext fun i => congrArg (fun z : EReal => a + z) ?_)
  congr

theorem window {n m : ℕ} (lo hi : Fin 2 → ℕ) (h : (⟨2, ![n, m]⟩ : Shape).ReduceWindows ![n, 1] ![1, 1] lo hi ⟨2, ![n, m]⟩) (X : (⟨2, ![n, m]⟩ : Shape).Idx → EReal) (t : Fin n) (j : Fin m) (h1 : lo 1 = 0)
    (f : ℕ → ℝ) (hX : ∀ t, X (ix2 t j) = (f t.val : EReal)) :
    Ideal.hostReduceWindowAdd ![n, 1] ![1, 1] lo hi h X 0 (ix2 t j)
      = ((∑ w : Fin n, if lo 0 ≤ t.val + w.val ∧ t.val + w.val - lo 0 < n then f (t.val + w.val - lo 0) else 0 : ℝ) : EReal) := by
  have hj := j.isLt
  rw [window_sum, sum_idx2, coe_sum]
  refine sum_congr rfl fun w _ => ?_
  rw [Fin.sum_univ_one]
  by_cases c : lo 0 ≤ t.val + w.val ∧ t.val + w.val - lo 0 < n
  · rw [if_pos c, dif_pos]
    · rw [← hX ⟨_, c.2⟩]
      refine congrArg X (funext fun a => Fin.ext ?_)
      match a with
      | ⟨0, _⟩ => show t.val * 1 + w.val - lo 0 = t.val + w.val - lo 0; rw [mul_one]
      | ⟨1, _⟩ => show j.val * 1 + 0 - lo 1 = j.val; rw [h1]; omega
    · intro a
      match a with
      | ⟨0, _⟩ => show lo 0 ≤ t.val * 1 + w.val ∧ t.val * 1 + w.val - lo 0 < n; rw [mul_one]; exact c
      | ⟨1, _⟩ => show lo 1 ≤ j.val * 1 + 0 ∧ j.val * 1 + 0 - lo 1 < m; rw [h1]; omega
  · rw [if_neg c, dif_neg]
    · rfl
    · intro q
      have := q 0
      change lo 0 ≤ t.val * 1 + w.val ∧ t.val * 1 + w.val - lo 0 < n at this
      rw [mul_one] at this
      exact c this

theorem window_up (t : ℕ) (ht : t < 8256) (f : ℕ → ℝ) : (∑ w : Fin 8256, if 8255 ≤ t + w.val ∧ t + w.val - 8255 < 8256 then f (t + w.val - 8255) else 0) = acc f (t + 1) := by
  rw [← sum_range (n := 8256) (f := fun w => if 8255 ≤ t + w ∧ t + w - 8255 < 8256 then f (t + w - 8255) else 0)]
  have e : ∀ w ∈ range 8256, (if 8255 ≤ t + w ∧ t + w - 8255 < 8256 then f (t + w - 8255) else 0) = if 8255 - t ≤ w then f (t + w - 8255) else 0 := fun w hw => by
    rw [mem_range] at hw
    by_cases c : 8255 - t ≤ w
    · rw [if_pos c, if_pos (by omega)]
    · rw [if_neg c, if_neg (by omega)]
  rw [sum_congr rfl e, from_row (fun w => f (t + w - 8255)) (8255 - t) 8256 (by omega), acc, show 8256 - (8255 - t) = t + 1 by omega]
  exact sum_congr rfl fun u _ => congrArg f (by omega)

theorem window_down (t : ℕ) (ht : t < 8256) (f : ℕ → ℝ) : (∑ w : Fin 8256, if 0 ≤ t + w.val ∧ t + w.val - 0 < 8256 then f (t + w.val - 0) else 0) = ∑ u ∈ range (16 * 516 - t), f (t + u) := by
  rw [← sum_range (n := 8256) (f := fun w => if 0 ≤ t + w ∧ t + w - 0 < 8256 then f (t + w - 0) else 0)]
  conv_lhs => rw [show (8256 : ℕ) = (16 * 516 - t) + t by omega, sum_range_add]
  rw [sum_eq_zero (s := range t) fun u _ => if_neg (by omega), add_zero]
  refine sum_congr rfl fun u hu => ?_
  rw [mem_range] at hu
  rw [if_pos (by omega)]; rfl

/-! ## The masks -/

theorem mask_at (t s : Fin 8256) : val_main_v87 (F := Ideal) (ix2 t s) = if s.val ≤ t.val then 1#1 else 0#1 := by
  have e : IntOp.cmpi .sge (IntOp.addi (BitVec.ofNat 32 t.val) 0#32) (BitVec.ofNat 32 s.val) = if s.val ≤ t.val then 1#1 else 0#1 := by
    rw [show IntOp.addi (BitVec.ofNat 32 t.val) 0#32 = BitVec.ofNat 32 t.val from BitVec.add_zero _, WordCmp.cmpi_sge_ofNat (by omega) (by omega)]
    by_cases h : s.val ≤ t.val <;> simp [h]
  show Scalar.select (IntOp.cmpi .sge (IntOp.addi (BitVec.ofNat 32 t.val) 0#32) (BitVec.ofNat 32 s.val)) 1#1 0#1 = _
  rw [e]
  split <;> rfl

theorem sel_mask (t s : Fin 8256) (h : Fin 4) (l : Fin 128) (a b : EReal) : Scalar.select (val_main_v96_1 (F := Ideal) (ix4 t s h l)) a b = if s.val ≤ t.val then a else b := by
  have e : val_main_v96_1 (F := Ideal) (ix4 t s h l) = val_main_v87 (F := Ideal) (ix2 t s) := by
    unfold val_main_v96_1 val_main_v88
    generalize val_main_v87 (F := Ideal) = M
    pointwise
  rw [e, mask_at]
  split <;> rfl

theorem sel_mask' (t s : Fin 8256) (h : Fin 4) (l : Fin 128) (a b : EReal) : Scalar.select (val_main_v94_1 (F := Ideal) (ix4 t s h l)) a b = if s.val ≤ t.val then a else b :=
  sel_mask t s h l a b

/-! ## Between the flat layout and the four heads -/

theorem heads_at (X : S8256x512.Idx → EReal) (t : Fin 8256) (h : Fin 4) (l : Fin 128) : shapeCast S8256x4x128 X shapeCasts_S8256x512_S8256x4x128 (ix3 t h l) = X (ix2 t (col h l)) := by
  pointwise
  refine congrArg X (congrArg (ix2 t) (Fin.ext ?_))
  show h.val * 128 + l.val = 128 * h.val + l.val
  omega

theorem flat_at (X : S8256x4x128.Idx → EReal) (t : Fin 8256) (h : Fin 4) (l : Fin 128) : shapeCast S8256x512 X shapeCasts_S8256x4x128_S8256x512 (ix2 t (col h l)) = X (ix3 t h l) := by
  pointwise
  refine congrArg X (congrArg₂ (ix3 t) (Fin.ext ?_) (Fin.ext ?_))
  · show (128 * h.val + l.val) / 128 = h.val; omega
  · show (128 * h.val + l.val) % 128 = l.val; omega

theorem range_fin (f : ℕ → ℝ) : ((∑ t ∈ range (16 * 516), f t : ℝ) : EReal) = ∑ t : Fin 8256, (f t.val : EReal) := by
  rw [show 16 * 516 = 8256 from rfl, sum_range, coe_sum]

variable (x0 : FVec Ideal S8256x3072 .f32) (x1 : FVec Ideal S8256x1024 .bf16) (x2 : FVec Ideal S2x512 .f32) (x3 : FVec Ideal S1x128 .f32)

/-- The gate's logarithm, the key, the scaled query, the value and the gradient of the output, of each row. -/
def gR (h : Fin 4) (l : Fin 128) : ℕ → ℝ := nat fun t => val_main_v71 (F := Ideal) x0 x2 (ix2 t (col h l))
def kR (h : Fin 4) (l : Fin 128) : ℕ → ℝ := nat fun t => val_main_v78 (F := Ideal) x0 x2 (ix2 t (col h l))
def qR (h : Fin 4) (l : Fin 128) : ℕ → ℝ := nat fun t => val_main_v80 (F := Ideal) x0 (ix2 t (col h l))
def vR (h : Fin 4) (n : ℕ) (e : Fin 128) : ℝ := nat (fun t => val_main_v2 (F := Ideal) x0 (ix2 t (col h e))) n
def dR (h : Fin 4) (n : ℕ) (e : Fin 128) : ℝ := nat (fun t => val_main_v154 (F := Ideal) x0 x1 x2 x3 (ix3 t h e)) n

variable (h0 : ∀ i, IsR (x0 i)) (h1 : ∀ i, IsR (x1 i)) (h2 : ∀ i, IsR (x2 i)) (h3 : ∀ i, IsR (x3 i))
variable (t s : Fin 8256) (h : Fin 4) (l e : Fin 128)

section
include h0

theorem q_at : val_main_v81 (F := Ideal) x0 (ix3 t h l) = (qR x0 h l t.val : EReal) :=
  (heads_at _ t h l).trans (nat_coe (f := fun t => val_main_v80 (F := Ideal) x0 (ix2 t (col h l))) (fun t => (h0 _).mul isP_scale.isR) t)

theorem v_at : val_main_v83 (F := Ideal) x0 (ix3 t h e) = (vR x0 h t.val e : EReal) :=
  (heads_at _ t h e).trans (nat_coe (f := fun t => val_main_v2 (F := Ideal) x0 (ix2 t (col h e))) (fun t => h0 _) t)

include h2

theorem k_at : val_main_v82 (F := Ideal) x0 x2 (ix3 t h l) = (kR x0 x2 h l t.val : EReal) :=
  (heads_at _ t h l).trans (nat_coe (f := fun t => val_main_v78 (F := Ideal) x0 x2 (ix2 t (col h l))) (fun t => r78 x0 x2 h0 h2 _) t)

theorem g_at : val_main_v71 (F := Ideal) x0 x2 (ix2 t (col h l)) = (gR x0 x2 h l t.val : EReal) :=
  nat_coe (f := fun t => val_main_v71 (F := Ideal) x0 x2 (ix2 t (col h l))) (fun t => r71 x0 x2 h0 h2 _) t

theorem G_at : val_main_v85 (F := Ideal) x0 x2 (ix3 t h l) = (acc (gR x0 x2 h l) (t.val + 1) : EReal) := by
  refine (heads_at (val_main_v84 (F := Ideal) x0 x2) t h l).trans ?_
  unfold val_main_v84 Host.reduceWindowAdd
  rw [Ideal.hostReduceWindowAdd_def]
  have hz : (val_main_call0_call0_v0 (F := Ideal)) (Shape.Idx.first h_S_) = 0 := Ideal.ofBits_zero_f32
  rw [hz, ← window_up t.val t.isLt]
  exact window ![8255, 0] ![0, 0] _ (val_main_v71 (F := Ideal) x0 x2) t (col h l) rfl _ (fun t => g_at x0 x2 h0 h2 t h l)

theorem gap_at : val_main_v93 (F := Ideal) x0 x2 (ix4 t s h l) = ((acc (gR x0 x2 h l) (t.val + 1) - acc (gR x0 x2 h l) (s.val + 1) : ℝ) : EReal) := by
  rw [EReal.coe_sub, ← G_at x0 x2 h0 h2, ← G_at x0 x2 h0 h2]
  unfold val_main_v93 val_main_v91 val_main_v92 val_main_v89 val_main_v90
  generalize val_main_v85 (F := Ideal) x0 x2 = X
  pointwise

theorem exp_at (hst : s.val ≤ t.val) : val_main_v95 (F := Ideal) x0 x2 (ix4 t s h l) = (Real.exp (acc (gR x0 x2 h l) (t.val + 1) - acc (gR x0 x2 h l) (s.val + 1)) : EReal) := by
  show Ideal.exp (Scalar.select (val_main_v94_1 (F := Ideal) (ix4 t s h l)) (val_main_v93 (F := Ideal) x0 x2 (ix4 t s h l)) (Ideal.ofBits .f32 0x00000000#32)) = _
  rw [sel_mask', if_pos hst, gap_at x0 x2 h0 h2]
  rfl

theorem w_at : val_main_v96_0 (F := Ideal) x0 x2 (ix4 t s h l) = (wt (gR x0 x2 h l) t.val s.val : EReal) := by
  show Scalar.select (val_main_v96_1 (F := Ideal) (ix4 t s h l)) (val_main_v95 (F := Ideal) x0 x2 (ix4 t s h l)) (Ideal.ofBits .f32 0x00000000#32) = _
  rw [sel_mask, wt]
  by_cases hst : s.val ≤ t.val
  · rw [if_pos hst, if_pos hst, exp_at x0 x2 h0 h2 t s h l hst]
  · rw [if_neg hst, if_neg hst, Ideal.ofBits_zero_f32]; rfl

theorem qk_at : val_main_v101 (F := Ideal) x0 x2 (ix4 t s h l) = ((qR x0 h l t.val * kR x0 x2 h l s.val : ℝ) : EReal) := by
  rw [EReal.coe_mul, ← q_at x0 h0, ← k_at x0 x2 h0 h2]
  unfold val_main_v101 val_main_v99 val_main_v100 val_main_v97 val_main_v98
  generalize val_main_v81 (F := Ideal) x0 = X
  generalize val_main_v82 (F := Ideal) x0 x2 = Y
  pointwise

/-- The weight of row `s` in row `t`. -/
theorem a_at : val_main_v103 (F := Ideal) x0 x2 (ix3 t s h) = ((∑ d, qR x0 h d t.val * kR x0 x2 h d s.val * wt (gR x0 x2 h d) t.val s.val : ℝ) : EReal) := by
  have e : val_main_v103 (F := Ideal) x0 x2 (ix3 t s h) = ∑ d : Fin 128, val_main_v101 (F := Ideal) x0 x2 (ix4 t s h d) * val_main_v96_0 (F := Ideal) x0 x2 (ix4 t s h d) := by
    unfold val_main_v103 val_main_v102 val_main_cst_24
    generalize val_main_v101 (F := Ideal) x0 x2 = X
    generalize val_main_v96_0 (F := Ideal) x0 x2 = Y
    pointwise
  rw [e, coe_sum]
  exact sum_congr rfl fun d _ => by rw [qk_at x0 x2 h0 h2, w_at x0 x2 h0 h2, ← EReal.coe_mul]
end

/-! ## The gradients, once the output's gradient is real -/

variable (hD : ∀ i, IsR (val_main_v154 (F := Ideal) x0 x1 x2 x3 i))
include h0 h2 hD

theorem d_at : val_main_v154 (F := Ideal) x0 x1 x2 x3 (ix3 t h e) = (dR x0 x1 x2 x3 h t.val e : EReal) :=
  nat_coe (f := fun t => val_main_v154 (F := Ideal) x0 x1 x2 x3 (ix3 t h e)) (fun t => hD _) t

/-- The value's gradient. -/
theorem dv_at : val_main_v164 (F := Ideal) x0 x1 x2 x3 (ix3 s h e)
    = ((∑ t ∈ range (16 * 516), (∑ d, qR x0 h d t * kR x0 x2 h d s.val * wt (gR x0 x2 h d) t s.val) * dR x0 x1 x2 x3 h t e : ℝ) : EReal) := by
  have e1 : val_main_v164 (F := Ideal) x0 x1 x2 x3 (ix3 s h e) = val_main_v158 (F := Ideal) x0 x1 x2 x3 (ix3 s h e) := by
    unfold val_main_v164 val_main_v159 val_main_cst_38
    generalize val_main_v158 (F := Ideal) x0 x1 x2 x3 = X
    pointwise
    rw [Fin.sum_univ_one]
  have e2 : val_main_v158 (F := Ideal) x0 x1 x2 x3 (ix3 s h e) = ∑ t : Fin 8256, val_main_v103 (F := Ideal) x0 x2 (ix3 t s h) * val_main_v154 (F := Ideal) x0 x1 x2 x3 (ix3 t h e) := by
    unfold val_main_v158 val_main_v157 val_main_v156 val_main_v155 val_main_v104 val_main_cst_36
    generalize val_main_v103 (F := Ideal) x0 x2 = X
    generalize val_main_v154 (F := Ideal) x0 x1 x2 x3 = Y
    pointwise
  rw [e1, e2, range_fin]
  exact sum_congr rfl fun t _ => by rw [a_at x0 x2 h0 h2, d_at x0 x1 x2 x3 h0 h2 t h e hD, EReal.coe_mul]

theorem wg_at : val_main_v165 (F := Ideal) x0 x1 x2 x3 (ix3 t s h) = (wg (vR x0 h) (dR x0 x1 x2 x3 h) t.val s.val : EReal) := by
  have e1 : val_main_v165 (F := Ideal) x0 x1 x2 x3 (ix3 t s h) = val_main_v162 (F := Ideal) x0 x1 x2 x3 (ix3 t s h) := by
    unfold val_main_v165 val_main_v163 val_main_cst_39
    generalize val_main_v162 (F := Ideal) x0 x1 x2 x3 = X
    pointwise
    rw [Fin.sum_univ_one]
  have e2 : val_main_v162 (F := Ideal) x0 x1 x2 x3 (ix3 t s h) = ∑ e : Fin 128, val_main_v154 (F := Ideal) x0 x1 x2 x3 (ix3 t h e) * val_main_v83 (F := Ideal) x0 (ix3 s h e) := by
    unfold val_main_v162 val_main_v161 val_main_v160 val_main_v155 val_main_v105 val_main_cst_37
    generalize val_main_v83 (F := Ideal) x0 = X
    generalize val_main_v154 (F := Ideal) x0 x1 x2 x3 = Y
    pointwise
  rw [e1, e2, wg, coe_sum]
  exact sum_congr rfl fun e _ => by rw [v_at x0 h0, d_at x0 x1 x2 x3 h0 h2 t h e hD, EReal.coe_mul]

theorem wgw_at : val_main_v168 (F := Ideal) x0 x1 x2 x3 (ix4 t s h l) = ((wg (vR x0 h) (dR x0 x1 x2 x3 h) t.val s.val * wt (gR x0 x2 h l) t.val s.val : ℝ) : EReal) := by
  rw [EReal.coe_mul, ← w_at x0 x2 h0 h2, ← wg_at x0 x1 x2 x3 h0 h2 t s h hD]
  unfold val_main_v168 val_main_v166
  generalize val_main_v165 (F := Ideal) x0 x1 x2 x3 = X
  generalize val_main_v96_0 (F := Ideal) x0 x2 = Y
  pointwise

/-- The query's gradient. -/
theorem dq_at : val_main_v178 (F := Ideal) x0 x1 x2 x3 (ix3 t h l) = (dq (gR x0 x2 h l) (kR x0 x2 h l) (vR x0 h) (dR x0 x1 x2 x3 h) 516 t.val : EReal) := by
  have e1 : val_main_v178 (F := Ideal) x0 x1 x2 x3 (ix3 t h l) = val_main_v175 (F := Ideal) x0 x1 x2 x3 (ix3 t h l) := by
    unfold val_main_v178 val_main_v176 val_main_cst_43
    generalize val_main_v175 (F := Ideal) x0 x1 x2 x3 = X
    pointwise
    rw [Fin.sum_univ_one]
  have e2 : val_main_v175 (F := Ideal) x0 x1 x2 x3 (ix3 t h l) = ∑ s : Fin 8256, val_main_v168 (F := Ideal) x0 x1 x2 x3 (ix4 t s h l) * val_main_v82 (F := Ideal) x0 x2 (ix3 s h l) := by
    unfold val_main_v175 val_main_v174 val_main_v173 val_main_v98 val_main_cst_41
    generalize val_main_v168 (F := Ideal) x0 x1 x2 x3 = X
    generalize val_main_v82 (F := Ideal) x0 x2 = Y
    pointwise
  rw [e1, e2, dq, range_fin]
  exact sum_congr rfl fun s _ => by rw [wgw_at x0 x1 x2 x3 h0 h2 t s h l hD, k_at x0 x2 h0 h2, ← EReal.coe_mul]

/-- The key's gradient. -/
theorem dk_at : val_main_v177 (F := Ideal) x0 x1 x2 x3 (ix3 s h l) = (dk (gR x0 x2 h l) (qR x0 h l) (vR x0 h) (dR x0 x1 x2 x3 h) 516 s.val : EReal) := by
  have e1 : val_main_v177 (F := Ideal) x0 x1 x2 x3 (ix3 s h l) = val_main_v171 (F := Ideal) x0 x1 x2 x3 (ix3 s h l) := by
    unfold val_main_v177 val_main_v172 val_main_cst_42
    generalize val_main_v171 (F := Ideal) x0 x1 x2 x3 = X
    pointwise
    rw [Fin.sum_univ_one]
  have e2 : val_main_v171 (F := Ideal) x0 x1 x2 x3 (ix3 s h l) = ∑ t : Fin 8256, val_main_v81 (F := Ideal) x0 (ix3 t h l) * val_main_v168 (F := Ideal) x0 x1 x2 x3 (ix4 t s h l) := by
    unfold val_main_v171 val_main_v170 val_main_v169 val_main_v97 val_main_cst_40
    generalize val_main_v168 (F := Ideal) x0 x1 x2 x3 = X
    generalize val_main_v81 (F := Ideal) x0 = Y
    pointwise
  rw [e1, e2, dk, range_fin]
  exact sum_congr rfl fun t _ => by rw [wgw_at x0 x1 x2 x3 h0 h2 t s h l hD, q_at x0 h0, ← EReal.coe_mul]

/-- The gradient of the logarithm of the decay between two rows. -/
theorem pair_at : val_main_v181 (F := Ideal) x0 x1 x2 x3 (ix4 t s h l)
    = ((qR x0 h l t.val * kR x0 x2 h l s.val * (wg (vR x0 h) (dR x0 x1 x2 x3 h) t.val s.val * wt (gR x0 x2 h l) t.val s.val) : ℝ) : EReal) := by
  have e1 : val_main_v167 (F := Ideal) x0 x1 x2 x3 (ix4 t s h l) = val_main_v101 (F := Ideal) x0 x2 (ix4 t s h l) * val_main_v165 (F := Ideal) x0 x1 x2 x3 (ix3 t s h) := by
    unfold val_main_v167 val_main_v166
    generalize val_main_v165 (F := Ideal) x0 x1 x2 x3 = X
    generalize val_main_v101 (F := Ideal) x0 x2 = Y
    pointwise
  show Scalar.select (val_main_v94_1 (F := Ideal) (ix4 t s h l)) (Scalar.select (val_main_v96_1 (F := Ideal) (ix4 t s h l)) (val_main_v167 (F := Ideal) x0 x1 x2 x3 (ix4 t s h l)) (Ideal.ofBits .f32 0x00000000#32)
    * val_main_v95 (F := Ideal) x0 x2 (ix4 t s h l)) (Ideal.ofBits .f32 0x00000000#32) = _
  rw [sel_mask', sel_mask]
  by_cases hst : s.val ≤ t.val
  · rw [if_pos hst, if_pos hst, exp_at x0 x2 h0 h2 t s h l hst, e1, qk_at x0 x2 h0 h2, wg_at x0 x1 x2 x3 h0 h2 t s h hD, wt, if_pos hst, ← EReal.coe_mul, ← EReal.coe_mul, mul_assoc]
  · rw [if_neg hst, wt, if_neg hst, Ideal.ofBits_zero_f32, mul_zero, mul_zero]; rfl

/-- The decay's gradient before it is summed. -/
theorem part_at : val_main_v189 (F := Ideal) x0 x1 x2 x3 (ix3 t h l)
    = (part (gR x0 x2 h l) (kR x0 x2 h l) (qR x0 h l) (vR x0 h) (dR x0 x1 x2 x3 h) 516 t.val : EReal) := by
  have e1 : val_main_v189 (F := Ideal) x0 x1 x2 x3 (ix3 t h l) = (∑ u : Fin 8256, -val_main_v181 (F := Ideal) x0 x1 x2 x3 (ix4 u t h l)) + ∑ s : Fin 8256, val_main_v181 (F := Ideal) x0 x1 x2 x3 (ix4 t s h l) := by
    unfold val_main_v189 val_main_v188 val_main_v187 val_main_v186 val_main_v185 val_main_v184 val_main_v183 val_main_v182 val_main_cst_44 val_main_cst_45 val_main_cst_46 val_main_cst_47
    generalize val_main_v181 (F := Ideal) x0 x1 x2 x3 = X
    pointwise
    rw [Fin.sum_univ_one, Fin.sum_univ_one]
  have e2 : (∑ u : Fin 8256, -val_main_v181 (F := Ideal) x0 x1 x2 x3 (ix4 u t h l)) = ((-(kR x0 x2 h l t.val * dk (gR x0 x2 h l) (qR x0 h l) (vR x0 h) (dR x0 x1 x2 x3 h) 516 t.val) : ℝ) : EReal) := by
    rw [dk, mul_sum, ← sum_neg_distrib, range_fin]
    refine sum_congr rfl fun u _ => ?_
    rw [pair_at x0 x1 x2 x3 h0 h2 u t h l hD, ← EReal.coe_neg]
    refine congrArg _ ?_
    ring
  have e3 : (∑ s : Fin 8256, val_main_v181 (F := Ideal) x0 x1 x2 x3 (ix4 t s h l)) = ((qR x0 h l t.val * dq (gR x0 x2 h l) (kR x0 x2 h l) (vR x0 h) (dR x0 x1 x2 x3 h) 516 t.val : ℝ) : EReal) := by
    rw [dq, mul_sum, range_fin]
    refine sum_congr rfl fun u _ => ?_
    rw [pair_at x0 x1 x2 x3 h0 h2 t u h l hD]
    refine congrArg _ ?_
    ring
  rw [e1, e2, e3, part, ← EReal.coe_add, neg_add_eq_sub]

/-- The decay's gradient. -/
theorem dg_at : val_main_v191 (F := Ideal) x0 x1 x2 x3 (ix2 t (col h l))
    = ((∑ u ∈ range (16 * 516 - t.val), part (gR x0 x2 h l) (kR x0 x2 h l) (qR x0 h l) (vR x0 h) (dR x0 x1 x2 x3 h) 516 (t.val + u) : ℝ) : EReal) := by
  unfold val_main_v191 Host.reduceWindowAdd
  rw [Ideal.hostReduceWindowAdd_def]
  have hz : (val_main_call8_call0_v0 (F := Ideal)) (Shape.Idx.first h_S_) = 0 := Ideal.ofBits_zero_f32
  rw [hz, ← window_down t.val t.isLt]
  exact window ![0, 0] ![8255, 0] _ (val_main_v190 (F := Ideal) x0 x1 x2 x3) t (col h l) rfl _
    (fun t => (flat_at (val_main_v189 (F := Ideal) x0 x1 x2 x3) t h l).trans (part_at x0 x1 x2 x3 h0 h2 t h l hD))

end Cert.RefGrad

end
-- ==== Proof.RefOut.lean ====
module

public import proofs.«01_k».proof.Proof.RefGrad

/-!
# The gradient of the recurrence's output before normalisation, in the reference and in a block
-/

@[expose] public section

set_option maxRecDepth 16384
set_option maxHeartbeats 1000000
noncomputable section

namespace Cert.RefGrad

open Idealize.ShloMosaic Idealize.ShloMosaic.TcCoe Idealize.SL.Sem Cert.ReferenceIdeal Cert.ReferenceIdeal.Gen Cert.ReferenceIdeal.Read Cert.Finite Cert.Decay Finset
open Cert.KernelIdeal.Hgrn (col rmsOf)

theorem ofBits_two : Ideal.ofBits .f32 0x40000000#32 = ((2 : ℝ) : EReal) := by
  have : ∃ r : ℝ, r = 2 ∧ Ideal.ofBits .f32 0x40000000#32 = (r : EReal) := by
    refine ⟨_, ?_, by simp [Ideal.ofBits, Ideal.ieee, -EReal.coe_mul]; rfl⟩
    norm_num
  obtain ⟨r, rfl, h⟩ := this
  exact h
theorem ofBits_mhalf : Ideal.ofBits .f32 0xBF000000#32 = ((-(1 / 2) : ℝ) : EReal) := by
  have : ∃ r : ℝ, r = -(1 / 2) ∧ Ideal.ofBits .f32 0xBF000000#32 = (r : EReal) := by
    refine ⟨_, ?_, by simp [Ideal.ofBits, Ideal.ieee, -EReal.coe_mul]; rfl⟩
    norm_num
  obtain ⟨r, rfl, h⟩ := this
  exact h

/-- The normalisation's gradient: `d` is the gradient after it and `o` its input. -/
def normGrad (o d : Fin 128 → EReal) (l : Fin 128) : EReal :=
  rmsOf o * (d l - o l * rmsOf o * Ideal.div (∑ j, d j * (o j * rmsOf o)) (Ideal.ofBits .f32 0x43000000#32))

/-- The mean square with the small constant. -/
def msOf (o : Fin 128 → EReal) : EReal := Ideal.div (∑ l, o l * o l) (Ideal.ofBits .f32 0x43000000#32) + Ideal.ofBits .f32 0x358637BD#32

theorem norm_eq (o d : Fin 128 → EReal) (ho : ∀ j, IsR (o j)) (hd : ∀ j, IsR (d j)) (l : Fin 128) :
    d l * rmsOf o + Ideal.div ((∑ j, o j * d j) * (Ideal.ofBits .f32 0xBF000000#32 * Ideal.div (rmsOf o) (msOf o))) (Ideal.ofBits .f32 0x43000000#32) * (Ideal.ofBits .f32 0x40000000#32 * o l)
      = normGrad o d l ∧ IsR (normGrad o d l) := by
  obtain ⟨f, rfl⟩ : ∃ f : Fin 128 → ℝ, o = fun j => (f j : EReal) := ⟨fun j => (ho j).choose, funext fun j => (ho j).choose_spec⟩
  obtain ⟨c, rfl⟩ : ∃ f : Fin 128 → ℝ, d = fun j => (f j : EReal) := ⟨fun j => (hd j).choose, funext fun j => (hd j).choose_spec⟩
  obtain ⟨e, he, hee⟩ := isP_eps
  obtain ⟨n, hn, hnn⟩ := isP_128
  obtain ⟨M, hM, hMM⟩ : IsP (msOf fun j => (f j : EReal)) := by
    have hs : ∑ j : Fin 128, (f j : EReal) * (f j : EReal) = ((∑ j : Fin 128, f j * f j : ℝ) : EReal) := by
      rw [coe_sum]; exact sum_congr rfl fun j _ => by rw [EReal.coe_mul]
    unfold msOf
    rw [hs, hee, hnn, Ideal.div_coe hn.ne', ← EReal.coe_mul, ← EReal.coe_add]
    refine ⟨_, ?_, rfl⟩
    have : 0 ≤ ∑ j : Fin 128, f j * f j := sum_nonneg fun j _ => mul_self_nonneg _
    positivity
  obtain ⟨R, hR, hRM⟩ : ∃ R : ℝ, rmsOf (fun j => (f j : EReal)) = (R : EReal) ∧ R * R = 1 / M := by
    refine ⟨1 / Real.sqrt M, ?_, ?_⟩
    · show Ideal.rsqrt (msOf fun j => (f j : EReal)) = _
      rw [hMM, Ideal.rsqrt_coe, if_neg hM.not_gt, if_neg hM.ne', one_div]
    · rw [div_mul_div_comm, Real.mul_self_sqrt hM.le, one_mul]
  have s1 : ∑ j : Fin 128, (f j : EReal) * (c j : EReal) = ((∑ j : Fin 128, f j * c j : ℝ) : EReal) := by
    rw [coe_sum]; exact sum_congr rfl fun j _ => by rw [EReal.coe_mul]
  have s2 : ∑ j : Fin 128, (c j : EReal) * ((f j : EReal) * (R : EReal)) = (((∑ j : Fin 128, f j * c j) * R : ℝ) : EReal) := by
    rw [sum_mul, coe_sum]
    refine sum_congr rfl fun j _ => ?_
    rw [← EReal.coe_mul, ← EReal.coe_mul]
    exact congrArg _ (by ring)
  have e2 : normGrad (fun j => (f j : EReal)) (fun j => (c j : EReal)) l = ((R * (c l - f l * R * ((∑ j : Fin 128, f j * c j) * R * (1 / n))) : ℝ) : EReal) := by
    unfold normGrad
    simp only [hR]
    rw [s2, hnn, Ideal.div_coe hn.ne', ← EReal.coe_mul, ← EReal.coe_mul, ← EReal.coe_mul, ← EReal.coe_sub, ← EReal.coe_mul]
  refine ⟨?_, _, e2⟩
  rw [e2]
  simp only [hR, hMM]
  rw [s1, ofBits_two, ofBits_mhalf, hnn, Ideal.div_coe hM.ne', Ideal.div_coe hn.ne']
  simp only [← EReal.coe_mul, ← EReal.coe_add]
  refine congrArg _ ?_
  rw [← hRM]
  ring

end Cert.RefGrad

namespace Cert.KernelIdeal.Hgrn
open Idealize.ShloMosaic Idealize.SL.Sem Cert.KernelIdeal.Gen
open Cert.RefGrad (normGrad)

theorem doh_at (gn : FVec Ideal S1x128 .f32) (dn o : FVec Ideal S16x128 .f32) (r : Fin 16) (l : Fin 128) :
    doh gn dn o (ix2 r l) = normGrad (fun j => o (ix2 r j)) (fun j => dn (ix2 r j) * gn (ix2 0 j)) l := by
  pointwise [doh, onh, wide, rms, rmsOf, const, mean, normGrad]

theorem dob_at (gn : FVec Ideal S1x128 .f32) (dn o : FVec Ideal S16x512 .f32) (r : Fin 16) (h : Fin 4) (l : Fin 128) :
    dob gn dn o (ix2 r (col h l)) = normGrad (fun j => o (ix2 r (col h j))) (fun j => dn (ix2 r (col h j)) * gn (ix2 0 j)) l := by
  refine (cat_at (fun h => doh gn (hd h dn) (hd h o)) h r l).trans ?_
  rw [doh_at]
  simp only [hd_at]

end Cert.KernelIdeal.Hgrn

namespace Cert.RefGrad
open Idealize.ShloMosaic Idealize.ShloMosaic.TcCoe Idealize.SL.Sem Cert.ReferenceIdeal Cert.ReferenceIdeal.Gen Cert.ReferenceIdeal.Read Cert.Finite Cert.Decay Finset
open Cert.KernelIdeal.Hgrn (col rmsOf)

variable (x0 : FVec Ideal S8256x3072 .f32) (x1 : FVec Ideal S8256x1024 .bf16) (x2 : FVec Ideal S2x512 .f32) (x3 : FVec Ideal S1x128 .f32)
variable (h0 : ∀ i, IsR (x0 i)) (h1 : ∀ i, IsR (x1 i)) (h2 : ∀ i, IsR (x2 i)) (h3 : ∀ i, IsR (x3 i))
variable (t : Fin 8256) (h : Fin 4) (l : Fin 128)

/-- The gradient after the normalisation. -/
theorem after_at : val_main_v141 (F := Ideal) x0 x1 x3 (ix3 t h l)
    = RefGate.dy x1 t h l * (RefGate.gz x0 t h l * Ideal.div 1 (1 + Ideal.exp (-(RefGate.gz x0 t h l)))) * x3 (ix2 0 l) := by
  have e : val_main_v140 (F := Ideal) x3 (ix3 t h l) = x3 (ix2 0 l) := RefGate.v126_at x3 t h l
  rw [← e, ← RefGate.v132_at, ← RefGate.v129_2_at, ← RefGate.v128_at]; rfl

include h0 h1 h2 h3

theorem r141 : ∀ i, IsR (val_main_v141 (F := Ideal) x0 x1 x3 i) := fun i => by
  obtain ⟨t, h, l, rfl⟩ : ∃ (t : Fin 8256) (h : Fin 4) (l : Fin 128), i = ix3 t h l := ⟨i 0, i 1, i 2, eq_ix3 i⟩
  rw [after_at, ← (RefGate.sig_eq (h0 _)).1]
  exact ((h1 _).mul ((h0 _).mul (RefGate.sig_eq (h0 _)).2)).mul (h3 _)

theorem out_at : val_main_v154 (F := Ideal) x0 x1 x2 x3 (ix3 t h l)
    = normGrad (fun j => RefGate.out x0 x2 t h j) (fun j => val_main_v141 (F := Ideal) x0 x1 x3 (ix3 t h j)) l ∧ IsR (val_main_v154 (F := Ideal) x0 x1 x2 x3 (ix3 t h l)) := by
  have e : val_main_v154 (F := Ideal) x0 x1 x2 x3 (ix3 t h l) = val_main_v141 (F := Ideal) x0 x1 x3 (ix3 t h l) * rmsOf (fun j => RefGate.out x0 x2 t h j)
     + Ideal.div ((∑ j, RefGate.out x0 x2 t h j * val_main_v141 (F := Ideal) x0 x1 x3 (ix3 t h j)) * (Ideal.ofBits .f32 0xBF000000#32 * Ideal.div (rmsOf (fun j => RefGate.out x0 x2 t h j)) (msOf (fun j => RefGate.out x0 x2 t h j)))) (Ideal.ofBits .f32 0x43000000#32) * (Ideal.ofBits .f32 0x40000000#32 * RefGate.out x0 x2 t h l) := by
    unfold RefGate.out rmsOf msOf val_main_v154 val_main_v153 val_main_v152 val_main_v151 val_main_v150 val_main_v149 val_main_v148 val_main_v147 val_main_v146 val_main_v145 val_main_v144 val_main_v143 val_main_v122 val_main_v121 val_main_v120 val_main_v119 val_main_v118 val_main_v117 val_main_v116 val_main_v115 val_main_v114 val_main_v113 val_main_v112 val_main_v111 val_main_v110 val_main_cst_26 val_main_cst_27 val_main_cst_28 val_main_cst_29 val_main_cst_30 val_main_cst_33 val_main_cst_34 val_main_cst_35
    generalize val_main_v141 (F := Ideal) x0 x1 x3 = X
    generalize val_main_v109 (F := Ideal) x0 x2 = O
    pointwise
    rw [Fin.sum_univ_one]
  rw [e]
  obtain ⟨a, b⟩ := norm_eq (fun j => RefGate.out x0 x2 t h j) (fun j => val_main_v141 (F := Ideal) x0 x1 x3 (ix3 t h j)) (fun j => r109 x0 x2 h0 h2 _) (fun j => r141 x0 x1 x2 x3 h0 h1 h2 h3 _) l
  rw [a]
  exact ⟨rfl, b⟩

theorem r154 : ∀ i, IsR (val_main_v154 (F := Ideal) x0 x1 x2 x3 i) := fun i => by
  obtain ⟨t, h, l, rfl⟩ : ∃ (t : Fin 8256) (h : Fin 4) (l : Fin 128), i = ix3 t h l := ⟨i 0, i 1, i 2, eq_ix3 i⟩
  exact (out_at x0 x1 x2 x3 h0 h1 h2 h3 t h l).2

end Cert.RefGrad

end
-- ==== Proof.States.lean ====
module

public import proofs.«01_k».proof.Proof.Gen.ReferenceIdeal.Read
public import proofs.«01_k».proof.Proof.Grid

/-!
# The saved weights and states that the kernel reads, from the reference's arrays
-/

@[expose] public section

set_option maxRecDepth 16384
set_option maxHeartbeats 4000000
noncomputable section

namespace Cert.KernelIdeal.Hgrn

open Idealize.ShloMosaic Idealize.ShloMosaic.TcCoe Idealize.SL.Sem Cert.KernelIdeal.Gen

variable {F : FTy → Type} [FloatOps F]

/-- Where the two block numbers agree. -/
def sameBlk : IVec S516x16x516x16x4 1 :=
  broadcastInDim S516x16x516x16x4 ![0, 1, 2, 3, 4] bcast_S516x1x516x1x1_S516x16x516x16x4_0_1_2_3_4 (cmpi .eq (iotaInDim S516x1x516x1x1 32 0) (iotaInDim S516x1x516x1x1 32 2))
/-- The zero scalar. -/
def zeroS : FVec F S_ .f32 := constant S_ .f32 0x00000000#32
/-- The weights inside the blocks, from all weights. -/
def amatOf (A : FVec F S8256x8256x4 .f32) : FVec F S8256x64 .f32 :=
  shapeCast S8256x64 (transpose S516x16x4x16 [0, 1, 3, 2]
    (Host.reduceAdd (select sameBlk (shapeCast S516x16x516x16x4 A shapeCasts_S8256x8256x4_S516x16x516x16x4) (broadcastInDim S516x16x516x16x4 ![] bcast_S_S516x16x516x16x4 (zeroS (F := F))))
      (zeroS (F := F)) reducesTo_S516x16x516x16x4_S516x16x16x4_d2 h_S_) transposes_S516x16x16x4_S516x16x4x16_0_1_3_2) shapeCasts_S516x16x4x16_S8256x64

/-- The running logarithm before each block. -/
def startOf (G : FVec F S8256x4x128 .f32) : FVec F S516x4x128 .f32 :=
  concatenate S516x4x128 0 [⟨S1x4x128, broadcastInDim S1x4x128 ![] bcast_S_S1x4x128 (zeroS (F := F))⟩,
    ⟨S515x4x128, Host.slice S515x4x128 ![15, 0, 0] ![16, 1, 1] G slicesBy_S8256x4x128_S515x4x128_15s16_0s1_0s1⟩] concatenates_S1x4x128_S515x4x128_S516x4x128_d0
/-- Which rows lie before each block. -/
def before : IVec S516x8256x4x128 1 :=
  broadcastInDim S516x8256x4x128 ![0, 1, 2, 3] bcast_S516x8256x1x1_S516x8256x4x128_0_1_2_3
    (cmpi .slt (iotaInDim S516x8256x1x1 32 1) (muli (broadcastInDim S516x8256x1x1 ![] bcast_S_S516x8256x1x1 (constantI S_ 32 16#32)) (iotaInDim S516x8256x1x1 32 0)))
def zeroB : FVec F S516x8256x4x128 .f32 := broadcastInDim S516x8256x4x128 ![] bcast_S_S516x8256x4x128 (zeroS (F := F))
/-- The logarithm of the decay from each row to each block. -/
def gapOf (G : FVec F S8256x4x128 .f32) : FVec F S516x8256x4x128 .f32 :=
  subf (broadcastInDim S516x8256x4x128 ![0, 1, 2, 3] bcast_S516x1x4x128_S516x8256x4x128_0_1_2_3 (broadcastInDim S516x1x4x128 ![0, 2, 3] bcast_S516x4x128_S516x1x4x128_0_2_3 (startOf G)))
    (broadcastInDim S516x8256x4x128 ![0, 1, 2, 3] bcast_S1x8256x4x128_S516x8256x4x128_0_1_2_3 (broadcastInDim S1x8256x4x128 ![1, 2, 3] bcast_S8256x4x128_S1x8256x4x128_1_2_3 G))
/-- The keys decayed to each block. -/
def keysOf (G k : FVec F S8256x4x128 .f32) : FVec F S516x8256x4x128 .f32 :=
  select before (mulf (Host.exp (select before (gapOf G) (zeroB (F := F))))
    (broadcastInDim S516x8256x4x128 ![0, 1, 2, 3] bcast_S1x8256x4x128_S516x8256x4x128_0_1_2_3 (broadcastInDim S1x8256x4x128 ![1, 2, 3] bcast_S8256x4x128_S1x8256x4x128_1_2_3 k))) (zeroB (F := F))
/-- The states before each block. -/
def sumOf (G k v : FVec F S8256x4x128 .f32) : FVec F S516x4x128x128 .f32 :=
  Host.reduceAdd (mulf (broadcastInDim S516x8256x4x128x128 ![0, 1, 2, 3, 4] bcast_S1x8256x4x128x1_S516x8256x4x128x128_0_1_2_3_4 (broadcastInDim S1x8256x4x128x1 ![1, 2, 3] bcast_S8256x4x128_S1x8256x4x128x1_1_2_3 v))
    (broadcastInDim S516x8256x4x128x128 ![0, 1, 2, 3, 4] bcast_S516x8256x4x1x128_S516x8256x4x128x128_0_1_2_3_4 (broadcastInDim S516x8256x4x1x128 ![0, 1, 2, 4] bcast_S516x8256x4x128_S516x8256x4x1x128_0_1_2_4 (keysOf G k))))
    (zeroS (F := F)) reducesTo_S516x8256x4x128x128_S516x4x128x128_d1 h_S_
def statesOf (G k v : FVec F S8256x4x128 .f32) : FVec F S516x512x128 .bf16 :=
  truncf .bf16 (shapeCast S516x512x128 (sumOf G k v) shapeCasts_S516x4x128x128_S516x512x128) bitsLt_bf16_f32

variable (m : (ℓ : Loc nD τ sig) → Buf (Elt F) ℓ)
open Cert.ReferenceIdeal.Read

theorem V_a (c : Dev nD) : V m c main_v84
    = amatOf (val_main_v103 (F := F) (m ((c : Thread nD τ).loc main_arg0)) (m ((c : Thread nD τ).loc main_arg2))) := by
  entry_read
  rfl

theorem V_s (c : Dev nD) : V m c main_v112
    = statesOf (val_main_v85 (F := F) (m ((c : Thread nD τ).loc main_arg0)) (m ((c : Thread nD τ).loc main_arg2))) (val_main_v82 (F := F) (m ((c : Thread nD τ).loc main_arg0)) (m ((c : Thread nD τ).loc main_arg2)))
      (val_main_v83 (F := F) (m ((c : Thread nD τ).loc main_arg0))) := by
  entry_read
  rfl

end Cert.KernelIdeal.Hgrn

end
-- ==== Proof.Reads2.lean ====
module

public import proofs.«01_k».proof.Proof.States
public import proofs.«01_k».proof.Proof.Reads

/-!
# The rest of what a trip reads: the recurrence's inputs, the weights inside the block, and the state before it
-/

@[expose] public section

set_option maxRecDepth 16384
set_option maxHeartbeats 4000000
noncomputable section

namespace Cert.KernelIdeal.Hgrn

open Idealize.ShloMosaic Idealize.ShloMosaic.TcCoe Idealize.SL.Sem Cert.KernelIdeal.Gen

variable {F : FTy → Type} [FloatOps F]
variable (m : (ℓ : Loc nD τ sig) → Buf (Elt F) ℓ)

theorem at5 (t : Fin cfg0.N) : win0_5.index t = ![42 - t.val, 0, 0] := by revert t; decide +kernel
theorem at6 (t : Fin cfg0.N) : win0_6.index t = ![42 - t.val, 0] := by revert t; decide +kernel
theorem off3 (k : Fin k0_t1_loop.trips) : k0_off3 k = ![11 - k.val, 0, 0] := by revert k; decide +kernel
theorem off4 (k : Fin k0_t1_loop.trips) : k0_off4 k = ![11 - k.val, 128, 0] := by revert k; decide +kernel
theorem off5 (k : Fin k0_t1_loop.trips) : k0_off5 k = ![11 - k.val, 256, 0] := by revert k; decide +kernel
theorem off6 (k : Fin k0_t1_loop.trips) : k0_off6 k = ![11 - k.val, 384, 0] := by revert k; decide +kernel

section
variable (c : Dev nD) (t : Fin cfg0.N) (k : Fin k0_t1_loop.trips) (s : St F) (r : Fin 16) (j : Fin 512)

theorem q_in : ((blkAt m c t).at' s k).q (ix2 r j) = m ((c : Thread nD τ).loc main_arg0) (ix2 (rowOf (blkNo t k) r) ⟨j.val, by omega⟩) := by
  obtain ⟨ht, hk⟩ := bounds t k
  show iblk m c 0 t _ = _
  unfold iblk
  rw [View.read_apply]
  show V m c main_arg0 _ = _
  entry_read
  refine congrArg _ (funext fun a => Fin.ext ?_)
  match a with
  | ⟨0, _⟩ => show win0_0.index t 0 * 192 + 1 * (k0_off1 k 0 + 1 * r.val) = 16 * (515 - (12 * t.val + k.val)) + r.val; rw [at0, off1]; show (42 - t.val) * 192 + 1 * (176 - 16 * k.val + 1 * r.val) = _; omega
  | ⟨1, _⟩ => show win0_0.index t 1 * 512 + 1 * (k0_off1 k 1 + 1 * j.val) = j.val; rw [at0, off1]; show 0 * 512 + 1 * (0 + 1 * j.val) = _; omega

theorem fz_in : ((blkAt m c t).at' s k).fz (ix2 r j) = m ((c : Thread nD τ).loc main_arg0) (ix2 (rowOf (blkNo t k) r) ⟨512 + j.val, by omega⟩) := by
  obtain ⟨ht, hk⟩ := bounds t k
  show iblk m c 1 t _ = _
  unfold iblk
  rw [View.read_apply]
  show V m c main_arg0 _ = _
  entry_read
  refine congrArg _ (funext fun a => Fin.ext ?_)
  match a with
  | ⟨0, _⟩ => show win0_1.index t 0 * 192 + 1 * (k0_off1 k 0 + 1 * r.val) = 16 * (515 - (12 * t.val + k.val)) + r.val; rw [at1, off1]; show (42 - t.val) * 192 + 1 * (176 - 16 * k.val + 1 * r.val) = _; omega
  | ⟨1, _⟩ => show win0_1.index t 1 * 512 + 1 * (k0_off1 k 1 + 1 * j.val) = 512 + j.val; rw [at1, off1]; show 1 * 512 + 1 * (0 + 1 * j.val) = _; omega

theorem i_in : ((blkAt m c t).at' s k).i (ix2 r j) = m ((c : Thread nD τ).loc main_arg0) (ix2 (rowOf (blkNo t k) r) ⟨1024 + j.val, by omega⟩) := by
  obtain ⟨ht, hk⟩ := bounds t k
  show iblk m c 2 t _ = _
  unfold iblk
  rw [View.read_apply]
  show V m c main_arg0 _ = _
  entry_read
  refine congrArg _ (funext fun a => Fin.ext ?_)
  match a with
  | ⟨0, _⟩ => show win0_2.index t 0 * 192 + 1 * (k0_off1 k 0 + 1 * r.val) = 16 * (515 - (12 * t.val + k.val)) + r.val; rw [at2, off1]; show (42 - t.val) * 192 + 1 * (176 - 16 * k.val + 1 * r.val) = _; omega
  | ⟨1, _⟩ => show win0_2.index t 1 * 512 + 1 * (k0_off1 k 1 + 1 * j.val) = 1024 + j.val; rw [at2, off1]; show 2 * 512 + 1 * (0 + 1 * j.val) = _; omega

theorem b0_in : ((blkAt m c t).at' s k).b0 (ix2 0 j) = m ((c : Thread nD τ).loc main_arg2) (ix2 0 j) := by
  show iblk m c 8 t _ = _
  unfold iblk
  rw [View.read_apply]
  show V m c main_arg2 _ = _
  entry_read
  refine congrArg _ (funext fun a => Fin.ext ?_)
  match a with
  | ⟨0, _⟩ => show win0_8.index t 0 * 2 + 1 * 0 = 0; rw [at8]; rfl
  | ⟨1, _⟩ => show win0_8.index t 1 * 512 + 1 * (0 + 1 * j.val) = j.val; rw [at8]; show 0 * 512 + 1 * (0 + 1 * j.val) = _; omega

theorem b1_in : ((blkAt m c t).at' s k).b1 (ix2 0 j) = m ((c : Thread nD τ).loc main_arg2) (ix2 1 j) := by
  show iblk m c 8 t _ = _
  unfold iblk
  rw [View.read_apply]
  show V m c main_arg2 _ = _
  entry_read
  refine congrArg _ (funext fun a => Fin.ext ?_)
  match a with
  | ⟨0, _⟩ => show win0_8.index t 0 * 2 + 1 * 1 = 1; rw [at8]; rfl
  | ⟨1, _⟩ => show win0_8.index t 1 * 512 + 1 * (0 + 1 * j.val) = j.val; rw [at8]; show 0 * 512 + 1 * (0 + 1 * j.val) = _; omega

theorem a_in (j : Fin 64) : ((blkAt m c t).at' s k).a (ix2 r j)
    = amatOf (Cert.ReferenceIdeal.Read.val_main_v103 (F := F) (m ((c : Thread nD τ).loc main_arg0)) (m ((c : Thread nD τ).loc main_arg2))) (ix2 (rowOf (blkNo t k) r) j) := by
  obtain ⟨ht, hk⟩ := bounds t k
  show iblk m c 6 t _ = _
  unfold iblk
  rw [View.read_apply]
  show V m c main_v84 _ = _
  rw [V_a]
  refine congrArg _ (funext fun a => Fin.ext ?_)
  match a with
  | ⟨0, _⟩ => show win0_6.index t 0 * 192 + 1 * (k0_off2 k 0 + 1 * r.val) = 16 * (515 - (12 * t.val + k.val)) + r.val; rw [at6, off2]; show (42 - t.val) * 192 + 1 * (176 - 16 * k.val + 1 * r.val) = _; omega
  | ⟨1, _⟩ => show win0_6.index t 1 * 64 + 1 * (k0_off2 k 1 + 1 * j.val) = j.val; rw [at6, off2]; show 0 * 64 + 1 * (0 + 1 * j.val) = _; omega

theorem s_in (h : Fin 4) (e l : Fin 128) : ((blkAt m c t).at' s k).s h (ix3 0 e l)
    = statesOf (Cert.ReferenceIdeal.Read.val_main_v85 (F := F) (m ((c : Thread nD τ).loc main_arg0)) (m ((c : Thread nD τ).loc main_arg2)))
      (Cert.ReferenceIdeal.Read.val_main_v82 (F := F) (m ((c : Thread nD τ).loc main_arg0)) (m ((c : Thread nD τ).loc main_arg2)))
      (Cert.ReferenceIdeal.Read.val_main_v83 (F := F) (m ((c : Thread nD τ).loc main_arg0))) (ix3 (blkNo t k) (col h e) l) := by
  obtain ⟨ht, hk⟩ := bounds t k
  have h4 : h = 0 ∨ h = 1 ∨ h = 2 ∨ h = 3 := by revert h; decide
  rw [← V_s m c]
  rcases h4 with rfl | rfl | rfl | rfl <;>
  · show iblk m c 5 t _ = _
    unfold iblk
    rw [View.read_apply]
    show V m c main_v112 _ = _
    refine congrArg _ (funext fun a => Fin.ext ?_)
    match a with
    | ⟨0, _⟩ =>
      first
      | (show win0_5.index t 0 * 12 + 1 * (k0_off3 k 0 + 1 * 0) = 515 - (12 * t.val + k.val); rw [at5, off3]; show (42 - t.val) * 12 + 1 * (11 - k.val + 1 * 0) = _; omega)
      | (show win0_5.index t 0 * 12 + 1 * (k0_off4 k 0 + 1 * 0) = 515 - (12 * t.val + k.val); rw [at5, off4]; show (42 - t.val) * 12 + 1 * (11 - k.val + 1 * 0) = _; omega)
      | (show win0_5.index t 0 * 12 + 1 * (k0_off5 k 0 + 1 * 0) = 515 - (12 * t.val + k.val); rw [at5, off5]; show (42 - t.val) * 12 + 1 * (11 - k.val + 1 * 0) = _; omega)
      | (show win0_5.index t 0 * 12 + 1 * (k0_off6 k 0 + 1 * 0) = 515 - (12 * t.val + k.val); rw [at5, off6]; show (42 - t.val) * 12 + 1 * (11 - k.val + 1 * 0) = _; omega)
    | ⟨1, _⟩ =>
      first
      | (show win0_5.index t 1 * 512 + 1 * (k0_off3 k 1 + 1 * e.val) = 128 * 0 + e.val; rw [at5, off3]; show 0 * 512 + 1 * (0 + 1 * e.val) = _; omega)
      | (show win0_5.index t 1 * 512 + 1 * (k0_off4 k 1 + 1 * e.val) = 128 * 1 + e.val; rw [at5, off4]; show 0 * 512 + 1 * (128 + 1 * e.val) = _; omega)
      | (show win0_5.index t 1 * 512 + 1 * (k0_off5 k 1 + 1 * e.val) = 128 * 2 + e.val; rw [at5, off5]; show 0 * 512 + 1 * (256 + 1 * e.val) = _; omega)
      | (show win0_5.index t 1 * 512 + 1 * (k0_off6 k 1 + 1 * e.val) = 128 * 3 + e.val; rw [at5, off6]; show 0 * 512 + 1 * (384 + 1 * e.val) = _; omega)
    | ⟨2, _⟩ =>
      first
      | (show win0_5.index t 2 * 128 + 1 * (k0_off3 k 2 + 1 * l.val) = l.val; rw [at5, off3]; show 0 * 128 + 1 * (0 + 1 * l.val) = _; omega)
      | (show win0_5.index t 2 * 128 + 1 * (k0_off4 k 2 + 1 * l.val) = l.val; rw [at5, off4]; show 0 * 128 + 1 * (0 + 1 * l.val) = _; omega)
      | (show win0_5.index t 2 * 128 + 1 * (k0_off5 k 2 + 1 * l.val) = l.val; rw [at5, off5]; show 0 * 128 + 1 * (0 + 1 * l.val) = _; omega)
      | (show win0_5.index t 2 * 128 + 1 * (k0_off6 k 2 + 1 * l.val) = l.val; rw [at5, off6]; show 0 * 128 + 1 * (0 + 1 * l.val) = _; omega)

end

/-! ## The carried heads -/

theorem head_at {e : EltTy} (x : Vec F S4x128x128 e) (h : Fin 4) (i j : Fin 128) : head x h (ix3 0 i j) = x (ix3 h i j) := by
  have h4 : h = 0 ∨ h = 1 ∨ h = 2 ∨ h = 3 := by revert h; decide
  rcases h4 with rfl | rfl | rfl | rfl <;>
  · refine congrArg x (funext fun a => Fin.ext ?_)
    match a with
    | ⟨0, _⟩ => rfl
    | ⟨1, _⟩ => show 0 + 1 * i.val = i.val; omega
    | ⟨2, _⟩ => show 0 + 1 * j.val = j.val; omega

theorem join_at {e : EltTy} (p : Fin 4 → Vec F S1x128x128 e) (h : Fin 4) (i j : Fin 128) : join p (ix3 h i j) = p h (ix3 0 i j) := by
  refine congrArg (p h) (funext fun a => ?_)
  match a with
  | ⟨0, _⟩ => rfl
  | ⟨1, _⟩ => rfl
  | ⟨2, _⟩ => rfl

end Cert.KernelIdeal.Hgrn

end
-- ==== Proof.StateVal.lean ====
module

public import proofs.«01_k».proof.Proof.States
public import proofs.«01_k».proof.Proof.Reads
public import proofs.«01_k».proof.Proof.RefGrad

/-!
# The weights inside the blocks and the states before them, read at an index
-/

@[expose] public section

set_option maxRecDepth 16384
set_option maxHeartbeats 1000000
noncomputable section

namespace Cert.KernelIdeal.Hgrn

open Idealize.ShloMosaic Idealize.SL.Sem Cert.KernelIdeal.Gen Finset Cert.Decay
open Cert.Finite (coe_sum)

theorem sel_eq (a b : ℕ) (ha : a < 516) (hb : b < 516) (x y : EReal) : Scalar.select (IntOp.cmpi .eq (BitVec.ofNat 32 a) (BitVec.ofNat 32 b)) x y = if a = b then x else y := by
  rw [WordCmp.cmpi_eq_ofNat (by omega) (by omega)]
  by_cases h : a = b
  · simp [h, Scalar.select]
  · simp [h, Scalar.select]

/-- The weights inside a block. -/
theorem amatOf_at (A : FVec Ideal S8256x8256x4 .f32) (b : Fin 516) (r s : Fin 16) (h : Fin 4) :
    amatOf A (ix2 (rowOf b r) ⟨16 * h.val + s.val, by omega⟩) = A (ix3 (rowOf b r) (rowOf b s) h) := by
  unfold amatOf
  have e1 : ∀ X : FVec Ideal S516x16x4x16 .f32, shapeCast S8256x64 X shapeCasts_S516x16x4x16_S8256x64 (ix2 (rowOf b r) (⟨16 * h.val + s.val, by omega⟩ : Fin 64)) = X (ix4 b r h s) := fun X => by
    pointwise
    refine congrArg X (congrArg₂ (fun a c => ix4 a c h s) (Fin.ext ?_) (Fin.ext ?_))
    · show (16 * b.val + r.val) / 16 = b.val; omega
    · show (16 * b.val + r.val) % 16 = r.val; omega
  rw [e1]
  pointwise
  have e2 : ∀ x : Fin 516, sameBlk (ix5 b r x s h) = IntOp.cmpi .eq (BitVec.ofNat 32 b.val) (BitVec.ofNat 32 x.val) := fun x => by
    pointwise [sameBlk]
  have e3 : ∀ x : Fin 516, b.val = x.val ↔ x = b := fun x => ⟨fun q => Fin.ext q.symm, fun q => by rw [q]⟩
  have z : (zeroS (F := Ideal)) (Shape.Idx.first h_S_) = 0 := Ideal.ofBits_zero_f32
  have z' : (zeroS (F := Ideal)) ix0 = 0 := Ideal.ofBits_zero_f32
  rw [z, zero_add]
  simp only [e2, sel_eq _ _ b.isLt (Fin.isLt _), z', e3]
  rw [sum_ite_eq' univ b, if_pos (mem_univ _)]
  refine congrArg A (congrArg₂ (fun a c => ix3 a c h) (Fin.ext ?_) (Fin.ext ?_))
  · show b.val * 16 + r.val = 16 * b.val + r.val; omega
  · show b.val * 16 + s.val = 16 * b.val + s.val; omega

/-- The running logarithm before a block. -/
theorem startOf_at (G : FVec Ideal S8256x4x128 .f32) (b : Fin 516) (hb : 0 < b.val) (h : Fin 4) (l : Fin 128) :
    startOf G (ix3 b h l) = G (ix3 ⟨16 * b.val - 1, by omega⟩ h l) := by
  unfold startOf
  pointwise
  rw [dif_neg (by omega)]
  exact congrArg G (congrArg (fun a => ix3 a h l) (Fin.ext (by show 15 + 16 * (b.val - 1) = 16 * b.val - 1; omega)))

theorem before_at (b : Fin 516) (s : Fin 8256) (h : Fin 4) (l : Fin 128) (x y : EReal) : Scalar.select (before (ix4 b s h l)) x y = if s.val < 16 * b.val then x else y := by
  have e : before (ix4 b s h l) = IntOp.cmpi .slt (BitVec.ofNat 32 s.val) (BitVec.ofNat 32 (16 * b.val)) := by
    unfold before
    pointwise
    refine congrArg (fun z => IntOp.cmpi CmpIPredicate.slt (BitVec.ofNat 32 s.val) z) (BitVec.eq_of_toNat_eq ?_)
    show (16#32 * BitVec.ofNat 32 b.val).toNat = _
    rw [BitVec.toNat_mul, BitVec.toNat_ofNat, BitVec.toNat_ofNat]
    rw [BitVec.toNat_ofNat]
    show 16 * (b.val % 2 ^ 32) % 2 ^ 32 = _
    omega
  rw [e, WordCmp.cmpi_slt_ofNat (by omega) (by omega)]
  by_cases h : s.val < 16 * b.val
  · simp [h, Scalar.select]
  · simp [h, Scalar.select]

theorem keysOf_at (G k : FVec Ideal S8256x4x128 .f32) (b : Fin 516) (s : Fin 8256) (h : Fin 4) (l : Fin 128) :
    keysOf G k (ix4 b s h l) = if s.val < 16 * b.val then Ideal.exp (startOf G (ix3 b h l) - G (ix3 s h l)) * k (ix3 s h l) else 0 := by
  unfold keysOf gapOf zeroB zeroS
  generalize startOf G = S
  pointwise
  rw [before_at, before_at]
  by_cases c : s.val < 16 * b.val
  · rw [if_pos c, if_pos c, if_pos c]
  · rw [if_neg c, if_neg c]

theorem statesOf_at (G k v : FVec Ideal S8256x4x128 .f32) (b : Fin 516) (h : Fin 4) (e l : Fin 128) :
    statesOf G k v (ix3 b (col h e) l) = ∑ s : Fin 8256, v (ix3 s h e) * keysOf G k (ix4 b s h l) := by
  unfold statesOf
  have e1 : ∀ X : FVec Ideal S516x4x128x128 .f32, shapeCast S516x512x128 X shapeCasts_S516x4x128x128_S516x512x128 (ix3 b (col h e) l) = X (ix4 b h e l) := fun X => by
    pointwise
    refine congrArg X (congrArg₂ (fun a c => ix4 b a c l) (Fin.ext ?_) (Fin.ext ?_))
    · show (128 * h.val + e.val) / 128 = h.val; omega
    · show (128 * h.val + e.val) % 128 = e.val; omega
  refine (e1 (sumOf G k v)).trans ?_
  unfold sumOf zeroS
  generalize keysOf G k = K
  pointwise

theorem am_at (I : In Ideal) (h : Fin 4) (t s : Fin 16) : I.am h (ix2 t s) = I.a (ix2 t ⟨16 * h.val + s.val, by omega⟩) := by
  unfold In.am
  rw [shapeCast_self]
  pointwise

open Cert.RefGrad Cert.Finite Cert.ReferenceIdeal.Read

section
variable (x0 : FVec Ideal Cert.ReferenceIdeal.S8256x3072 .f32) (x2 : FVec Ideal Cert.ReferenceIdeal.S2x512 .f32)
variable (h0 : ∀ i, IsR (x0 i)) (h2 : ∀ i, IsR (x2 i))
include h0 h2

/-- The state before a block. -/
theorem states_real (b : Fin 516) (h : Fin 4) (e l : Fin 128) :
    statesOf (F := Ideal) (val_main_v85 (F := Ideal) x0 x2) (val_main_v82 (F := Ideal) x0 x2) (val_main_v83 (F := Ideal) x0) (ix3 b (col h e) l)
      = ((state (gR x0 x2 h l) (kR x0 x2 h l) (vR x0 h) (16 * b.val) e : ℝ) : EReal) := by
  have hb := b.isLt
  rw [statesOf_at]
  have e1 : state (gR x0 x2 h l) (kR x0 x2 h l) (vR x0 h) (16 * b.val) e = ∑ s ∈ range (16 * 516), if s < 16 * b.val then
      vR x0 h s e * (Real.exp (acc (gR x0 x2 h l) (16 * b.val) - acc (gR x0 x2 h l) (s + 1)) * kR x0 x2 h l s) else 0 := by
    conv_rhs => rw [show 16 * 516 = 16 * b.val + (16 * 516 - 16 * b.val) by omega, sum_range_add]
    rw [sum_eq_zero (s := range (16 * 516 - 16 * b.val)) fun u _ => if_neg (by omega), add_zero, state]
    refine sum_congr rfl fun s hs => ?_
    rw [mem_range] at hs
    rw [if_pos hs]
  rw [e1, range_fin]
  refine sum_congr rfl fun s _ => ?_
  rw [keysOf_at, v_at x0 h0]
  by_cases c : s.val < 16 * b.val
  · rw [if_pos c, if_pos c, startOf_at _ b (by omega), G_at x0 x2 h0 h2, G_at x0 x2 h0 h2, k_at x0 x2 h0 h2, ← EReal.coe_sub]
    rw [show (16 * b.val - 1) + 1 = 16 * b.val by omega, Ideal.exp_coe, ← EReal.coe_mul, ← EReal.coe_mul]
  · rw [if_neg c, if_neg c, mul_zero]; rfl

end

end Cert.KernelIdeal.Hgrn

end
-- ==== Proof.Formulas.lean ====
module

public import proofs.«01_k».proof.Proof.Heads
public import proofs.«01_k».proof.Proof.Math
public import proofs.«01_k».proof.Proof.Finite

/-!
# The recurrence's formulas of a block read at an index
-/

@[expose] public section

set_option maxRecDepth 16384
set_option maxHeartbeats 1000000
noncomputable section

namespace Cert.KernelIdeal.Hgrn

open Idealize.ShloMosaic Idealize.SL.Sem Cert.KernelIdeal.Gen

theorem sel_ge (r s : Fin 16) (a b : EReal) : Scalar.select (IntOp.cmpi .sge (BitVec.ofNat 32 r.val) (BitVec.ofNat 32 s.val)) a b = if s.val ≤ r.val then a else b := by
  have h : ∀ r s : Fin 16, IntOp.cmpi .sge (BitVec.ofNat 32 r.val) (BitVec.ofNat 32 s.val) = if s.val ≤ r.val then 1#1 else 0#1 := by decide
  rw [h]
  by_cases e : s.val ≤ r.val
  · rw [if_pos e, if_pos e]; rfl
  · rw [if_neg e, if_neg e]; rfl

theorem sel_le (r s : Fin 16) (a b : EReal) : Scalar.select (IntOp.cmpi .sle (BitVec.ofNat 32 r.val) (BitVec.ofNat 32 s.val)) a b = if r.val ≤ s.val then a else b := by
  have h : ∀ r s : Fin 16, IntOp.cmpi .sle (BitVec.ofNat 32 r.val) (BitVec.ofNat 32 s.val) = if r.val ≤ s.val then 1#1 else 0#1 := by decide
  rw [h]
  by_cases e : r.val ≤ s.val
  · rw [if_pos e, if_pos e]; rfl
  · rw [if_neg e, if_neg e]; rfl

theorem sel_lt (r s : Fin 16) (a b : EReal) : Scalar.select (IntOp.cmpi .slt (BitVec.ofNat 32 r.val) (BitVec.ofNat 32 s.val)) a b = if r.val < s.val then a else b := by
  have h : ∀ r s : Fin 16, IntOp.cmpi .slt (BitVec.ofNat 32 r.val) (BitVec.ofNat 32 s.val) = if r.val < s.val then 1#1 else 0#1 := by decide
  rw [h]
  by_cases e : r.val < s.val
  · rw [if_pos e, if_pos e]; rfl
  · rw [if_neg e, if_neg e]; rfl

theorem gram_at (a b : FVec Ideal S16x128 .bf16) (r s : Fin 16) : gram a b (ix2 r s) = ∑ l : Fin 128, a (ix2 r l) * b (ix2 s l) := by
  pointwise [gram]

theorem mul_at (x : FVec Ideal S16x128 .bf16) (S : FVec Ideal S128x128 .bf16) (r : Fin 16) (l : Fin 128) : mul x S (ix2 r l) = ∑ e : Fin 128, x (ix2 r e) * S (ix2 e l) := by
  pointwise [mul]

theorem outer_at (x y : FVec Ideal S16x128 .bf16) (e l : Fin 128) :
    matmul dot_S16x128_S16x128_S128x128_0_0_1_1_n_n none x y (constant S128x128 .f32 0x00000000#32) (ix2 e l) = ∑ r : Fin 16, x (ix2 r e) * y (ix2 r l) := by
  pointwise

theorem amul_at (a : FVec Ideal S16x16 .bf16) (y : FVec Ideal S16x128 .bf16) (s : Fin 16) (e : Fin 128) :
    matmul dot_S16x16_S16x128_S16x128_0_0_1_1_n_n none a y (constant S16x128 .f32 0x00000000#32) (ix2 s e) = ∑ t : Fin 16, a (ix2 t s) * y (ix2 t e) := by
  pointwise

theorem tmul_at (x : FVec Ideal S16x128 .bf16) (S : FVec Ideal S128x128 .bf16) (r : Fin 16) (e : Fin 128) :
    matmul dot_S16x128_S128x128_S16x128_1_1_0_0_n_n none x S (constant S16x128 .f32 0x00000000#32) (ix2 r e) = ∑ l : Fin 128, x (ix2 r l) * S (ix2 e l) := by
  pointwise

theorem decayTo_at (G : FVec Ideal S16x128 .f32) (s r : Fin 16) (l : Fin 128) :
    decayTo G s (ix2 r l) = Ideal.exp (min (G (ix2 r l) - G (ix2 s l)) (0 - (G (ix2 r l) - G (ix2 s l)))) := by
  pointwise [decayTo, spread, rowAt, const]

theorem lower_at (a b : FVec Ideal S16x128 .bf16) (r s : Fin 16) : lower a b (ix2 r s) = if s.val ≤ r.val then gram a b (ix2 r s) else 0 := by
  pointwise [lower, const, r16, c16]
  exact sel_ge r s _ _

theorem upper_at (a b : FVec Ideal S16x128 .bf16) (r s : Fin 16) : upper a b (ix2 r s) = if r.val ≤ s.val then gram a b (ix2 r s) else 0 := by
  pointwise [upper, const, r16, c16]
  exact sel_le r s _ _

theorem addRow_at (A : FVec Ideal S16x16 .f32) (G x acc : FVec Ideal S16x128 .f32) (s r : Fin 16) (l : Fin 128) :
    addRow A G x s acc (ix2 r l) = acc (ix2 r l) + A (ix2 r s) * (decayTo G s (ix2 r l) * x (ix2 s l)) := by
  pointwise [addRow, wide, spread, rowAt]

theorem flat_at {φ : FTy} (S : FVec Ideal S1x128x128 φ) (e l : Fin 128) : flat S (ix2 e l) = S (ix3 0 e l) := by
  pointwise [flat]

theorem thick_at {φ : FTy} (S : FVec Ideal S128x128 φ) (e l : Fin 128) : thick S (ix3 0 e l) = S (ix2 e l) := by
  pointwise [thick]

/-- The row `r` of column `j`, zero past the block. -/
def colOf (x : FVec Ideal S16x512 .f32) (j : Fin 512) (r : ℕ) : EReal := if h : r < 16 then x (ix2 ⟨r, h⟩ j) else 0

theorem colOf_fin (x : FVec Ideal S16x512 .f32) (j : Fin 512) (r : Fin 16) : colOf x j r.val = x (ix2 r j) := by
  rw [colOf, dif_pos r.isLt]

theorem addUp_at (n : Fin 16) (x : FVec Ideal S16x512 .f32) (r : Fin 16) (j : Fin 512) :
    addUp (BitVec.ofNat 32 n.val) x (ix2 r j) = colOf x j r.val + if n.val ≤ r.val then colOf x j (r.val - n.val) else 0 := by
  rw [colOf_fin]
  pointwise [addUp, rowNo, const]
  rw [sel_ge]
  by_cases h : n.val ≤ r.val
  · rw [if_pos h, if_pos h, colOf, dif_pos (by omega)]
    refine congrArg (fun z : EReal => x (ix2 r j) + z) (congrArg (fun z : Fin 16 => x (ix2 z j)) (Fin.ext ?_))
    show (r.val + 16 - (n.val % 2 ^ 32) % 16) % 16 = r.val - n.val
    omega
  · rw [if_neg h, if_neg h]

theorem addDown_at (n : Fin 16) (x : FVec Ideal S16x512 .f32) (r : Fin 16) (j : Fin 512) :
    addDown (BitVec.ofNat 32 n.val) x (ix2 r j) = colOf x j r.val + if r.val < n.val then colOf x j (r.val + 16 - n.val) else 0 := by
  rw [colOf_fin]
  pointwise [addDown, rowNo, const]
  rw [sel_lt]
  by_cases h : r.val < n.val
  · rw [if_pos h, if_pos h, colOf, dif_pos (by omega)]
    refine congrArg (fun z : EReal => x (ix2 r j) + z) (congrArg (fun z : Fin 16 => x (ix2 z j)) (Fin.ext ?_))
    show (r.val + 16 - (n.val % 2 ^ 32) % 16) % 16 = r.val + 16 - n.val
    omega
  · rw [if_neg h, if_neg h]

/-! ## Over the reals -/

open Finset Cert.Decay
open Cert.Finite (coe_sum)

theorem addUp_real (n : Fin 16) (x : FVec Ideal S16x512 .f32) (j : Fin 512) (f : ℕ → ℝ) (hx : ∀ r : Fin 16, x (ix2 r j) = (f r.val : EReal)) (r : Fin 16) :
    addUp (BitVec.ofNat 32 n.val) x (ix2 r j) = ((f r.val + if n.val ≤ r.val then f (r.val - n.val) else 0 : ℝ) : EReal) := by
  have hc : ∀ u, u < 16 → colOf x j u = (f u : EReal) := fun u hu => by rw [colOf, dif_pos hu, hx]
  rw [addUp_at, hc _ r.isLt]
  by_cases h : n.val ≤ r.val
  · rw [if_pos h, if_pos h, hc _ (by omega), EReal.coe_add]
  · rw [if_neg h, if_neg h, add_zero, add_zero]

theorem addDown_real (n : Fin 16) (x : FVec Ideal S16x512 .f32) (j : Fin 512) (f : ℕ → ℝ) (hx : ∀ r : Fin 16, x (ix2 r j) = (f r.val : EReal)) (r : Fin 16) :
    addDown (BitVec.ofNat 32 n.val) x (ix2 r j) = ((f r.val + if r.val + (16 - n.val) < 16 then f (r.val + (16 - n.val)) else 0 : ℝ) : EReal) := by
  have hc : ∀ u, u < 16 → colOf x j u = (f u : EReal) := fun u hu => by rw [colOf, dif_pos hu, hx]
  have e : r.val + 16 - n.val = r.val + (16 - n.val) := by omega
  rw [addDown_at, hc _ r.isLt]
  by_cases h : r.val < n.val
  · rw [if_pos h, if_pos (by omega), e, hc _ (by omega), EReal.coe_add]
  · rw [if_neg h, if_neg (by omega), add_zero, add_zero]

/-- The sum of the last `w` entries. -/
def up (w : ℕ) (f : ℕ → ℝ) (r : ℕ) : ℝ := ∑ u ∈ range w, if u ≤ r then f (r - u) else 0
/-- The sum of the next `w` entries below sixteen. -/
def down (w : ℕ) (f : ℕ → ℝ) (r : ℕ) : ℝ := ∑ u ∈ range w, if r + u < 16 then f (r + u) else 0

theorem up_add (w : ℕ) (f : ℕ → ℝ) (r : ℕ) : (up w f r + if w ≤ r then up w f (r - w) else 0) = up (w + w) f r := by
  unfold up
  rw [sum_range_add]
  congr 1
  by_cases h : w ≤ r
  · rw [if_pos h]
    refine sum_congr rfl fun u _ => ?_
    by_cases h' : u ≤ r - w
    · rw [if_pos h', if_pos (by omega)]; exact congrArg f (by omega)
    · rw [if_neg h', if_neg (by omega)]
  · rw [if_neg h, sum_eq_zero]
    intro u _
    rw [if_neg (by omega)]

theorem down_add (w : ℕ) (f : ℕ → ℝ) (r : ℕ) : (down w f r + if r + w < 16 then down w f (r + w) else 0) = down (w + w) f r := by
  unfold down
  rw [sum_range_add]
  congr 1
  by_cases h : r + w < 16
  · rw [if_pos h]
    exact sum_congr rfl fun u _ => by rw [add_assoc]
  · rw [if_neg h, sum_eq_zero]
    intro u _
    rw [if_neg (by omega)]

theorem up_one (f : ℕ → ℝ) (r : ℕ) : up 1 f r = f r := by simp [up]
theorem down_one (f : ℕ → ℝ) {r : ℕ} (h : r < 16) : down 1 f r = f r := by simp [down, h]

theorem up_all (f : ℕ → ℝ) {r : ℕ} (h : r < 16) : up 16 f r = ∑ u ∈ range (r + 1), f u := by
  unfold up
  conv_lhs => rw [show (16 : ℕ) = (r + 1) + (15 - r) by omega, sum_range_add]
  rw [sum_eq_zero (s := range (15 - r)) fun u _ => if_neg (by omega), add_zero, ← sum_range_reflect]
  refine sum_congr rfl fun u hu => ?_
  rw [mem_range] at hu
  rw [if_pos (by omega)]; exact congrArg f (by omega)

theorem down_all (f : ℕ → ℝ) {r : ℕ} (h : r < 16) : down 16 f r = ∑ s : Fin 16, if r ≤ s.val then f s.val else 0 := by
  rw [← sum_range (n := 16) (f := fun s => if r ≤ s then f s else 0), from_row f r 16 (by omega)]
  unfold down
  conv_lhs => rw [show range 16 = range ((16 - r) + r) by rw [show (16 - r) + r = 16 by omega], sum_range_add]
  rw [sum_eq_zero (s := range r) fun u _ => if_neg (by omega), add_zero]
  refine sum_congr rfl fun u hu => ?_
  rw [mem_range] at hu
  rw [if_pos (by omega)]

theorem csum_real (x : FVec Ideal S16x512 .f32) (j : Fin 512) (f : ℕ → ℝ) (hx : ∀ r : Fin 16, x (ix2 r j) = (f r.val : EReal)) (r : Fin 16) :
    csum x (ix2 r j) = ((∑ u ∈ range (r.val + 1), f u : ℝ) : EReal) := by
  have h1 : ∀ r : Fin 16, _ = ((up 2 f r.val : ℝ) : EReal) := fun r => (addUp_real 1 x j (up 1 f) (fun r => by rw [hx, up_one]) r).trans (congrArg _ (up_add 1 f r))
  have h2 : ∀ r : Fin 16, _ = ((up 4 f r.val : ℝ) : EReal) := fun r => (addUp_real 2 _ j _ h1 r).trans (congrArg _ (up_add 2 f r))
  have h3 : ∀ r : Fin 16, _ = ((up 8 f r.val : ℝ) : EReal) := fun r => (addUp_real 4 _ j _ h2 r).trans (congrArg _ (up_add 4 f r))
  have h4 : ∀ r : Fin 16, _ = ((up 16 f r.val : ℝ) : EReal) := fun r => (addUp_real 8 _ j _ h3 r).trans (congrArg _ (up_add 8 f r))
  exact (h4 r).trans (congrArg _ (up_all f r.isLt))

theorem csumDown_real (x : FVec Ideal S16x512 .f32) (j : Fin 512) (f : ℕ → ℝ) (hx : ∀ r : Fin 16, x (ix2 r j) = (f r.val : EReal)) (r : Fin 16) :
    addDown 8#32 (addDown 12#32 (addDown 14#32 (addDown 15#32 x))) (ix2 r j) = ((∑ s : Fin 16, if r.val ≤ s.val then f s.val else 0 : ℝ) : EReal) := by
  have h1 : ∀ r : Fin 16, _ = ((down 2 f r.val : ℝ) : EReal) := fun r => (addDown_real 15 x j (down 1 f) (fun r => by rw [hx, down_one _ r.isLt]) r).trans (congrArg _ (down_add 1 f r))
  have h2 : ∀ r : Fin 16, _ = ((down 4 f r.val : ℝ) : EReal) := fun r => (addDown_real 14 _ j _ h1 r).trans (congrArg _ (down_add 2 f r))
  have h3 : ∀ r : Fin 16, _ = ((down 8 f r.val : ℝ) : EReal) := fun r => (addDown_real 12 _ j _ h2 r).trans (congrArg _ (down_add 4 f r))
  have h4 : ∀ r : Fin 16, _ = ((down 16 f r.val : ℝ) : EReal) := fun r => (addDown_real 8 _ j _ h3 r).trans (congrArg _ (down_add 8 f r))
  exact (h4 r).trans (congrArg _ (down_all f r.isLt))

theorem sum16 (t : Fin 16 → EReal) : 0 + t 0 + t 1 + t 2 + t 3 + t 4 + t 5 + t 6 + t 7 + t 8 + t 9 + t 10 + t 11 + t 12 + t 13 + t 14 + t 15 = ∑ s, t s := by
  simp only [Fin.sum_univ_succ, Fin.sum_univ_zero, add_assoc, zero_add, add_zero]
  rfl

theorem intra_at (A : FVec Ideal S16x16 .f32) (G x : FVec Ideal S16x128 .f32) (r : Fin 16) (l : Fin 128) :
    intra A G x (ix2 r l) = ∑ s : Fin 16, A (ix2 r s) * (decayTo G s (ix2 r l) * x (ix2 s l)) := by
  unfold intra sweep
  simp only [addRow_at]
  have z : (const S16x128 0x00000000#32 : FVec Ideal S16x128 .f32) (ix2 r l) = 0 := Ideal.ofBits_zero_f32
  rw [z]
  exact sum16 fun s => A (ix2 r s) * (decayTo G s (ix2 r l) * x (ix2 s l))

theorem coe_ite (p : Prop) [Decidable p] (x : ℝ) : (if p then (x : EReal) else 0) = ((if p then x else 0 : ℝ) : EReal) := by
  split <;> rfl

/-- What a block reads, as reals: row `16 b + r` of each input, and the state before the block. -/
structure Reads (I : In Ideal) (b : ℕ) (g k q : Fin 4 → Fin 128 → ℕ → ℝ) (v D : Fin 4 → ℕ → Fin 128 → ℝ) : Prop where
  hb : b < 516
  hg : ∀ h l n, g h l n ≤ 0
  lge : ∀ (r : Fin 16) h l, lg I.lb I.fz (ix2 r (col h l)) = (g h l (16 * b + r.val) : EReal)
  ke : ∀ (r : Fin 16) h l, I.k (ix2 r (col h l)) = (k h l (16 * b + r.val) : EReal)
  qe : ∀ (r : Fin 16) h l, I.qs (ix2 r (col h l)) = (q h l (16 * b + r.val) : EReal)
  ve : ∀ (r : Fin 16) h l, I.i (ix2 r (col h l)) = (v h (16 * b + r.val) l : EReal)
  de : ∀ (r : Fin 16) h l, I.d (ix2 r (col h l)) = (D h (16 * b + r.val) l : EReal)
  se : ∀ h (e l : Fin 128), I.s h (ix3 0 e l) = (state (g h l) (k h l) (v h) (16 * b) e : EReal)

theorem rows4_at (p : Fin 4 → FVec Ideal S1x128 .f32) (z : Fin 1) (h : Fin 4) (l : Fin 128) :
    concatenate S1x512 1 [⟨S1x128, p 0⟩, ⟨S1x128, p 1⟩, ⟨S1x128, p 2⟩, ⟨S1x128, p 3⟩] concatenates_S1x128_S1x128_S1x128_S1x128_S1x512_d1 (ix2 z (col h l)) = p h (ix2 z l) := by
  have hl := l.isLt
  obtain rfl : z = 0 := Subsingleton.elim _ _
  have e : ∀ (j : Fin 128), j.val = l.val → ix2 (0 : Fin 1) j = ix2 0 l := fun j hj => congrArg (ix2 (0 : Fin 1)) (Fin.ext hj)
  pointwise
  have h4 : h = 0 ∨ h = 1 ∨ h = 2 ∨ h = 3 := by revert h; decide
  rcases h4 with rfl | rfl | rfl | rfl
  · have hc : (col 0 l).val = l.val := by simp [col]
    rw [dif_pos (by omega)]; exact congrArg _ (e _ hc)
  · have hc : (col 1 l).val = 128 + l.val := by simp [col]
    rw [dif_neg (by omega), dif_pos (by omega)]; exact congrArg _ (e _ (by simp only [hc]; omega))
  · have hc : (col 2 l).val = 256 + l.val := by simp [col]
    rw [dif_neg (by omega), dif_neg (by omega), dif_pos (by omega)]; exact congrArg _ (e _ (by simp only [hc]; omega))
  · have hc : (col 3 l).val = 384 + l.val := by simp [col]
    rw [dif_neg (by omega), dif_neg (by omega), dif_neg (by omega)]; exact congrArg _ (e _ (by simp only [hc]; omega))

namespace Reads
variable {I : In Ideal} {b : ℕ} {g k q : Fin 4 → Fin 128 → ℕ → ℝ} {v D : Fin 4 → ℕ → Fin 128 → ℝ} (R : Reads I b g k q v D)
include R

theorem gc (r : Fin 16) (h : Fin 4) (l : Fin 128) : Hgrn.gc I.lb I.fz (ix2 r (col h l)) = (loc (g h l) b r.val : EReal) :=
  csum_real _ _ (fun u => g h l (16 * b + u)) (fun r => R.lge r h l) r

theorem eG (r : Fin 16) (h : Fin 4) (l : Fin 128) : Hgrn.eG I.lb I.fz (ix2 r (col h l)) = (Real.exp (loc (g h l) b r.val) : EReal) := by
  show Ideal.exp (Hgrn.gc I.lb I.fz (ix2 r (col h l))) = _
  rw [R.gc]; rfl

theorem gl (z : Fin 1) (h : Fin 4) (l : Fin 128) : Hgrn.gl I.lb I.fz (ix2 z (col h l)) = (loc (g h l) b 15 : EReal) := by
  rw [← show ((15 : Fin 16).val) = 15 from rfl, ← R.gc]
  pointwise [Hgrn.gl]

theorem edl (r : Fin 16) (h : Fin 4) (l : Fin 128) : Hgrn.edl I.lb I.fz (ix2 r (col h l)) = (Real.exp (loc (g h l) b 15 - loc (g h l) b r.val) : EReal) := by
  have e : Hgrn.edl I.lb I.fz (ix2 r (col h l)) = Ideal.exp (Hgrn.gl I.lb I.fz (ix2 0 (col h l)) - Hgrn.gc I.lb I.fz (ix2 r (col h l))) := by
    pointwise [Hgrn.edl]
  rw [e, R.gl, R.gc, ← EReal.coe_sub]; rfl

theorem decay (h : Fin 4) (s r : Fin 16) (l : Fin 128) : decayTo (hd h (Hgrn.gc I.lb I.fz)) s (ix2 r l)
    = (Real.exp (min (loc (g h l) b r.val - loc (g h l) b s.val) (-(loc (g h l) b r.val - loc (g h l) b s.val))) : EReal) := by
  rw [decayTo_at]
  simp only [hd_at, R.gc]
  rw [zero_sub, ← EReal.coe_sub, ← EReal.coe_neg, ← EReal.coe_strictMono.monotone.map_min]; rfl

theorem gramDV (h : Fin 4) (r s : Fin 16) : gram (hd h I.d) (hd h I.ib) (ix2 r s) = (wg (v h) (D h) (16 * b + r.val) (16 * b + s.val) : EReal) := by
  rw [gram_at, wg, coe_sum]
  refine Finset.sum_congr rfl fun l _ => ?_
  rw [hd_at, hd_at, R.de, EReal.coe_mul]
  exact congrArg _ (R.ve s h l)

theorem gramVD (h : Fin 4) (r s : Fin 16) : gram (hd h I.ib) (hd h I.d) (ix2 r s) = (wg (v h) (D h) (16 * b + s.val) (16 * b + r.val) : EReal) := by
  rw [gram_at, wg, coe_sum]
  refine Finset.sum_congr rfl fun l _ => ?_
  rw [hd_at, hd_at, R.de, EReal.coe_mul, mul_comm]
  exact congrArg _ (R.ve r h l)

theorem dq (r : Fin 16) (h : Fin 4) (l : Fin 128) : I.dq (ix2 r (col h l)) = (Decay.dq (g h l) (k h l) (v h) (D h) 516 (16 * b + r.val) : EReal) := by
  rw [dq_block (g h l) (k h l) (v h) (D h) 516 (R.hg h l) b R.hb r, In.dq, cat_at I.dqh h r l]
  show intra _ _ _ (ix2 r l) + hd h (Hgrn.eG I.lb I.fz) (ix2 r l) * mul _ _ (ix2 r l) = _
  rw [intra_at, mul_at, EReal.coe_add, EReal.coe_mul, coe_sum, coe_sum, hd_at, R.eG]
  refine congrArg₂ (fun x y : EReal => x + y) (Finset.sum_congr rfl fun s _ => ?_) (congrArg _ (Finset.sum_congr rfl fun e _ => ?_))
  · rw [lower_at, R.gramDV, coe_ite, R.decay, hd_at, R.ke, EReal.coe_mul, EReal.coe_mul]
  · rw [hd_at, R.de, flat_at, R.se, EReal.coe_mul]

section grad
variable (G : ∀ h (e l : Fin 128), I.ds h (ix3 0 e l) = (grad (g h l) (q h l) (D h) 516 (16 * (b + 1)) e : EReal))
include G

theorem half_at (h : Fin 4) (e l : Fin 128) : half (I.ds h) (ix2 e l) = (grad (g h l) (q h l) (D h) 516 (16 * (b + 1)) e : EReal) :=
  (flat_at (I.ds h) e l).trans (G h e l)

theorem dk (r : Fin 16) (h : Fin 4) (l : Fin 128) : I.dk (ix2 r (col h l)) = (Decay.dk (g h l) (q h l) (v h) (D h) 516 (16 * b + r.val) : EReal) := by
  rw [dk_block (g h l) (q h l) (v h) (D h) 516 (R.hg h l) b R.hb r, In.dk, cat_at I.dkh h r l]
  show intra _ _ _ (ix2 r l) + hd h (Hgrn.edl I.lb I.fz) (ix2 r l) * mul _ _ (ix2 r l) = _
  rw [intra_at, mul_at, EReal.coe_add, EReal.coe_mul, coe_sum, coe_sum, hd_at, R.edl]
  refine congrArg₂ (fun x y : EReal => x + y) (Finset.sum_congr rfl fun s _ => ?_) (congrArg _ (Finset.sum_congr rfl fun e _ => ?_))
  · rw [upper_at, R.gramVD, coe_ite, R.decay, hd_at, R.qe, EReal.coe_mul, EReal.coe_mul]
  · rw [hd_at, R.half_at G, EReal.coe_mul]
    exact congrArg (fun z : EReal => z * _) (R.ve r h e)

theorem di (a : ∀ h (t s : Fin 16), I.am h (ix2 t s) = ((∑ d, q h d (16 * b + t.val) * k h d (16 * b + s.val) * wt (g h d) (16 * b + t.val) (16 * b + s.val) : ℝ) : EReal))
    (r : Fin 16) (h : Fin 4) (e : Fin 128) : I.di (ix2 r (col h e)) =
    ((∑ t ∈ range (16 * 516), (∑ d, q h d t * k h d (16 * b + r.val) * wt (g h d) t (16 * b + r.val)) * D h t e : ℝ) : EReal) := by
  rw [dv_block (D h) 516 (g h) (k h) (q h) b R.hb r e, In.di, cat_at I.dih h r e]
  show matmul _ _ _ _ _ (ix2 r e) + matmul _ _ _ _ _ (ix2 r e) = _
  rw [amul_at, tmul_at, EReal.coe_add, coe_sum, coe_sum]
  refine congrArg₂ (fun x y : EReal => x + y) (Finset.sum_congr rfl fun t _ => ?_) (Finset.sum_congr rfl fun d _ => ?_)
  · rw [a, hd_at, R.de, EReal.coe_mul]
  · rw [R.half_at G, hd_at, EReal.coe_mul, EReal.coe_mul, ← R.ke, ← R.edl]; rfl

theorem dsNew (h : Fin 4) (e l : Fin 128) : I.dsNew h (ix3 0 e l) = (grad (g h l) (q h l) (D h) 516 (16 * b) e : EReal) := by
  rw [grad_block (g h l) (q h l) (D h) 516 b R.hb e, In.dsNew, thick_at]
  have e1 : broadcastTo S128x128 (extractStridedSlice S1x128 ![0, 128 * h.val] (exp (Hgrn.gl I.lb I.fz)) (slices_headRow h)) broadcasts_S1x128_S128x128 (ix2 e l)
      = Ideal.exp (Hgrn.gl I.lb I.fz (ix2 0 (col h l))) := by
    pointwise
    rfl
  show broadcastTo S128x128 _ _ (ix2 e l) * flat (I.ds h) (ix2 e l) + matmul _ _ _ _ _ (ix2 e l) = _
  rw [e1, R.gl, flat_at, G, outer_at, EReal.coe_add, EReal.coe_mul, coe_sum]
  refine congrArg₂ (fun x y : EReal => x + y) rfl (Finset.sum_congr rfl fun r _ => ?_)
  rw [hd_at, hd_at, R.de, EReal.coe_mul, EReal.coe_mul, ← R.qe, ← R.eG]; rfl

theorem tail (N : ∀ h (e l : Fin 128), I.nx h (ix3 0 e l) = (if b + 1 < 516 then state (g h l) (k h l) (v h) (16 * (b + 1)) e else 0 : ℝ))
    (z : Fin 1) (h : Fin 4) (l : Fin 128) : I.tail (ix2 z (col h l)) =
      ((∑ e, grad (g h l) (q h l) (D h) 516 (16 * (b + 1)) e * state (g h l) (k h l) (v h) (16 * (b + 1)) e : ℝ) : EReal) := by
  have e1 : ∀ (x y : FVec Ideal S128x128 .f32), shapeCast S1x128 (multiReduction .add [0] S128 (mulf x y) 0x00000000#32
    reduces_S128x128_S128 (.inl rfl) rfl) shapeCasts_S128_S1x128 (ix2 z l) = ∑ e : Fin 128, x (ix2 e l) * y (ix2 e l) := fun x y => by pointwise
  have e2 : I.tail (ix2 z (col h l)) = I.tailh h (ix2 z l) := rows4_at I.tailh z h l
  rw [e2, In.tailh, e1, coe_sum]
  refine Finset.sum_congr rfl fun e _ => ?_
  show flat (I.ds h) (ix2 e l) * flat (I.nx h) (ix2 e l) = _
  rw [flat_at, flat_at, G, N]
  by_cases hb : b + 1 < 516
  · rw [if_pos hb, EReal.coe_mul]
  · have hb' : b + 1 = 516 := by have := R.hb; omega
    rw [if_neg hb, hb', grad_last]
    simp

end grad

end Reads

end Cert.KernelIdeal.Hgrn

end
-- ==== Proof.Gain.lean ====
module

public import proofs.«01_k».proof.Proof.Reads
public import proofs.«01_k».proof.Proof.RefGate

/-!
# The gate's and the gain's gradients of the kernel are the reference's
-/

@[expose] public section

set_option maxRecDepth 16384
set_option maxHeartbeats 4000000
noncomputable section

namespace Cert.KernelIdeal.Hgrn

open Idealize.ShloMosaic Idealize.ShloMosaic.TcCoe Idealize.SL.Sem Cert.KernelIdeal.Gen
open Idealize.ShloMosaic.Pipeline (Dat Cfg Window)

variable (m : (ℓ : Loc nD τ sig) → Buf (Elt Ideal) ℓ) (c : Dev nD)

/-- The projections. -/
abbrev X0 : FVec Ideal Cert.ReferenceIdeal.S8256x3072 .f32 := m ((c : Thread nD τ).loc main_arg0)
/-- The gradient that comes in. -/
abbrev X1 : FVec Ideal Cert.ReferenceIdeal.S8256x1024 .bf16 := m ((c : Thread nD τ).loc main_arg1)
/-- The lower bound's parameters. -/
abbrev X2 : FVec Ideal Cert.ReferenceIdeal.S2x512 .f32 := m ((c : Thread nD τ).loc main_arg2)
/-- The gain. -/
abbrev X3 : FVec Ideal Cert.ReferenceIdeal.S1x128 .f32 := m ((c : Thread nD τ).loc main_arg3)

open Cert.RefGate Cert.ReferenceIdeal.Read

section
variable (t : Fin cfg0.N) (k : Fin k0_t1_loop.trips) (s : St Ideal) (r : Fin 16) (h : Fin 4) (l : Fin 128)

/-- The normalised output at an entry. -/
theorem on_at : ((blkAt m c t).at' s k).o (ix2 r (col h l)) * (rmsOf fun j => ((blkAt m c t).at' s k).o (ix2 r (col h j)))
    = val_main_v124 (F := Ideal) (X0 m c) (X2 m c) (ix3 (rowOf (blkNo t k) r) h l) := by
  simp only [o_at]
  rw [v124_at]
  rfl

theorem gz_at' : ((blkAt m c t).at' s k).gz (ix2 r (col h l)) = gz (X0 m c) (rowOf (blkNo t k) r) h l := gz_at m c t k s r (col h l)
theorem dy_at' : ((blkAt m c t).at' s k).dyf (ix2 r (col h l)) = dy (X1 m c) (rowOf (blkNo t k) r) h l := dy_at m c t k s r (col h l)

/-- The gate's gradient that a trip leaves. -/
theorem gate_at : ((blkAt m c t).at' s k).dh (ix2 r (⟨1536 + (128 * h.val + l.val), by omega⟩ : Fin 2048))
    = dy (X1 m c) (rowOf (blkNo t k) r) h l * val_main_v124 (F := Ideal) (X0 m c) (X2 m c) (ix3 (rowOf (blkNo t k) r) h l) * X3 m c (ix2 0 l)
      * (Ideal.logistic (gz (X0 m c) (rowOf (blkNo t k) r) h l) * (1 + gz (X0 m c) (rowOf (blkNo t k) r) h l * (1 - Ideal.logistic (gz (X0 m c) (rowOf (blkNo t k) r) h l)))) := by
  have e : ((blkAt m c t).at' s k).os = ((blkAt m c t).at' s k).o := by unfold In.os; exact shapeCast_self _ _
  rw [In.dh_gate, dgz_at, e, on_at, gz_at', dy_at', gn_at]

/-- One row's part of the gain's gradient. -/
def gainRow (w : Fin 8256) (l : Fin 128) : EReal :=
  ∑ h : Fin 4, dy (X1 m c) w h l * (gz (X0 m c) w h l * Ideal.logistic (gz (X0 m c) w h l)) * val_main_v124 (F := Ideal) (X0 m c) (X2 m c) (ix3 w h l)

theorem gain_step : ((blkAt m c t).step s k).g (ix2 0 l) = s.g (ix2 0 l) + ∑ r : Fin 16, gainRow m c (rowOf (blkNo t k) r) l := by
  show ((blkAt m c t).at' s k).gNew s.g (ix2 0 l) = _
  rw [In.gNew_at]
  refine congrArg (fun z : EReal => s.g (ix2 0 l) + z) ?_
  rw [Finset.sum_comm]
  refine Finset.sum_congr rfl fun r _ => Finset.sum_congr rfl fun h _ => ?_
  rw [on_at]
  refine congrArg (fun z : EReal => z * val_main_v124 (F := Ideal) (X0 m c) (X2 m c) (ix3 (rowOf (blkNo t k) r) h l)) ?_
  show ((blkAt m c t).at' s k).dyf (ix2 r (col h l)) * (((blkAt m c t).at' s k).gz (ix2 r (col h l)) * Ideal.logistic (((blkAt m c t).at' s k).gz (ix2 r (col h l)))) = _
  rw [gz_at', dy_at']

end

/-- The part of the `n`-th block from the end. -/
def gainBlk (l : Fin 128) (n : ℕ) : EReal := ∑ r : Fin 16, gainRow m c (rowOf ⟨515 - n, by omega⟩ r) l

theorem gain_run (t : Fin cfg0.N) (s : St Ideal) (l : Fin 128) : ∀ n, n ≤ 12 →
    ((blkAt m c t).run s n).g (ix2 0 l) = s.g (ix2 0 l) + ∑ i ∈ Finset.range n, gainBlk m c l (12 * t.val + i)
  | 0, _ => by rw [Finset.sum_range_zero, add_zero]; rfl
  | n + 1, hn => by
    have hk : n < k0_t1_loop.trips := by rw [trips_eq]; omega
    rw [(blkAt m c t).run_succ s ⟨n, hk⟩, gain_step, gain_run t s l n (by omega), Finset.sum_range_succ, add_assoc]
    rfl

theorem gain_carried (l : Fin 128) : ∀ n, n ≤ 43 → (carried m c n).g (ix2 0 l) = ∑ i ∈ Finset.range (12 * n), gainBlk m c l i
  | 0, _ => by
    rw [Nat.mul_zero, Finset.sum_range_zero]
    exact Ideal.ofBits_zero_f32
  | n + 1, hn => by
    have hk : n < cfg0.N := by rw [pts_eq]; omega
    rw [carried_succ m c ⟨n, hk⟩]
    show ((blkAt m c ⟨n, hk⟩).run _ 12).g (ix2 0 l) = _
    rw [gain_run m c _ _ l 12 le_rfl, gain_carried l n (by omega), show 12 * (n + 1) = 12 * n + 12 from rfl, Finset.sum_range_add]

/-- Summing the blocks from the end sums the rows. -/
theorem sum_blocks (f : Fin 8256 → EReal) :
    ∑ i ∈ Finset.range 516, ∑ r : Fin 16, f (rowOf ⟨515 - i, by omega⟩ r) = ∑ w : Fin 8256, f w := by
  rw [Finset.sum_range, ← Equiv.sum_comp Fin.revPerm]
  have e : ∀ b : Fin 516, (∑ r : Fin 16, f (rowOf ⟨515 - (Fin.revPerm b).val, by omega⟩ r)) = ∑ r : Fin 16, f (rowOf b r) := fun b => by
    refine Finset.sum_congr rfl fun r _ => congrArg f (Fin.ext ?_)
    show 16 * (515 - (516 - (b.val + 1))) + r.val = 16 * b.val + r.val
    omega
  rw [Finset.sum_congr rfl fun b _ => e b]
  rw [← (finProdFinEquiv (m := 516) (n := 16)).sum_comp, Fintype.sum_prod_type]
  refine Finset.sum_congr rfl fun b _ => Finset.sum_congr rfl fun r _ => congrArg f (Fin.ext ?_)
  show 16 * b.val + r.val = r.val + 16 * b.val
  omega

/-- The gain's gradient that the grid leaves. -/
theorem gain_all (h0 : ∀ i, Cert.Finite.IsR (X0 m c i)) (l : Fin 128) : (carried m c 43).g (ix2 0 l) = val_main_v245 (F := Ideal) (X0 m c) (X1 m c) (X2 m c) (ix2 0 l) := by
  rw [gain_carried m c l 43 le_rfl]
  show ∑ i ∈ Finset.range 516, ∑ r : Fin 16, gainRow m c (rowOf ⟨515 - i, by omega⟩ r) l = _
  rw [sum_blocks fun w => gainRow m c w l, v245_at]
  refine Finset.sum_congr rfl fun w _ => Finset.sum_congr rfl fun h _ => ?_
  rw [mul_comm, v129_2_at, ← (sig_eq (h0 _)).1]

end Cert.KernelIdeal.Hgrn

end
-- ==== Proof.Low.lean ====
module

public import proofs.«01_k».proof.Proof.RefOut
public import proofs.«01_k».proof.Proof.Reads2
public import proofs.«01_k».proof.Proof.StateVal
public import proofs.«01_k».proof.Proof.Formulas
public import proofs.«01_k».proof.Proof.Gain

/-!
# The gates, in the reference and in a block
-/

@[expose] public section

set_option maxRecDepth 16384
set_option maxHeartbeats 1000000
noncomputable section

namespace Cert.RefGrad

open Idealize.ShloMosaic Idealize.ShloMosaic.TcCoe Idealize.SL.Sem Cert.ReferenceIdeal Cert.ReferenceIdeal.Gen Cert.ReferenceIdeal.Read Cert.Finite Cert.Decay Finset
open Cert.KernelIdeal.Hgrn (col)

/-- The exponentials of one column of the two rows, less the larger. -/
def exAt (x2 : FVec Ideal S2x512 .f32) (a : Fin 2) (j : Fin 512) : EReal := Ideal.exp (x2 (ix2 a j) - max (x2 (ix2 0 j)) (x2 (ix2 1 j)))
/-- The lower bound of one column. -/
def lowAt (x2 : FVec Ideal S2x512 .f32) (j : Fin 512) : EReal :=
  Ideal.div (exAt x2 0 j) (exAt x2 0 j + exAt x2 1 j) + Ideal.div (exAt x2 1 j) (exAt x2 0 j + exAt x2 1 j) - Ideal.div (exAt x2 0 j) (exAt x2 0 j + exAt x2 1 j)
/-- The sigmoid of one entry. -/
def sgAt (x0 : FVec Ideal S8256x3072 .f32) (t : Fin 8256) (j : Fin 512) : EReal := Ideal.logistic (x0 (ix2 t ⟨512 + j.val, by omega⟩))

variable (x0 : FVec Ideal S8256x3072 .f32) (x2 : FVec Ideal S2x512 .f32) (t : Fin 8256) (j : Fin 512) (a : Fin 2)

theorem v7_at : val_main_v7 (F := Ideal) x2 (ix1 j) = max (x2 (ix2 0 j)) (x2 (ix2 1 j)) := by
  unfold val_main_v7
  rw [Host.reduce_eq_fold_single (FloatOps.maximumf (F := Ideal) (φ := .f32)) x2 _ reducesTo_S2x512_S512_d0 (by decide) h_S_ (ix1 j)]
  have e : ∀ (f : Fin 2 → EReal) (b : EReal), (Finset.univ : Finset (Fin 2)).fold (fun x y : EReal => max x y) b f = max (f 0) (max (f 1) b) := fun f b => rfl
  refine (e _ _).trans ?_
  rw [show val_main_cst (F := Ideal) (Shape.Idx.first h_S_) = ⊥ from ofBits_bot, max_bot_right]
  refine congrArg₂ max (congrArg x2 ?_) (congrArg x2 ?_)
  · funext b; fin_cases b <;> rfl
  · funext b; fin_cases b <;> rfl

theorem v27_at : val_main_v27 (F := Ideal) x2 (ix2 a j) = exAt x2 a j := by
  have e : val_main_v27 (F := Ideal) x2 (ix2 a j) = Ideal.exp (x2 (ix2 a j) - max (Ideal.ofBits .f32 0xFF800000#32) (val_main_v7 (F := Ideal) x2 (ix1 j))) := by
    unfold val_main_v27 val_main_v26 val_main_v25 val_main_v24 val_main_v14 val_main_v13 val_main_cst_1
    generalize val_main_v7 (F := Ideal) x2 = X
    pointwise
  rw [e, ofBits_bot, max_bot_left, v7_at]; rfl

theorem v28_at : val_main_v28 (F := Ideal) x2 (ix1 j) = exAt x2 0 j + exAt x2 1 j := by
  rw [← v27_at, ← v27_at]
  unfold val_main_v28 val_main_cst_7
  generalize val_main_v27 (F := Ideal) x2 = X
  pointwise
  exact Fin.sum_univ_two _

theorem v42_at : val_main_v42 (F := Ideal) x2 (ix1 j) = lowAt x2 j := by
  unfold lowAt
  rw [← v28_at, ← v27_at, ← v27_at]
  unfold val_main_v42 val_main_v41 val_main_v40 val_main_v39 val_main_v38 val_main_v37 val_main_v36 val_main_v35 val_main_v31 val_main_v30 val_main_v29
  generalize val_main_v27 (F := Ideal) x2 = X
  generalize val_main_v28 (F := Ideal) x2 = Y
  pointwise

theorem v48_at : val_main_v48 (F := Ideal) x0 (ix2 t j) = Ideal.div 1 (1 + Ideal.exp (-(x0 (ix2 t ⟨512 + j.val, by omega⟩)))) := by
  have e : val_main_v1 (F := Ideal) x0 (ix2 t j) = x0 (ix2 t ⟨512 + j.val, by omega⟩) := by
    pointwise [val_main_v1]
  rw [← e, ← Ideal.ofBits_one_f32]; rfl

theorem v59_at : val_main_v59 (F := Ideal) x0 x2 (ix2 t j) = val_main_v42 (F := Ideal) x2 (ix1 j) + (1 - val_main_v42 (F := Ideal) x2 (ix1 j)) * val_main_v48 (F := Ideal) x0 (ix2 t j) := by
  rw [← Ideal.ofBits_one_f32]
  unfold val_main_v59 val_main_v58 val_main_v57 val_main_v56 val_main_v55 val_main_v54 val_main_v53 val_main_v52 val_main_cst_12
  generalize val_main_v42 (F := Ideal) x2 = X
  generalize val_main_v48 (F := Ideal) x0 = Y
  pointwise

theorem v71_at : val_main_v71 (F := Ideal) x0 x2 (ix2 t j) = Ideal.log (max (val_main_v59 (F := Ideal) x0 x2 (ix2 t j)) (Ideal.ofBits .f32 0x0DA24260#32)) := rfl

theorem v78_at : val_main_v78 (F := Ideal) x0 x2 (ix2 t j) = (1 - val_main_v42 (F := Ideal) x2 (ix1 j)) * (1 - val_main_v48 (F := Ideal) x0 (ix2 t j)) := by
  rw [← Ideal.ofBits_one_f32]
  unfold val_main_v78 val_main_v77 val_main_v76 val_main_v75 val_main_v74 val_main_v73 val_main_v72 val_main_cst_19 val_main_cst_20
  generalize val_main_v42 (F := Ideal) x2 = X
  generalize val_main_v48 (F := Ideal) x0 = Y
  pointwise

theorem floor_le : ∃ r : ℝ, 0 < r ∧ r ≤ 1 ∧ Ideal.ofBits .f32 0x0DA24260#32 = (r : EReal) := by
  refine ⟨_, ?_, ?_, by simp [Ideal.ofBits, Ideal.ieee, -EReal.coe_mul]; rfl⟩ <;> norm_num

section
variable (h2 : ∀ i, IsR (x2 i))
include h2
theorem low_real : ∃ e0 e1 : ℝ, 0 < e0 ∧ 0 < e1 ∧ exAt x2 0 j = (e0 : EReal) ∧ exAt x2 1 j = (e1 : EReal) ∧ lowAt x2 j = ((e1 / (e0 + e1) : ℝ) : EReal) := by
  have hp : ∀ a, IsP (exAt x2 a j) := fun a => by rw [← v27_at]; exact p27 x2 h2 _
  obtain ⟨e0, p0, q0⟩ := hp 0
  obtain ⟨e1, p1, q1⟩ := hp 1
  refine ⟨e0, e1, p0, p1, q0, q1, ?_⟩
  have hz : e0 + e1 ≠ 0 := (add_pos p0 p1).ne'
  unfold lowAt
  rw [q0, q1, ← EReal.coe_add, Ideal.div_coe hz, Ideal.div_coe hz, ← EReal.coe_mul, ← EReal.coe_mul, ← EReal.coe_add, ← EReal.coe_sub]
  congr 1; ring
end

theorem sg_real (h0 : ∀ i, IsR (x0 i)) : ∃ s : ℝ, 0 < s ∧ s < 1 ∧ sgAt x0 t j = (s : EReal) ∧ val_main_v48 (F := Ideal) x0 (ix2 t j) = (s : EReal) := by
  obtain ⟨a, ha⟩ := h0 (ix2 t ⟨512 + j.val, by omega⟩)
  have hp : (0 : ℝ) < Real.exp (-a) := Real.exp_pos _
  have e1 : sgAt x0 t j = ((1 + Real.exp (-a))⁻¹ : ℝ) := by
    unfold sgAt; rw [ha]; exact Ideal.logistic_coe a
  refine ⟨_, by positivity, ?_, e1, ?_⟩
  · exact inv_lt_one_of_one_lt₀ (by linarith)
  · rw [v48_at, ← (RefGate.sig_eq (h0 _)).1]; exact e1

theorem gR_nonpos (h0 : ∀ i, IsR (x0 i)) (h2 : ∀ i, IsR (x2 i)) (h : Fin 4) (l : Fin 128) (n : ℕ) : gR x0 x2 h l n ≤ 0 := by
  by_cases hn : n < 8256
  · have hg := g_at x0 x2 h0 h2 ⟨n, hn⟩ h l
    obtain ⟨e0, e1, p0, p1, -, -, q⟩ := low_real x2 (col h l) h2
    obtain ⟨s, s0, s1, -, qs⟩ := sg_real x0 ⟨n, hn⟩ (col h l) h0
    obtain ⟨f, f0, f1, qf⟩ := floor_le
    have hx : (0 : ℝ) < e1 / (e0 + e1) := by positivity
    have hx1 : e1 / (e0 + e1) < 1 := by rw [div_lt_one (by positivity)]; linarith
    generalize e1 / (e0 + e1) = x at q hx hx1
    rw [v71_at, v59_at, v42_at, q, qs, qf, show (1 : EReal) = ((1 : ℝ) : EReal) from rfl, ← EReal.coe_sub, ← EReal.coe_mul, ← EReal.coe_add, ← EReal.coe_strictMono.monotone.map_max, Ideal.log_coe] at hg
    have hm : 0 < max (x + (1 - x) * s) f := lt_max_of_lt_right f0
    rw [if_neg (not_le.mpr hm)] at hg
    have e := EReal.coe_injective hg
    show gR x0 x2 h l (⟨n, hn⟩ : Fin 8256).val ≤ 0
    rw [← e]
    refine Real.log_nonpos hm.le (max_le ?_ f1)
    nlinarith
  · exact (nat_out _ (by omega)).le

end Cert.RefGrad

namespace Cert.KernelIdeal.Hgrn
open Idealize.ShloMosaic Idealize.ShloMosaic.TcCoe Idealize.SL.Sem Cert.KernelIdeal.Gen Cert.Finite
open Cert.RefGrad (exAt lowAt sgAt)

theorem lbRow_at (b0 b1 : FVec Ideal S1x512 .f32) (x : FVec Ideal S2x512 .f32) (j : Fin 512) (e0 : b0 (ix2 0 j) = x (ix2 0 j)) (e1 : b1 (ix2 0 j) = x (ix2 1 j)) :
    p0 b0 b1 (ix2 0 j) = Ideal.div (exAt x 0 j) (exAt x 0 j + exAt x 1 j) ∧ p1 b0 b1 (ix2 0 j) = Ideal.div (exAt x 1 j) (exAt x 0 j + exAt x 1 j) ∧ lbRow b0 b1 (ix2 0 j) = lowAt x j := by
  unfold lowAt exAt
  rw [← e0, ← e1]
  exact ⟨rfl, rfl, rfl⟩

theorem fg_at (lb : FVec Ideal S1x512 .f32) (fz : FVec Ideal S16x512 .f32) (r : Fin 16) (j : Fin 512) :
    fg lb fz (ix2 r j) = lb (ix2 0 j) + (1 - lb (ix2 0 j)) * Ideal.logistic (fz (ix2 r j)) := by
  rw [← Ideal.ofBits_one_f32]
  pointwise [fg, gap, const]
theorem kg_at (lb : FVec Ideal S1x512 .f32) (fz : FVec Ideal S16x512 .f32) (r : Fin 16) (j : Fin 512) :
    kg lb fz (ix2 r j) = (1 - lb (ix2 0 j)) * (1 - Ideal.logistic (fz (ix2 r j))) := by
  rw [← Ideal.ofBits_one_f32]
  pointwise [kg, gap, const]
theorem lg_at (lb : FVec Ideal S1x512 .f32) (fz : FVec Ideal S16x512 .f32) (r : Fin 16) (j : Fin 512) :
    lg lb fz (ix2 r j) = Ideal.log (max (fg lb fz (ix2 r j)) (Ideal.ofBits .f32 0x0DA24260#32)) := rfl

end Cert.KernelIdeal.Hgrn

end
-- ==== Proof.Join.lean ====
module

public import proofs.«01_k».proof.Proof.Low
public import proofs.«01_k».proof.Proof.Arrays

/-!
# What a trip reads, as real numbers, and what the trips before it left
-/

@[expose] public section

set_option maxRecDepth 16384
set_option maxHeartbeats 1000000
noncomputable section

namespace Cert.KernelIdeal.Hgrn

open Idealize.ShloMosaic Idealize.ShloMosaic.TcCoe Idealize.SL.Sem Cert.KernelIdeal.Gen Cert.Finite Cert.ReferenceIdeal.Read
open Cert.RefGrad Cert.Decay
open Cert.RefGate (gz dy out sig_eq)

variable (m : (ℓ : Loc nD τ sig) → Buf (Elt Ideal) ℓ) (c : Dev nD)

/-- The reference's real numbers at the kernel's arguments. -/
abbrev gK := gR (X0 m c) (X2 m c)
abbrev kK := kR (X0 m c) (X2 m c)
abbrev qK := qR (X0 m c)
abbrev vK := vR (X0 m c)
abbrev dK := dR (X0 m c) (X1 m c) (X2 m c) (X3 m c)

variable (h0 : ∀ i, IsR (X0 m c i)) (h1 : ∀ i, IsR (X1 m c i)) (h2 : ∀ i, IsR (X2 m c i)) (h3 : ∀ i, IsR (X3 m c i))
variable (t : Fin cfg0.N) (k : Fin k0_t1_loop.trips) (s : St Ideal)

theorem lb_in (j : Fin 512) : ((blkAt m c t).at' s k).lb (ix2 0 j) = lowAt (X2 m c) j :=
  (lbRow_at _ _ (X2 m c) j (b0_in m c t k s j) (b1_in m c t k s j)).2.2

theorem fg_in (r : Fin 16) (j : Fin 512) (h0 : ∀ i, IsR (X0 m c i)) : fg ((blkAt m c t).at' s k).lb ((blkAt m c t).at' s k).fz (ix2 r j) = val_main_v59 (F := Ideal) (X0 m c) (X2 m c) (ix2 (rowOf (blkNo t k) r) j) := by
  rw [fg_at, lb_in, fz_in, v59_at, v42_at, v48_at, ← (sig_eq (h0 _)).1]

include h0 h1 h2 h3

theorem reads : Reads ((blkAt m c t).at' s k) (blkNo t k).val (gK m c) (kK m c) (qK m c) (vK m c) (dK m c) where
  hb := (blkNo t k).isLt
  hg := gR_nonpos (X0 m c) (X2 m c) h0 h2
  lge r h l := by
    have e := g_at (X0 m c) (X2 m c) h0 h2 (rowOf (blkNo t k) r) h l
    rw [v71_at, ← fg_in m c t k s r (col h l) h0] at e
    exact (lg_at _ _ r (col h l)).trans e
  ke r h l := by
    have e := k_at (X0 m c) (X2 m c) h0 h2 (rowOf (blkNo t k) r) h l
    rw [show val_main_v82 (F := Ideal) (X0 m c) (X2 m c) (ix3 (rowOf (blkNo t k) r) h l) = val_main_v78 (F := Ideal) (X0 m c) (X2 m c) (ix2 (rowOf (blkNo t k) r) (col h l)) from heads_at _ _ h l,
      v78_at, v42_at, v48_at, ← (sig_eq (h0 _)).1] at e
    refine (kg_at _ _ r (col h l)).trans ?_
    rw [lb_in, fz_in]
    exact e
  qe r h l := by
    have e := q_at (X0 m c) h0 (rowOf (blkNo t k) r) h l
    rw [show val_main_v81 (F := Ideal) (X0 m c) (ix3 (rowOf (blkNo t k) r) h l) = val_main_v80 (F := Ideal) (X0 m c) (ix2 (rowOf (blkNo t k) r) (col h l)) from heads_at _ _ h l] at e
    rw [← show _ = ((qK m c h l (16 * (blkNo t k).val + r.val) : ℝ) : EReal) from e]
    show ((blkAt m c t).at' s k).q (ix2 r (col h l)) * Ideal.ofBits .f32 0x3DB504F3#32 = val_main_v0 (F := Ideal) (X0 m c) (ix2 (rowOf (blkNo t k) r) (col h l)) * Ideal.ofBits .f32 0x3DB504F3#32
    rw [q_in]
    refine congrArg (fun z : EReal => z * _) ?_
    symm
    pointwise [val_main_v0]
  ve r h l := by
    have e := v_at (X0 m c) h0 (rowOf (blkNo t k) r) h l
    rw [show val_main_v83 (F := Ideal) (X0 m c) (ix3 (rowOf (blkNo t k) r) h l) = val_main_v2 (F := Ideal) (X0 m c) (ix2 (rowOf (blkNo t k) r) (col h l)) from heads_at _ _ h l] at e
    rw [← show _ = ((vK m c h (16 * (blkNo t k).val + r.val) l : ℝ) : EReal) from e, i_in]
    symm
    pointwise [val_main_v2]
  de r h l := by
    have hD := r154 (X0 m c) (X1 m c) (X2 m c) (X3 m c) h0 h1 h2 h3
    have e := d_at (X0 m c) (X1 m c) (X2 m c) (X3 m c) h0 h2 (rowOf (blkNo t k) r) h l hD
    rw [← show _ = ((dK m c h (16 * (blkNo t k).val + r.val) l : ℝ) : EReal) from e, (out_at (X0 m c) (X1 m c) (X2 m c) (X3 m c) h0 h1 h2 h3 (rowOf (blkNo t k) r) h l).1]
    refine (dob_at _ _ _ r h l).trans ?_
    have e1 : ((blkAt m c t).at' s k).os = ((blkAt m c t).at' s k).o := by unfold In.os; exact shapeCast_self _ _
    rw [e1]
    refine congrArg₂ (fun x y => normGrad x y l) (funext fun j => o_at m c t k s r h j) (funext fun j => ?_)
    rw [after_at, ← (sig_eq (h0 _)).1, gn_at]
    refine congrArg (fun z : EReal => z * X3 m c (ix2 0 j)) ?_
    show ((blkAt m c t).at' s k).dyf (ix2 r (col h j)) * (((blkAt m c t).at' s k).gz (ix2 r (col h j)) * Ideal.logistic (((blkAt m c t).at' s k).gz (ix2 r (col h j)))) = _
    rw [gz_at', dy_at']
  se h e l := (s_in m c t k s h e l).trans (states_real (X0 m c) (X2 m c) h0 h2 (blkNo t k) h e l)

omit h1 h3 in
theorem am_in (h : Fin 4) (r u : Fin 16) : ((blkAt m c t).at' s k).am h (ix2 r u)
    = ((∑ d, qK m c h d (16 * (blkNo t k).val + r.val) * kK m c h d (16 * (blkNo t k).val + u.val) * wt (gK m c h d) (16 * (blkNo t k).val + r.val) (16 * (blkNo t k).val + u.val) : ℝ) : EReal) := by
  rw [am_at, a_in, amatOf_at]
  exact a_at (X0 m c) (X2 m c) h0 h2 (rowOf (blkNo t k) r) (rowOf (blkNo t k) u) h

omit h0 h1 h2 h3 in
/-- What the state's gradient and the state that the next block begins with are after `n` trips. -/
def Left (n : ℕ) (s : St Ideal) : Prop :=
  (∀ h (e l : Fin 128), s.d (ix3 h e l) = (grad (gK m c h l) (qK m c h l) (dK m c h) 516 (16 * (516 - n)) e : EReal)) ∧
  ∀ h (e l : Fin 128), s.n (ix3 h e l) = ((if n = 0 then 0 else state (gK m c h l) (kK m c h l) (vK m c h) (16 * (516 - n)) e : ℝ) : EReal)

theorem left_zero : Left m c 0 St.zero := by
  refine ⟨fun h e l => ?_, fun h e l => ?_⟩
  · rw [Nat.sub_zero, grad_last]; exact Ideal.ofBits_zero_f32
  · rw [if_pos rfl]
    show Ideal.ofBits .bf16 0x0000#16 = _
    simp [Ideal.ofBits, Ideal.ieee]

omit h0 h1 h2 h3 in
theorem left_ds (hs : Left m c (12 * t.val + k.val) s) (h : Fin 4) (e l : Fin 128) :
    ((blkAt m c t).at' s k).ds h (ix3 0 e l) = (grad (gK m c h l) (qK m c h l) (dK m c h) 516 (16 * ((blkNo t k).val + 1)) e : EReal) := by
  obtain ⟨ht, hk⟩ := bounds t k
  rw [show (blkNo t k).val + 1 = 516 - (12 * t.val + k.val) by show 515 - (12 * t.val + k.val) + 1 = _; omega, ← hs.1 h e l]
  exact head_at s.d h e l

omit h0 h1 h2 h3 in
theorem left_nx (hs : Left m c (12 * t.val + k.val) s) (h : Fin 4) (e l : Fin 128) :
    ((blkAt m c t).at' s k).nx h (ix3 0 e l) = ((if (blkNo t k).val + 1 < 516 then state (gK m c h l) (kK m c h l) (vK m c h) (16 * ((blkNo t k).val + 1)) e else 0 : ℝ) : EReal) := by
  obtain ⟨ht, hk⟩ := bounds t k
  rw [show (blkNo t k).val + 1 = 516 - (12 * t.val + k.val) by show 515 - (12 * t.val + k.val) + 1 = _; omega]
  refine (head_at s.n h e l).trans ((hs.2 h e l).trans (congrArg _ ?_))
  by_cases z : 12 * t.val + k.val = 0
  · rw [if_pos z, if_neg (by omega)]
  · rw [if_neg z, if_pos (by omega)]

theorem left_step (hs : Left m c (12 * t.val + k.val) s) : Left m c (12 * t.val + k.val + 1) ((blkAt m c t).step s k) := by
  obtain ⟨ht, hk⟩ := bounds t k
  have R := reads m c h0 h1 h2 h3 t k s
  have eb : 516 - (12 * t.val + k.val + 1) = (blkNo t k).val := by show _ = 515 - (12 * t.val + k.val); omega
  refine ⟨fun h e l => ?_, fun h e l => ?_⟩
  · rw [eb]
    exact (join_at (F := Ideal) (e := .f32) ((blkAt m c t).at' s k).dsNew h e l).trans (R.dsNew (left_ds m c t k s hs) h e l)
  · rw [eb, if_neg (by omega)]
    refine (join_at (F := Ideal) (e := .bf16) ((blkAt m c t).at' s k).nxNew h e l).trans (Eq.trans ?_ (R.se h e l))
    show thick (flat (((blkAt m c t).at' s k).s h)) (ix3 0 e l) = _
    rw [thick_at, flat_at]

theorem left_all (b : Fin 516) : Left m c (12 * (ptOf b).val + (tripAt b).val) (stOfBlk m c b) := by
  obtain ⟨ht, hk⟩ := bounds (ptOf b) (tripAt b)
  exact (state_ind m c (Left m c) (left_zero m c h0 h1 h2 h3) (fun t k s hs => left_step m c h0 h1 h2 h3 t k s hs) (ptOf b).val (by omega)).2 (ptOf b).isLt (tripAt b).val (by omega)

/-- The query's gradient of a block. -/
theorem dq_all (b : Fin 516) (r : Fin 16) (h : Fin 4) (l : Fin 128) :
    (inOf m c b).dq (ix2 r (col h l)) = val_main_v178 (F := Ideal) (X0 m c) (X1 m c) (X2 m c) (X3 m c) (ix3 (rowOf b r) h l) := by
  have R := reads m c h0 h1 h2 h3 (ptOf b) (tripAt b) (stOfBlk m c b)
  rw [blkNo_of] at R
  exact (R.dq r h l).trans (dq_at (X0 m c) (X1 m c) (X2 m c) (X3 m c) h0 h2 (rowOf b r) h l (r154 _ _ _ _ h0 h1 h2 h3)).symm

/-- The key's gradient of a block. -/
theorem dk_gen (hs : Left m c (12 * t.val + k.val) s) (r : Fin 16) (h : Fin 4) (l : Fin 128) :
    ((blkAt m c t).at' s k).dk (ix2 r (col h l)) = val_main_v177 (F := Ideal) (X0 m c) (X1 m c) (X2 m c) (X3 m c) (ix3 (rowOf (blkNo t k) r) h l) :=
  ((reads m c h0 h1 h2 h3 t k s).dk (left_ds m c t k s hs) r h l).trans (dk_at (X0 m c) (X1 m c) (X2 m c) (X3 m c) h0 h2 (rowOf (blkNo t k) r) h l (r154 _ _ _ _ h0 h1 h2 h3)).symm

/-- The value's gradient of a block. -/
theorem di_all (b : Fin 516) (r : Fin 16) (h : Fin 4) (l : Fin 128) :
    (inOf m c b).di (ix2 r (col h l)) = val_main_v164 (F := Ideal) (X0 m c) (X1 m c) (X2 m c) (X3 m c) (ix3 (rowOf b r) h l) := by
  have R := reads m c h0 h1 h2 h3 (ptOf b) (tripAt b) (stOfBlk m c b)
  have G := left_ds m c (ptOf b) (tripAt b) (stOfBlk m c b) (left_all m c h0 h1 h2 h3 b)
  have A := am_in m c h0 h2 (ptOf b) (tripAt b) (stOfBlk m c b)
  rw [blkNo_of] at R G A
  exact (R.di G A r h l).trans (dv_at (X0 m c) (X1 m c) (X2 m c) (X3 m c) h0 h2 (rowOf b r) h l (r154 _ _ _ _ h0 h1 h2 h3)).symm

/-- The decay's gradient of a block. -/
theorem dg_gen (hs : Left m c (12 * t.val + k.val) s) (r : Fin 16) (h : Fin 4) (l : Fin 128) :
    ((blkAt m c t).at' s k).dg (ix2 r (col h l)) = val_main_v191 (F := Ideal) (X0 m c) (X1 m c) (X2 m c) (X3 m c) (ix2 (rowOf (blkNo t k) r) (col h l)) := by
  have R := reads m c h0 h1 h2 h3 t k s
  have G := left_ds m c t k s hs
  have N := left_nx m c t k s hs
  rw [dg_at (X0 m c) (X1 m c) (X2 m c) (X3 m c) h0 h2 (rowOf (blkNo t k) r) h l (r154 _ _ _ _ h0 h1 h2 h3)]
  change _ = ((∑ u ∈ Finset.range (16 * 516 - (16 * (blkNo t k).val + r.val)), part _ _ _ _ _ 516 (16 * (blkNo t k).val + r.val + u) : ℝ) : EReal)
  rw [dg_block _ _ _ _ _ 516 (blkNo t k).val (blkNo t k).isLt r, EReal.coe_add, ← R.tail G N 0 h l]
  refine congrArg₂ (fun x y : EReal => x + y) ?_ ?_
  · refine csumDown_real _ (col h l) (fun n => part (gK m c h l) (kK m c h l) (qK m c h l) (vK m c h) (dK m c h) 516 (16 * (blkNo t k).val + n)) (fun r => ?_) r
    show ((blkAt m c t).at' s k).qs (ix2 r (col h l)) * ((blkAt m c t).at' s k).dq (ix2 r (col h l)) - ((blkAt m c t).at' s k).k (ix2 r (col h l)) * ((blkAt m c t).at' s k).dk (ix2 r (col h l)) = _
    rw [show ((blkAt m c t).at' s k).qs (ix2 r (col h l)) = _ from R.qe r h l, show ((blkAt m c t).at' s k).dq (ix2 r (col h l)) = _ from R.dq r h l, show ((blkAt m c t).at' s k).k (ix2 r (col h l)) = _ from R.ke r h l, show ((blkAt m c t).at' s k).dk (ix2 r (col h l)) = _ from R.dk G r h l,
      ← EReal.coe_mul, ← EReal.coe_mul, ← EReal.coe_sub]
    rfl
  · show broadcastTo S16x512 ((blkAt m c t).at' s k).tail broadcasts_S1x512_S16x512 (ix2 r (col h l)) = ((blkAt m c t).at' s k).tail (ix2 0 (col h l))
    pointwise

end Cert.KernelIdeal.Hgrn

end
-- ==== Proof.Cols.lean ====
module

public import proofs.«01_k».proof.Proof.Join

/-!
# The columns of the first result
-/

@[expose] public section

set_option maxRecDepth 16384
set_option maxHeartbeats 1000000
noncomputable section

namespace Cert.RefGrad

open Idealize.ShloMosaic Idealize.ShloMosaic.TcCoe Idealize.SL.Sem Cert.ReferenceIdeal Cert.ReferenceIdeal.Gen Cert.ReferenceIdeal.Read Cert.Finite
open Cert.KernelIdeal.Hgrn (col)

variable (x0 : FVec Ideal S8256x3072 .f32) (x1 : FVec Ideal S8256x1024 .bf16) (x2 : FVec Ideal S2x512 .f32) (x3 : FVec Ideal S1x128 .f32)
variable (t : Fin 8256) (h : Fin 4) (l : Fin 128) (j : Fin 512)

theorem v244_query : val_main_v244 (F := Ideal) x0 x1 x2 x3 (ix2 t ⟨j.val, by omega⟩) = val_main_v196 (F := Ideal) x0 x1 x2 x3 (ix2 t j) := by
  unfold val_main_v244 val_main_v243
  generalize val_main_v196 (F := Ideal) x0 x1 x2 x3 = A0
  generalize val_main_v220 (F := Ideal) x0 x1 x2 x3 = A1
  generalize val_main_v192 (F := Ideal) x0 x1 x2 x3 = A2
  generalize val_main_v136 (F := Ideal) x0 x1 x2 x3 = A3
  generalize val_main_v242 (F := Ideal) = A4
  pointwise

theorem v244_forget : val_main_v244 (F := Ideal) x0 x1 x2 x3 (ix2 t ⟨512 + j.val, by omega⟩) = val_main_v220 (F := Ideal) x0 x1 x2 x3 (ix2 t j) := by
  unfold val_main_v244 val_main_v243
  generalize val_main_v196 (F := Ideal) x0 x1 x2 x3 = A0
  generalize val_main_v220 (F := Ideal) x0 x1 x2 x3 = A1
  generalize val_main_v192 (F := Ideal) x0 x1 x2 x3 = A2
  generalize val_main_v136 (F := Ideal) x0 x1 x2 x3 = A3
  generalize val_main_v242 (F := Ideal) = A4
  pointwise

theorem v244_value : val_main_v244 (F := Ideal) x0 x1 x2 x3 (ix2 t ⟨1024 + j.val, by omega⟩) = val_main_v192 (F := Ideal) x0 x1 x2 x3 (ix2 t j) := by
  unfold val_main_v244 val_main_v243
  generalize val_main_v196 (F := Ideal) x0 x1 x2 x3 = A0
  generalize val_main_v220 (F := Ideal) x0 x1 x2 x3 = A1
  generalize val_main_v192 (F := Ideal) x0 x1 x2 x3 = A2
  generalize val_main_v136 (F := Ideal) x0 x1 x2 x3 = A3
  generalize val_main_v242 (F := Ideal) = A4
  pointwise
  rw [dif_neg (by omega), dif_neg (by omega), dif_pos (by omega)]
  exact congrArg A2 (congrArg (ix2 t) (Fin.ext (by show 1024 + j.val - 512 - 512 = j.val; omega)))

theorem v196_at : val_main_v196 (F := Ideal) x0 x1 x2 x3 (ix2 t (col h l)) = val_main_v178 (F := Ideal) x0 x1 x2 x3 (ix3 t h l) * Ideal.ofBits .f32 0x3DB504F3#32 := by
  rw [← flat_at (val_main_v178 (F := Ideal) x0 x1 x2 x3) t h l]; rfl

theorem v192_at : val_main_v192 (F := Ideal) x0 x1 x2 x3 (ix2 t (col h l)) = val_main_v164 (F := Ideal) x0 x1 x2 x3 (ix3 t h l) := flat_at _ t h l

theorem v193_at : val_main_v193 (F := Ideal) x0 x1 x2 x3 (ix2 t (col h l)) = val_main_v177 (F := Ideal) x0 x1 x2 x3 (ix3 t h l) := flat_at _ t h l

end Cert.RefGrad

namespace Cert.KernelIdeal.Hgrn
open Idealize.ShloMosaic Idealize.ShloMosaic.TcCoe Idealize.SL.Sem Cert.KernelIdeal.Gen Cert.Finite

section
variable (I : In Ideal) (r : Fin 16) (j : Fin 512)

theorem In.dh_query : I.dh (ix2 r (⟨j.val, by omega⟩ : Fin 2048)) = I.dq (ix2 r j) * Ideal.ofBits .f32 0x3DB504F3#32 := by
  unfold In.dh
  generalize dgz I.gn I.gz I.dyf I.os = X
  generalize I.dfz = Y
  generalize I.di = Z
  generalize I.dq = W
  pointwise [const]
theorem In.dh_forget : I.dh (ix2 r (⟨512 + j.val, by omega⟩ : Fin 2048)) = I.dfz (ix2 r j) := by
  unfold In.dh
  generalize dgz I.gn I.gz I.dyf I.os = X
  generalize I.dfz = Y
  generalize I.di = Z
  generalize mulf I.dq (const S16x512 0x3DB504F3#32) = W
  pointwise
theorem In.dh_value : I.dh (ix2 r (⟨1024 + j.val, by omega⟩ : Fin 2048)) = I.di (ix2 r j) := by
  unfold In.dh
  generalize dgz I.gn I.gz I.dyf I.os = X
  generalize I.dfz = Y
  generalize I.di = Z
  generalize mulf I.dq (const S16x512 0x3DB504F3#32) = W
  pointwise
  rw [dif_neg (by omega), dif_neg (by omega), dif_pos (by omega)]
  exact congrArg Z (congrArg (ix2 r) (Fin.ext (by show 1024 + j.val - 512 - 512 = j.val; omega)))
end

/-- A column is a head's. -/
theorem col_of (j : Fin 512) : ∃ (h : Fin 4) (l : Fin 128), j = col h l :=
  ⟨⟨j.val / 128, by omega⟩, ⟨j.val % 128, by omega⟩, Fin.ext (by show j.val = 128 * (j.val / 128) + j.val % 128; omega)⟩

/-- A row is a block's. -/
theorem row_of (w : Fin 8256) : ∃ (b : Fin 516) (r : Fin 16), w = rowOf b r :=
  ⟨⟨w.val / 16, by omega⟩, ⟨w.val % 16, by omega⟩, Fin.ext (by show w.val = 16 * (w.val / 16) + w.val % 16; omega)⟩

variable (m : (ℓ : Loc nD τ sig) → Buf (Elt Ideal) ℓ) (c : Dev nD)
variable (h0 : ∀ i, IsR (X0 m c i)) (h1 : ∀ i, IsR (X1 m c i)) (h2 : ∀ i, IsR (X2 m c i)) (h3 : ∀ i, IsR (X3 m c i))
include h0 h1 h2 h3
open Cert.RefGrad Cert.ReferenceIdeal.Read

theorem query_value (w : Fin 8256) (j : Fin 512) :
    ((dats m 0 c).arrAt 10 cfg0.N : S8256x3072.Idx → Elt Ideal .bf16) (ix2 w ⟨j.val, by omega⟩) = val_main_v244 (F := Ideal) (X0 m c) (X1 m c) (X2 m c) (X3 m c) (ix2 w ⟨j.val, by omega⟩) := by
  obtain ⟨b, r, rfl⟩ := row_of w
  rw [dh_all m c _ b r ⟨j.val, by omega⟩ rfl rfl, In.dh_query, v244_query]
  obtain ⟨h, l, rfl⟩ := col_of j
  rw [dq_all m c h0 h1 h2 h3, v196_at]

theorem value_value (w : Fin 8256) (j : Fin 512) :
    ((dats m 0 c).arrAt 10 cfg0.N : S8256x3072.Idx → Elt Ideal .bf16) (ix2 w ⟨1024 + j.val, by omega⟩) = val_main_v244 (F := Ideal) (X0 m c) (X1 m c) (X2 m c) (X3 m c) (ix2 w ⟨1024 + j.val, by omega⟩) := by
  obtain ⟨b, r, rfl⟩ := row_of w
  rw [dh_all m c _ b r ⟨1024 + j.val, by omega⟩ rfl rfl, In.dh_value, v244_value]
  obtain ⟨h, l, rfl⟩ := col_of j
  rw [di_all m c h0 h1 h2 h3, v192_at]

end Cert.KernelIdeal.Hgrn

end
-- ==== Proof.Forget.lean ====
module

public import proofs.«01_k».proof.Proof.Cols

/-!
# The forget gate's columns and the lower bound's gradient
-/

@[expose] public section

set_option maxRecDepth 16384
set_option maxHeartbeats 1000000
noncomputable section

namespace Cert.RefGrad

open Idealize.ShloMosaic Idealize.ShloMosaic.TcCoe Idealize.SL.Sem Cert.ReferenceIdeal Cert.ReferenceIdeal.Gen Cert.ReferenceIdeal.Read Cert.Finite
open Cert.KernelIdeal.Hgrn (col col_of)

/-- The decay's gradient through the logarithm and the maximum, where the gate `f` is not the floor `F`. -/
theorem df_eq {f F g : EReal} (o : EReal) (hf : IsR f) (hF : IsP F) (hg : IsR g) (hne : f ≠ F) :
    Ideal.div g (max f F) * Scalar.select (Ideal.cmp .ogt f F) 1 (Scalar.select (Ideal.cmp .oeq f F) o 0) = Scalar.select (Ideal.cmp .ogt f F) (Ideal.div g f) 0
      ∧ IsR (Scalar.select (Ideal.cmp .ogt f F) (Ideal.div g f) 0) := by
  obtain ⟨a, rfl⟩ := hf
  obtain ⟨b, hb, rfl⟩ := hF
  obtain ⟨d, rfl⟩ := hg
  by_cases h : (b : EReal) < a
  · have e : Ideal.cmp .ogt (a : EReal) b = 1#1 := by simp [Ideal.cmp, EReal.coe_lt_coe_iff.1 h]
    have ha : a ≠ 0 := (hb.trans (EReal.coe_lt_coe_iff.1 h)).ne'
    rw [e, max_eq_left h.le]
    show Ideal.div (d : EReal) a * 1 = Ideal.div (d : EReal) a ∧ IsR (Ideal.div (d : EReal) a)
    rw [mul_one, Ideal.div_coe ha]
    exact ⟨rfl, _, (EReal.coe_mul _ _).symm⟩
  · have e : Ideal.cmp .ogt (a : EReal) b = 0#1 := by
      have q : ¬ b < a := fun q => h (EReal.coe_lt_coe_iff.2 q)
      simp [Ideal.cmp, q]
    have e' : Ideal.cmp .oeq (a : EReal) b = 0#1 := by simp [Ideal.cmp, hne]
    rw [e, e']
    show Ideal.div (d : EReal) _ * 0 = 0 ∧ IsR 0
    exact ⟨mul_zero _, isR_zero⟩

variable (x0 : FVec Ideal S8256x3072 .f32) (x1 : FVec Ideal S8256x1024 .bf16) (x2 : FVec Ideal S2x512 .f32) (x3 : FVec Ideal S1x128 .f32)
variable (t : Fin 8256) (j : Fin 512)

theorem v206_at : val_main_v206 (F := Ideal) x0 x1 x2 x3 (ix2 t j)
    = Ideal.div (val_main_v191 (F := Ideal) x0 x1 x2 x3 (ix2 t j)) (max (val_main_v59 (F := Ideal) x0 x2 (ix2 t j)) (Ideal.ofBits .f32 0x0DA24260#32))
      * Scalar.select (Ideal.cmp .ogt (val_main_v59 (F := Ideal) x0 x2 (ix2 t j)) (Ideal.ofBits .f32 0x0DA24260#32)) 1
        (Scalar.select (Ideal.cmp .oeq (val_main_v59 (F := Ideal) x0 x2 (ix2 t j)) (Ideal.ofBits .f32 0x0DA24260#32)) (Ideal.ofBits .f32 0x3F000000#32) 0) := by
  rw [← Ideal.ofBits_one_f32, ← Ideal.ofBits_zero_f32]; rfl

theorem v220_at : val_main_v220 (F := Ideal) x0 x1 x2 x3 (ix2 t j)
    = (-((1 - val_main_v42 (F := Ideal) x2 (ix1 j)) * val_main_v193 (F := Ideal) x0 x1 x2 x3 (ix2 t j)) + (1 - val_main_v42 (F := Ideal) x2 (ix1 j)) * val_main_v206 (F := Ideal) x0 x1 x2 x3 (ix2 t j))
      * (val_main_v48 (F := Ideal) x0 (ix2 t j) * (1 - val_main_v48 (F := Ideal) x0 (ix2 t j))) := by
  rw [← Ideal.ofBits_one_f32]
  unfold val_main_v220 val_main_v213 val_main_v203 val_main_v198 val_main_v197 val_main_v76 val_main_v73 val_main_v72 val_main_v212 val_main_v211 val_main_v54 val_main_v53 val_main_v52 val_main_v51 val_main_v50 val_main_v49 val_main_cst_11 val_main_cst_12 val_main_cst_19
  generalize val_main_v42 (F := Ideal) x2 = X
  generalize val_main_v48 (F := Ideal) x0 = Y
  generalize val_main_v193 (F := Ideal) x0 x1 x2 x3 = Z
  generalize val_main_v206 (F := Ideal) x0 x1 x2 x3 = W
  pointwise

theorem v219_at : val_main_v219 (F := Ideal) x0 x1 x2 x3 (ix1 j)
    = -(∑ t : Fin 8256, val_main_v193 (F := Ideal) x0 x1 x2 x3 (ix2 t j) * (1 - val_main_v48 (F := Ideal) x0 (ix2 t j))) + ∑ t : Fin 8256, val_main_v206 (F := Ideal) x0 x1 x2 x3 (ix2 t j)
      + -(∑ t : Fin 8256, val_main_v206 (F := Ideal) x0 x1 x2 x3 (ix2 t j) * val_main_v48 (F := Ideal) x0 (ix2 t j)) := by
  rw [← Ideal.ofBits_one_f32]
  unfold val_main_v219 val_main_v210 val_main_v204 val_main_v202 val_main_v201 val_main_v200 val_main_v199 val_main_v75 val_main_v74 val_main_v209 val_main_v208 val_main_v207 val_main_v218 val_main_v217 val_main_v216 val_main_v215 val_main_v214 val_main_cst_20
  generalize val_main_v48 (F := Ideal) x0 = Y
  generalize val_main_v193 (F := Ideal) x0 x1 x2 x3 = Z
  generalize val_main_v206 (F := Ideal) x0 x1 x2 x3 = W
  pointwise [val_main_cst_49, val_main_cst_50, val_main_cst_51, val_main_cst_52, val_main_cst_53, val_main_cst_54]
  simp only [Fin.sum_univ_one]

theorem v229_0 : val_main_v229 (F := Ideal) x0 x1 x2 x3 (ix2 0 j) = -(val_main_v219 (F := Ideal) x0 x1 x2 x3 (ix1 j)) + 0 + val_main_v219 (F := Ideal) x0 x1 x2 x3 (ix1 j) := by
  unfold val_main_v229 val_main_v228 val_main_v227 val_main_v226 val_main_v225 val_main_v224 val_main_v223 val_main_v222 val_main_v221
  generalize val_main_v219 (F := Ideal) x0 x1 x2 x3 = X
  pointwise [val_main_cst_55, val_main_cst_56, val_main_cst_57]

theorem v229_1 : val_main_v229 (F := Ideal) x0 x1 x2 x3 (ix2 1 j) = 0 + val_main_v219 (F := Ideal) x0 x1 x2 x3 (ix1 j) + 0 := by
  unfold val_main_v229 val_main_v228 val_main_v227 val_main_v226 val_main_v225 val_main_v224 val_main_v223 val_main_v222 val_main_v221
  generalize val_main_v219 (F := Ideal) x0 x1 x2 x3 = X
  pointwise [val_main_cst_55, val_main_cst_56, val_main_cst_57]

theorem v241_at (a : Fin 2) : val_main_v241 (F := Ideal) x0 x1 x2 x3 (ix2 a j)
    = (Ideal.div (val_main_v229 (F := Ideal) x0 x1 x2 x3 (ix2 a j)) (val_main_v28 (F := Ideal) x2 (ix1 j))
      + -(val_main_v229 (F := Ideal) x0 x1 x2 x3 (ix2 0 j) * Ideal.div 1 (val_main_v28 (F := Ideal) x2 (ix1 j) * val_main_v28 (F := Ideal) x2 (ix1 j)) * val_main_v27 (F := Ideal) x2 (ix2 0 j)
        + val_main_v229 (F := Ideal) x0 x1 x2 x3 (ix2 1 j) * Ideal.div 1 (val_main_v28 (F := Ideal) x2 (ix1 j) * val_main_v28 (F := Ideal) x2 (ix1 j)) * val_main_v27 (F := Ideal) x2 (ix2 1 j)))
      * val_main_v27 (F := Ideal) x2 (ix2 a j) := by
  rw [← Ideal.ofBits_one_f32]
  unfold val_main_v241 val_main_v240 val_main_v239 val_main_v238 val_main_v237 val_main_v236 val_main_v235 val_main_v234 val_main_v233 val_main_v232 val_main_v231 val_main_v230 val_main_v34 val_main_v33 val_main_v32 val_main_v29 val_main_cst_8
  generalize val_main_v229 (F := Ideal) x0 x1 x2 x3 = X
  generalize val_main_v28 (F := Ideal) x2 = Y
  generalize val_main_v27 (F := Ideal) x2 = Z
  pointwise [val_main_cst_58, val_main_cst_59]
  rw [Fin.sum_univ_one, Fin.sum_univ_two]

end Cert.RefGrad
end
-- ==== Proof.Lower.lean ====
module

public import proofs.«01_k».proof.Proof.Forget

/-!
# The forget gate's gradient and the lower bound's gradient of the kernel are the reference's
-/

@[expose] public section

set_option maxRecDepth 16384
set_option maxHeartbeats 1000000
noncomputable section

namespace Cert.KernelIdeal.Hgrn
open Idealize.ShloMosaic Idealize.ShloMosaic.TcCoe Idealize.SL.Sem Cert.KernelIdeal.Gen Cert.Finite
open Cert.RefGrad Cert.ReferenceIdeal.Read
open Cert.RefGate (sig_eq)

section
variable (I : In Ideal) (r : Fin 16) (j : Fin 512)

theorem In.dfk_at : I.dfk (ix2 r j) = Scalar.select (Ideal.cmp .ogt (fg I.lb I.fz (ix2 r j)) (Ideal.ofBits .f32 0x0DA24260#32)) (Ideal.div (I.dg (ix2 r j)) (fg I.lb I.fz (ix2 r j))) 0 - I.dk (ix2 r j) := by
  rw [← Ideal.ofBits_zero_f32]; rfl

theorem In.dfz_at : I.dfz (ix2 r j) = (1 - I.lb (ix2 0 j)) * I.dfk (ix2 r j) * Ideal.logistic (I.fz (ix2 r j)) * (1 - Ideal.logistic (I.fz (ix2 r j))) := by
  rw [← Ideal.ofBits_one_f32]
  unfold In.dfz
  generalize I.dfk = X
  generalize I.lb = Y
  pointwise [gap, const]

theorem In.lNew_at (l : FVec Ideal S1x512 .f32) : I.lNew l (ix2 0 j) = l (ix2 0 j) + ∑ r : Fin 16, I.dfk (ix2 r j) * (1 - Ideal.logistic (I.fz (ix2 r j))) := by
  rw [← Ideal.ofBits_one_f32]
  unfold In.lNew
  rw [shapeCast_self]
  generalize I.dfk = X
  pointwise [const]
end

theorem dlb_0 (b0 b1 l : FVec Ideal S1x512 .f32) (j : Fin 512) : dlb b0 b1 l (ix2 0 j) = 0 - p0 b0 b1 (ix2 0 j) * p1 b0 b1 (ix2 0 j) * l (ix2 0 j) := by
  rw [← Ideal.ofBits_zero_f32]
  unfold dlb
  generalize p0 b0 b1 = X
  generalize p1 b0 b1 = Y
  pointwise [const]
  done
theorem dlb_1 (b0 b1 l : FVec Ideal S1x512 .f32) (j : Fin 512) : dlb b0 b1 l (ix2 1 j) = p0 b0 b1 (ix2 0 j) * p1 b0 b1 (ix2 0 j) * l (ix2 0 j) := by
  unfold dlb
  generalize p0 b0 b1 = X
  generalize p1 b0 b1 = Y
  pointwise [const]
  done

variable (m : (ℓ : Loc nD τ sig) → Buf (Elt Ideal) ℓ) (c : Dev nD)
variable (h0 : ∀ i, IsR (X0 m c i)) (h1 : ∀ i, IsR (X1 m c i)) (h2 : ∀ i, IsR (X2 m c i)) (h3 : ∀ i, IsR (X3 m c i))
variable (hf : ∀ i, val_main_v59 (F := Ideal) (X0 m c) (X2 m c) i ≠ Ideal.ofBits .f32 0x0DA24260#32)

/-- The gradients of the forget gate, of the key and of the decay, and the sigmoid, at the kernel's arguments. -/
abbrev dfK := val_main_v206 (F := Ideal) (X0 m c) (X1 m c) (X2 m c) (X3 m c)
abbrev dkK := val_main_v193 (F := Ideal) (X0 m c) (X1 m c) (X2 m c) (X3 m c)
abbrev sgK := val_main_v48 (F := Ideal) (X0 m c)

/-- One row's part of the lower bound's gradient. -/
def lowRow (w : Fin 8256) (j : Fin 512) : EReal := (dfK m c (ix2 w j) - dkK m c (ix2 w j)) * (1 - sgK m c (ix2 w j))
/-- The part of the `n`-th block from the end. -/
def lowBlk (j : Fin 512) (n : ℕ) : EReal := ∑ r : Fin 16, lowRow m c (rowOf ⟨515 - n, by omega⟩ r) j

include h0 h1 h2 h3

theorem dk_real (w : Fin 8256) (j : Fin 512) : IsR (dkK m c (ix2 w j)) := by
  obtain ⟨h, l, rfl⟩ := col_of j
  exact ⟨_, (v193_at _ _ _ _ w h l).trans (dk_at (X0 m c) (X1 m c) (X2 m c) (X3 m c) h0 h2 w h l (r154 _ _ _ _ h0 h1 h2 h3))⟩

theorem dg_real (w : Fin 8256) (j : Fin 512) : IsR (val_main_v191 (F := Ideal) (X0 m c) (X1 m c) (X2 m c) (X3 m c) (ix2 w j)) := by
  obtain ⟨h, l, rfl⟩ := col_of j
  exact ⟨_, dg_at (X0 m c) (X1 m c) (X2 m c) (X3 m c) h0 h2 w h l (r154 _ _ _ _ h0 h1 h2 h3)⟩

include hf

theorem df_all (w : Fin 8256) (j : Fin 512) :
    dfK m c (ix2 w j) = Scalar.select (Ideal.cmp .ogt (val_main_v59 (F := Ideal) (X0 m c) (X2 m c) (ix2 w j)) (Ideal.ofBits .f32 0x0DA24260#32))
      (Ideal.div (val_main_v191 (F := Ideal) (X0 m c) (X1 m c) (X2 m c) (X3 m c) (ix2 w j)) (val_main_v59 (F := Ideal) (X0 m c) (X2 m c) (ix2 w j))) 0 ∧ IsR (dfK m c (ix2 w j)) := by
  have e := df_eq (Ideal.ofBits .f32 0x3F000000#32) (r59 (X0 m c) (X2 m c) h0 h2 (ix2 w j)) isP_floor (dg_real m c h0 h1 h2 h3 w j) (hf _)
  have q := (v206_at (X0 m c) (X1 m c) (X2 m c) (X3 m c) w j).trans e.1
  exact ⟨q, (congrArg IsR q).mpr e.2⟩

theorem dfk_gen (t : Fin cfg0.N) (k : Fin k0_t1_loop.trips) (s : St Ideal) (hs : Left m c (12 * t.val + k.val) s) (r : Fin 16) (j : Fin 512) :
    ((blkAt m c t).at' s k).dfk (ix2 r j) = dfK m c (ix2 (rowOf (blkNo t k) r) j) - dkK m c (ix2 (rowOf (blkNo t k) r) j) := by
  rw [In.dfk_at, (df_all m c h0 h1 h2 h3 hf _ _).1, fg_in m c t k s r j h0]
  obtain ⟨h, l, rfl⟩ := col_of j
  rw [dg_gen m c h0 h1 h2 h3 t k s hs, dk_gen m c h0 h1 h2 h3 t k s hs,
    show dkK m c (ix2 (rowOf (blkNo t k) r) (col h l)) = _ from v193_at _ _ _ _ _ h l]

theorem low_step (t : Fin cfg0.N) (k : Fin k0_t1_loop.trips) (s : St Ideal) (hs : Left m c (12 * t.val + k.val) s) (j : Fin 512) :
    ((blkAt m c t).step s k).l (ix2 0 j) = s.l (ix2 0 j) + lowBlk m c j (12 * t.val + k.val) := by
  show ((blkAt m c t).at' s k).lNew s.l (ix2 0 j) = _
  rw [In.lNew_at]
  refine congrArg (fun z : EReal => s.l (ix2 0 j) + z) (Finset.sum_congr rfl fun r _ => ?_)
  rw [dfk_gen m c h0 h1 h2 h3 hf t k s hs, fz_in, (sig_eq (h0 _)).1, ← v48_at (X0 m c) _ j]
  rfl

/-- The running sum that the grid leaves. -/
theorem low_all (j : Fin 512) : (carried m c 43).l (ix2 0 j) = ∑ w : Fin 8256, lowRow m c w j := by
  have h := (state_ind m c (fun n s => Left m c n s ∧ ∀ j : Fin 512, s.l (ix2 0 j) = ∑ i ∈ Finset.range n, lowBlk m c j i)
    ⟨left_zero m c h0 h1 h2 h3, fun j => by rw [Finset.sum_range_zero]; exact Ideal.ofBits_zero_f32⟩
    (fun t k s hs => ⟨left_step m c h0 h1 h2 h3 t k s hs.1, fun j => by rw [low_step m c h0 h1 h2 h3 hf t k s hs.1 j, hs.2 j, Finset.sum_range_succ]⟩) 43 le_rfl).1.2 j
  exact h.trans (sum_blocks fun w => lowRow m c w j)

/-- The lower bound's gradient before the softmax. -/
theorem low_sum (j : Fin 512) : val_main_v219 (F := Ideal) (X0 m c) (X1 m c) (X2 m c) (X3 m c) (ix1 j) = ∑ w : Fin 8256, lowRow m c w j ∧ IsR (∑ w : Fin 8256, lowRow m c w j) := by
  obtain ⟨a, ha⟩ : ∃ f : Fin 8256 → ℝ, ∀ w, dfK m c (ix2 w j) = (f w : EReal) := ⟨fun w => (df_all m c h0 h1 h2 h3 hf w j).2.choose, fun w => (df_all m c h0 h1 h2 h3 hf w j).2.choose_spec⟩
  obtain ⟨b, hb⟩ : ∃ f : Fin 8256 → ℝ, ∀ w, dkK m c (ix2 w j) = (f w : EReal) := ⟨fun w => (dk_real m c h0 h1 h2 h3 w j).choose, fun w => (dk_real m c h0 h1 h2 h3 w j).choose_spec⟩
  obtain ⟨s, hs⟩ : ∃ f : Fin 8256 → ℝ, ∀ w, sgK m c (ix2 w j) = (f w : EReal) := ⟨fun w => (p48 (X0 m c) h0 (ix2 w j)).isR.choose, fun w => (p48 (X0 m c) h0 (ix2 w j)).isR.choose_spec⟩
  have e : ∑ w : Fin 8256, lowRow m c w j = ((∑ w, (a w - b w) * (1 - s w) : ℝ) : EReal) := by
    rw [coe_sum]
    refine Finset.sum_congr rfl fun w _ => ?_
    unfold lowRow
    rw [ha, hb, hs, EReal.coe_mul, EReal.coe_sub, EReal.coe_sub]; rfl
  refine ⟨?_, _, e⟩
  rw [e, v219_at]
  have e1 : ∑ t : Fin 8256, dkK m c (ix2 t j) * (1 - sgK m c (ix2 t j)) = ((∑ w, b w * (1 - s w) : ℝ) : EReal) := by
    rw [coe_sum]
    exact Finset.sum_congr rfl fun w _ => by rw [hb, hs, EReal.coe_mul, EReal.coe_sub]; rfl
  have e2 : ∑ t : Fin 8256, dfK m c (ix2 t j) = ((∑ w, a w : ℝ) : EReal) := by
    rw [coe_sum]
    exact Finset.sum_congr rfl fun w _ => ha w
  have e3 : ∑ t : Fin 8256, dfK m c (ix2 t j) * sgK m c (ix2 t j) = ((∑ w, a w * s w : ℝ) : EReal) := by
    rw [coe_sum]
    exact Finset.sum_congr rfl fun w _ => by rw [ha, hs, EReal.coe_mul]
  rw [e1, e2, e3, ← EReal.coe_neg, ← EReal.coe_neg, ← EReal.coe_add, ← EReal.coe_add]
  congr 1
  rw [← Finset.sum_neg_distrib, ← Finset.sum_neg_distrib, ← Finset.sum_add_distrib, ← Finset.sum_add_distrib]
  exact Finset.sum_congr rfl fun w _ => by ring

/-- The forget gate's columns of the first result. -/
theorem forget_value (w : Fin 8256) (j : Fin 512) :
    ((dats m 0 c).arrAt 10 cfg0.N : S8256x3072.Idx → Elt Ideal .bf16) (ix2 w ⟨512 + j.val, by omega⟩) = val_main_v244 (F := Ideal) (X0 m c) (X1 m c) (X2 m c) (X3 m c) (ix2 w ⟨512 + j.val, by omega⟩) := by
  obtain ⟨b, r, rfl⟩ := row_of w
  rw [dh_all m c _ b r ⟨512 + j.val, by omega⟩ rfl rfl, In.dh_forget, v244_forget, v220_at]
  have q := dfk_gen m c h0 h1 h2 h3 hf (ptOf b) (tripAt b) (stOfBlk m c b) (left_all m c h0 h1 h2 h3 b) r j
  have qf := fz_in m c (ptOf b) (tripAt b) (stOfBlk m c b) r j
  have ql := lb_in m c (ptOf b) (tripAt b) (stOfBlk m c b) j
  rw [blkNo_of] at q qf
  obtain ⟨s, -, -, hs, hs'⟩ := sg_real (X0 m c) (rowOf b r) j h0
  obtain ⟨x, hx⟩ := r42 (X2 m c) h2 (ix1 j)
  obtain ⟨a, ha⟩ := (df_all m c h0 h1 h2 h3 hf (rowOf b r) j).2
  obtain ⟨d, hd⟩ := dk_real m c h0 h1 h2 h3 (rowOf b r) j
  unfold dfK at q ha
  unfold dkK at q hd
  rw [In.dfz_at, show (inOf m c b).dfk (ix2 r j) = _ from q, show (inOf m c b).fz (ix2 r j) = _ from qf, show (inOf m c b).lb (ix2 0 j) = _ from ql, ← v42_at,
    show Ideal.logistic (m ((c : Thread nD τ).loc main_arg0) (ix2 (rowOf b r) ⟨512 + j.val, by omega⟩)) = _ from hs, hs', hx, ha, hd, show (1 : EReal) = ((1 : ℝ) : EReal) from rfl]
  simp only [← EReal.coe_mul, ← EReal.coe_add, ← EReal.coe_sub, ← EReal.coe_neg]
  congr 1; ring

/-- The second result. -/
theorem low_value (i : S2x512.Idx) :
    ((dats m 0 c).arrAt 11 cfg0.N : S2x512.Idx → Elt Ideal .f32) i = val_main_v241 (F := Ideal) (X0 m c) (X1 m c) (X2 m c) (X3 m c) i := by
  obtain ⟨a, j, rfl⟩ : ∃ (a : Fin 2) (j : Fin 512), i = ix2 a j := ⟨i 0, i 1, eq_ix2 i⟩
  rw [low_arr, v241_at, v229_0, v229_1, v28_at, v27_at, v27_at, v27_at]
  obtain ⟨e0, e1, q0, q1, he0, he1, -⟩ := low_real (X2 m c) j h2
  obtain ⟨z1, S, hS⟩ := low_sum m c h0 h1 h2 h3 hf j
  have hl := low_all m c h0 h1 h2 h3 hf j
  have k : Fin k0_t1_loop.trips := ⟨0, by rw [trips_eq]; omega⟩
  obtain ⟨k0, k1, -⟩ := lbRow_at (blkAt m c ⟨42, by decide⟩).b0 (blkAt m c ⟨42, by decide⟩).b1 (X2 m c) j (b0_in m c ⟨42, by decide⟩ k St.zero j) (b1_in m c ⟨42, by decide⟩ k St.zero j)
  have hz : e0 + e1 ≠ 0 := (add_pos q0 q1).ne'
  have hz2 : (e0 + e1) * (e0 + e1) ≠ 0 := mul_ne_zero hz hz
  rw [z1]
  rcases (show a = 0 ∨ a = 1 by revert a; decide) with rfl | rfl
  · rw [dlb_0, v229_0, k0, k1, hl, z1, hS, he0, he1, show (1 : EReal) = ((1 : ℝ) : EReal) from rfl, show (0 : EReal) = ((0 : ℝ) : EReal) from rfl]
    simp only [← EReal.coe_mul, ← EReal.coe_add, ← EReal.coe_sub, ← EReal.coe_neg, Ideal.div_coe hz, Ideal.div_coe hz2]
    congr 1; field_simp; ring
  · rw [dlb_1, v229_1, k0, k1, hl, z1, hS, he0, he1, show (1 : EReal) = ((1 : ℝ) : EReal) from rfl, show (0 : EReal) = ((0 : ℝ) : EReal) from rfl]
    simp only [← EReal.coe_mul, ← EReal.coe_add, ← EReal.coe_sub, ← EReal.coe_neg, Ideal.div_coe hz, Ideal.div_coe hz2]
    congr 1; field_simp; ring

end Cert.KernelIdeal.Hgrn

end
-- ==== Proof.Off.lean ====
module

public import proofs.«01_k».proof.Proof.Lower
public import proofs.«01_k».proof.Proof.Shapes

/-!
# The second precondition read
-/

@[expose] public section

set_option maxRecDepth 16384
set_option maxHeartbeats 1000000
noncomputable section

namespace Cert.Finite

open Idealize.ShloMosaic Idealize.ShloMosaic.TcCoe Idealize.SL.Sem Cert.ReferenceIdeal Cert.ReferenceIdeal.Gen Cert.ReferenceIdeal.Read

theorem ne_of_cmp {x y : EReal} (h : Ideal.cmp .une x y = 1#1) : x ≠ y := by
  intro e
  rw [show Ideal.cmp .une x y = 0#1 from by simp [Ideal.cmp, e]] at h
  exact absurd h (by decide)

/-- The precondition read: every element of the four arguments is a real number, and no forget gate is the floor. -/
theorem of_off_floor (x0 : FVec Ideal S8256x3072 .f32) (x1 : FVec Ideal S8256x1024 .bf16) (x2 : FVec Ideal S2x512 .f32)
    (x3 : FVec Ideal S1x128 .f32) (h : Cert.Pre_off_floor.fn (F := Ideal) x0 x1 x2 x3 = fun _ => 1#1) :
    ((∀ i, IsR (x0 i)) ∧ (∀ i, IsR (x1 i)) ∧ (∀ i, IsR (x2 i)) ∧ (∀ i, IsR (x3 i))) ∧
      ∀ i, val_main_v59 (F := Ideal) x0 x2 i ≠ Ideal.ofBits .f32 0x0DA24260#32 := by
  have h' := congrFun h (fun a => a.elim0)
  unfold Cert.Pre_off_floor.fn Cert.Pre_off_floor.fn_part1 Cert.Pre_off_floor.fn_part2 Cert.Pre_off_floor.fn_part3 at h'
  haveI : Subsingleton Cert.Pre_off_floor.S_.Idx := ⟨fun a b => funext fun k => k.elim0⟩
  obtain ⟨h1234, h5⟩ := IntOp.andi_eq_one.1 h'
  obtain ⟨h123, h4⟩ := IntOp.andi_eq_one.1 h1234
  obtain ⟨h12, h3⟩ := IntOp.andi_eq_one.1 h123
  obtain ⟨h1, h2⟩ := IntOp.andi_eq_one.1 h12
  refine ⟨⟨fun i => isR_of_cmp ?_, fun i => isR_of_cmp ?_, fun i => isR_of_cmp ?_, fun i => isR_of_cmp ?_⟩, fun i => ne_of_cmp ?_⟩
  · rw [← ofBits_top]; exact Host.reduce_andi_all _ _ _ _ _ h1 i
  · rw [← ofBits_top]; exact Host.reduce_andi_all _ _ _ _ _ h2 i
  · rw [← ofBits_top]; exact Host.reduce_andi_all _ _ _ _ _ h3 i
  · rw [← ofBits_top]; exact Host.reduce_andi_all _ _ _ _ _ h4 i
  · exact Host.reduce_andi_all _ _ _ _ _ h5 i

end Cert.Finite

end
-- ==== Proof.Values.lean ====
module

public import proofs.«01_k».proof.Defs
public import proofs.«01_k».proof.Proof.Gen.ReferenceIdeal.Run
public import proofs.«01_k».proof.Proof.Gen.On_written
public import proofs.«01_k».proof.Proof.Gen.Pre_regular
public import proofs.«01_k».proof.Proof.Arrays
public import proofs.«01_k».proof.Proof.Cols
public import proofs.«01_k».proof.Proof.Off

/-!
# The runs of the kernel and of the reference agree where the mask is set
-/

@[expose] public section

set_option maxRecDepth 16384
set_option maxHeartbeats 400000
noncomputable section

namespace Cert.KernelIdeal.Hgrn

open Idealize.ShloMosaic Idealize.ShloMosaic.TcCoe Idealize.SL.Sem Cert.KernelIdeal.Gen
open Cert.RefGate Cert.ReferenceIdeal.Read

/-- Where the mask `written` of the first result is set. -/
theorem mask_all : ∀ n : Fin 3072, IntOp.cmpi .slt (BitVec.ofNat 32 n.val) 2048#32 = 1#1 → n.val < 2048 := by decide +kernel

/-- Where the mask `but_forget` of the first result is set. -/
theorem mask_cols : ∀ n : Fin 3072, IntOp.ori (IntOp.cmpi .slt (BitVec.ofNat 32 n.val) 512#32) (IntOp.andi (IntOp.cmpi .sge (BitVec.ofNat 32 n.val) 1024#32) (IntOp.cmpi .slt (BitVec.ofNat 32 n.val) 2048#32)) = 1#1 →
    n.val < 512 ∨ 1024 ≤ n.val ∧ n.val < 2048 := by decide +kernel

/-- The mask `but_forget` of the second result is nowhere set. -/
theorem mask_rows : ∀ n : Fin 2, ¬ IntOp.cmpi .slt (BitVec.ofNat 32 n.val) 0#32 = 1#1 := by decide +kernel

variable (m : (ℓ : Loc nD τ sig) → Buf (Elt Ideal) ℓ) (c : Dev nD)
variable (h0 : ∀ i, Cert.Finite.IsR (X0 m c i)) (h1 : ∀ i, Cert.Finite.IsR (X1 m c i)) (h2 : ∀ i, Cert.Finite.IsR (X2 m c i)) (h3 : ∀ i, Cert.Finite.IsR (X3 m c i))

include h0 h1 h2 h3 in
/-- The gate's columns of the first result. -/
theorem gate_value (i : S8256x3072.Idx) (hi : 1536 ≤ (i 1).val ∧ (i 1).val < 2048) :
    ((dats m 0 c).arrAt 10 cfg0.N : S8256x3072.Idx → Elt Ideal .bf16) i = val_main_v244 (F := Ideal) (X0 m c) (X1 m c) (X2 m c) (X3 m c) i := by
  have hw : (i 0).val < 8256 := (i 0).isLt
  let b : Fin 516 := ⟨(i 0).val / 16, by omega⟩
  let r : Fin 16 := ⟨(i 0).val % 16, by omega⟩
  let h : Fin 4 := ⟨((i 1).val - 1536) / 128, by omega⟩
  let l : Fin 128 := ⟨((i 1).val - 1536) % 128, by omega⟩
  have e : i = ix2 (rowOf b r) ⟨1536 + (128 * h.val + l.val), by omega⟩ := by
    funext a
    match a with
    | ⟨0, _⟩ => exact Fin.ext (by show (i 0).val = 16 * ((i 0).val / 16) + (i 0).val % 16; omega)
    | ⟨1, _⟩ => exact Fin.ext (by show (i 1).val = 1536 + (128 * (((i 1).val - 1536) / 128) + ((i 1).val - 1536) % 128); omega)
  have k := gate_at m c (ptOf b) (tripAt b) (stOfBlk m c b) r h l
  rw [blkNo_of] at k
  rw [dh_all m c i b r ⟨1536 + (128 * h.val + l.val), by omega⟩ (congrArg Fin.val (congrFun e 0)) (congrArg Fin.val (congrFun e 1))]
  refine k.trans ?_
  rw [e]
  exact (dh_gate_at (X0 m c) (X1 m c) (X2 m c) (X3 m c) (rowOf b r) h l h0 h1 h2 h3).symm

include h0 h1 h2 h3 in
/-- The first result, but for the columns of the forget gate. -/
theorem first_value (i : S8256x3072.Idx) (hi : (i 1).val < 512 ∨ 1024 ≤ (i 1).val ∧ (i 1).val < 2048) :
    ((dats m 0 c).arrAt 10 cfg0.N : S8256x3072.Idx → Elt Ideal .bf16) i = val_main_v244 (F := Ideal) (X0 m c) (X1 m c) (X2 m c) (X3 m c) i := by
  by_cases hg : 1536 ≤ (i 1).val
  · exact gate_value m c h0 h1 h2 h3 i ⟨hg, by omega⟩
  · by_cases hv : 1024 ≤ (i 1).val
    · have e : i = ix2 (i 0) ⟨1024 + (⟨(i 1).val - 1024, by omega⟩ : Fin 512).val, by show 1024 + ((i 1).val - 1024) < 3072; omega⟩ :=
        (eq_ix2 i).trans (congrArg (ix2 (i 0)) (Fin.ext (by show (i 1).val = 1024 + ((i 1).val - 1024); omega)))
      rw [e]; exact value_value m c h0 h1 h2 h3 (i 0) _
    · have e : i = ix2 (i 0) ⟨(⟨(i 1).val, by omega⟩ : Fin 512).val, by show (i 1).val < 3072; omega⟩ := eq_ix2 i
      rw [e]; exact query_value m c h0 h1 h2 h3 (i 0) _

include h0 h1 h2 h3 in
/-- The first result. -/
theorem whole_value (hf : ∀ i, val_main_v59 (F := Ideal) (X0 m c) (X2 m c) i ≠ Ideal.ofBits .f32 0x0DA24260#32)
    (i : S8256x3072.Idx) (hi : (i 1).val < 2048) :
    ((dats m 0 c).arrAt 10 cfg0.N : S8256x3072.Idx → Elt Ideal .bf16) i = val_main_v244 (F := Ideal) (X0 m c) (X1 m c) (X2 m c) (X3 m c) i := by
  by_cases hg : 512 ≤ (i 1).val ∧ (i 1).val < 1024
  · have e : i = ix2 (i 0) ⟨512 + (⟨(i 1).val - 512, by omega⟩ : Fin 512).val, by show 512 + ((i 1).val - 512) < 3072; omega⟩ :=
      (eq_ix2 i).trans (congrArg (ix2 (i 0)) (Fin.ext (by show (i 1).val = 512 + ((i 1).val - 512); omega)))
    rw [e]; exact forget_value m c h0 h1 h2 h3 hf (i 0) _
  · exact first_value m c h0 h1 h2 h3 i (by omega)

include h0 in
/-- The third result. -/
theorem gain_value (i : S1x128.Idx) :
    ((dats m 0 c).arrAt 12 cfg0.N : S1x128.Idx → Elt Ideal .f32) i = val_main_v245 (F := Ideal) (X0 m c) (X1 m c) (X2 m c) i := by
  have e : i = ix2 0 (i 1) := by
    funext a
    match a with
    | ⟨0, _⟩ => exact Fin.ext (by have : (i 0).val < 1 := (i 0).isLt; show (i 0).val = 0; omega)
    | ⟨1, _⟩ => rfl
  rw [gain_arr, e]
  exact gain_all m c h0 (i 1)

end Cert.KernelIdeal.Hgrn

namespace Cert.Proof

open Idealize.ShloMosaic Idealize.ShloMosaic.TcCoe Idealize.SL.Sem Cert.KernelIdeal.Hgrn Cert.ReferenceIdeal.Read

/-- A function of four arguments at equal arguments. -/
theorem same4 {A B C D E : Type} (f : A → B → C → D → E) {a a' : A} {b b' : B} {c c' : C} {d d' : D} (ha : a = a') (hb : b = b') (hc : c = c') (hd : d = d') : f a b c d = f a' b' c' d' := by
  subst ha hb hc hd; rfl

/-- A function of three arguments at equal arguments. -/
theorem same3 {A B C E : Type} (f : A → B → C → E) {a a' : A} {b b' : B} {c c' : C} (ha : a = a') (hb : b = b') (hc : c = c') : f a b c = f a' b' c' := by
  subst ha hb hc; rfl

/-- For any finite arguments: the results of the reference at the kernel's arguments, but for the forget gate and the lower bound. -/
theorem algebraic : Cert.algebraic_KernelIdeal_ReferenceIdeal_on_but_forget_pre_regular := by
  intro m g m' g' hp hm
  have hr := fun c => Cert.Finite.of_regular _ _ _ _ (hp c)
  refine ⟨fun c => val_main_v244 (F := Ideal) (X0 m c) (X1 m c) (X2 m c) (X3 m c), fun c => val_main_v241 (F := Ideal) (X0 m c) (X1 m c) (X2 m c) (X3 m c),
    fun c => val_main_v245 (F := Ideal) (X0 m c) (X1 m c) (X2 m c), ?_, ?_⟩
  · refine (θ_run Cert.KernelIdeal.defs _ _).mono (fun r h c => ⟨fun i hi => ?_, fun i hi => ?_, fun i _ => ?_, ?_, ?_, ?_, ?_⟩) (Cert.KernelIdeal.Hgrn.run (F := Ideal) m g)
    · exact (congrFun ((h c).1 10) i).trans (first_value m c (hr c).1 (hr c).2.1 (hr c).2.2.1 (hr c).2.2.2 i (mask_cols (i 1) hi))
    · exact absurd hi (mask_rows (i 0))
    · exact (congrFun ((h c).1 12) i).trans (gain_value m c (hr c).1 i)
    · exact ((h c).1 3).trans (((dats m 0 c).arrAt_in 3 rfl _).trans ((A_eq m c 3).trans (Cert.KernelIdeal.Gen.V_main_arg0 m c)))
    · exact ((h c).1 7).trans (((dats m 0 c).arrAt_in 7 rfl _).trans ((A_eq m c 7).trans (Cert.KernelIdeal.Gen.V_main_arg1 m c)))
    · exact ((h c).1 8).trans (((dats m 0 c).arrAt_in 8 rfl _).trans ((A_eq m c 8).trans (Cert.KernelIdeal.Gen.V_main_arg2 m c)))
    · exact ((h c).1 9).trans (((dats m 0 c).arrAt_in 9 rfl _).trans ((A_eq m c 9).trans (Cert.KernelIdeal.Gen.V_main_arg3 m c)))
  · refine (θ_run Cert.ReferenceIdeal.defs _ _).mono (fun r h c => ?_) (Cert.ReferenceIdeal.Value.run (F := Ideal) m' g')
    obtain ⟨e0, e1, e2, e3⟩ := hm c
    refine ⟨fun i _ => ?_, fun i _ => ?_, fun i _ => ?_, (h c).2.2.2⟩
    · exact (congrFun ((h c).1.trans (val_main_v244_eq _)) i).trans (congrFun (same4 (val_main_v244 (F := Ideal)) e0 e1 e2 e3) i)
    · exact (congrFun ((h c).2.1.trans (val_main_v241_eq _)) i).trans (congrFun (same4 (val_main_v241 (F := Ideal)) e0 e1 e2 e3) i)
    · exact (congrFun ((h c).2.2.1.trans (val_main_v245_eq _)) i).trans (congrFun (same3 (val_main_v245 (F := Ideal)) e0 e1 e2) i)

/-- Off the floor: the results of the reference at the kernel's arguments, every one the call writes. -/
theorem algebraic_all : Cert.algebraic_KernelIdeal_ReferenceIdeal_on_written_pre_off_floor := by
  intro m g m' g' hp hm
  have hs := fun c => Cert.Finite.of_off_floor _ _ _ _ (hp c)
  have hr := fun c => (hs c).1
  refine ⟨fun c => val_main_v244 (F := Ideal) (X0 m c) (X1 m c) (X2 m c) (X3 m c), fun c => val_main_v241 (F := Ideal) (X0 m c) (X1 m c) (X2 m c) (X3 m c),
    fun c => val_main_v245 (F := Ideal) (X0 m c) (X1 m c) (X2 m c), ?_, ?_⟩
  · refine (θ_run Cert.KernelIdeal.defs _ _).mono (fun r h c => ⟨fun i hi => ?_, fun i hi => ?_, fun i _ => ?_, ?_, ?_, ?_, ?_⟩) (Cert.KernelIdeal.Hgrn.run (F := Ideal) m g)
    · exact (congrFun ((h c).1 10) i).trans (whole_value m c (hr c).1 (hr c).2.1 (hr c).2.2.1 (hr c).2.2.2 (hs c).2 i (mask_all (i 1) hi))
    · exact (congrFun ((h c).1 11) i).trans (low_value m c (hr c).1 (hr c).2.1 (hr c).2.2.1 (hr c).2.2.2 (hs c).2 i)
    · exact (congrFun ((h c).1 12) i).trans (gain_value m c (hr c).1 i)
    · exact ((h c).1 3).trans (((dats m 0 c).arrAt_in 3 rfl _).trans ((A_eq m c 3).trans (Cert.KernelIdeal.Gen.V_main_arg0 m c)))
    · exact ((h c).1 7).trans (((dats m 0 c).arrAt_in 7 rfl _).trans ((A_eq m c 7).trans (Cert.KernelIdeal.Gen.V_main_arg1 m c)))
    · exact ((h c).1 8).trans (((dats m 0 c).arrAt_in 8 rfl _).trans ((A_eq m c 8).trans (Cert.KernelIdeal.Gen.V_main_arg2 m c)))
    · exact ((h c).1 9).trans (((dats m 0 c).arrAt_in 9 rfl _).trans ((A_eq m c 9).trans (Cert.KernelIdeal.Gen.V_main_arg3 m c)))
  · refine (θ_run Cert.ReferenceIdeal.defs _ _).mono (fun r h c => ?_) (Cert.ReferenceIdeal.Value.run (F := Ideal) m' g')
    obtain ⟨e0, e1, e2, e3⟩ := hm c
    refine ⟨fun i _ => ?_, fun i _ => ?_, fun i _ => ?_, (h c).2.2.2⟩
    · exact (congrFun ((h c).1.trans (val_main_v244_eq _)) i).trans (congrFun (same4 (val_main_v244 (F := Ideal)) e0 e1 e2 e3) i)
    · exact (congrFun ((h c).2.1.trans (val_main_v241_eq _)) i).trans (congrFun (same4 (val_main_v241 (F := Ideal)) e0 e1 e2 e3) i)
    · exact (congrFun ((h c).2.2.1.trans (val_main_v245_eq _)) i).trans (congrFun (same3 (val_main_v245 (F := Ideal)) e0 e1 e2) i)

end Cert.Proof

end
-- ==== Proof.WgradUp.lean ====
module

public import proofs.«01_k».proof.Proof.Gen.WgradUpIdeal.Value
public import proofs.«01_k».proof.Proof.Gen.GradUpWIdeal.Run
public import Idealize.ShloMosaic.Lib.Pipeline.ValueKit

/-!
# The gradient of the up projection's weights
-/

@[expose] public section

set_option maxRecDepth 16384
set_option maxHeartbeats 1000000
noncomputable section

namespace Cert.WgradUpIdeal.Product

open Idealize.ShloMosaic Idealize.ShloMosaic.TcCoe Idealize.SL.Sem Cert.WgradUpIdeal Cert.WgradUpIdeal.Gen

/-- The product of two arrays, summed over the rows. -/
def prod (a : FVec Ideal S8256x1024 .bf16) (b : FVec Ideal S8256x5632 .bf16) : FVec Ideal S1024x5632 .bf16 := fun i =>
  ∑ w : Fin 8256, a (ix2 w (i 0)) * b (ix2 w (i 1))

theorem at0 : ∀ t : Fin cfg0.N, win0_0.index t = ![0, t.val / 11] := (by decide +kernel : ∀ t : Fin grid0.N, _)
theorem at1 : ∀ t : Fin cfg0.N, win0_1.index t = ![0, t.val % 11] := (by decide +kernel : ∀ t : Fin grid0.N, _)
theorem at2 : ∀ t : Fin cfg0.N, win0_2.index t = ![t.val / 11, t.val % 11] := (by decide +kernel : ∀ t : Fin grid0.N, _)

variable (m : (ℓ : Loc nD τ sig) → Buf (Elt Ideal) ℓ) (c : Dev nD)

/-- The array after the run is the product. -/
theorem whole : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, prod]
  blk_point [iblk, V, at0 t, at1 t, at2 t]

end Cert.WgradUpIdeal.Product

namespace Cert.GradUpWIdeal.Product

open Idealize.ShloMosaic Idealize.ShloMosaic.TcCoe Idealize.SL.Sem Cert.GradUpWIdeal Cert.GradUpWIdeal.Gen

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = Cert.WgradUpIdeal.Product.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans (funext fun i => ?_), (h c).2⟩) (Value.run m ρ)
  generalize m ((c.tc : Thread nD τ).loc main_arg0) = x
  generalize m ((c.tc : Thread nD τ).loc main_arg1) = y
  pointwise [Cert.WgradUpIdeal.Product.prod]
  exact Finset.sum_congr rfl fun k _ => mul_comm _ _

end Cert.GradUpWIdeal.Product

end
-- ==== Proof.BwdDx1.lean ====
module

public import proofs.«01_k».proof.Proof.Gen.BwdDx1Ideal.Value
public import proofs.«01_k».proof.Proof.Gen.GradUpXIdeal.Run
public import Idealize.ShloMosaic.Lib.Pipeline.ValueKit
public import Idealize.ShloMosaic.Lib.Pipeline.ReadBack

/-!
# The gradient of the channel mixer's argument
-/

@[expose] public section

set_option maxRecDepth 16384
set_option maxHeartbeats 1000000
noncomputable section

namespace Cert.BwdDx1Ideal.Product

open Idealize.ShloMosaic Idealize.ShloMosaic.TcCoe Idealize.SL.Sem Cert.BwdDx1Ideal Cert.BwdDx1Ideal.Gen

/-- The product with the weights transposed, and the scaled gradient of the residual line added. -/
def prod (w : FVec Ideal S1024x5632 .bf16) (u : FVec Ideal S8256x5632 .bf16) (z : FVec Ideal S8256x1024 .bf16) : FVec Ideal S8256x1024 .bf16 := fun i =>
  (∑ k : Fin 5632, u (ix2 (i 0) k) * w (ix2 (i 1) k)) + Ideal.ofBits .f32 0x3FB504F3#32 * z i

theorem at0 : ∀ t : Fin cfg0.N, win0_0.index t = ![t.val / 2, t.val % 2] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, 0] := (by decide +kernel : ∀ t : Fin grid0.N, _)
theorem at3 : ∀ t : Fin cfg0.N, win0_3.index t = ![t.val / 2, 0] := (by decide +kernel : ∀ t : Fin grid0.N, _)

/-- A sum over all the columns, as the sums over the two halves. -/
theorem halves (f : Fin 5632 → EReal) : ∑ k, f k = (∑ k : Fin 2816, f ⟨k.val, by omega⟩) + ∑ k : Fin 2816, f ⟨2816 + k.val, by omega⟩ :=
  Fin.sum_univ_add (a := 2816) (b := 2816) f

variable (m : (ℓ : Loc nD τ sig) → Buf (Elt Ideal) ℓ) (c : Dev nD)

/-- What a point that writes back leaves: both halves of the product and the residual. -/
theorem after_3 (t s : Fin cfg0.N) (ht : t.val % 2 = 1) (hs : s.val = t.val - 1) :
    (outsAt0 m c t.val t.isLt).1 = k0_pay4 (iblk m c 0 t) (iblk m c 1 t) (k0_pay2 (iblk m c 0 s) (iblk m c 1 s)) (iblk m c 2 t) := by
  have e : outsAt0 m c (t.val - 1) (Nat.lt_of_le_of_lt (Nat.sub_le _ _) t.isLt) = outsAt0 m c s.val s.isLt := by
    congr 1; exact hs.symm
  rw [outsAt0_B m c t (by omega) ht, e, outsAt0_A m c s (by omega) (by omega)]
  frame_out
  rw [read_unread_whole]

/-- The array after the run. -/
theorem whole : (dats m 0 c).arrAt 3 cfg0.N = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val % 2 = 1 := (flush0_3 t).mp hf
  let s : Fin cfg0.N := ⟨t.val - 1, Nat.lt_of_le_of_lt (Nat.sub_le _ _) t.isLt⟩
  have hs : s.val = t.val - 1 := rfl
  clear_value s
  blk_simp
  rw [after0_3, after_3 m c t s ht hs]
  pointwise [k0_pay4, k0_pay2, k0_pay1, prod]
  rw [halves]
  blk_point [iblk, V, at0 t, at1 t, at2 t, at3 t, at0 s, at1 s]

end Cert.BwdDx1Ideal.Product

namespace Cert.GradUpXIdeal.Product

open Idealize.ShloMosaic Idealize.ShloMosaic.TcCoe Idealize.SL.Sem Cert.GradUpXIdeal Cert.GradUpXIdeal.Gen

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = Cert.BwdDx1Ideal.Product.prod (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans (funext fun i => ?_), (h c).2⟩) (Value.run m ρ)
  generalize m ((c.tc : Thread nD τ).loc main_arg0) = x
  generalize m ((c.tc : Thread nD τ).loc main_arg1) = y
  generalize m ((c.tc : Thread nD τ).loc main_arg2) = z
  pointwise [Cert.BwdDx1Ideal.Product.prod]

end Cert.GradUpXIdeal.Product

end
-- ==== Proof.FwdUp.lean ====
module

public import proofs.«01_k».proof.Proof.Gen.FwdUpIdeal.Value
public import proofs.«01_k».proof.Proof.Gen.ProjUpIdeal.Run
public import Idealize.ShloMosaic.Lib.Pipeline.ValueKit
public import Idealize.ShloMosaic.Lib.Pipeline.ReadBack

/-!
# The projection up to the channel mixer
-/

@[expose] public section

set_option maxRecDepth 16384
set_option maxHeartbeats 1000000
noncomputable section

namespace Cert.FwdUpIdeal.Product

open Idealize.ShloMosaic Idealize.ShloMosaic.TcCoe Idealize.SL.Sem Cert.FwdUpIdeal Cert.FwdUpIdeal.Gen

/-- The product. -/
def prod (a : FVec Ideal S8256x1024 .bf16) (b : FVec Ideal S1024x5632 .bf16) : FVec Ideal S8256x5632 .bf16 := fun i =>
  ∑ k : Fin 1024, a (ix2 (i 0) k) * b (ix2 k (i 1))

theorem at0 : ∀ t : Fin cfg0.N, win0_0.index t = ![t.val / 4, 0] := (by decide +kernel : ∀ t : Fin grid0.N, _)
theorem at1 : ∀ t : Fin cfg0.N, win0_1.index t = ![0, t.val % 4] := (by decide +kernel : ∀ t : Fin grid0.N, _)
theorem at2 : ∀ t : Fin cfg0.N, win0_2.index t = ![t.val / 4, t.val % 4] := (by decide +kernel : ∀ t : Fin grid0.N, _)

variable (m : (ℓ : Loc nD τ sig) → Buf (Elt Ideal) ℓ) (c : Dev nD)

/-- The array after the run. -/
theorem whole : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, prod]
  blk_point [iblk, V, at0 t, at1 t, at2 t]

end Cert.FwdUpIdeal.Product

namespace Cert.ProjUpIdeal.Product

open Idealize.ShloMosaic Idealize.ShloMosaic.TcCoe Idealize.SL.Sem Cert.ProjUpIdeal Cert.ProjUpIdeal.Gen

/-- The reference leaves the same array. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = Cert.FwdUpIdeal.Product.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans (funext fun i => ?_), (h c).2⟩) (Value.run m ρ)
  generalize m ((c.tc : Thread nD τ).loc main_arg0) = x
  generalize m ((c.tc : Thread nD τ).loc main_arg1) = y
  pointwise [Cert.FwdUpIdeal.Product.prod] <;> exact Finset.sum_congr rfl fun k _ => mul_comm _ _

end Cert.ProjUpIdeal.Product

end
-- ==== Proof.FwdIn.lean ====
module

public import proofs.«01_k».proof.Proof.Gen.FwdInIdeal.Value
public import proofs.«01_k».proof.Proof.Gen.ProjInIdeal.Run
public import Idealize.ShloMosaic.Lib.Pipeline.ValueKit
public import Idealize.ShloMosaic.Lib.Pipeline.ReadBack

/-!
# The projection of a layer's argument
-/

@[expose] public section

set_option maxRecDepth 16384
set_option maxHeartbeats 1000000
noncomputable section

namespace Cert.FwdInIdeal.Product

open Idealize.ShloMosaic Idealize.ShloMosaic.TcCoe Idealize.SL.Sem Cert.FwdInIdeal Cert.FwdInIdeal.Gen

/-- The product. -/
def prod (a : FVec Ideal S8256x1024 .bf16) (b : FVec Ideal S1024x3072 .bf16) : FVec Ideal S8256x3072 .f32 := fun i =>
  ∑ k : Fin 1024, a (ix2 (i 0) k) * b (ix2 k (i 1))

theorem at0 : ∀ t : Fin cfg0.N, win0_0.index t = ![t.val / 2, 0] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, t.val % 2] := (by decide +kernel : ∀ t : Fin grid0.N, _)

variable (m : (ℓ : Loc nD τ sig) → Buf (Elt Ideal) ℓ) (c : Dev nD)

/-- The array after the run. -/
theorem whole : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, prod]
  blk_point [iblk, V, at0 t, at1 t, at2 t]

end Cert.FwdInIdeal.Product

namespace Cert.ProjInIdeal.Product

open Idealize.ShloMosaic Idealize.ShloMosaic.TcCoe Idealize.SL.Sem Cert.ProjInIdeal Cert.ProjInIdeal.Gen

/-- The reference leaves the same array. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = Cert.FwdInIdeal.Product.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans (funext fun i => ?_), (h c).2⟩) (Value.run m ρ)
  generalize m ((c.tc : Thread nD τ).loc main_arg0) = x
  generalize m ((c.tc : Thread nD τ).loc main_arg1) = y
  pointwise [Cert.FwdInIdeal.Product.prod] <;> exact Finset.sum_congr rfl fun k _ => mul_comm _ _

end Cert.ProjInIdeal.Product

end
-- ==== Proof.WgradIn.lean ====
module

public import proofs.«01_k».proof.Proof.Gen.WgradInIdeal.Value
public import proofs.«01_k».proof.Proof.Gen.GradInWIdeal.Run
public import Idealize.ShloMosaic.Lib.Pipeline.ValueKit
public import Idealize.ShloMosaic.Lib.Pipeline.ReadBack

/-!
# The gradient of the input projection's weights
-/

@[expose] public section

set_option maxRecDepth 16384
set_option maxHeartbeats 1000000
noncomputable section

namespace Cert.WgradInIdeal.Product

open Idealize.ShloMosaic Idealize.ShloMosaic.TcCoe Idealize.SL.Sem Cert.WgradInIdeal Cert.WgradInIdeal.Gen

/-- The product. -/
def prod (a : FVec Ideal S8256x1024 .bf16) (b : FVec Ideal S8256x3072 .bf16) : FVec Ideal S1024x3072 .bf16 := fun i =>
  ∑ k : Fin 8256, a (ix2 k (i 0)) * b (ix2 k (i 1))

theorem at0 : ∀ t : Fin cfg0.N, win0_0.index t = ![0, t.val / 6] := (by decide +kernel : ∀ t : Fin grid0.N, _)
theorem at1 : ∀ t : Fin cfg0.N, win0_1.index t = ![0, t.val % 6] := (by decide +kernel : ∀ t : Fin grid0.N, _)
theorem at2 : ∀ t : Fin cfg0.N, win0_2.index t = ![t.val / 6, t.val % 6] := (by decide +kernel : ∀ t : Fin grid0.N, _)

variable (m : (ℓ : Loc nD τ sig) → Buf (Elt Ideal) ℓ) (c : Dev nD)

/-- The array after the run. -/
theorem whole : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, prod]
  blk_point [iblk, V, at0 t, at1 t, at2 t]

end Cert.WgradInIdeal.Product

namespace Cert.GradInWIdeal.Product

open Idealize.ShloMosaic Idealize.ShloMosaic.TcCoe Idealize.SL.Sem Cert.GradInWIdeal Cert.GradInWIdeal.Gen

/-- The reference leaves the same array. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = Cert.WgradInIdeal.Product.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans (funext fun i => ?_), (h c).2⟩) (Value.run m ρ)
  generalize m ((c.tc : Thread nD τ).loc main_arg0) = x
  generalize m ((c.tc : Thread nD τ).loc main_arg1) = y
  pointwise [Cert.WgradInIdeal.Product.prod] <;> exact Finset.sum_congr rfl fun k _ => mul_comm _ _

end Cert.GradInWIdeal.Product

end
-- ==== Proof.BwdDx.lean ====
module

public import proofs.«01_k».proof.Proof.Gen.BwdDxIdeal.Value
public import proofs.«01_k».proof.Proof.Gen.GradInXIdeal.Run
public import Idealize.ShloMosaic.Lib.Pipeline.ValueKit
public import Idealize.ShloMosaic.Lib.Pipeline.ReadBack

/-!
# The gradient of a layer's argument
-/

@[expose] public section

set_option maxRecDepth 16384
set_option maxHeartbeats 1000000
noncomputable section

namespace Cert.BwdDxIdeal.Product

open Idealize.ShloMosaic Idealize.ShloMosaic.TcCoe Idealize.SL.Sem Cert.BwdDxIdeal Cert.BwdDxIdeal.Gen

/-- The product with the weights transposed, and the scaled gradient of the residual line added. -/
def prod (w : FVec Ideal S1024x3072 .bf16) (u : FVec Ideal S8256x3072 .bf16) (z : FVec Ideal S8256x1024 .bf16) : FVec Ideal S8256x1024 .f32 := fun i =>
  (∑ k : Fin 3072, u (ix2 (i 0) k) * w (ix2 (i 1) k)) + Ideal.ofBits .f32 0x3FB504F3#32 * z i

theorem at0 : ∀ t : Fin cfg0.N, win0_0.index t = ![t.val / 2, t.val % 2] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, 0] := (by decide +kernel : ∀ t : Fin grid0.N, _)
theorem at3 : ∀ t : Fin cfg0.N, win0_3.index t = ![t.val / 2, 0] := (by decide +kernel : ∀ t : Fin grid0.N, _)

/-- A sum over all the columns, as the sums over the two halves. -/
theorem halves (f : Fin 3072 → EReal) : ∑ k, f k = (∑ k : Fin 1536, f ⟨k.val, by omega⟩) + ∑ k : Fin 1536, f ⟨1536 + k.val, by omega⟩ :=
  Fin.sum_univ_add (a := 1536) (b := 1536) f

variable (m : (ℓ : Loc nD τ sig) → Buf (Elt Ideal) ℓ) (c : Dev nD)

/-- What a point that writes back leaves: both halves of the product and the residual. -/
theorem after_3 (t s : Fin cfg0.N) (ht : t.val % 2 = 1) (hs : s.val = t.val - 1) :
    outsAt0 m c t.val t.isLt = k0_pay3 (iblk m c 0 t) (iblk m c 1 t) (k0_pay1 (iblk m c 0 s) (iblk m c 1 s)) (iblk m c 2 t) := by
  have e : outsAt0 m c (t.val - 1) (Nat.lt_of_le_of_lt (Nat.sub_le _ _) t.isLt) = outsAt0 m c s.val s.isLt := by
    congr 1; exact hs.symm
  rw [outsAt0_B m c t (by omega) ht, e, outsAt0_A m c s (by omega) (by omega)]
  frame_out
  done

/-- The array after the run. -/
theorem whole : (dats m 0 c).arrAt 3 cfg0.N = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val % 2 = 1 := (flush0_3 t).mp hf
  let s : Fin cfg0.N := ⟨t.val - 1, Nat.lt_of_le_of_lt (Nat.sub_le _ _) t.isLt⟩
  have hs : s.val = t.val - 1 := rfl
  clear_value s
  blk_simp
  rw [after0_3, after_3 m c t s ht hs]
  pointwise [k0_pay3, k0_pay1, prod]
  rw [halves]
  blk_point [iblk, V, at0 t, at1 t, at2 t, at3 t, at0 s, at1 s]

end Cert.BwdDxIdeal.Product

namespace Cert.GradInXIdeal.Product

open Idealize.ShloMosaic Idealize.ShloMosaic.TcCoe Idealize.SL.Sem Cert.GradInXIdeal Cert.GradInXIdeal.Gen

/-- The reference leaves the same array. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = Cert.BwdDxIdeal.Product.prod (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans (funext fun i => ?_), (h c).2⟩) (Value.run m ρ)
  generalize m ((c.tc : Thread nD τ).loc main_arg0) = x
  generalize m ((c.tc : Thread nD τ).loc main_arg1) = y
  generalize m ((c.tc : Thread nD τ).loc main_arg2) = z
  pointwise [Cert.BwdDxIdeal.Product.prod] <;> exact Finset.sum_congr rfl fun k _ => mul_comm _ _

end Cert.GradInXIdeal.Product

end
-- ==== Proof.BwdDa.lean ====
module

public import proofs.«01_k».proof.Proof.Gen.BwdDaIdeal.Value
public import proofs.«01_k».proof.Proof.Gen.GradDownAIdeal.Run
public import Idealize.ShloMosaic.Lib.Pipeline.ValueKit
public import Idealize.ShloMosaic.Lib.Pipeline.ReadBack

/-!
# The gradient of the gated activation
-/

@[expose] public section

set_option maxRecDepth 16384
set_option maxHeartbeats 1000000
noncomputable section

namespace Cert.BwdDaIdeal.Product

open Idealize.ShloMosaic Idealize.ShloMosaic.TcCoe Idealize.SL.Sem Cert.BwdDaIdeal Cert.BwdDaIdeal.Gen

/-- The product. -/
def prod (w : FVec Ideal S2816x1024 .bf16) (a : FVec Ideal S8256x1024 .bf16) : FVec Ideal S8256x2816 .bf16 := fun i =>
  ∑ k : Fin 1024, a (ix2 (i 0) k) * w (ix2 (i 1) k)

theorem at0 : ∀ t : Fin cfg0.N, win0_0.index t = ![t.val / 2, 0] := (by decide +kernel : ∀ t : Fin grid0.N, _)
theorem at1 : ∀ t : Fin cfg0.N, win0_1.index t = ![t.val % 2, 0] := (by decide +kernel : ∀ t : Fin grid0.N, _)
theorem at2 : ∀ t : Fin cfg0.N, win0_2.index t = ![t.val / 2, t.val % 2] := (by decide +kernel : ∀ t : Fin grid0.N, _)

variable (m : (ℓ : Loc nD τ sig) → Buf (Elt Ideal) ℓ) (c : Dev nD)

/-- The array after the run. -/
theorem whole : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, prod]
  blk_point [iblk, V, at0 t, at1 t, at2 t]

end Cert.BwdDaIdeal.Product

namespace Cert.GradDownAIdeal.Product

open Idealize.ShloMosaic Idealize.ShloMosaic.TcCoe Idealize.SL.Sem Cert.GradDownAIdeal Cert.GradDownAIdeal.Gen

/-- The reference leaves the same array. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = Cert.BwdDaIdeal.Product.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans (funext fun i => ?_), (h c).2⟩) (Value.run m ρ)
  generalize m ((c.tc : Thread nD τ).loc main_arg0) = x
  generalize m ((c.tc : Thread nD τ).loc main_arg1) = y
  pointwise [Cert.BwdDaIdeal.Product.prod] <;> exact Finset.sum_congr rfl fun k _ => mul_comm _ _

end Cert.GradDownAIdeal.Product

end
-- ==== Proof.WgradDown.lean ====
module

public import proofs.«01_k».proof.Proof.Gen.WgradDownIdeal.Value
public import proofs.«01_k».proof.Proof.Gen.GradDownWIdeal.Run
public import Idealize.ShloMosaic.Lib.Pipeline.ValueKit
public import Idealize.ShloMosaic.Lib.Pipeline.ReadBack

/-!
# The gradient of the weights of the channel mixer's second product
-/

@[expose] public section

set_option maxRecDepth 16384
set_option maxHeartbeats 1000000
noncomputable section

namespace Cert.WgradDownIdeal.Product

open Idealize.ShloMosaic Idealize.ShloMosaic.TcCoe Idealize.SL.Sem Cert.WgradDownIdeal Cert.WgradDownIdeal.Gen

/-- The product of the two arguments over their rows. -/
def prod (a : FVec Ideal S8256x2816 .bf16) (b : FVec Ideal S8256x1024 .bf16) : FVec Ideal S2816x1024 .bf16 := fun i =>
  ∑ k : Fin 8256, a (ix2 k (i 0)) * b (ix2 k (i 1))

theorem at0 : ∀ t : Fin cfg0.N, win0_0.index t = ![t.val % 6, t.val / 6] := (by decide +kernel : ∀ t : Fin grid0.N, _)
theorem at1 : ∀ t : Fin cfg0.N, win0_1.index t = ![t.val % 6, 0] := (by decide +kernel : ∀ t : Fin grid0.N, _)
theorem at2 : ∀ t : Fin cfg0.N, win0_2.index t = ![t.val / 6, 0] := (by decide +kernel : ∀ t : Fin grid0.N, _)

/-- A sum over all the rows, as the sums over six parts in the order in which the call adds them. -/
theorem sixths (f : Fin 8256 → EReal) : ∑ k, f k =
    (((((∑ k : Fin 1376, f ⟨k.val, by omega⟩) + ∑ k : Fin 1376, f ⟨1376 + k.val, by omega⟩) + ∑ k : Fin 1376, f ⟨2752 + k.val, by omega⟩)
      + ∑ k : Fin 1376, f ⟨4128 + k.val, by omega⟩) + ∑ k : Fin 1376, f ⟨5504 + k.val, by omega⟩) + ∑ k : Fin 1376, f ⟨6880 + k.val, by omega⟩ := by
  refine (Fin.sum_univ_add (a := 6880) (b := 1376) f).trans (congrArg (· + _) ?_)
  refine (Fin.sum_univ_add (a := 5504) (b := 1376) _).trans (congrArg (· + _) ?_)
  refine (Fin.sum_univ_add (a := 4128) (b := 1376) _).trans (congrArg (· + _) ?_)
  refine (Fin.sum_univ_add (a := 2752) (b := 1376) _).trans (congrArg (· + _) ?_)
  exact Fin.sum_univ_add (a := 1376) (b := 1376) _

variable (m : (ℓ : Loc nD τ sig) → Buf (Elt Ideal) ℓ) (c : Dev nD)

/-- The accumulator after the first point of a sweep. -/
theorem acc_first (t : Fin cfg0.N) (h : t.val % 6 = 0) :
    (outsAt0 m c t.val t.isLt).2 = k0_pay2 (iblk m c 0 t) (iblk m c 1 t) := by
  rw [outsAt0_A m c t h (by omega) (by omega)]
  frame_out

/-- The accumulator after a point inside a sweep, from the point before. -/
theorem acc_next (t s : Fin cfg0.N) (h : 1 ≤ t.val % 6 ∧ t.val % 6 ≤ 4) (hs : s.val = t.val - 1) (X : FVec Ideal S1408x1024 .f32)
    (hX : (outsAt0 m c s.val s.isLt).2 = X) :
    (outsAt0 m c t.val t.isLt).2 = k0_pay3 (iblk m c 0 t) (iblk m c 1 t) X := by
  have e : outsAt0 m c (t.val - 1) (Nat.lt_of_le_of_lt (Nat.sub_le _ _) t.isLt) = outsAt0 m c s.val s.isLt := by
    congr 1; exact hs.symm
  rw [outsAt0_B m c t (by omega) h (by omega), e, hX]
  frame_out
  rw [read_unread_whole]

/-- What the last point of a sweep writes back, from the point before. -/
theorem out_last (t s : Fin cfg0.N) (h : t.val % 6 = 5) (hs : s.val = t.val - 1) (X : FVec Ideal S1408x1024 .f32)
    (hX : (outsAt0 m c s.val s.isLt).2 = X) :
    (outsAt0 m c t.val t.isLt).1 = k0_pay4 (iblk m c 0 t) (iblk m c 1 t) X := by
  have e : outsAt0 m c (t.val - 1) (Nat.lt_of_le_of_lt (Nat.sub_le _ _) t.isLt) = outsAt0 m c s.val s.isLt := by
    congr 1; exact hs.symm
  rw [outsAt0_C m c t (by omega) (by omega) h, e, hX]
  frame_out
  rw [read_unread_whole]

/-- The array after the run. -/
theorem whole : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have ht : t.val % 6 = 5 := (flush0_2 t).mp hf
  have at' : ∀ j : ℕ, t.val - j < cfg0.N := fun j => Nat.lt_of_le_of_lt (Nat.sub_le _ _) t.isLt
  let s : ℕ → Fin cfg0.N := fun j => ⟨t.val - j, at' j⟩
  have hs : ∀ j, (s j).val = t.val - j := fun j => rfl
  have a0 := acc_first m c (s 5) (by rw [hs]; omega)
  have a1 := acc_next m c (s 4) (s 5) (by rw [hs]; omega) (by rw [hs, hs]; omega) _ a0
  have a2 := acc_next m c (s 3) (s 4) (by rw [hs]; omega) (by rw [hs, hs]; omega) _ a1
  have a3 := acc_next m c (s 2) (s 3) (by rw [hs]; omega) (by rw [hs, hs]; omega) _ a2
  have a4 := acc_next m c (s 1) (s 2) (by rw [hs]; omega) (by rw [hs, hs]; omega) _ a3
  have a5 := out_last m c t (s 1) ht (hs 1) _ a4
  have h1 := hs 1; have h2 := hs 2; have h3 := hs 3; have h4 := hs 4; have h5 := hs 5
  clear a0 a1 a2 a3 a4 hs
  generalize s 1 = s1 at *; generalize s 2 = s2 at *; generalize s 3 = s3 at *; generalize s 4 = s4 at *; generalize s 5 = s5 at *
  blk_simp
  rw [after0_2, a5]
  pointwise [k0_pay4, k0_pay3, k0_pay2, k0_pay1, prod]
  rw [sixths]
  blk_point [iblk, V, at0 t, at1 t, at2 t, at0 s1, at1 s1, at0 s2, at1 s2, at0 s3, at1 s3, at0 s4, at1 s4, at0 s5, at1 s5]

end Cert.WgradDownIdeal.Product

namespace Cert.GradDownWIdeal.Product

open Idealize.ShloMosaic Idealize.ShloMosaic.TcCoe Idealize.SL.Sem Cert.GradDownWIdeal Cert.GradDownWIdeal.Gen

/-- The reference leaves the same array. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = Cert.WgradDownIdeal.Product.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans (funext fun i => ?_), (h c).2⟩) (Value.run m ρ)
  generalize m ((c.tc : Thread nD τ).loc main_arg0) = x
  generalize m ((c.tc : Thread nD τ).loc main_arg1) = y
  pointwise [Cert.WgradDownIdeal.Product.prod] <;> exact Finset.sum_congr rfl fun k _ => mul_comm _ _

end Cert.GradDownWIdeal.Product

end
-- ==== Proof.BwdDcat.lean ====
module

public import proofs.«01_k».proof.Proof.Gen.BwdDcatIdeal.Value
public import proofs.«01_k».proof.Proof.Gen.GradOXIdeal.Run
public import Idealize.ShloMosaic.Lib.Pipeline.ValueKit
public import Idealize.ShloMosaic.Lib.Pipeline.ReadBack

/-!
# The gradient of the concatenated branches
-/

@[expose] public section

set_option maxRecDepth 16384
set_option maxHeartbeats 1000000
noncomputable section

namespace Cert.BwdDcatIdeal.Product

open Idealize.ShloMosaic Idealize.ShloMosaic.TcCoe Idealize.SL.Sem Cert.BwdDcatIdeal Cert.BwdDcatIdeal.Gen

/-- The product. -/
def prod (w : FVec Ideal S1024x1024 .bf16) (a : FVec Ideal S8256x1024 .bf16) : FVec Ideal S8256x1024 .bf16 := fun i =>
  ∑ k : Fin 1024, a (ix2 (i 0) k) * w (ix2 (i 1) k)

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)

variable (m : (ℓ : Loc nD τ sig) → Buf (Elt Ideal) ℓ) (c : Dev nD)

/-- The array after the run. -/
theorem whole : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, prod]
  blk_point [iblk, V, at0 t, at1 t, at2 t]

end Cert.BwdDcatIdeal.Product

namespace Cert.GradOXIdeal.Product

open Idealize.ShloMosaic Idealize.ShloMosaic.TcCoe Idealize.SL.Sem Cert.GradOXIdeal Cert.GradOXIdeal.Gen

/-- The reference leaves the same array. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = Cert.BwdDcatIdeal.Product.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans (funext fun i => ?_), (h c).2⟩) (Value.run m ρ)
  generalize m ((c.tc : Thread nD τ).loc main_arg0) = x
  generalize m ((c.tc : Thread nD τ).loc main_arg1) = y
  pointwise [Cert.BwdDcatIdeal.Product.prod] <;> exact Finset.sum_congr rfl fun k _ => mul_comm _ _

end Cert.GradOXIdeal.Product

end
-- ==== Proof.WgradO.lean ====
module

public import proofs.«01_k».proof.Proof.Gen.WgradOIdeal.Value
public import proofs.«01_k».proof.Proof.Gen.GradOWIdeal.Run
public import Idealize.ShloMosaic.Lib.Pipeline.ValueKit
public import Idealize.ShloMosaic.Lib.Pipeline.ReadBack

/-!
# The gradient of the output projection's weights
-/

@[expose] public section

set_option maxRecDepth 16384
set_option maxHeartbeats 1000000
noncomputable section

namespace Cert.WgradOIdeal.Product

open Idealize.ShloMosaic Idealize.ShloMosaic.TcCoe Idealize.SL.Sem Cert.WgradOIdeal Cert.WgradOIdeal.Gen

/-- The product. -/
def prod (a : FVec Ideal S8256x1024 .bf16) (b : FVec Ideal S8256x1024 .bf16) : FVec Ideal S1024x1024 .bf16 := fun i =>
  ∑ k : Fin 8256, a (ix2 k (i 0)) * b (ix2 k (i 1))

theorem at0 : ∀ t : Fin cfg0.N, win0_0.index t = ![0, t.val / 2] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, t.val % 2] := (by decide +kernel : ∀ t : Fin grid0.N, _)

variable (m : (ℓ : Loc nD τ sig) → Buf (Elt Ideal) ℓ) (c : Dev nD)

/-- The array after the run. -/
theorem whole : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, prod]
  blk_point [iblk, V, at0 t, at1 t, at2 t]

end Cert.WgradOIdeal.Product

namespace Cert.GradOWIdeal.Product

open Idealize.ShloMosaic Idealize.ShloMosaic.TcCoe Idealize.SL.Sem Cert.GradOWIdeal Cert.GradOWIdeal.Gen

/-- The reference leaves the same array. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = Cert.WgradOIdeal.Product.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans (funext fun i => ?_), (h c).2⟩) (Value.run m ρ)
  generalize m ((c.tc : Thread nD τ).loc main_arg0) = x
  generalize m ((c.tc : Thread nD τ).loc main_arg1) = y
  pointwise [Cert.WgradOIdeal.Product.prod] <;> exact Finset.sum_congr rfl fun k _ => mul_comm _ _

end Cert.GradOWIdeal.Product

end
-- ==== Proof.Products.lean ====
module

public import proofs.«01_k».proof.Defs
public import proofs.«01_k».proof.Proof.Gen.WgradUp
public import proofs.«01_k».proof.Proof.Gen.WgradUp.Frame
public import proofs.«01_k».proof.Proof.Gen.WgradUpIdeal
public import proofs.«01_k».proof.Proof.Gen.WgradUpIdeal.Frame
public import proofs.«01_k».proof.Proof.Gen.GradUpWIdeal
public import proofs.«01_k».proof.Proof.Gen.BwdDx1
public import proofs.«01_k».proof.Proof.Gen.BwdDx1.Frame
public import proofs.«01_k».proof.Proof.Gen.BwdDx1Ideal
public import proofs.«01_k».proof.Proof.Gen.BwdDx1Ideal.Frame
public import proofs.«01_k».proof.Proof.Gen.GradUpXIdeal
public import proofs.«01_k».proof.Proof.Gen.FwdUp
public import proofs.«01_k».proof.Proof.Gen.FwdUp.Frame
public import proofs.«01_k».proof.Proof.Gen.FwdUpIdeal
public import proofs.«01_k».proof.Proof.Gen.FwdUpIdeal.Frame
public import proofs.«01_k».proof.Proof.Gen.ProjUpIdeal
public import proofs.«01_k».proof.Proof.Gen.FwdIn
public import proofs.«01_k».proof.Proof.Gen.FwdIn.Frame
public import proofs.«01_k».proof.Proof.Gen.FwdInIdeal
public import proofs.«01_k».proof.Proof.Gen.FwdInIdeal.Frame
public import proofs.«01_k».proof.Proof.Gen.ProjInIdeal
public import proofs.«01_k».proof.Proof.Gen.WgradIn
public import proofs.«01_k».proof.Proof.Gen.WgradIn.Frame
public import proofs.«01_k».proof.Proof.Gen.WgradInIdeal
public import proofs.«01_k».proof.Proof.Gen.WgradInIdeal.Frame
public import proofs.«01_k».proof.Proof.Gen.GradInWIdeal
public import proofs.«01_k».proof.Proof.Gen.BwdDx
public import proofs.«01_k».proof.Proof.Gen.BwdDx.Frame
public import proofs.«01_k».proof.Proof.Gen.BwdDxIdeal
public import proofs.«01_k».proof.Proof.Gen.BwdDxIdeal.Frame
public import proofs.«01_k».proof.Proof.Gen.GradInXIdeal
public import proofs.«01_k».proof.Proof.Gen.BwdDa
public import proofs.«01_k».proof.Proof.Gen.BwdDa.Frame
public import proofs.«01_k».proof.Proof.Gen.BwdDaIdeal
public import proofs.«01_k».proof.Proof.Gen.BwdDaIdeal.Frame
public import proofs.«01_k».proof.Proof.Gen.GradDownAIdeal
public import proofs.«01_k».proof.Proof.Gen.WgradDown
public import proofs.«01_k».proof.Proof.Gen.WgradDown.Frame
public import proofs.«01_k».proof.Proof.Gen.WgradDownIdeal
public import proofs.«01_k».proof.Proof.Gen.WgradDownIdeal.Frame
public import proofs.«01_k».proof.Proof.Gen.GradDownWIdeal
public import proofs.«01_k».proof.Proof.Gen.BwdDcat
public import proofs.«01_k».proof.Proof.Gen.BwdDcat.Frame
public import proofs.«01_k».proof.Proof.Gen.BwdDcatIdeal
public import proofs.«01_k».proof.Proof.Gen.BwdDcatIdeal.Frame
public import proofs.«01_k».proof.Proof.Gen.GradOXIdeal
public import proofs.«01_k».proof.Proof.Gen.WgradO
public import proofs.«01_k».proof.Proof.Gen.WgradO.Frame
public import proofs.«01_k».proof.Proof.Gen.WgradOIdeal
public import proofs.«01_k».proof.Proof.Gen.WgradOIdeal.Frame
public import proofs.«01_k».proof.Proof.Gen.GradOWIdeal
public import proofs.«01_k».proof.Proof.WgradUp
public import proofs.«01_k».proof.Proof.BwdDx1
public import proofs.«01_k».proof.Proof.FwdUp
public import proofs.«01_k».proof.Proof.FwdIn
public import proofs.«01_k».proof.Proof.WgradIn
public import proofs.«01_k».proof.Proof.BwdDx
public import proofs.«01_k».proof.Proof.BwdDa
public import proofs.«01_k».proof.Proof.WgradDown
public import proofs.«01_k».proof.Proof.BwdDcat
public import proofs.«01_k».proof.Proof.WgradO

/-!
# The matrix products: frames and values

Every product runs as it was written, and leaves what the reference's lines leave.
-/

@[expose] public section

noncomputable section

namespace Cert.Proof

open Idealize.ShloMosaic Idealize.SL.Sem

theorem frame_GradUpW : Cert.quiescent_GradUpWIdeal := fun m ρ _ =>
  (θ_run Cert.GradUpWIdeal.defs _ _).mono (fun r h => ⟨fun c => (h c).2, Idealize.ShloMosaic.sem_eq_zero_of_no_sems (by decide) r.2⟩)
    (Cert.GradUpWIdeal.Value.run (F := Ideal) m ρ)

theorem algebraic_WgradUp : Cert.algebraic_WgradUpIdeal_GradUpWIdeal := by
  intro m g m' g' _ hm
  refine ⟨fun c => Cert.WgradUpIdeal.Product.prod (m ((c.tc : Thread Cert.WgradUpIdeal.nD Cert.WgradUpIdeal.τ).loc Cert.WgradUpIdeal.main_arg0)) (m ((c.tc : Thread Cert.WgradUpIdeal.nD Cert.WgradUpIdeal.τ).loc Cert.WgradUpIdeal.main_arg1)), ?_, ?_⟩
  · exact (θ_run Cert.WgradUpIdeal.defs _ _).mono (fun r h c => ⟨(h c).1.trans (Cert.WgradUpIdeal.Product.whole m c), (h c).2⟩)
      (Cert.WgradUpIdeal.Value.run_blocks m g)
  · refine (θ_run Cert.GradUpWIdeal.defs _ _).mono (fun r h c => ⟨(h c).1.trans ?_, (h c).2⟩) (Cert.GradUpWIdeal.Product.run m' g')
    obtain ⟨e0, e1⟩ := hm c
    exact congrArg₂ Cert.WgradUpIdeal.Product.prod e0 e1

theorem frame_GradUpX : Cert.quiescent_GradUpXIdeal := fun m ρ _ =>
  (θ_run Cert.GradUpXIdeal.defs _ _).mono (fun r h => ⟨fun c => (h c).2, Idealize.ShloMosaic.sem_eq_zero_of_no_sems (by decide) r.2⟩)
    (Cert.GradUpXIdeal.Value.run (F := Ideal) m ρ)

theorem algebraic_BwdDx1 : Cert.algebraic_BwdDx1Ideal_GradUpXIdeal := by
  intro m g m' g' _ hm
  refine ⟨fun c => Cert.BwdDx1Ideal.Product.prod (m ((c.tc : Thread Cert.BwdDx1Ideal.nD Cert.BwdDx1Ideal.τ).loc Cert.BwdDx1Ideal.main_arg0)) (m ((c.tc : Thread Cert.BwdDx1Ideal.nD Cert.BwdDx1Ideal.τ).loc Cert.BwdDx1Ideal.main_arg1)) (m ((c.tc : Thread Cert.BwdDx1Ideal.nD Cert.BwdDx1Ideal.τ).loc Cert.BwdDx1Ideal.main_arg2)), ?_, ?_⟩
  · exact (θ_run Cert.BwdDx1Ideal.defs _ _).mono (fun r h c => ⟨(h c).1.trans (Cert.BwdDx1Ideal.Product.whole m c), (h c).2⟩)
      (Cert.BwdDx1Ideal.Value.run_blocks m g)
  · refine (θ_run Cert.GradUpXIdeal.defs _ _).mono (fun r h c => ⟨(h c).1.trans ?_, (h c).2⟩) (Cert.GradUpXIdeal.Product.run m' g')
    obtain ⟨e0, e1, e2⟩ := hm c
    exact congr (congrArg₂ Cert.BwdDx1Ideal.Product.prod e0 e1) e2

theorem frame_ProjUp : Cert.quiescent_ProjUpIdeal := fun m ρ _ =>
  (θ_run Cert.ProjUpIdeal.defs _ _).mono (fun r h => ⟨fun c => (h c).2, Idealize.ShloMosaic.sem_eq_zero_of_no_sems (by decide) r.2⟩)
    (Cert.ProjUpIdeal.Value.run (F := Ideal) m ρ)

theorem algebraic_FwdUp : Cert.algebraic_FwdUpIdeal_ProjUpIdeal := by
  intro m g m' g' _ hm
  refine ⟨fun c => Cert.FwdUpIdeal.Product.prod (m ((c.tc : Thread Cert.FwdUpIdeal.nD Cert.FwdUpIdeal.τ).loc Cert.FwdUpIdeal.main_arg0)) (m ((c.tc : Thread Cert.FwdUpIdeal.nD Cert.FwdUpIdeal.τ).loc Cert.FwdUpIdeal.main_arg1)), ?_, ?_⟩
  · exact (θ_run Cert.FwdUpIdeal.defs _ _).mono (fun r h c => ⟨(h c).1.trans (Cert.FwdUpIdeal.Product.whole m c), (h c).2⟩)
      (Cert.FwdUpIdeal.Value.run_blocks m g)
  · refine (θ_run Cert.ProjUpIdeal.defs _ _).mono (fun r h c => ⟨(h c).1.trans ?_, (h c).2⟩) (Cert.ProjUpIdeal.Product.run m' g')
    obtain ⟨e0, e1⟩ := hm c
    exact congrArg₂ Cert.FwdUpIdeal.Product.prod e0 e1

theorem frame_ProjIn : Cert.quiescent_ProjInIdeal := fun m ρ _ =>
  (θ_run Cert.ProjInIdeal.defs _ _).mono (fun r h => ⟨fun c => (h c).2, Idealize.ShloMosaic.sem_eq_zero_of_no_sems (by decide) r.2⟩)
    (Cert.ProjInIdeal.Value.run (F := Ideal) m ρ)

theorem algebraic_FwdIn : Cert.algebraic_FwdInIdeal_ProjInIdeal := by
  intro m g m' g' _ hm
  refine ⟨fun c => Cert.FwdInIdeal.Product.prod (m ((c.tc : Thread Cert.FwdInIdeal.nD Cert.FwdInIdeal.τ).loc Cert.FwdInIdeal.main_arg0)) (m ((c.tc : Thread Cert.FwdInIdeal.nD Cert.FwdInIdeal.τ).loc Cert.FwdInIdeal.main_arg1)), ?_, ?_⟩
  · exact (θ_run Cert.FwdInIdeal.defs _ _).mono (fun r h c => ⟨(h c).1.trans (Cert.FwdInIdeal.Product.whole m c), (h c).2⟩)
      (Cert.FwdInIdeal.Value.run_blocks m g)
  · refine (θ_run Cert.ProjInIdeal.defs _ _).mono (fun r h c => ⟨(h c).1.trans ?_, (h c).2⟩) (Cert.ProjInIdeal.Product.run m' g')
    obtain ⟨e0, e1⟩ := hm c
    exact congrArg₂ Cert.FwdInIdeal.Product.prod e0 e1

theorem frame_GradInW : Cert.quiescent_GradInWIdeal := fun m ρ _ =>
  (θ_run Cert.GradInWIdeal.defs _ _).mono (fun r h => ⟨fun c => (h c).2, Idealize.ShloMosaic.sem_eq_zero_of_no_sems (by decide) r.2⟩)
    (Cert.GradInWIdeal.Value.run (F := Ideal) m ρ)

theorem algebraic_WgradIn : Cert.algebraic_WgradInIdeal_GradInWIdeal := by
  intro m g m' g' _ hm
  refine ⟨fun c => Cert.WgradInIdeal.Product.prod (m ((c.tc : Thread Cert.WgradInIdeal.nD Cert.WgradInIdeal.τ).loc Cert.WgradInIdeal.main_arg0)) (m ((c.tc : Thread Cert.WgradInIdeal.nD Cert.WgradInIdeal.τ).loc Cert.WgradInIdeal.main_arg1)), ?_, ?_⟩
  · exact (θ_run Cert.WgradInIdeal.defs _ _).mono (fun r h c => ⟨(h c).1.trans (Cert.WgradInIdeal.Product.whole m c), (h c).2⟩)
      (Cert.WgradInIdeal.Value.run_blocks m g)
  · refine (θ_run Cert.GradInWIdeal.defs _ _).mono (fun r h c => ⟨(h c).1.trans ?_, (h c).2⟩) (Cert.GradInWIdeal.Product.run m' g')
    obtain ⟨e0, e1⟩ := hm c
    exact congrArg₂ Cert.WgradInIdeal.Product.prod e0 e1

theorem frame_GradInX : Cert.quiescent_GradInXIdeal := fun m ρ _ =>
  (θ_run Cert.GradInXIdeal.defs _ _).mono (fun r h => ⟨fun c => (h c).2, Idealize.ShloMosaic.sem_eq_zero_of_no_sems (by decide) r.2⟩)
    (Cert.GradInXIdeal.Value.run (F := Ideal) m ρ)

theorem algebraic_BwdDx : Cert.algebraic_BwdDxIdeal_GradInXIdeal := by
  intro m g m' g' _ hm
  refine ⟨fun c => Cert.BwdDxIdeal.Product.prod (m ((c.tc : Thread Cert.BwdDxIdeal.nD Cert.BwdDxIdeal.τ).loc Cert.BwdDxIdeal.main_arg0)) (m ((c.tc : Thread Cert.BwdDxIdeal.nD Cert.BwdDxIdeal.τ).loc Cert.BwdDxIdeal.main_arg1)) (m ((c.tc : Thread Cert.BwdDxIdeal.nD Cert.BwdDxIdeal.τ).loc Cert.BwdDxIdeal.main_arg2)), ?_, ?_⟩
  · exact (θ_run Cert.BwdDxIdeal.defs _ _).mono (fun r h c => ⟨(h c).1.trans (Cert.BwdDxIdeal.Product.whole m c), (h c).2⟩)
      (Cert.BwdDxIdeal.Value.run_blocks m g)
  · refine (θ_run Cert.GradInXIdeal.defs _ _).mono (fun r h c => ⟨(h c).1.trans ?_, (h c).2⟩) (Cert.GradInXIdeal.Product.run m' g')
    obtain ⟨e0, e1, e2⟩ := hm c
    exact congr (congrArg₂ Cert.BwdDxIdeal.Product.prod e0 e1) e2

theorem frame_GradDownA : Cert.quiescent_GradDownAIdeal := fun m ρ _ =>
  (θ_run Cert.GradDownAIdeal.defs _ _).mono (fun r h => ⟨fun c => (h c).2, Idealize.ShloMosaic.sem_eq_zero_of_no_sems (by decide) r.2⟩)
    (Cert.GradDownAIdeal.Value.run (F := Ideal) m ρ)

theorem algebraic_BwdDa : Cert.algebraic_BwdDaIdeal_GradDownAIdeal := by
  intro m g m' g' _ hm
  refine ⟨fun c => Cert.BwdDaIdeal.Product.prod (m ((c.tc : Thread Cert.BwdDaIdeal.nD Cert.BwdDaIdeal.τ).loc Cert.BwdDaIdeal.main_arg0)) (m ((c.tc : Thread Cert.BwdDaIdeal.nD Cert.BwdDaIdeal.τ).loc Cert.BwdDaIdeal.main_arg1)), ?_, ?_⟩
  · exact (θ_run Cert.BwdDaIdeal.defs _ _).mono (fun r h c => ⟨(h c).1.trans (Cert.BwdDaIdeal.Product.whole m c), (h c).2⟩)
      (Cert.BwdDaIdeal.Value.run_blocks m g)
  · refine (θ_run Cert.GradDownAIdeal.defs _ _).mono (fun r h c => ⟨(h c).1.trans ?_, (h c).2⟩) (Cert.GradDownAIdeal.Product.run m' g')
    obtain ⟨e0, e1⟩ := hm c
    exact congrArg₂ Cert.BwdDaIdeal.Product.prod e0 e1

theorem frame_GradDownW : Cert.quiescent_GradDownWIdeal := fun m ρ _ =>
  (θ_run Cert.GradDownWIdeal.defs _ _).mono (fun r h => ⟨fun c => (h c).2, Idealize.ShloMosaic.sem_eq_zero_of_no_sems (by decide) r.2⟩)
    (Cert.GradDownWIdeal.Value.run (F := Ideal) m ρ)

theorem algebraic_WgradDown : Cert.algebraic_WgradDownIdeal_GradDownWIdeal := by
  intro m g m' g' _ hm
  refine ⟨fun c => Cert.WgradDownIdeal.Product.prod (m ((c.tc : Thread Cert.WgradDownIdeal.nD Cert.WgradDownIdeal.τ).loc Cert.WgradDownIdeal.main_arg0)) (m ((c.tc : Thread Cert.WgradDownIdeal.nD Cert.WgradDownIdeal.τ).loc Cert.WgradDownIdeal.main_arg1)), ?_, ?_⟩
  · exact (θ_run Cert.WgradDownIdeal.defs _ _).mono (fun r h c => ⟨(h c).1.trans (Cert.WgradDownIdeal.Product.whole m c), (h c).2⟩)
      (Cert.WgradDownIdeal.Value.run_blocks m g)
  · refine (θ_run Cert.GradDownWIdeal.defs _ _).mono (fun r h c => ⟨(h c).1.trans ?_, (h c).2⟩) (Cert.GradDownWIdeal.Product.run m' g')
    obtain ⟨e0, e1⟩ := hm c
    exact congrArg₂ Cert.WgradDownIdeal.Product.prod e0 e1

theorem frame_GradOX : Cert.quiescent_GradOXIdeal := fun m ρ _ =>
  (θ_run Cert.GradOXIdeal.defs _ _).mono (fun r h => ⟨fun c => (h c).2, Idealize.ShloMosaic.sem_eq_zero_of_no_sems (by decide) r.2⟩)
    (Cert.GradOXIdeal.Value.run (F := Ideal) m ρ)

theorem algebraic_BwdDcat : Cert.algebraic_BwdDcatIdeal_GradOXIdeal := by
  intro m g m' g' _ hm
  refine ⟨fun c => Cert.BwdDcatIdeal.Product.prod (m ((c.tc : Thread Cert.BwdDcatIdeal.nD Cert.BwdDcatIdeal.τ).loc Cert.BwdDcatIdeal.main_arg0)) (m ((c.tc : Thread Cert.BwdDcatIdeal.nD Cert.BwdDcatIdeal.τ).loc Cert.BwdDcatIdeal.main_arg1)), ?_, ?_⟩
  · exact (θ_run Cert.BwdDcatIdeal.defs _ _).mono (fun r h c => ⟨(h c).1.trans (Cert.BwdDcatIdeal.Product.whole m c), (h c).2⟩)
      (Cert.BwdDcatIdeal.Value.run_blocks m g)
  · refine (θ_run Cert.GradOXIdeal.defs _ _).mono (fun r h c => ⟨(h c).1.trans ?_, (h c).2⟩) (Cert.GradOXIdeal.Product.run m' g')
    obtain ⟨e0, e1⟩ := hm c
    exact congrArg₂ Cert.BwdDcatIdeal.Product.prod e0 e1

theorem frame_GradOW : Cert.quiescent_GradOWIdeal := fun m ρ _ =>
  (θ_run Cert.GradOWIdeal.defs _ _).mono (fun r h => ⟨fun c => (h c).2, Idealize.ShloMosaic.sem_eq_zero_of_no_sems (by decide) r.2⟩)
    (Cert.GradOWIdeal.Value.run (F := Ideal) m ρ)

theorem algebraic_WgradO : Cert.algebraic_WgradOIdeal_GradOWIdeal := by
  intro m g m' g' _ hm
  refine ⟨fun c => Cert.WgradOIdeal.Product.prod (m ((c.tc : Thread Cert.WgradOIdeal.nD Cert.WgradOIdeal.τ).loc Cert.WgradOIdeal.main_arg0)) (m ((c.tc : Thread Cert.WgradOIdeal.nD Cert.WgradOIdeal.τ).loc Cert.WgradOIdeal.main_arg1)), ?_, ?_⟩
  · exact (θ_run Cert.WgradOIdeal.defs _ _).mono (fun r h c => ⟨(h c).1.trans (Cert.WgradOIdeal.Product.whole m c), (h c).2⟩)
      (Cert.WgradOIdeal.Value.run_blocks m g)
  · refine (θ_run Cert.GradOWIdeal.defs _ _).mono (fun r h c => ⟨(h c).1.trans ?_, (h c).2⟩) (Cert.GradOWIdeal.Product.run m' g')
    obtain ⟨e0, e1⟩ := hm c
    exact congrArg₂ Cert.WgradOIdeal.Product.prod e0 e1

end Cert.Proof

end
-- ==== Proof.Norm.lean ====
module

public import Idealize.ShloMosaic.Lib.Pipeline.ValueKit

/-!
# The layer norm of a row
-/

@[expose] public section

noncomputable section

namespace Cert.Norm

open Idealize.ShloMosaic

/-- The mean of a row. -/
def mean (f : Fin 1024 → EReal) : EReal := Ideal.div (∑ j, f j) (Ideal.ofBits .f32 0x44800000#32)

/-- The variance of a row. -/
def var (f : Fin 1024 → EReal) : EReal := mean fun j => (f j - mean f) * (f j - mean f)

/-- The reciprocal of a row's deviation. -/
def rstd (f : Fin 1024 → EReal) : EReal := Ideal.rsqrt (var f + Ideal.ofBits .f32 0x3727C5AC#32)

/-- A row, normalised. -/
def normed (f : Fin 1024 → EReal) (j : Fin 1024) : EReal := (f j - mean f) * rstd f

end Cert.Norm

end
-- ==== Proof.FwdO.lean ====
module

public import proofs.«01_k».proof.Proof.Gen.FwdOIdeal.Value
public import proofs.«01_k».proof.Proof.Gen.NormOIdeal.Run
public import proofs.«01_k».proof.Proof.Norm
public import Idealize.ShloMosaic.Lib.Pipeline.ValueKit
public import Idealize.ShloMosaic.Lib.Pipeline.ReadBack

/-!
# The output projection and the first layer norm
-/

@[expose] public section

set_option maxRecDepth 16384
set_option maxHeartbeats 1000000
noncomputable section

namespace Cert.FwdOIdeal.Product

open Idealize.ShloMosaic Idealize.ShloMosaic.TcCoe Idealize.SL.Sem Cert.FwdOIdeal Cert.FwdOIdeal.Gen

/-- The product and the scaled residual. -/
def prodZ (a : FVec Ideal S8256x1024 .bf16) (w : FVec Ideal S1024x1024 .bf16) (x : FVec Ideal S8256x1024 .f32) : FVec Ideal S8256x1024 .bf16 := fun i =>
  Ideal.ofBits .f32 0x3FB504F3#32 * x i + ∑ k : Fin 1024, a (ix2 (i 0) k) * w (ix2 k (i 1))

/-- Its rows, normalised, with the gain and the shift. -/
def prodY (a : FVec Ideal S8256x1024 .bf16) (w : FVec Ideal S1024x1024 .bf16) (x : FVec Ideal S8256x1024 .f32) (g b : FVec Ideal S1x1024 .f32) : FVec Ideal S8256x1024 .f32 := fun i =>
  Cert.Norm.normed (fun j => prodZ a w x (ix2 (i 0) j)) (i 1) * g (ix2 0 (i 1)) + b (ix2 0 (i 1))

/-- The same in the narrow dtype. -/
def prodB (a : FVec Ideal S8256x1024 .bf16) (w : FVec Ideal S1024x1024 .bf16) (x : FVec Ideal S8256x1024 .f32) (g b : FVec Ideal S1x1024 .f32) : FVec Ideal S8256x1024 .bf16 := prodY a w x g b

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)

variable (m : (ℓ : Loc nD τ sig) → Buf (Elt Ideal) ℓ) (c : Dev nD)

theorem whole_5 : (dats m 0 c).arrAt 5 cfg0.N = prodZ (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]; frame_out
  pointwise [k0_pay4, k0_pay1, prodZ]
  blk_point [iblk, V, at0 t, at1 t, at2 t, at3 t, at4 t, at5 t, at6 t, at7 t]

theorem whole_6 : (dats m 0 c).arrAt 6 cfg0.N = prodY (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]; frame_out
  pointwise [k0_pay2, k0_pay1, prodY, prodZ, Cert.Norm.normed, Cert.Norm.rstd, Cert.Norm.var, Cert.Norm.mean]
  blk_point [iblk, V, at0 t, at1 t, at2 t, at3 t, at4 t, at5 t, at6 t, at7 t]

theorem whole_7 : (dats m 0 c).arrAt 7 cfg0.N = prodB (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]; frame_out
  pointwise [k0_pay3, k0_pay2, k0_pay1, prodB, prodY, prodZ, Cert.Norm.normed, Cert.Norm.rstd, Cert.Norm.var, Cert.Norm.mean]
  blk_point [iblk, V, at0 t, at1 t, at2 t, at3 t, at4 t, at5 t, at6 t, at7 t]

end Cert.FwdOIdeal.Product

namespace Cert.NormOIdeal.Product

open Idealize.ShloMosaic Idealize.ShloMosaic.TcCoe Idealize.SL.Sem Cert.NormOIdeal Cert.NormOIdeal.Gen

/-- The reference leaves the same arrays. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = Cert.FwdOIdeal.Product.prodZ (m ((c.tc : Thread nD τ).loc main_arg0)) (m ((c.tc : Thread nD τ).loc main_arg1)) (m ((c.tc : Thread nD τ).loc main_arg2))
      ∧ r.2.mem ((c.tc : Thread nD τ).loc main_v27) = Cert.FwdOIdeal.Product.prodY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v29) = Cert.FwdOIdeal.Product.prodB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans (funext fun i => ?_), (h c).2.1.trans (funext fun i => ?_), (h c).2.2.1.trans (funext fun i => ?_), (h c).2.2.2⟩) (Value.run m ρ)
  all_goals
    clear h
    generalize m ((c.tc : Thread nD τ).loc main_arg0) = x0
    generalize m ((c.tc : Thread nD τ).loc main_arg1) = x1
    generalize m ((c.tc : Thread nD τ).loc main_arg2) = x2
    generalize m ((c.tc : Thread nD τ).loc main_arg3) = x3
    generalize m ((c.tc : Thread nD τ).loc main_arg4) = x4
    pointwise [Cert.FwdOIdeal.Product.prodB, Cert.FwdOIdeal.Product.prodY, Cert.FwdOIdeal.Product.prodZ, Cert.Norm.normed, Cert.Norm.rstd, Cert.Norm.var, Cert.Norm.mean]

end Cert.NormOIdeal.Product

end
-- ==== Proof.FwdDown.lean ====
module

public import proofs.«01_k».proof.Proof.Gen.FwdDownIdeal.Value
public import proofs.«01_k».proof.Proof.Gen.NormDownIdeal.Run
public import proofs.«01_k».proof.Proof.Norm
public import Idealize.ShloMosaic.Lib.Pipeline.ValueKit
public import Idealize.ShloMosaic.Lib.Pipeline.ReadBack

/-!
# The channel mixer's second product and the second layer norm
-/

@[expose] public section

set_option maxRecDepth 16384
set_option maxHeartbeats 1000000
noncomputable section

namespace Cert.FwdDownIdeal.Product

open Idealize.ShloMosaic Idealize.ShloMosaic.TcCoe Idealize.SL.Sem Cert.FwdDownIdeal Cert.FwdDownIdeal.Gen

/-- The product and the scaled residual. -/
def prodZ (a : FVec Ideal S8256x2816 .bf16) (w : FVec Ideal S2816x1024 .bf16) (x : FVec Ideal S8256x1024 .f32) : FVec Ideal S8256x1024 .bf16 := fun i =>
  Ideal.ofBits .f32 0x3FB504F3#32 * x i + ∑ k : Fin 2816, a (ix2 (i 0) k) * w (ix2 k (i 1))

/-- Its rows, normalised, with the gain and the shift. -/
def prodY (a : FVec Ideal S8256x2816 .bf16) (w : FVec Ideal S2816x1024 .bf16) (x : FVec Ideal S8256x1024 .f32) (g b : FVec Ideal S1x1024 .f32) : FVec Ideal S8256x1024 .f32 := fun i =>
  Cert.Norm.normed (fun j => prodZ a w x (ix2 (i 0) j)) (i 1) * g (ix2 0 (i 1)) + b (ix2 0 (i 1))

/-- The same in the narrow dtype. -/
def prodB (a : FVec Ideal S8256x2816 .bf16) (w : FVec Ideal S2816x1024 .bf16) (x : FVec Ideal S8256x1024 .f32) (g b : FVec Ideal S1x1024 .f32) : FVec Ideal S8256x1024 .bf16 := prodY a w x g b

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)

variable (m : (ℓ : Loc nD τ sig) → Buf (Elt Ideal) ℓ) (c : Dev nD)

theorem whole_5 : (dats m 0 c).arrAt 5 cfg0.N = prodZ (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]; frame_out
  pointwise [k0_pay4, k0_pay1, prodZ]
  blk_point [iblk, V, at0 t, at1 t, at2 t, at3 t, at4 t, at5 t, at6 t, at7 t]

theorem whole_6 : (dats m 0 c).arrAt 6 cfg0.N = prodY (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]; frame_out
  pointwise [k0_pay2, k0_pay1, prodY, prodZ, Cert.Norm.normed, Cert.Norm.rstd, Cert.Norm.var, Cert.Norm.mean]
  blk_point [iblk, V, at0 t, at1 t, at2 t, at3 t, at4 t, at5 t, at6 t, at7 t]

theorem whole_7 : (dats m 0 c).arrAt 7 cfg0.N = prodB (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]; frame_out
  pointwise [k0_pay3, k0_pay2, k0_pay1, prodB, prodY, prodZ, Cert.Norm.normed, Cert.Norm.rstd, Cert.Norm.var, Cert.Norm.mean]
  blk_point [iblk, V, at0 t, at1 t, at2 t, at3 t, at4 t, at5 t, at6 t, at7 t]

end Cert.FwdDownIdeal.Product

namespace Cert.NormDownIdeal.Product

open Idealize.ShloMosaic Idealize.ShloMosaic.TcCoe Idealize.SL.Sem Cert.NormDownIdeal Cert.NormDownIdeal.Gen

/-- The reference leaves the same arrays. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = Cert.FwdDownIdeal.Product.prodZ (m ((c.tc : Thread nD τ).loc main_arg0)) (m ((c.tc : Thread nD τ).loc main_arg1)) (m ((c.tc : Thread nD τ).loc main_arg2))
      ∧ r.2.mem ((c.tc : Thread nD τ).loc main_v27) = Cert.FwdDownIdeal.Product.prodY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v29) = Cert.FwdDownIdeal.Product.prodB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans (funext fun i => ?_), (h c).2.1.trans (funext fun i => ?_), (h c).2.2.1.trans (funext fun i => ?_), (h c).2.2.2⟩) (Value.run m ρ)
  all_goals
    clear h
    generalize m ((c.tc : Thread nD τ).loc main_arg0) = x0
    generalize m ((c.tc : Thread nD τ).loc main_arg1) = x1
    generalize m ((c.tc : Thread nD τ).loc main_arg2) = x2
    generalize m ((c.tc : Thread nD τ).loc main_arg3) = x3
    generalize m ((c.tc : Thread nD τ).loc main_arg4) = x4
    pointwise [Cert.FwdDownIdeal.Product.prodB, Cert.FwdDownIdeal.Product.prodY, Cert.FwdDownIdeal.Product.prodZ, Cert.Norm.normed, Cert.Norm.rstd, Cert.Norm.var, Cert.Norm.mean]

end Cert.NormDownIdeal.Product

end
-- ==== Proof.NormGrad.lean ====
module

public import proofs.«01_k».proof.Proof.Finite
public import proofs.«01_k».proof.Proof.Norm

/-!
# The gradient of the layer norm of a row

The derivative of the norm's lines against the closed form, for a row of real numbers.
-/

@[expose] public section

noncomputable section

namespace Cert.Norm

open Idealize.ShloMosaic Cert.Finite

theorem c1024 : Ideal.ofBits .f32 0x44800000#32 = ((1024 : ℝ) : EReal) := by
  simp [Ideal.ofBits, Ideal.ieee, -EReal.coe_mul]; norm_num

theorem c_two : Ideal.ofBits .f32 0x40000000#32 = ((2 : ℝ) : EReal) := by
  simp [Ideal.ofBits, Ideal.ieee, -EReal.coe_mul]; norm_num

theorem c_half : Ideal.ofBits .f32 0xBF000000#32 = ((-(1 / 2) : ℝ) : EReal) := by
  simp [Ideal.ofBits, Ideal.ieee, -EReal.coe_mul]; norm_num

theorem isP_ln_eps : IsP (Ideal.ofBits .f32 0x3727C5AC#32) := by
  refine ⟨_, ?_, by simp [Ideal.ofBits, Ideal.ieee, -EReal.coe_mul]; rfl⟩
  positivity

theorem mean_coe (F : Fin 1024 → ℝ) : mean (fun k => (F k : EReal)) = (((∑ k, F k) * (1 / 1024) : ℝ) : EReal) := by
  unfold mean
  rw [c1024, Ideal.div_coe (by norm_num), ← coe_sum, EReal.coe_mul]

/-- The closed form of the gradient at a row, `p` being the incoming gradient times the gain. -/
def grad (f p : Fin 1024 → EReal) (j : Fin 1024) : EReal :=
  rstd f * (p j - mean p - normed f j * mean fun k => p k * normed f k)

/-- The factor of the variance's gradient. -/
def gradVar (f p : Fin 1024 → EReal) : EReal :=
  ∑ _x : Fin 1, Ideal.div ((∑ k, (f k - mean f) * p k) * (Ideal.ofBits .f32 0xBF000000#32 * Ideal.div (rstd f) (var f + Ideal.ofBits .f32 0x3727C5AC#32)))
    (Ideal.ofBits .f32 0x44800000#32)

/-- The gradient that the derivative of the lines leaves. -/
def gradLines (f p : Fin 1024 → EReal) (j : Fin 1024) : EReal :=
  p j * rstd f + gradVar f p * (Ideal.ofBits .f32 0x40000000#32 * (f j - mean f))
    + ∑ _x : Fin 1, Ideal.div ((∑ k, -(p k * rstd f)) + ∑ k, -(gradVar f p * (Ideal.ofBits .f32 0x40000000#32 * (f k - mean f))))
      (Ideal.ofBits .f32 0x44800000#32)

theorem gradLines_eq (f p : Fin 1024 → EReal) (hf : ∀ k, IsR (f k)) (hp : ∀ k, IsR (p k)) (j : Fin 1024) : gradLines f p j = grad f p j := by
  choose F hF using hf
  choose P hP using hp
  obtain rfl : f = fun k => (F k : EReal) := funext hF
  obtain rfl : p = fun k => (P k : EReal) := funext hP
  obtain ⟨e, he, hE⟩ := isP_ln_eps
  set M : ℝ := (∑ k, F k) * (1 / 1024) with hM
  set V : ℝ := (∑ k, (F k - M) * (F k - M)) * (1 / 1024) with hV
  have hv : 0 ≤ V := mul_nonneg (Finset.sum_nonneg fun k _ => mul_self_nonneg _) (by norm_num)
  have hW : 0 < V + e := by linarith
  have m_eq : mean (fun k => (F k : EReal)) = (M : EReal) := mean_coe F
  have v_eq : var (fun k => (F k : EReal)) = (V : EReal) := by
    unfold var
    rw [m_eq]
    exact mean_coe fun k => (F k - M) * (F k - M)
  obtain ⟨R, hR, r_eq⟩ : ∃ R : ℝ, R * R = 1 / (V + e) ∧ rstd (fun k => (F k : EReal)) = (R : EReal) := by
    refine ⟨1 / Real.sqrt (V + e), ?_, ?_⟩
    · rw [div_mul_div_comm, Real.mul_self_sqrt hW.le, one_mul]
    · unfold rstd
      rw [v_eq, hE, ← EReal.coe_add, Ideal.rsqrt_coe, if_neg hW.not_gt, if_neg hW.ne', one_div]
  have n_eq : ∀ k, normed (fun k => (F k : EReal)) k = (((F k - M) * R : ℝ) : EReal) := fun k => by
    unfold normed
    rw [m_eq, r_eq, ← EReal.coe_sub, ← EReal.coe_mul]
  have q_eq : mean (fun k => (P k : EReal) * normed (fun k => (F k : EReal)) k) = (((∑ k, P k * ((F k - M) * R)) * (1 / 1024) : ℝ) : EReal) := by
    rw [← mean_coe]
    congr 1
    funext k
    rw [n_eq, ← EReal.coe_mul]
  have g_eq : gradVar (fun k => (F k : EReal)) (fun k => (P k : EReal))
      = ((((∑ k, (F k - M) * P k) * (-(1 / 2) * (R * (1 / (V + e))))) * (1 / 1024) : ℝ) : EReal) := by
    unfold gradVar
    rw [Fin.sum_univ_one, m_eq, r_eq, v_eq, hE, ← EReal.coe_add, c1024, c_half, Ideal.div_coe (by norm_num), Ideal.div_coe hW.ne']
    simp only [← EReal.coe_sub, ← EReal.coe_mul, ← coe_sum]
  have zero : ∑ k, (F k - M) = 0 := by
    rw [Finset.sum_sub_distrib, Finset.sum_const, Finset.card_univ, Fintype.card_fin, hM, nsmul_eq_mul]
    push_cast
    ring
  unfold gradLines grad
  rw [Fin.sum_univ_one, g_eq, q_eq, n_eq, m_eq, r_eq, mean_coe, c1024, c_two, Ideal.div_coe (by norm_num)]
  simp only [← EReal.coe_sub, ← EReal.coe_mul, ← EReal.coe_neg, ← coe_sum, ← EReal.coe_add]
  congr 1
  have s1 : ∑ k, -(P k * R) = -((∑ k, P k) * R) := by rw [Finset.sum_neg_distrib, Finset.sum_mul]
  have s2 : ∀ a : ℝ, ∑ k, -(a * (2 * (F k - M))) = 0 := fun a => by
    rw [Finset.sum_neg_distrib, ← Finset.mul_sum, ← Finset.mul_sum, zero]; simp
  have s3 : ∑ k, P k * ((F k - M) * R) = (∑ k, (F k - M) * P k) * R := by
    rw [Finset.sum_mul]; exact Finset.sum_congr rfl fun k _ => by ring
  rw [s1, s2, s3, ← hR]
  ring

end Cert.Norm

end
-- ==== Proof.LnBwd.lean ====
module

public import proofs.«01_k».proof.Proof.Gen.LnBwdIdeal.Value
public import proofs.«01_k».proof.Proof.Gen.GradNormIdeal.Run
public import proofs.«01_k».proof.Proof.NormGrad
public import Idealize.ShloMosaic.Lib.Pipeline.ValueKit
public import Idealize.ShloMosaic.Lib.Pipeline.ReadBack

/-!
# The gradient of the layer norm
-/

@[expose] public section

set_option maxRecDepth 16384
set_option maxHeartbeats 1000000
noncomputable section

namespace Cert.LnBwdIdeal.Product

open Idealize.ShloMosaic Idealize.ShloMosaic.TcCoe Idealize.SL.Sem Cert.LnBwdIdeal Cert.LnBwdIdeal.Gen

/-- The gradient of the argument. -/
def gradZ (z dy : FVec Ideal S8256x1024 .bf16) (g : FVec Ideal S1x1024 .f32) : FVec Ideal S8256x1024 .bf16 := fun i =>
  Cert.Norm.grad (fun k => z (ix2 (i 0) k)) (fun k => dy (ix2 (i 0) k) * g (ix2 0 k)) (i 1)

/-- The gradient of the gain. -/
def gradG (z dy : FVec Ideal S8256x1024 .bf16) : FVec Ideal S1x1024 .f32 := fun i =>
  ∑ w : Fin 8256, dy (ix2 w (i 1)) * Cert.Norm.normed (fun k => z (ix2 w k)) (i 1)

/-- The gradient of the shift. -/
def gradB (dy : FVec Ideal S8256x1024 .bf16) : FVec Ideal S1x1024 .f32 := fun i => ∑ w : Fin 8256, dy (ix2 w (i 1))

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)

variable (m : (ℓ : Loc nD τ sig) → Buf (Elt Ideal) ℓ) (c : Dev nD)

theorem points : cfg0.N = 12 := by decide +kernel

/-- The gradient's block of a point. -/
theorem out_3 (t : Fin cfg0.N) : (outsAt0 m c t.val t.isLt).1 = k0_pay1 (k0_pay10 (iblk m c 0 t) (iblk m c 1 t) (iblk m c 2 t)) (k0_pay11 (iblk m c 0 t)) := by
  by_cases h : t.val % 12 = 0
  · rw [outsAt0_A m c t h]; frame_out
  · rw [outsAt0_B m c t h]; frame_out

/-- The array of the argument's gradient after the run. -/
theorem whole_3 : (dats m 0 c).arrAt 3 cfg0.N = gradZ (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out_3]
  pointwise [k0_pay1, k0_pay10, k0_pay11, k0_pay9, k0_pay8, k0_pay7, k0_pay6, gradZ, Cert.Norm.grad, Cert.Norm.normed, Cert.Norm.rstd, Cert.Norm.var, Cert.Norm.mean]
  blk_point [iblk, V, at0 t, at1 t, at2 t, at3 t]

/-- A block's part of the gain's gradient. -/
def partG (Z Y : FVec Ideal S688x1024 .bf16) (l : Fin 1024) : EReal := ∑ r : Fin 688, Y (ix2 r l) * Cert.Norm.normed (fun k => Z (ix2 r k)) l

/-- A block's part of the shift's gradient. -/
def partB (Y : FVec Ideal S688x1024 .bf16) (l : Fin 1024) : EReal := ∑ r : Fin 688, Y (ix2 r l)

theorem pay2_at (Z Y : FVec Ideal S688x1024 .bf16) (X : FVec Ideal S1x1024 .f32) (l : Fin 1024) :
    k0_pay2 (k0_pay8 Z) (k0_pay9 Y) X (ix2 0 l) = X (ix2 0 l) + partG Z Y l := by
  pointwise [k0_pay2, k0_pay9, k0_pay8, k0_pay7, k0_pay6, partG, Cert.Norm.normed, Cert.Norm.rstd, Cert.Norm.var, Cert.Norm.mean]

theorem pay3_at (Y : FVec Ideal S688x1024 .bf16) (X : FVec Ideal S1x1024 .f32) (l : Fin 1024) :
    k0_pay3 (k0_pay9 Y) X (ix2 0 l) = X (ix2 0 l) + partB Y l := by
  pointwise [k0_pay3, k0_pay9, partB]

theorem pay4_at (l : Fin 1024) : k0_pay4 (F := Ideal) (ix2 0 l) = 0 := Ideal.ofBits_zero_f32
theorem pay5_at (l : Fin 1024) : k0_pay5 (F := Ideal) (ix2 0 l) = 0 := Ideal.ofBits_zero_f32

/-- A point's part of the gain's gradient. -/
def pG (q : Fin cfg0.N) (l : Fin 1024) : EReal := partG (iblk m c 0 q) (iblk m c 1 q) l

/-- A point's part of the shift's gradient. -/
def pB (q : Fin cfg0.N) (l : Fin 1024) : EReal := partB (iblk m c 1 q) l

/-- The parts that the results hold after a point: those of all the points so far. -/
theorem acc (n : ℕ) (hn : n < cfg0.N) (l : Fin 1024) :
    ((outsAt0 m c n hn).2.1 (ix2 0 l) : EReal) = (∑ q : Fin (n + 1), pG m c ⟨q.val, by omega⟩ l)
    ∧ ((outsAt0 m c n hn).2.2 (ix2 0 l) : EReal) = ∑ q : Fin (n + 1), pB m c ⟨q.val, by omega⟩ l := by
  induction n with
  | zero =>
    rw [outsAt0_A m c ⟨0, hn⟩ rfl]
    frame_out
    rw [pay2_at, pay3_at, pay4_at, pay5_at]
    exact ⟨(zero_add _).trans (Fin.sum_univ_one fun q : Fin 1 => pG m c ⟨q.val, by omega⟩ l).symm,
      (zero_add _).trans (Fin.sum_univ_one fun q : Fin 1 => pB m c ⟨q.val, by omega⟩ l).symm⟩
  | succ n ih =>
    have h12 := points
    obtain ⟨i1, i2⟩ := ih (by omega)
    rw [outsAt0_B m c ⟨n + 1, hn⟩ (by show ¬(n + 1) % 12 = 0; omega)]
    frame_out
    rw [pay2_at, pay3_at]
    exact ⟨(congrArg (· + pG m c ⟨n + 1, hn⟩ l) i1).trans (Fin.sum_univ_castSucc fun q : Fin (n + 2) => pG m c ⟨q.val, by omega⟩ l).symm,
      (congrArg (· + pB m c ⟨n + 1, hn⟩ l) i2).trans (Fin.sum_univ_castSucc fun q : Fin (n + 2) => pB m c ⟨q.val, by omega⟩ l).symm⟩

end Cert.LnBwdIdeal.Product

end
-- ==== Proof.LnSum.lean ====
module

public import proofs.«01_k».proof.Proof.LnBwd
public import proofs.«01_k».proof.Proof.NormGrad
public import Idealize.ShloMosaic.Lib.Pipeline.ValueKit
public import Idealize.ShloMosaic.Lib.Pipeline.ReadBack

/-!
# The gradient of the layer norm: the sums over the rows
-/

@[expose] public section

set_option maxRecDepth 16384
set_option maxHeartbeats 1000000
noncomputable section

namespace Cert.LnBwdIdeal.Product

open Idealize.ShloMosaic Idealize.ShloMosaic.TcCoe Idealize.SL.Sem Cert.LnBwdIdeal Cert.LnBwdIdeal.Gen

variable (m : (ℓ : Loc nD τ sig) → Buf (Elt Ideal) ℓ) (c : Dev nD)

/-- A row's part of the gain's gradient. -/
def tG (z dy : FVec Ideal S8256x1024 .bf16) (l : Fin 1024) (w : Fin 8256) : EReal := dy (ix2 w l) * Cert.Norm.normed (fun k => z (ix2 w k)) l

/-- A row's part of the shift's gradient. -/
def tB (dy : FVec Ideal S8256x1024 .bf16) (l : Fin 1024) (w : Fin 8256) : EReal := dy (ix2 w l)

theorem row_lt (q : Fin 12) (r : Fin 688) : q.val * 688 + r.val < 8256 := by omega

theorem pG_eq (t : Fin cfg0.N) (q : Fin 12) (h : t.val = q.val) (l : Fin 1024) : pG m c t l
    = ∑ r : Fin 688, tG (m ((c : Thread nD τ).loc main_arg0)) (m ((c : Thread nD τ).loc main_arg1)) l ⟨q.val * 688 + r.val, row_lt q r⟩ := by
  unfold pG partG
  refine Finset.sum_congr rfl fun r _ => ?_
  pointwise [tG, Cert.Norm.normed, Cert.Norm.rstd, Cert.Norm.var, Cert.Norm.mean]
  blk_point [iblk, V, at0 t, at1 t, h]

theorem pB_eq (t : Fin cfg0.N) (q : Fin 12) (h : t.val = q.val) (l : Fin 1024) : pB m c t l
    = ∑ r : Fin 688, tB (m ((c : Thread nD τ).loc main_arg1)) l ⟨q.val * 688 + r.val, row_lt q r⟩ := by
  unfold pB partB
  refine Finset.sum_congr rfl fun r _ => ?_
  unfold tB
  blk_point [iblk, V, at0 t, at1 t, h]

/-- The gain's gradient after the last point. -/
theorem accG (n : ℕ) (hn : n < cfg0.N) (h : n = 11) (l : Fin 1024) : ((outsAt0 m c n hn).2.1 (ix2 0 l) : EReal)
    = ∑ w : Fin 8256, tG (m ((c : Thread nD τ).loc main_arg0)) (m ((c : Thread nD τ).loc main_arg1)) l w := by
  subst h
  refine (acc m c 11 hn l).1.trans ((Finset.sum_congr rfl fun q _ => ?_).trans (Fin.sum_mul_add_fin 12 688 (tG (m ((c : Thread nD τ).loc main_arg0)) (m ((c : Thread nD τ).loc main_arg1)) l) rfl))
  exact pG_eq m c _ q rfl l

theorem accB (n : ℕ) (hn : n < cfg0.N) (h : n = 11) (l : Fin 1024) : ((outsAt0 m c n hn).2.2 (ix2 0 l) : EReal)
    = ∑ w : Fin 8256, tB (m ((c : Thread nD τ).loc main_arg1)) l w := by
  subst h
  refine (acc m c 11 hn l).2.trans ((Finset.sum_congr rfl fun q _ => ?_).trans (Fin.sum_mul_add_fin 12 688 (tB (m ((c : Thread nD τ).loc main_arg1)) l) rfl))
  exact pB_eq m c _ q rfl l

theorem row_idx (y : S1x1024.Idx) : y = ix2 0 (y 1) := funext fun a => by
  rcases a with ⟨_ | _ | _, ha⟩
  · exact Subsingleton.elim (α := Fin 1) _ _
  · rfl
  · exact absurd ha (Nat.not_lt.mpr (Nat.le_add_left _ _))

/-- The array of the gain's gradient after the run. -/
theorem whole_4 : (dats m 0 c).arrAt 4 cfg0.N = gradG (m ((c : Thread nD τ).loc main_arg0)) (m ((c : Thread nD τ).loc main_arg1)) := by
  refine (dats m 0 c).arrAt_eq_of_covers 4 _ (by decide +kernel) fun t hf y => ?_
  have ht : t.val % 12 = 11 := (flush0_4 t).mp hf
  have h11 : t.val = 11 := by have h1 : t.val < cfg0.N := t.isLt; have := points; omega
  blk_simp
  rw [after0_4]
  refine (congrArg (outsAt0 m c t.val t.isLt).2.1 (row_idx y)).trans ((accG m c t.val t.isLt h11 (y 1)).trans ?_)
  unfold tG gradG
  blk_point [at4 t]

/-- The array of the shift's gradient after the run. -/
theorem whole_5 : (dats m 0 c).arrAt 5 cfg0.N = gradB (m ((c : Thread nD τ).loc main_arg1)) := by
  refine (dats m 0 c).arrAt_eq_of_covers 5 _ (by decide +kernel) fun t hf y => ?_
  have ht : t.val % 12 = 11 := (flush0_5 t).mp hf
  have h11 : t.val = 11 := by have h1 : t.val < cfg0.N := t.isLt; have := points; omega
  blk_simp
  rw [after0_5]
  refine (congrArg (outsAt0 m c t.val t.isLt).2.2 (row_idx y)).trans ((accB m c t.val t.isLt h11 (y 1)).trans ?_)
  unfold tB gradB
  blk_point [at5 t]

end Cert.LnBwdIdeal.Product

end
-- ==== Proof.LnRef.lean ====
module

public import proofs.«01_k».proof.Proof.LnBwd
public import proofs.«01_k».proof.Proof.Gen.GradNormIdeal.Run
public import proofs.«01_k».proof.Proof.NormGrad
public import Idealize.ShloMosaic.Lib.Pipeline.ValueKit
public import Idealize.ShloMosaic.Lib.Pipeline.ReadBack

/-!
# The gradient of the layer norm: the reference
-/

@[expose] public section

set_option maxRecDepth 16384
set_option maxHeartbeats 1000000
noncomputable section

namespace Cert.GradNormIdeal.Product

open Idealize.ShloMosaic Idealize.ShloMosaic.TcCoe Idealize.SL.Sem Cert.GradNormIdeal Cert.GradNormIdeal.Gen

variable (m : (ℓ : Loc nD τ sig) → Buf (Elt Ideal) ℓ) (ρ : Dev nD → PrngReg)

/-- The gradient of the argument as the derivative of the lines leaves it. -/
def gradR (z dy : FVec Ideal S8256x1024 .bf16) (g : FVec Ideal S1x1024 .f32) : FVec Ideal S8256x1024 .bf16 := fun i =>
  Cert.Norm.gradLines (fun k => z (ix2 (i 0) k)) (fun k => dy (ix2 (i 0) k) * g (ix2 0 k)) (i 1)

/-- The reference's gradient of the argument. -/
theorem lines (c : Dev nD) (i : S8256x1024.Idx) : Value.res_main_v61 (F := Ideal) m c i
    = gradR (m ((c.tc : Thread nD τ).loc main_arg0)) (m ((c.tc : Thread nD τ).loc main_arg1)) (m ((c.tc : Thread nD τ).loc main_arg2)) i := by
  unfold Value.res_main_v61
  generalize m ((c.tc : Thread nD τ).loc main_arg0) = x
  generalize m ((c.tc : Thread nD τ).loc main_arg1) = y
  generalize m ((c.tc : Thread nD τ).loc main_arg2) = g
  pointwise [gradR, Cert.Norm.gradLines, Cert.Norm.gradVar, Cert.Norm.rstd, Cert.Norm.var, Cert.Norm.mean]

theorem gain : θ_run defs (onTc (τ := τ) (main (F := Ideal))) ⟨m, fun _ => 0, ρ⟩ fun r => ∀ c : Dev nD,
      r.2.mem ((c.tc : Thread nD τ).loc main_v61) = Value.res_main_v61 (F := Ideal) m c
      ∧ r.2.mem ((c.tc : Thread nD τ).loc main_v34) = Cert.LnBwdIdeal.Product.gradG (m ((c.tc : Thread nD τ).loc main_arg0)) (m ((c.tc : Thread nD τ).loc main_arg1))
      ∧ r.2.mem ((c.tc : Thread nD τ).loc main_v31) = Cert.LnBwdIdeal.Product.gradB (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1, (h c).2.1.trans (funext fun i => ?_), (h c).2.2.1.trans (funext fun i => ?_), (h c).2.2.2⟩) (Value.run m ρ)
  · clear h
    generalize m ((c.tc : Thread nD τ).loc main_arg0) = x
    generalize m ((c.tc : Thread nD τ).loc main_arg1) = y
    pointwise [Cert.LnBwdIdeal.Product.gradG, Cert.Norm.normed, Cert.Norm.rstd, Cert.Norm.var, Cert.Norm.mean]
    exact Finset.sum_congr rfl fun w _ => mul_comm _ _
  · clear h
    generalize m ((c.tc : Thread nD τ).loc main_arg1) = y
    pointwise [Cert.LnBwdIdeal.Product.gradB]

end Cert.GradNormIdeal.Product

end
-- ==== Proof.NormCalls.lean ====
module

public import proofs.«01_k».proof.Defs
public import proofs.«01_k».proof.Proof.Gen.FwdO
public import proofs.«01_k».proof.Proof.Gen.FwdO.Frame
public import proofs.«01_k».proof.Proof.Gen.FwdOIdeal
public import proofs.«01_k».proof.Proof.Gen.FwdOIdeal.Frame
public import proofs.«01_k».proof.Proof.Gen.NormOIdeal
public import proofs.«01_k».proof.Proof.Gen.FwdDown
public import proofs.«01_k».proof.Proof.Gen.FwdDown.Frame
public import proofs.«01_k».proof.Proof.Gen.FwdDownIdeal
public import proofs.«01_k».proof.Proof.Gen.FwdDownIdeal.Frame
public import proofs.«01_k».proof.Proof.Gen.NormDownIdeal
public import proofs.«01_k».proof.Proof.Gen.LnBwd
public import proofs.«01_k».proof.Proof.Gen.LnBwd.Frame
public import proofs.«01_k».proof.Proof.Gen.LnBwdIdeal
public import proofs.«01_k».proof.Proof.Gen.LnBwdIdeal.Frame
public import proofs.«01_k».proof.Proof.Gen.GradNormIdeal
public import proofs.«01_k».proof.Proof.Gen.Pre_tame
public import proofs.«01_k».proof.Proof.FwdO
public import proofs.«01_k».proof.Proof.FwdDown
public import proofs.«01_k».proof.Proof.LnSum
public import proofs.«01_k».proof.Proof.LnRef
public import proofs.«01_k».proof.Proof.Finite

/-!
# The layer norm calls: frames and values

The two products that end in a layer norm, and the layer norm's gradient, run as they were written and leave what the
reference's lines leave.
-/

@[expose] public section

noncomputable section

namespace Cert.Proof

open Idealize.ShloMosaic Idealize.SL.Sem Cert.Finite

theorem frame_NormO : Cert.quiescent_NormOIdeal := fun m ρ _ =>
  (θ_run Cert.NormOIdeal.defs _ _).mono (fun r h => ⟨fun c => (h c).2.2.2, Idealize.ShloMosaic.sem_eq_zero_of_no_sems (by decide) r.2⟩)
    (Cert.NormOIdeal.Value.run (F := Ideal) m ρ)

theorem algebraic_FwdO : Cert.algebraic_FwdOIdeal_NormOIdeal := by
  intro m g m' g' _ hm
  refine ⟨fun c => Cert.FwdOIdeal.Product.prodZ (m ((c.tc : Thread Cert.FwdOIdeal.nD Cert.FwdOIdeal.τ).loc Cert.FwdOIdeal.main_arg0)) (m ((c.tc : Thread Cert.FwdOIdeal.nD Cert.FwdOIdeal.τ).loc Cert.FwdOIdeal.main_arg1)) (m ((c.tc : Thread Cert.FwdOIdeal.nD Cert.FwdOIdeal.τ).loc Cert.FwdOIdeal.main_arg2)),
    fun c => Cert.FwdOIdeal.Product.prodY (m ((c.tc : Thread Cert.FwdOIdeal.nD Cert.FwdOIdeal.τ).loc Cert.FwdOIdeal.main_arg0)) (m ((c.tc : Thread Cert.FwdOIdeal.nD Cert.FwdOIdeal.τ).loc Cert.FwdOIdeal.main_arg1)) (m ((c.tc : Thread Cert.FwdOIdeal.nD Cert.FwdOIdeal.τ).loc Cert.FwdOIdeal.main_arg2)) (m ((c.tc : Thread Cert.FwdOIdeal.nD Cert.FwdOIdeal.τ).loc Cert.FwdOIdeal.main_arg3)) (m ((c.tc : Thread Cert.FwdOIdeal.nD Cert.FwdOIdeal.τ).loc Cert.FwdOIdeal.main_arg4)),
    fun c => Cert.FwdOIdeal.Product.prodB (m ((c.tc : Thread Cert.FwdOIdeal.nD Cert.FwdOIdeal.τ).loc Cert.FwdOIdeal.main_arg0)) (m ((c.tc : Thread Cert.FwdOIdeal.nD Cert.FwdOIdeal.τ).loc Cert.FwdOIdeal.main_arg1)) (m ((c.tc : Thread Cert.FwdOIdeal.nD Cert.FwdOIdeal.τ).loc Cert.FwdOIdeal.main_arg2)) (m ((c.tc : Thread Cert.FwdOIdeal.nD Cert.FwdOIdeal.τ).loc Cert.FwdOIdeal.main_arg3)) (m ((c.tc : Thread Cert.FwdOIdeal.nD Cert.FwdOIdeal.τ).loc Cert.FwdOIdeal.main_arg4)), ?_, ?_⟩
  · exact (θ_run Cert.FwdOIdeal.defs _ _).mono (fun r h c => ⟨(h c).1.trans (Cert.FwdOIdeal.Product.whole_5 m c), (h c).2.1.trans (Cert.FwdOIdeal.Product.whole_6 m c),
        (h c).2.2.1.trans (Cert.FwdOIdeal.Product.whole_7 m c), (h c).2.2.2⟩)
      (Cert.FwdOIdeal.Value.run_blocks m g)
  · refine (θ_run Cert.NormOIdeal.defs _ _).mono (fun r h c => ⟨(h c).1.trans ?_, (h c).2.1.trans ?_, (h c).2.2.1.trans ?_, (h c).2.2.2⟩)
      (Cert.NormOIdeal.Product.run m' g')
    all_goals obtain ⟨e0, e1, e2, e3, e4⟩ := hm c
    · exact congr (congrArg₂ Cert.FwdOIdeal.Product.prodZ e0 e1) e2
    · exact congr (congr (congr (congrArg₂ Cert.FwdOIdeal.Product.prodY e0 e1) e2) e3) e4
    · exact congr (congr (congr (congrArg₂ Cert.FwdOIdeal.Product.prodB e0 e1) e2) e3) e4

theorem frame_NormDown : Cert.quiescent_NormDownIdeal := fun m ρ _ =>
  (θ_run Cert.NormDownIdeal.defs _ _).mono (fun r h => ⟨fun c => (h c).2.2.2, Idealize.ShloMosaic.sem_eq_zero_of_no_sems (by decide) r.2⟩)
    (Cert.NormDownIdeal.Value.run (F := Ideal) m ρ)

theorem algebraic_FwdDown : Cert.algebraic_FwdDownIdeal_NormDownIdeal := by
  intro m g m' g' _ hm
  refine ⟨fun c => Cert.FwdDownIdeal.Product.prodZ (m ((c.tc : Thread Cert.FwdDownIdeal.nD Cert.FwdDownIdeal.τ).loc Cert.FwdDownIdeal.main_arg0)) (m ((c.tc : Thread Cert.FwdDownIdeal.nD Cert.FwdDownIdeal.τ).loc Cert.FwdDownIdeal.main_arg1)) (m ((c.tc : Thread Cert.FwdDownIdeal.nD Cert.FwdDownIdeal.τ).loc Cert.FwdDownIdeal.main_arg2)),
    fun c => Cert.FwdDownIdeal.Product.prodY (m ((c.tc : Thread Cert.FwdDownIdeal.nD Cert.FwdDownIdeal.τ).loc Cert.FwdDownIdeal.main_arg0)) (m ((c.tc : Thread Cert.FwdDownIdeal.nD Cert.FwdDownIdeal.τ).loc Cert.FwdDownIdeal.main_arg1)) (m ((c.tc : Thread Cert.FwdDownIdeal.nD Cert.FwdDownIdeal.τ).loc Cert.FwdDownIdeal.main_arg2)) (m ((c.tc : Thread Cert.FwdDownIdeal.nD Cert.FwdDownIdeal.τ).loc Cert.FwdDownIdeal.main_arg3)) (m ((c.tc : Thread Cert.FwdDownIdeal.nD Cert.FwdDownIdeal.τ).loc Cert.FwdDownIdeal.main_arg4)),
    fun c => Cert.FwdDownIdeal.Product.prodB (m ((c.tc : Thread Cert.FwdDownIdeal.nD Cert.FwdDownIdeal.τ).loc Cert.FwdDownIdeal.main_arg0)) (m ((c.tc : Thread Cert.FwdDownIdeal.nD Cert.FwdDownIdeal.τ).loc Cert.FwdDownIdeal.main_arg1)) (m ((c.tc : Thread Cert.FwdDownIdeal.nD Cert.FwdDownIdeal.τ).loc Cert.FwdDownIdeal.main_arg2)) (m ((c.tc : Thread Cert.FwdDownIdeal.nD Cert.FwdDownIdeal.τ).loc Cert.FwdDownIdeal.main_arg3)) (m ((c.tc : Thread Cert.FwdDownIdeal.nD Cert.FwdDownIdeal.τ).loc Cert.FwdDownIdeal.main_arg4)), ?_, ?_⟩
  · exact (θ_run Cert.FwdDownIdeal.defs _ _).mono (fun r h c => ⟨(h c).1.trans (Cert.FwdDownIdeal.Product.whole_5 m c), (h c).2.1.trans (Cert.FwdDownIdeal.Product.whole_6 m c),
        (h c).2.2.1.trans (Cert.FwdDownIdeal.Product.whole_7 m c), (h c).2.2.2⟩)
      (Cert.FwdDownIdeal.Value.run_blocks m g)
  · refine (θ_run Cert.NormDownIdeal.defs _ _).mono (fun r h c => ⟨(h c).1.trans ?_, (h c).2.1.trans ?_, (h c).2.2.1.trans ?_, (h c).2.2.2⟩)
      (Cert.NormDownIdeal.Product.run m' g')
    all_goals obtain ⟨e0, e1, e2, e3, e4⟩ := hm c
    · exact congr (congrArg₂ Cert.FwdDownIdeal.Product.prodZ e0 e1) e2
    · exact congr (congr (congr (congrArg₂ Cert.FwdDownIdeal.Product.prodY e0 e1) e2) e3) e4
    · exact congr (congr (congr (congrArg₂ Cert.FwdDownIdeal.Product.prodB e0 e1) e2) e3) e4

theorem frame_GradNorm : Cert.quiescent_GradNormIdeal := fun m ρ _ =>
  (θ_run Cert.GradNormIdeal.defs _ _).mono (fun r h => ⟨fun c => (h c).2.2.2, Idealize.ShloMosaic.sem_eq_zero_of_no_sems (by decide) r.2⟩)
    (Cert.GradNormIdeal.Value.run (F := Ideal) m ρ)

/-- The precondition `tame` says that the three arguments are real numbers. -/
theorem of_tame (x0 x1 : FVec Ideal Cert.Pre_tame.S8256x1024 .bf16) (x2 : FVec Ideal Cert.Pre_tame.S1x1024 .f32)
    (h : Cert.Pre_tame.fn (F := Ideal) x0 x1 x2 = fun _ => 1#1) : (∀ i, IsR (x0 i)) ∧ (∀ i, IsR (x1 i)) ∧ (∀ i, IsR (x2 i)) := by
  have h' := congrFun h (fun a => a.elim0)
  unfold Cert.Pre_tame.fn at h'
  haveI : Subsingleton Cert.Pre_tame.S_.Idx := ⟨fun a b => funext fun k => k.elim0⟩
  obtain ⟨h12, h3⟩ := IntOp.andi_eq_one.1 h'
  obtain ⟨h1, h2⟩ := IntOp.andi_eq_one.1 h12
  refine ⟨fun i => isR_of_cmp ?_, fun i => isR_of_cmp ?_, fun i => isR_of_cmp ?_⟩
  · rw [← ofBits_top]; exact Host.reduce_andi_all _ _ _ _ _ h1 i
  · rw [← ofBits_top]; exact Host.reduce_andi_all _ _ _ _ _ h2 i
  · rw [← ofBits_top]; exact Host.reduce_andi_all _ _ _ _ _ h3 i

/-- The derivative of the lines is the closed form at real arguments. -/
theorem gradR_eq (z dy : FVec Ideal Cert.LnBwdIdeal.S8256x1024 .bf16) (g : FVec Ideal Cert.LnBwdIdeal.S1x1024 .f32)
    (hz : ∀ i, IsR (z i)) (hy : ∀ i, IsR (dy i)) (hg : ∀ i, IsR (g i)) :
    Cert.GradNormIdeal.Product.gradR z dy g = Cert.LnBwdIdeal.Product.gradZ z dy g := funext fun i =>
  Cert.Norm.gradLines_eq _ _ (fun _ => hz _) (fun _ => (hy _).mul (hg _)) _

theorem algebraic_LnBwd : Cert.algebraic_LnBwdIdeal_GradNormIdeal_pre_tame := by
  intro m g m' g' hp hm
  refine ⟨fun c => Cert.LnBwdIdeal.Product.gradZ (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)),
    fun c => Cert.LnBwdIdeal.Product.gradG (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)),
    fun c => Cert.LnBwdIdeal.Product.gradB (m ((c.tc : Thread Cert.LnBwdIdeal.nD Cert.LnBwdIdeal.τ).loc Cert.LnBwdIdeal.main_arg1)), ?_, ?_⟩
  · exact (θ_run Cert.LnBwdIdeal.defs _ _).mono (fun r h c => ⟨(h c).1.trans (Cert.LnBwdIdeal.Product.whole_3 m c), (h c).2.1.trans (Cert.LnBwdIdeal.Product.whole_4 m c),
        (h c).2.2.1.trans (Cert.LnBwdIdeal.Product.whole_5 m c), (h c).2.2.2⟩)
      (Cert.LnBwdIdeal.Value.run_blocks m g)
  · refine (θ_run Cert.GradNormIdeal.defs _ _).mono (fun r h c => ⟨(h c).1.trans ?_, (h c).2.1.trans ?_, (h c).2.2.1.trans ?_, (h c).2.2.2⟩)
      (Cert.GradNormIdeal.Product.gain m' g')
    all_goals obtain ⟨e0, e1, e2⟩ := hm c
    · obtain ⟨h0, h1, h2⟩ := of_tame _ _ _ (hp c)
      refine (funext fun i => Cert.GradNormIdeal.Product.lines m' c i).trans ?_
      refine (congr (congrArg₂ Cert.GradNormIdeal.Product.gradR e0 e1) e2).trans ?_
      exact gradR_eq _ _ _ h0 h1 h2
    · exact congrArg₂ Cert.LnBwdIdeal.Product.gradG e0 e1
    · exact congrArg Cert.LnBwdIdeal.Product.gradB e1

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_regular
public import proofs.«01_k».proof.Proof.Gen.On_written
public import proofs.«01_k».proof.Proof.Shapes
public import proofs.«01_k».proof.Proof.Grid
public import proofs.«01_k».proof.Proof.Same
public import proofs.«01_k».proof.Proof.Values
public import proofs.«01_k».proof.Proof.Gen.WgradUp
public import proofs.«01_k».proof.Proof.Gen.WgradUp.Frame
public import proofs.«01_k».proof.Proof.Gen.WgradUpIdeal
public import proofs.«01_k».proof.Proof.Gen.WgradUpIdeal.Frame
public import proofs.«01_k».proof.Proof.Gen.WgradUpIdeal.Value
public import proofs.«01_k».proof.Proof.Gen.GradUpWIdeal
public import proofs.«01_k».proof.Proof.Gen.GradUpWIdeal.Run
public import proofs.«01_k».proof.Proof.Gen.BwdDx1
public import proofs.«01_k».proof.Proof.Gen.BwdDx1.Frame
public import proofs.«01_k».proof.Proof.Gen.BwdDx1Ideal
public import proofs.«01_k».proof.Proof.Gen.BwdDx1Ideal.Frame
public import proofs.«01_k».proof.Proof.Gen.BwdDx1Ideal.Value
public import proofs.«01_k».proof.Proof.Gen.GradUpXIdeal
public import proofs.«01_k».proof.Proof.Gen.GradUpXIdeal.Run
public import proofs.«01_k».proof.Proof.Gen.FwdUp
public import proofs.«01_k».proof.Proof.Gen.FwdUp.Frame
public import proofs.«01_k».proof.Proof.Gen.FwdUpIdeal
public import proofs.«01_k».proof.Proof.Gen.FwdUpIdeal.Frame
public import proofs.«01_k».proof.Proof.Gen.FwdUpIdeal.Value
public import proofs.«01_k».proof.Proof.Gen.ProjUpIdeal
public import proofs.«01_k».proof.Proof.Gen.ProjUpIdeal.Run
public import proofs.«01_k».proof.Proof.Gen.FwdIn
public import proofs.«01_k».proof.Proof.Gen.FwdIn.Frame
public import proofs.«01_k».proof.Proof.Gen.FwdInIdeal
public import proofs.«01_k».proof.Proof.Gen.FwdInIdeal.Frame
public import proofs.«01_k».proof.Proof.Gen.FwdInIdeal.Value
public import proofs.«01_k».proof.Proof.Gen.ProjInIdeal
public import proofs.«01_k».proof.Proof.Gen.ProjInIdeal.Run
public import proofs.«01_k».proof.Proof.Gen.WgradIn
public import proofs.«01_k».proof.Proof.Gen.WgradIn.Frame
public import proofs.«01_k».proof.Proof.Gen.WgradInIdeal
public import proofs.«01_k».proof.Proof.Gen.WgradInIdeal.Frame
public import proofs.«01_k».proof.Proof.Gen.WgradInIdeal.Value
public import proofs.«01_k».proof.Proof.Gen.GradInWIdeal
public import proofs.«01_k».proof.Proof.Gen.GradInWIdeal.Run
public import proofs.«01_k».proof.Proof.Gen.BwdDx
public import proofs.«01_k».proof.Proof.Gen.BwdDx.Frame
public import proofs.«01_k».proof.Proof.Gen.BwdDxIdeal
public import proofs.«01_k».proof.Proof.Gen.BwdDxIdeal.Frame
public import proofs.«01_k».proof.Proof.Gen.BwdDxIdeal.Value
public import proofs.«01_k».proof.Proof.Gen.GradInXIdeal
public import proofs.«01_k».proof.Proof.Gen.GradInXIdeal.Run
public import proofs.«01_k».proof.Proof.Gen.BwdDa
public import proofs.«01_k».proof.Proof.Gen.BwdDa.Frame
public import proofs.«01_k».proof.Proof.Gen.BwdDaIdeal
public import proofs.«01_k».proof.Proof.Gen.BwdDaIdeal.Frame
public import proofs.«01_k».proof.Proof.Gen.BwdDaIdeal.Value
public import proofs.«01_k».proof.Proof.Gen.GradDownAIdeal
public import proofs.«01_k».proof.Proof.Gen.GradDownAIdeal.Run
public import proofs.«01_k».proof.Proof.Gen.WgradDown
public import proofs.«01_k».proof.Proof.Gen.WgradDown.Frame
public import proofs.«01_k».proof.Proof.Gen.WgradDownIdeal
public import proofs.«01_k».proof.Proof.Gen.WgradDownIdeal.Frame
public import proofs.«01_k».proof.Proof.Gen.WgradDownIdeal.Value
public import proofs.«01_k».proof.Proof.Gen.GradDownWIdeal
public import proofs.«01_k».proof.Proof.Gen.GradDownWIdeal.Run
public import proofs.«01_k».proof.Proof.Gen.BwdDcat
public import proofs.«01_k».proof.Proof.Gen.BwdDcat.Frame
public import proofs.«01_k».proof.Proof.Gen.BwdDcatIdeal
public import proofs.«01_k».proof.Proof.Gen.BwdDcatIdeal.Frame
public import proofs.«01_k».proof.Proof.Gen.BwdDcatIdeal.Value
public import proofs.«01_k».proof.Proof.Gen.GradOXIdeal
public import proofs.«01_k».proof.Proof.Gen.GradOXIdeal.Run
public import proofs.«01_k».proof.Proof.Gen.WgradO
public import proofs.«01_k».proof.Proof.Gen.WgradO.Frame
public import proofs.«01_k».proof.Proof.Gen.WgradOIdeal
public import proofs.«01_k».proof.Proof.Gen.WgradOIdeal.Frame
public import proofs.«01_k».proof.Proof.Gen.WgradOIdeal.Value
public import proofs.«01_k».proof.Proof.Gen.GradOWIdeal
public import proofs.«01_k».proof.Proof.Gen.GradOWIdeal.Run
public import proofs.«01_k».proof.Proof.Gen.FwdO
public import proofs.«01_k».proof.Proof.Gen.FwdO.Frame
public import proofs.«01_k».proof.Proof.Gen.FwdOIdeal
public import proofs.«01_k».proof.Proof.Gen.FwdOIdeal.Frame
public import proofs.«01_k».proof.Proof.Gen.FwdOIdeal.Value
public import proofs.«01_k».proof.Proof.Gen.NormOIdeal
public import proofs.«01_k».proof.Proof.Gen.NormOIdeal.Run
public import proofs.«01_k».proof.Proof.Gen.NormOIdeal.Read
public import proofs.«01_k».proof.Proof.Gen.FwdDown
public import proofs.«01_k».proof.Proof.Gen.FwdDown.Frame
public import proofs.«01_k».proof.Proof.Gen.FwdDownIdeal
public import proofs.«01_k».proof.Proof.Gen.FwdDownIdeal.Frame
public import proofs.«01_k».proof.Proof.Gen.FwdDownIdeal.Value
public import proofs.«01_k».proof.Proof.Gen.NormDownIdeal
public import proofs.«01_k».proof.Proof.Gen.NormDownIdeal.Run
public import proofs.«01_k».proof.Proof.Gen.NormDownIdeal.Read
public import proofs.«01_k».proof.Proof.Gen.LnBwd
public import proofs.«01_k».proof.Proof.Gen.LnBwd.Frame
public import proofs.«01_k».proof.Proof.Gen.LnBwdIdeal
public import proofs.«01_k».proof.Proof.Gen.LnBwdIdeal.Frame
public import proofs.«01_k».proof.Proof.Gen.LnBwdIdeal.Value
public import proofs.«01_k».proof.Proof.Gen.GradNormIdeal
public import proofs.«01_k».proof.Proof.Gen.GradNormIdeal.Run
public import proofs.«01_k».proof.Proof.Gen.GradNormIdeal.Read
public import proofs.«01_k».proof.Proof.Gen.Pre_tame
public import proofs.«01_k».proof.Proof.Products
public import proofs.«01_k».proof.Proof.NormCalls
public import Idealize.ShloMosaic.Adequacy
public import Idealize.ShloMosaic.Init

@[expose] public section

noncomputable section

namespace Cert.Proof

open Idealize.ShloMosaic Idealize.SL.Sem

/-- The kernel at the bits: the run of the same program over any numbers, taken at the bits. -/
theorem frame_kernel : Cert.quiescent_Kernel := by
  intro m ρ _
  rw [Cert.Same.defs_eq, Cert.Same.main_eq]
  exact (θ_run Cert.KernelIdeal.defs _ _).mono (fun _ h => h) (Cert.KernelIdeal.Hgrn.frame_all (F := Bits) m ρ)

/-- The kernel over the extended reals. -/
theorem frame_ideal : Cert.quiescent_KernelIdeal := fun m ρ _ => Cert.KernelIdeal.Hgrn.frame_all m ρ

/-- The reference over the extended reals. -/
theorem frame_reference : Cert.quiescent_ReferenceIdeal := by
  intro m ρ _
  exact (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts,
    Cert.WgradUp.Gen.facts, Cert.WgradUpIdeal.Gen.facts, Cert.GradUpWIdeal.Gen.facts,
    Cert.BwdDx1.Gen.facts, Cert.BwdDx1Ideal.Gen.facts, Cert.GradUpXIdeal.Gen.facts,
    Cert.FwdUp.Gen.facts, Cert.FwdUpIdeal.Gen.facts, Cert.ProjUpIdeal.Gen.facts,
    Cert.FwdIn.Gen.facts, Cert.FwdInIdeal.Gen.facts, Cert.ProjInIdeal.Gen.facts,
    Cert.WgradIn.Gen.facts, Cert.WgradInIdeal.Gen.facts, Cert.GradInWIdeal.Gen.facts,
    Cert.BwdDx.Gen.facts, Cert.BwdDxIdeal.Gen.facts, Cert.GradInXIdeal.Gen.facts,
    Cert.BwdDa.Gen.facts, Cert.BwdDaIdeal.Gen.facts, Cert.GradDownAIdeal.Gen.facts,
    Cert.WgradDown.Gen.facts, Cert.WgradDownIdeal.Gen.facts, Cert.GradDownWIdeal.Gen.facts,
    Cert.BwdDcat.Gen.facts, Cert.BwdDcatIdeal.Gen.facts, Cert.GradOXIdeal.Gen.facts,
    Cert.WgradO.Gen.facts, Cert.WgradOIdeal.Gen.facts, Cert.GradOWIdeal.Gen.facts,
    Cert.FwdO.Gen.facts, Cert.FwdOIdeal.Gen.facts, Cert.NormOIdeal.Gen.facts,
    Cert.FwdDown.Gen.facts, Cert.FwdDownIdeal.Gen.facts, Cert.NormDownIdeal.Gen.facts,
    Cert.LnBwd.Gen.facts, Cert.LnBwdIdeal.Gen.facts, Cert.GradNormIdeal.Gen.facts,
    Cert.Pre_off_floor.Shapes.facts, Cert.Pre_regular.Gen.facts, Cert.Pre_tame.Gen.facts, Cert.On_written.Gen.facts, Cert.On_but_forget.Shapes.facts,
    frame_kernel, frame_ideal, fun m ρ _ => frame_ideal m ρ trivial, fun m ρ _ => frame_ideal m ρ trivial,
    frame_reference, fun m ρ _ => frame_reference m ρ trivial, fun m ρ _ => frame_reference m ρ trivial,
    fun m ρ _ => Cert.WgradUp.Gen.frame m ρ, fun m ρ _ => Cert.WgradUpIdeal.Gen.frame m ρ, frame_GradUpW,
    fun m ρ _ => Cert.BwdDx1.Gen.frame m ρ, fun m ρ _ => Cert.BwdDx1Ideal.Gen.frame m ρ, frame_GradUpX,
    fun m ρ _ => Cert.FwdUp.Gen.frame m ρ, fun m ρ _ => Cert.FwdUpIdeal.Gen.frame m ρ, frame_ProjUp,
    fun m ρ _ => Cert.FwdIn.Gen.frame m ρ, fun m ρ _ => Cert.FwdInIdeal.Gen.frame m ρ, frame_ProjIn,
    fun m ρ _ => Cert.WgradIn.Gen.frame m ρ, fun m ρ _ => Cert.WgradInIdeal.Gen.frame m ρ, frame_GradInW,
    fun m ρ _ => Cert.BwdDx.Gen.frame m ρ, fun m ρ _ => Cert.BwdDxIdeal.Gen.frame m ρ, frame_GradInX,
    fun m ρ _ => Cert.BwdDa.Gen.frame m ρ, fun m ρ _ => Cert.BwdDaIdeal.Gen.frame m ρ, frame_GradDownA,
    fun m ρ _ => Cert.WgradDown.Gen.frame m ρ, fun m ρ _ => Cert.WgradDownIdeal.Gen.frame m ρ, frame_GradDownW,
    fun m ρ _ => Cert.BwdDcat.Gen.frame m ρ, fun m ρ _ => Cert.BwdDcatIdeal.Gen.frame m ρ, frame_GradOX,
    fun m ρ _ => Cert.WgradO.Gen.frame m ρ, fun m ρ _ => Cert.WgradOIdeal.Gen.frame m ρ, frame_GradOW,
    fun m ρ _ => Cert.FwdO.Gen.frame m ρ, fun m ρ _ => Cert.FwdOIdeal.Gen.frame m ρ, frame_NormO,
    fun m ρ _ => Cert.FwdDown.Gen.frame m ρ, fun m ρ _ => Cert.FwdDownIdeal.Gen.frame m ρ, frame_NormDown,
    fun m ρ _ => Cert.LnBwd.Gen.frame m ρ, fun m ρ _ => Cert.LnBwdIdeal.Gen.frame m ρ, fun m ρ _ => Cert.LnBwdIdeal.Gen.frame m ρ,
    frame_GradNorm, fun m ρ _ => frame_GradNorm m ρ trivial,
    trivial, algebraic_all, algebraic,
    trivial, algebraic_WgradUp,
    trivial, algebraic_BwdDx1,
    trivial, algebraic_FwdUp,
    trivial, algebraic_FwdIn,
    trivial, algebraic_WgradIn,
    trivial, algebraic_BwdDx,
    trivial, algebraic_BwdDa,
    trivial, algebraic_WgradDown,
    trivial, algebraic_BwdDcat,
    trivial, algebraic_WgradO,
    trivial, algebraic_FwdO,
    trivial, algebraic_FwdDown,
    trivial, algebraic_LnBwd⟩

end Cert.Proof

end
